-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutRefIdeal (m : (ℓ : Loc Cert.DOutRefIdeal.nD Cert.DOutRefIdeal.τ Cert.DOutRefIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_GradWInGates (m : (ℓ : Loc Cert.GradWInGates.nD Cert.GradWInGates.τ Cert.GradWInGates.sig) → Buf (Elt Bits) ℓ) : Prop :=
  True

def Pre_GradWInGatesIdeal (m : (ℓ : Loc Cert.GradWInGatesIdeal.nD Cert.GradWInGatesIdeal.τ Cert.GradWInGatesIdeal.sig) → Buf (Elt Ideal) ℓ) : Prop :=
  True

def Pre_GradWInGatesRefIdeal (m : (ℓ : Loc Cert.GradWInGatesRefIdeal.nD Cert.GradWInGatesRefIdeal.τ Cert.GradWInGatesRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_DHMain (m : (ℓ : Loc Cert.DHMain.nD Cert.DHMain.τ Cert.DHMain.sig) → Buf (Elt Bits) ℓ) : Prop :=
  True

def Pre_DHMainIdeal (m : (ℓ : Loc Cert.DHMainIdeal.nD Cert.DHMainIdeal.τ Cert.DHMainIdeal.sig) → Buf (Elt Ideal) ℓ) : Prop :=
  True

def Pre_DHMainRefIdeal (m : (ℓ : Loc Cert.DHMainRefIdeal.nD Cert.DHMainRefIdeal.τ Cert.DHMainRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_UpdOut [hPre_chip_out : Cert.Pre_chip_out.Facts] (m : (ℓ : Loc Cert.UpdOut.nD Cert.UpdOut.τ Cert.UpdOut.sig) → Buf (Elt Bits) ℓ) : Prop :=
  ∀ c : Dev Cert.UpdOut.nD,
    (Cert.Pre_chip_out.fn (F := Bits) (m ((c.tc : Thread Cert.UpdOut.nD Cert.UpdOut.τ).loc Cert.UpdOut.main_arg0)) (m ((c.tc : Thread Cert.UpdOut.nD Cert.UpdOut.τ).loc Cert.UpdOut.main_arg1)) (m ((c.tc : Thread Cert.UpdOut.nD Cert.UpdOut.τ).loc Cert.UpdOut.main_arg2)) (m ((c.tc : Thread Cert.UpdOut.nD Cert.UpdOut.τ).loc Cert.UpdOut.main_arg3)) (m ((c.tc : Thread Cert.UpdOut.nD Cert.UpdOut.τ).loc Cert.UpdOut.main_arg4)) (m ((c.tc : Thread Cert.UpdOut.nD Cert.UpdOut.τ).loc Cert.UpdOut.main_arg5))) = (fun _ => 1#1)

def Pre_UpdOutIdeal [hPre_chip_out : Cert.Pre_chip_out.Facts] (m : (ℓ : Loc Cert.UpdOutIdeal.nD Cert.UpdOutIdeal.τ Cert.UpdOutIdeal.sig) → Buf (Elt Ideal) ℓ) : Prop :=
  ∀ c : Dev Cert.UpdOutIdeal.nD,
    (Cert.Pre_chip_out.fn (F := Ideal) (m ((c.tc : Thread Cert.UpdOutIdeal.nD Cert.UpdOutIdeal.τ).loc Cert.UpdOutIdeal.main_arg0)) (m ((c.tc : Thread Cert.UpdOutIdeal.nD Cert.UpdOutIdeal.τ).loc Cert.UpdOutIdeal.main_arg1)) (m ((c.tc : Thread Cert.UpdOutIdeal.nD Cert.UpdOutIdeal.τ).loc Cert.UpdOutIdeal.main_arg2)) (m ((c.tc : Thread Cert.UpdOutIdeal.nD Cert.UpdOutIdeal.τ).loc Cert.UpdOutIdeal.main_arg3)) (m ((c.tc : Thread Cert.UpdOutIdeal.nD Cert.UpdOutIdeal.τ).loc Cert.UpdOutIdeal.main_arg4)) (m ((c.tc : Thread Cert.UpdOutIdeal.nD Cert.UpdOutIdeal.τ).loc Cert.UpdOutIdeal.main_arg5))) = (fun _ => 1#1)

def Pre_UpdOutRefIdeal (m : (ℓ : Loc Cert.UpdOutRefIdeal.nD Cert.UpdOutRefIdeal.τ Cert.UpdOutRefIdeal.sig) → Buf (Elt Ideal) ℓ) : Prop :=
  True

def Pre_UpdOutRefIdeal_chip_out [hPre_chip_out : Cert.Pre_chip_out.Facts] (m : (ℓ : Loc Cert.UpdOutRefIdeal.nD Cert.UpdOutRefIdeal.τ Cert.UpdOutRefIdeal.sig) → Buf (Elt Ideal) ℓ) : Prop :=
  ∀ c : Dev Cert.UpdOutRefIdeal.nD,
    (Cert.Pre_chip_out.fn (F := Ideal) (m ((c.tc : Thread Cert.UpdOutRefIdeal.nD Cert.UpdOutRefIdeal.τ).loc Cert.UpdOutRefIdeal.main_arg0)) (m ((c.tc : Thread Cert.UpdOutRefIdeal.nD Cert.UpdOutRefIdeal.τ).loc Cert.UpdOutRefIdeal.main_arg1)) (m ((c.tc : Thread Cert.UpdOutRefIdeal.nD Cert.UpdOutRefIdeal.τ).loc Cert.UpdOutRefIdeal.main_arg2)) (m ((c.tc : Thread Cert.UpdOutRefIdeal.nD Cert.UpdOutRefIdeal.τ).loc Cert.UpdOutRefIdeal.main_arg3)) (m ((c.tc : Thread Cert.UpdOutRefIdeal.nD Cert.UpdOutRefIdeal.τ).loc Cert.UpdOutRefIdeal.main_arg4)) (m ((c.tc : Thread Cert.UpdOutRefIdeal.nD Cert.UpdOutRefIdeal.τ).loc Cert.UpdOutRefIdeal.main_arg5))) = (fun _ => 1#1)

def Pre_UpdGlu [hPre_chip_glu : Cert.Pre_chip_glu.Facts] (m : (ℓ : Loc Cert.UpdGlu.nD Cert.UpdGlu.τ Cert.UpdGlu.sig) → Buf (Elt Bits) ℓ) : Prop :=
  ∀ c : Dev Cert.UpdGlu.nD,
    (Cert.Pre_chip_glu.fn (F := Bits) (m ((c.tc : Thread Cert.UpdGlu.nD Cert.UpdGlu.τ).loc Cert.UpdGlu.main_arg0)) (m ((c.tc : Thread Cert.UpdGlu.nD Cert.UpdGlu.τ).loc Cert.UpdGlu.main_arg1)) (m ((c.tc : Thread Cert.UpdGlu.nD Cert.UpdGlu.τ).loc Cert.UpdGlu.main_arg2)) (m ((c.tc : Thread Cert.UpdGlu.nD Cert.UpdGlu.τ).loc Cert.UpdGlu.main_arg3)) (m ((c.tc : Thread Cert.UpdGlu.nD Cert.UpdGlu.τ).loc Cert.UpdGlu.main_arg4)) (m ((c.tc : Thread Cert.UpdGlu.nD Cert.UpdGlu.τ).loc Cert.UpdGlu.main_arg5))) = (fun _ => 1#1)

def Pre_UpdGluIdeal [hPre_chip_glu : Cert.Pre_chip_glu.Facts] (m : (ℓ : Loc Cert.UpdGluIdeal.nD Cert.UpdGluIdeal.τ Cert.UpdGluIdeal.sig) → Buf (Elt Ideal) ℓ) : Prop :=
  ∀ c : Dev Cert.UpdGluIdeal.nD,
    (Cert.Pre_chip_glu.fn (F := Ideal) (m ((c.tc : Thread Cert.UpdGluIdeal.nD Cert.UpdGluIdeal.τ).loc Cert.UpdGluIdeal.main_arg0)) (m ((c.tc : Thread Cert.UpdGluIdeal.nD Cert.UpdGluIdeal.τ).loc Cert.UpdGluIdeal.main_arg1)) (m ((c.tc : Thread Cert.UpdGluIdeal.nD Cert.UpdGluIdeal.τ).loc Cert.UpdGluIdeal.main_arg2)) (m ((c.tc : Thread Cert.UpdGluIdeal.nD Cert.UpdGluIdeal.τ).loc Cert.UpdGluIdeal.main_arg3)) (m ((c.tc : Thread Cert.UpdGluIdeal.nD Cert.UpdGluIdeal.τ).loc Cert.UpdGluIdeal.main_arg4)) (m ((c.tc : Thread Cert.UpdGluIdeal.nD Cert.UpdGluIdeal.τ).loc Cert.UpdGluIdeal.main_arg5))) = (fun _ => 1#1)

def Pre_UpdGluRefIdeal (m : (ℓ : Loc Cert.UpdGluRefIdeal.nD Cert.UpdGluRefIdeal.τ Cert.UpdGluRefIdeal.sig) → Buf (Elt Ideal) ℓ) : Prop :=
  True

def Pre_UpdGluRefIdeal_chip_glu [hPre_chip_glu : Cert.Pre_chip_glu.Facts] (m : (ℓ : Loc Cert.UpdGluRefIdeal.nD Cert.UpdGluRefIdeal.τ Cert.UpdGluRefIdeal.sig) → Buf (Elt Ideal) ℓ) : Prop :=
  ∀ c : Dev Cert.UpdGluRefIdeal.nD,
    (Cert.Pre_chip_glu.fn (F := Ideal) (m ((c.tc : Thread Cert.UpdGluRefIdeal.nD Cert.UpdGluRefIdeal.τ).loc Cert.UpdGluRefIdeal.main_arg0)) (m ((c.tc : Thread Cert.UpdGluRefIdeal.nD Cert.UpdGluRefIdeal.τ).loc Cert.UpdGluRefIdeal.main_arg1)) (m ((c.tc : Thread Cert.UpdGluRefIdeal.nD Cert.UpdGluRefIdeal.τ).loc Cert.UpdGluRefIdeal.main_arg2)) (m ((c.tc : Thread Cert.UpdGluRefIdeal.nD Cert.UpdGluRefIdeal.τ).loc Cert.UpdGluRefIdeal.main_arg3)) (m ((c.tc : Thread Cert.UpdGluRefIdeal.nD Cert.UpdGluRefIdeal.τ).loc Cert.UpdGluRefIdeal.main_arg4)) (m ((c.tc : Thread Cert.UpdGluRefIdeal.nD Cert.UpdGluRefIdeal.τ).loc Cert.UpdGluRefIdeal.main_arg5))) = (fun _ => 1#1)

def Pre_UpdUp [hPre_chip_up : Cert.Pre_chip_up.Facts] (m : (ℓ : Loc Cert.UpdUp.nD Cert.UpdUp.τ Cert.UpdUp.sig) → Buf (Elt Bits) ℓ) : Prop :=
  ∀ c : Dev Cert.UpdUp.nD,
    (Cert.Pre_chip_up.fn (F := Bits) (m ((c.tc : Thread Cert.UpdUp.nD Cert.UpdUp.τ).loc Cert.UpdUp.main_arg0)) (m ((c.tc : Thread Cert.UpdUp.nD Cert.UpdUp.τ).loc Cert.UpdUp.main_arg1)) (m ((c.tc : Thread Cert.UpdUp.nD Cert.UpdUp.τ).loc Cert.UpdUp.main_arg2)) (m ((c.tc : Thread Cert.UpdUp.nD Cert.UpdUp.τ).loc Cert.UpdUp.main_arg3)) (m ((c.tc : Thread Cert.UpdUp.nD Cert.UpdUp.τ).loc Cert.UpdUp.main_arg4)) (m ((c.tc : Thread Cert.UpdUp.nD Cert.UpdUp.τ).loc Cert.UpdUp.main_arg5))) = (fun _ => 1#1)

def Pre_UpdUpIdeal [hPre_chip_up : Cert.Pre_chip_up.Facts] (m : (ℓ : Loc Cert.UpdUpIdeal.nD Cert.UpdUpIdeal.τ Cert.UpdUpIdeal.sig) → Buf (Elt Ideal) ℓ) : Prop :=
  ∀ c : Dev Cert.UpdUpIdeal.nD,
    (Cert.Pre_chip_up.fn (F := Ideal) (m ((c.tc : Thread Cert.UpdUpIdeal.nD Cert.UpdUpIdeal.τ).loc Cert.UpdUpIdeal.main_arg0)) (m ((c.tc : Thread Cert.UpdUpIdeal.nD Cert.UpdUpIdeal.τ).loc Cert.UpdUpIdeal.main_arg1)) (m ((c.tc : Thread Cert.UpdUpIdeal.nD Cert.UpdUpIdeal.τ).loc Cert.UpdUpIdeal.main_arg2)) (m ((c.tc : Thread Cert.UpdUpIdeal.nD Cert.UpdUpIdeal.τ).loc Cert.UpdUpIdeal.main_arg3)) (m ((c.tc : Thread Cert.UpdUpIdeal.nD Cert.UpdUpIdeal.τ).loc Cert.UpdUpIdeal.main_arg4)) (m ((c.tc : Thread Cert.UpdUpIdeal.nD Cert.UpdUpIdeal.τ).loc Cert.UpdUpIdeal.main_arg5))) = (fun _ => 1#1)

def Pre_UpdUpRefIdeal (m : (ℓ : Loc Cert.UpdUpRefIdeal.nD Cert.UpdUpRefIdeal.τ Cert.UpdUpRefIdeal.sig) → Buf (Elt Ideal) ℓ) : Prop :=
  True

def Pre_UpdUpRefIdeal_chip_up [hPre_chip_up : Cert.Pre_chip_up.Facts] (m : (ℓ : Loc Cert.UpdUpRefIdeal.nD Cert.UpdUpRefIdeal.τ Cert.UpdUpRefIdeal.sig) → Buf (Elt Ideal) ℓ) : Prop :=
  ∀ c : Dev Cert.UpdUpRefIdeal.nD,
    (Cert.Pre_chip_up.fn (F := Ideal) (m ((c.tc : Thread Cert.UpdUpRefIdeal.nD Cert.UpdUpRefIdeal.τ).loc Cert.UpdUpRefIdeal.main_arg0)) (m ((c.tc : Thread Cert.UpdUpRefIdeal.nD Cert.UpdUpRefIdeal.τ).loc Cert.UpdUpRefIdeal.main_arg1)) (m ((c.tc : Thread Cert.UpdUpRefIdeal.nD Cert.UpdUpRefIdeal.τ).loc Cert.UpdUpRefIdeal.main_arg2)) (m ((c.tc : Thread Cert.UpdUpRefIdeal.nD Cert.UpdUpRefIdeal.τ).loc Cert.UpdUpRefIdeal.main_arg3)) (m ((c.tc : Thread Cert.UpdUpRefIdeal.nD Cert.UpdUpRefIdeal.τ).loc Cert.UpdUpRefIdeal.main_arg4)) (m ((c.tc : Thread Cert.UpdUpRefIdeal.nD Cert.UpdUpRefIdeal.τ).loc Cert.UpdUpRefIdeal.main_arg5))) = (fun _ => 1#1)

def Pre_UpdIn [hPre_chip_in : Cert.Pre_chip_in.Facts] (m : (ℓ : Loc Cert.UpdIn.nD Cert.UpdIn.τ Cert.UpdIn.sig) → Buf (Elt Bits) ℓ) : Prop :=
  ∀ c : Dev Cert.UpdIn.nD,
    (Cert.Pre_chip_in.fn (F := Bits) (m ((c.tc : Thread Cert.UpdIn.nD Cert.UpdIn.τ).loc Cert.UpdIn.main_arg0)) (m ((c.tc : Thread Cert.UpdIn.nD Cert.UpdIn.τ).loc Cert.UpdIn.main_arg1)) (m ((c.tc : Thread Cert.UpdIn.nD Cert.UpdIn.τ).loc Cert.UpdIn.main_arg2)) (m ((c.tc : Thread Cert.UpdIn.nD Cert.UpdIn.τ).loc Cert.UpdIn.main_arg3)) (m ((c.tc : Thread Cert.UpdIn.nD Cert.UpdIn.τ).loc Cert.UpdIn.main_arg4)) (m ((c.tc : Thread Cert.UpdIn.nD Cert.UpdIn.τ).loc Cert.UpdIn.main_arg5))) = (fun _ => 1#1)

def Pre_UpdInIdeal [hPre_chip_in : Cert.Pre_chip_in.Facts] (m : (ℓ : Loc Cert.UpdInIdeal.nD Cert.UpdInIdeal.τ Cert.UpdInIdeal.sig) → Buf (Elt Ideal) ℓ) : Prop :=
  ∀ c : Dev Cert.UpdInIdeal.nD,
    (Cert.Pre_chip_in.fn (F := Ideal) (m ((c.tc : Thread Cert.UpdInIdeal.nD Cert.UpdInIdeal.τ).loc Cert.UpdInIdeal.main_arg0)) (m ((c.tc : Thread Cert.UpdInIdeal.nD Cert.UpdInIdeal.τ).loc Cert.UpdInIdeal.main_arg1)) (m ((c.tc : Thread Cert.UpdInIdeal.nD Cert.UpdInIdeal.τ).loc Cert.UpdInIdeal.main_arg2)) (m ((c.tc : Thread Cert.UpdInIdeal.nD Cert.UpdInIdeal.τ).loc Cert.UpdInIdeal.main_arg3)) (m ((c.tc : Thread Cert.UpdInIdeal.nD Cert.UpdInIdeal.τ).loc Cert.UpdInIdeal.main_arg4)) (m ((c.tc : Thread Cert.UpdInIdeal.nD Cert.UpdInIdeal.τ).loc Cert.UpdInIdeal.main_arg5))) = (fun _ => 1#1)

def Pre_UpdInRefIdeal (m : (ℓ : Loc Cert.UpdInRefIdeal.nD Cert.UpdInRefIdeal.τ Cert.UpdInRefIdeal.sig) → Buf (Elt Ideal) ℓ) : Prop :=
  True

def Pre_UpdInRefIdeal_chip_in [hPre_chip_in : Cert.Pre_chip_in.Facts] (m : (ℓ : Loc Cert.UpdInRefIdeal.nD Cert.UpdInRefIdeal.τ Cert.UpdInRefIdeal.sig) → Buf (Elt Ideal) ℓ) : Prop :=
  ∀ c : Dev Cert.UpdInRefIdeal.nD,
    (Cert.Pre_chip_in.fn (F := Ideal) (m ((c.tc : Thread Cert.UpdInRefIdeal.nD Cert.UpdInRefIdeal.τ).loc Cert.UpdInRefIdeal.main_arg0)) (m ((c.tc : Thread Cert.UpdInRefIdeal.nD Cert.UpdInRefIdeal.τ).loc Cert.UpdInRefIdeal.main_arg1)) (m ((c.tc : Thread Cert.UpdInRefIdeal.nD Cert.UpdInRefIdeal.τ).loc Cert.UpdInRefIdeal.main_arg2)) (m ((c.tc : Thread Cert.UpdInRefIdeal.nD Cert.UpdInRefIdeal.τ).loc Cert.UpdInRefIdeal.main_arg3)) (m ((c.tc : Thread Cert.UpdInRefIdeal.nD Cert.UpdInRefIdeal.τ).loc Cert.UpdInRefIdeal.main_arg4)) (m ((c.tc : Thread Cert.UpdInRefIdeal.nD Cert.UpdInRefIdeal.τ).loc Cert.UpdInRefIdeal.main_arg5))) = (fun _ => 1#1)

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_DiscBwd (m : (ℓ : Loc Cert.DiscBwd.nD Cert.DiscBwd.τ Cert.DiscBwd.sig) → Buf (Elt Bits) ℓ) : Prop :=
  True

def Pre_DiscBwdIdeal (m : (ℓ : Loc Cert.DiscBwdIdeal.nD Cert.DiscBwdIdeal.τ Cert.DiscBwdIdeal.sig) → Buf (Elt Ideal) ℓ) : Prop :=
  True

def Pre_DiscBwdRefIdeal (m : (ℓ : Loc Cert.DiscBwdRefIdeal.nD Cert.DiscBwdRefIdeal.τ Cert.DiscBwdRefIdeal.sig) → Buf (Elt Ideal) ℓ) : Prop :=
  True

def Pre_BbarBwd (m : (ℓ : Loc Cert.BbarBwd.nD Cert.BbarBwd.τ Cert.BbarBwd.sig) → Buf (Elt Bits) ℓ) : Prop :=
  True

def Pre_BbarBwdIdeal (m : (ℓ : Loc Cert.BbarBwdIdeal.nD Cert.BbarBwdIdeal.τ Cert.BbarBwdIdeal.sig) → Buf (Elt Ideal) ℓ) : Prop :=
  True

def Pre_BbarBwdRefIdeal (m : (ℓ : Loc Cert.BbarBwdRefIdeal.nD Cert.BbarBwdRefIdeal.τ Cert.BbarBwdRefIdeal.sig) → Buf (Elt Ideal) ℓ) : Prop :=
  True

def Pre_DnOutBwd (m : (ℓ : Loc Cert.DnOutBwd.nD Cert.DnOutBwd.τ Cert.DnOutBwd.sig) → Buf (Elt Bits) ℓ) : Prop :=
  True

def Pre_DnOutBwdIdeal (m : (ℓ : Loc Cert.DnOutBwdIdeal.nD Cert.DnOutBwdIdeal.τ Cert.DnOutBwdIdeal.sig) → Buf (Elt Ideal) ℓ) : Prop :=
  True

def Pre_DnOutBwdRefIdeal (m : (ℓ : Loc Cert.DnOutBwdRefIdeal.nD Cert.DnOutBwdRefIdeal.τ Cert.DnOutBwdRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_PrepBwd (m : (ℓ : Loc Cert.PrepBwd.nD Cert.PrepBwd.τ Cert.PrepBwd.sig) → Buf (Elt Bits) ℓ) : Prop :=
  True

def Pre_PrepBwdIdeal (m : (ℓ : Loc Cert.PrepBwdIdeal.nD Cert.PrepBwdIdeal.τ Cert.PrepBwdIdeal.sig) → Buf (Elt Ideal) ℓ) : Prop :=
  True

def Pre_PrepBwdRefIdeal (m : (ℓ : Loc Cert.PrepBwdRefIdeal.nD Cert.PrepBwdRefIdeal.τ Cert.PrepBwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_DiscFwd (m : (ℓ : Loc Cert.DiscFwd.nD Cert.DiscFwd.τ Cert.DiscFwd.sig) → Buf (Elt Bits) ℓ) : Prop :=
  True

def Pre_DiscFwdIdeal (m : (ℓ : Loc Cert.DiscFwdIdeal.nD Cert.DiscFwdIdeal.τ Cert.DiscFwdIdeal.sig) → Buf (Elt Ideal) ℓ) : Prop :=
  True

def Pre_DiscFwdRefIdeal (m : (ℓ : Loc Cert.DiscFwdRefIdeal.nD Cert.DiscFwdRefIdeal.τ Cert.DiscFwdRefIdeal.sig) → Buf (Elt Ideal) ℓ) : Prop :=
  True

def Pre_BbarFwd (m : (ℓ : Loc Cert.BbarFwd.nD Cert.BbarFwd.τ Cert.BbarFwd.sig) → Buf (Elt Bits) ℓ) : Prop :=
  True

def Pre_BbarFwdIdeal (m : (ℓ : Loc Cert.BbarFwdIdeal.nD Cert.BbarFwdIdeal.τ Cert.BbarFwdIdeal.sig) → Buf (Elt Ideal) ℓ) : Prop :=
  True

def Pre_BbarFwdRefIdeal (m : (ℓ : Loc Cert.BbarFwdRefIdeal.nD Cert.BbarFwdRefIdeal.τ Cert.BbarFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_DnOutFwd (m : (ℓ : Loc Cert.DnOutFwd.nD Cert.DnOutFwd.τ Cert.DnOutFwd.sig) → Buf (Elt Bits) ℓ) : Prop :=
  True

def Pre_DnOutFwdIdeal (m : (ℓ : Loc Cert.DnOutFwdIdeal.nD Cert.DnOutFwdIdeal.τ Cert.DnOutFwdIdeal.sig) → Buf (Elt Ideal) ℓ) : Prop :=
  True

def Pre_DnOutFwdRefIdeal (m : (ℓ : Loc Cert.DnOutFwdRefIdeal.nD Cert.DnOutFwdRefIdeal.τ Cert.DnOutFwdRefIdeal.sig) → Buf (Elt Ideal) ℓ) : Prop :=
  True

def Pre_GatesFwd (m : (ℓ : Loc Cert.GatesFwd.nD Cert.GatesFwd.τ Cert.GatesFwd.sig) → Buf (Elt Bits) ℓ) : Prop :=
  True

def Pre_GatesFwdIdeal (m : (ℓ : Loc Cert.GatesFwdIdeal.nD Cert.GatesFwdIdeal.τ Cert.GatesFwdIdeal.sig) → Buf (Elt Ideal) ℓ) : Prop :=
  True

def Pre_GatesFwdRefIdeal (m : (ℓ : Loc Cert.GatesFwdRefIdeal.nD Cert.GatesFwdRefIdeal.τ Cert.GatesFwdRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ r.2.sem = fun _ => 0)

def quiescent_DOutRefIdeal [hDOutRefIdeal : Cert.DOutRefIdeal.Facts] : Prop :=
  ∀ (m : (ℓ : Loc Cert.DOutRefIdeal.nD Cert.DOutRefIdeal.τ Cert.DOutRefIdeal.sig) → Buf (Elt Ideal) ℓ) (g : Dev Cert.DOutRefIdeal.nD → PrngReg), Pre_DOutRefIdeal m →
    θ_run (Cert.DOutRefIdeal.defs (F := Ideal)) (onTc (τ := Cert.DOutRefIdeal.τ) (Cert.DOutRefIdeal.main (F := Ideal))) ⟨m, fun _ => 0, g⟩ (fun r => (∀ c : Dev Cert.DOutRefIdeal.nD,
      r.2.mem ((c.tc : Thread Cert.DOutRefIdeal.nD Cert.DOutRefIdeal.τ).loc Cert.DOutRefIdeal.main_arg0) = m ((c.tc : Thread Cert.DOutRefIdeal.nD Cert.DOutRefIdeal.τ).loc Cert.DOutRefIdeal.main_arg0)
      ∧ r.2.mem ((c.tc : Thread Cert.DOutRefIdeal.nD Cert.DOutRefIdeal.τ).loc Cert.DOutRefIdeal.main_arg1) = m ((c.tc : Thread Cert.DOutRefIdeal.nD Cert.DOutRefIdeal.τ).loc Cert.DOutRefIdeal.main_arg1))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1))
      ∧ r.2.sem = fun _ => 0)

def quiescent_GradWInGates [hGradWInGates : Cert.GradWInGates.Facts] : Prop :=
  ∀ (m : (ℓ : Loc Cert.GradWInGates.nD Cert.GradWInGates.τ Cert.GradWInGates.sig) → Buf (Elt Bits) ℓ) (g : Dev Cert.GradWInGates.nD → PrngReg), Pre_GradWInGates m →
    θ_run (Cert.GradWInGates.defs (F := Bits)) (onTc (τ := Cert.GradWInGates.τ) (Cert.GradWInGates.main (F := Bits))) ⟨m, fun _ => 0, g⟩ (fun r => (∀ c : Dev Cert.GradWInGates.nD,
      r.2.mem ((c.tc : Thread Cert.GradWInGates.nD Cert.GradWInGates.τ).loc Cert.GradWInGates.main_arg0) = m ((c.tc : Thread Cert.GradWInGates.nD Cert.GradWInGates.τ).loc Cert.GradWInGates.main_arg0)
      ∧ r.2.mem ((c.tc : Thread Cert.GradWInGates.nD Cert.GradWInGates.τ).loc Cert.GradWInGates.main_arg1) = m ((c.tc : Thread Cert.GradWInGates.nD Cert.GradWInGates.τ).loc Cert.GradWInGates.main_arg1))
      ∧ r.2.sem = fun _ => 0)

def quiescent_GradWInGatesIdeal [hGradWInGatesIdeal : Cert.GradWInGatesIdeal.Facts] : Prop :=
  ∀ (m : (ℓ : Loc Cert.GradWInGatesIdeal.nD Cert.GradWInGatesIdeal.τ Cert.GradWInGatesIdeal.sig) → Buf (Elt Ideal) ℓ) (g : Dev Cert.GradWInGatesIdeal.nD → PrngReg), Pre_GradWInGatesIdeal m →
    θ_run (Cert.GradWInGatesIdeal.defs (F := Ideal)) (onTc (τ := Cert.GradWInGatesIdeal.τ) (Cert.GradWInGatesIdeal.main (F := Ideal))) ⟨m, fun _ => 0, g⟩ (fun r => (∀ c : Dev Cert.GradWInGatesIdeal.nD,
      r.2.mem ((c.tc : Thread Cert.GradWInGatesIdeal.nD Cert.GradWInGatesIdeal.τ).loc Cert.GradWInGatesIdeal.main_arg0) = m ((c.tc : Thread Cert.GradWInGatesIdeal.nD Cert.GradWInGatesIdeal.τ).loc Cert.GradWInGatesIdeal.main_arg0)
      ∧ r.2.mem ((c.tc : Thread Cert.GradWInGatesIdeal.nD Cert.GradWInGatesIdeal.τ).loc Cert.GradWInGatesIdeal.main_arg1) = m ((c.tc : Thread Cert.GradWInGatesIdeal.nD Cert.GradWInGatesIdeal.τ).loc Cert.GradWInGatesIdeal.main_arg1))
      ∧ r.2.sem = fun _ => 0)

def quiescent_GradWInGatesRefIdeal [hGradWInGatesRefIdeal : Cert.GradWInGatesRefIdeal.Facts] : Prop :=
  ∀ (m : (ℓ : Loc Cert.GradWInGatesRefIdeal.nD Cert.GradWInGatesRefIdeal.τ Cert.GradWInGatesRefIdeal.sig) → Buf (Elt Ideal) ℓ) (g : Dev Cert.GradWInGatesRefIdeal.nD → PrngReg), Pre_GradWInGatesRefIdeal m →
    θ_run (Cert.GradWInGatesRefIdeal.defs (F := Ideal)) (onTc (τ := Cert.GradWInGatesRefIdeal.τ) (Cert.GradWInGatesRefIdeal.main (F := Ideal))) ⟨m, fun _ => 0, g⟩ (fun r => (∀ c : Dev Cert.GradWInGatesRefIdeal.nD,
      r.2.mem ((c.tc : Thread Cert.GradWInGatesRefIdeal.nD Cert.GradWInGatesRefIdeal.τ).loc Cert.GradWInGatesRefIdeal.main_arg0) = m ((c.tc : Thread Cert.GradWInGatesRefIdeal.nD Cert.GradWInGatesRefIdeal.τ).loc Cert.GradWInGatesRefIdeal.main_arg0)
      ∧ r.2.mem ((c.tc : Thread Cert.GradWInGatesRefIdeal.nD Cert.GradWInGatesRefIdeal.τ).loc Cert.GradWInGatesRefIdeal.main_arg1) = m ((c.tc : Thread Cert.GradWInGatesRefIdeal.nD Cert.GradWInGatesRefIdeal.τ).loc Cert.GradWInGatesRefIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_DHMain [hDHMain : Cert.DHMain.Facts] : Prop :=
  ∀ (m : (ℓ : Loc Cert.DHMain.nD Cert.DHMain.τ Cert.DHMain.sig) → Buf (Elt Bits) ℓ) (g : Dev Cert.DHMain.nD → PrngReg), Pre_DHMain m →
    θ_run (Cert.DHMain.defs (F := Bits)) (onTc (τ := Cert.DHMain.τ) (Cert.DHMain.main (F := Bits))) ⟨m, fun _ => 0, g⟩ (fun r => (∀ c : Dev Cert.DHMain.nD,
      r.2.mem ((c.tc : Thread Cert.DHMain.nD Cert.DHMain.τ).loc Cert.DHMain.main_arg0) = m ((c.tc : Thread Cert.DHMain.nD Cert.DHMain.τ).loc Cert.DHMain.main_arg0)
      ∧ r.2.mem ((c.tc : Thread Cert.DHMain.nD Cert.DHMain.τ).loc Cert.DHMain.main_arg1) = m ((c.tc : Thread Cert.DHMain.nD Cert.DHMain.τ).loc Cert.DHMain.main_arg1))
      ∧ r.2.sem = fun _ => 0)

def quiescent_DHMainIdeal [hDHMainIdeal : Cert.DHMainIdeal.Facts] : Prop :=
  ∀ (m : (ℓ : Loc Cert.DHMainIdeal.nD Cert.DHMainIdeal.τ Cert.DHMainIdeal.sig) → Buf (Elt Ideal) ℓ) (g : Dev Cert.DHMainIdeal.nD → PrngReg), Pre_DHMainIdeal m →
    θ_run (Cert.DHMainIdeal.defs (F := Ideal)) (onTc (τ := Cert.DHMainIdeal.τ) (Cert.DHMainIdeal.main (F := Ideal))) ⟨m, fun _ => 0, g⟩ (fun r => (∀ c : Dev Cert.DHMainIdeal.nD,
      r.2.mem ((c.tc : Thread Cert.DHMainIdeal.nD Cert.DHMainIdeal.τ).loc Cert.DHMainIdeal.main_arg0) = m ((c.tc : Thread Cert.DHMainIdeal.nD Cert.DHMainIdeal.τ).loc Cert.DHMainIdeal.main_arg0)
      ∧ r.2.mem ((c.tc : Thread Cert.DHMainIdeal.nD Cert.DHMainIdeal.τ).loc Cert.DHMainIdeal.main_arg1) = m ((c.tc : Thread Cert.DHMainIdeal.nD Cert.DHMainIdeal.τ).loc Cert.DHMainIdeal.main_arg1))
      ∧ r.2.sem = fun _ => 0)

def quiescent_DHMainRefIdeal [hDHMainRefIdeal : Cert.DHMainRefIdeal.Facts] : Prop :=
  ∀ (m : (ℓ : Loc Cert.DHMainRefIdeal.nD Cert.DHMainRefIdeal.τ Cert.DHMainRefIdeal.sig) → Buf (Elt Ideal) ℓ) (g : Dev Cert.DHMainRefIdeal.nD → PrngReg), Pre_DHMainRefIdeal m →
    θ_run (Cert.DHMainRefIdeal.defs (F := Ideal)) (onTc (τ := Cert.DHMainRefIdeal.τ) (Cert.DHMainRefIdeal.main (F := Ideal))) ⟨m, fun _ => 0, g⟩ (fun r => (∀ c : Dev Cert.DHMainRefIdeal.nD,
      r.2.mem ((c.tc : Thread Cert.DHMainRefIdeal.nD Cert.DHMainRefIdeal.τ).loc Cert.DHMainRefIdeal.main_arg0) = m ((c.tc : Thread Cert.DHMainRefIdeal.nD Cert.DHMainRefIdeal.τ).loc Cert.DHMainRefIdeal.main_arg0)
      ∧ r.2.mem ((c.tc : Thread Cert.DHMainRefIdeal.nD Cert.DHMainRefIdeal.τ).loc Cert.DHMainRefIdeal.main_arg1) = m ((c.tc : Thread Cert.DHMainRefIdeal.nD Cert.DHMainRefIdeal.τ).loc Cert.DHMainRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1)
      ∧ r.2.mem ((c.tc : Thread Cert.DH.nD Cert.DH.τ).loc Cert.DH.main_arg2) = m ((c.tc : Thread Cert.DH.nD Cert.DH.τ).loc Cert.DH.main_arg2))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1)
      ∧ r.2.mem ((c.tc : Thread Cert.DHRefIdeal.nD Cert.DHRefIdeal.τ).loc Cert.DHRefIdeal.main_arg2) = m ((c.tc : Thread Cert.DHRefIdeal.nD Cert.DHRefIdeal.τ).loc Cert.DHRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_UpdOut [hUpdOut : Cert.UpdOut.Facts] [hPre_chip_out : Cert.Pre_chip_out.Facts] : Prop :=
  ∀ (m : (ℓ : Loc Cert.UpdOut.nD Cert.UpdOut.τ Cert.UpdOut.sig) → Buf (Elt Bits) ℓ) (g : Dev Cert.UpdOut.nD → PrngReg), Pre_UpdOut m →
    θ_run (Cert.UpdOut.defs (F := Bits)) (onTc (τ := Cert.UpdOut.τ) (Cert.UpdOut.main (F := Bits))) ⟨m, fun _ => 0, g⟩ (fun r => (∀ c : Dev Cert.UpdOut.nD,
      r.2.mem ((c.tc : Thread Cert.UpdOut.nD Cert.UpdOut.τ).loc Cert.UpdOut.main_arg0) = m ((c.tc : Thread Cert.UpdOut.nD Cert.UpdOut.τ).loc Cert.UpdOut.main_arg0)
      ∧ r.2.mem ((c.tc : Thread Cert.UpdOut.nD Cert.UpdOut.τ).loc Cert.UpdOut.main_arg1) = m ((c.tc : Thread Cert.UpdOut.nD Cert.UpdOut.τ).loc Cert.UpdOut.main_arg1)
      ∧ r.2.mem ((c.tc : Thread Cert.UpdOut.nD Cert.UpdOut.τ).loc Cert.UpdOut.main_arg2) = m ((c.tc : Thread Cert.UpdOut.nD Cert.UpdOut.τ).loc Cert.UpdOut.main_arg2)
      ∧ r.2.mem ((c.tc : Thread Cert.UpdOut.nD Cert.UpdOut.τ).loc Cert.UpdOut.main_arg3) = m ((c.tc : Thread Cert.UpdOut.nD Cert.UpdOut.τ).loc Cert.UpdOut.main_arg3)
      ∧ r.2.mem ((c.tc : Thread Cert.UpdOut.nD Cert.UpdOut.τ).loc Cert.UpdOut.main_arg4) = m ((c.tc : Thread Cert.UpdOut.nD Cert.UpdOut.τ).loc Cert.UpdOut.main_arg4)
      ∧ r.2.mem ((c.tc : Thread Cert.UpdOut.nD Cert.UpdOut.τ).loc Cert.UpdOut.main_arg5) = m ((c.tc : Thread Cert.UpdOut.nD Cert.UpdOut.τ).loc Cert.UpdOut.main_arg5))
      ∧ r.2.sem = fun _ => 0)

def quiescent_UpdOutIdeal [hUpdOutIdeal : Cert.UpdOutIdeal.Facts] [hPre_chip_out : Cert.Pre_chip_out.Facts] : Prop :=
  ∀ (m : (ℓ : Loc Cert.UpdOutIdeal.nD Cert.UpdOutIdeal.τ Cert.UpdOutIdeal.sig) → Buf (Elt Ideal) ℓ) (g : Dev Cert.UpdOutIdeal.nD → PrngReg), Pre_UpdOutIdeal m →
    θ_run (Cert.UpdOutIdeal.defs (F := Ideal)) (onTc (τ := Cert.UpdOutIdeal.τ) (Cert.UpdOutIdeal.main (F := Ideal))) ⟨m, fun _ => 0, g⟩ (fun r => (∀ c : Dev Cert.UpdOutIdeal.nD,
      r.2.mem ((c.tc : Thread Cert.UpdOutIdeal.nD Cert.UpdOutIdeal.τ).loc Cert.UpdOutIdeal.main_arg0) = m ((c.tc : Thread Cert.UpdOutIdeal.nD Cert.UpdOutIdeal.τ).loc Cert.UpdOutIdeal.main_arg0)
      ∧ r.2.mem ((c.tc : Thread Cert.UpdOutIdeal.nD Cert.UpdOutIdeal.τ).loc Cert.UpdOutIdeal.main_arg1) = m ((c.tc : Thread Cert.UpdOutIdeal.nD Cert.UpdOutIdeal.τ).loc Cert.UpdOutIdeal.main_arg1)
      ∧ r.2.mem ((c.tc : Thread Cert.UpdOutIdeal.nD Cert.UpdOutIdeal.τ).loc Cert.UpdOutIdeal.main_arg2) = m ((c.tc : Thread Cert.UpdOutIdeal.nD Cert.UpdOutIdeal.τ).loc Cert.UpdOutIdeal.main_arg2)
      ∧ r.2.mem ((c.tc : Thread Cert.UpdOutIdeal.nD Cert.UpdOutIdeal.τ).loc Cert.UpdOutIdeal.main_arg3) = m ((c.tc : Thread Cert.UpdOutIdeal.nD Cert.UpdOutIdeal.τ).loc Cert.UpdOutIdeal.main_arg3)
      ∧ r.2.mem ((c.tc : Thread Cert.UpdOutIdeal.nD Cert.UpdOutIdeal.τ).loc Cert.UpdOutIdeal.main_arg4) = m ((c.tc : Thread Cert.UpdOutIdeal.nD Cert.UpdOutIdeal.τ).loc Cert.UpdOutIdeal.main_arg4)
      ∧ r.2.mem ((c.tc : Thread Cert.UpdOutIdeal.nD Cert.UpdOutIdeal.τ).loc Cert.UpdOutIdeal.main_arg5) = m ((c.tc : Thread Cert.UpdOutIdeal.nD Cert.UpdOutIdeal.τ).loc Cert.UpdOutIdeal.main_arg5))
      ∧ r.2.sem = fun _ => 0)

def quiescent_UpdOutRefIdeal [hUpdOutRefIdeal : Cert.UpdOutRefIdeal.Facts] : Prop :=
  ∀ (m : (ℓ : Loc Cert.UpdOutRefIdeal.nD Cert.UpdOutRefIdeal.τ Cert.UpdOutRefIdeal.sig) → Buf (Elt Ideal) ℓ) (g : Dev Cert.UpdOutRefIdeal.nD → PrngReg), Pre_UpdOutRefIdeal m →
    θ_run (Cert.UpdOutRefIdeal.defs (F := Ideal)) (onTc (τ := Cert.UpdOutRefIdeal.τ) (Cert.UpdOutRefIdeal.main (F := Ideal))) ⟨m, fun _ => 0, g⟩ (fun r => (∀ c : Dev Cert.UpdOutRefIdeal.nD,
      r.2.mem ((c.tc : Thread Cert.UpdOutRefIdeal.nD Cert.UpdOutRefIdeal.τ).loc Cert.UpdOutRefIdeal.main_arg0) = m ((c.tc : Thread Cert.UpdOutRefIdeal.nD Cert.UpdOutRefIdeal.τ).loc Cert.UpdOutRefIdeal.main_arg0)
      ∧ r.2.mem ((c.tc : Thread Cert.UpdOutRefIdeal.nD Cert.UpdOutRefIdeal.τ).loc Cert.UpdOutRefIdeal.main_arg1) = m ((c.tc : Thread Cert.UpdOutRefIdeal.nD Cert.UpdOutRefIdeal.τ).loc Cert.UpdOutRefIdeal.main_arg1)
      ∧ r.2.mem ((c.tc : Thread Cert.UpdOutRefIdeal.nD Cert.UpdOutRefIdeal.τ).loc Cert.UpdOutRefIdeal.main_arg2) = m ((c.tc : Thread Cert.UpdOutRefIdeal.nD Cert.UpdOutRefIdeal.τ).loc Cert.UpdOutRefIdeal.main_arg2)
      ∧ r.2.mem ((c.tc : Thread Cert.UpdOutRefIdeal.nD Cert.UpdOutRefIdeal.τ).loc Cert.UpdOutRefIdeal.main_arg3) = m ((c.tc : Thread Cert.UpdOutRefIdeal.nD Cert.UpdOutRefIdeal.τ).loc Cert.UpdOutRefIdeal.main_arg3)
      ∧ r.2.mem ((c.tc : Thread Cert.UpdOutRefIdeal.nD Cert.UpdOutRefIdeal.τ).loc Cert.UpdOutRefIdeal.main_arg4) = m ((c.tc : Thread Cert.UpdOutRefIdeal.nD Cert.UpdOutRefIdeal.τ).loc Cert.UpdOutRefIdeal.main_arg4)
      ∧ r.2.mem ((c.tc : Thread Cert.UpdOutRefIdeal.nD Cert.UpdOutRefIdeal.τ).loc Cert.UpdOutRefIdeal.main_arg5) = m ((c.tc : Thread Cert.UpdOutRefIdeal.nD Cert.UpdOutRefIdeal.τ).loc Cert.UpdOutRefIdeal.main_arg5))
      ∧ r.2.sem = fun _ => 0)

def quiescent_UpdOutRefIdeal_pre_chip_out [hUpdOutRefIdeal : Cert.UpdOutRefIdeal.Facts] [hPre_chip_out : Cert.Pre_chip_out.Facts] : Prop :=
  ∀ (m : (ℓ : Loc Cert.UpdOutRefIdeal.nD Cert.UpdOutRefIdeal.τ Cert.UpdOutRefIdeal.sig) → Buf (Elt Ideal) ℓ) (g : Dev Cert.UpdOutRefIdeal.nD → PrngReg), Pre_UpdOutRefIdeal_chip_out m →
    θ_run (Cert.UpdOutRefIdeal.defs (F := Ideal)) (onTc (τ := Cert.UpdOutRefIdeal.τ) (Cert.UpdOutRefIdeal.main (F := Ideal))) ⟨m, fun _ => 0, g⟩ (fun r => (∀ c : Dev Cert.UpdOutRefIdeal.nD,
      r.2.mem ((c.tc : Thread Cert.UpdOutRefIdeal.nD Cert.UpdOutRefIdeal.τ).loc Cert.UpdOutRefIdeal.main_arg0) = m ((c.tc : Thread Cert.UpdOutRefIdeal.nD Cert.UpdOutRefIdeal.τ).loc Cert.UpdOutRefIdeal.main_arg0)
      ∧ r.2.mem ((c.tc : Thread Cert.UpdOutRefIdeal.nD Cert.UpdOutRefIdeal.τ).loc Cert.UpdOutRefIdeal.main_arg1) = m ((c.tc : Thread Cert.UpdOutRefIdeal.nD Cert.UpdOutRefIdeal.τ).loc Cert.UpdOutRefIdeal.main_arg1)
      ∧ r.2.mem ((c.tc : Thread Cert.UpdOutRefIdeal.nD Cert.UpdOutRefIdeal.τ).loc Cert.UpdOutRefIdeal.main_arg2) = m ((c.tc : Thread Cert.UpdOutRefIdeal.nD Cert.UpdOutRefIdeal.τ).loc Cert.UpdOutRefIdeal.main_arg2)
      ∧ r.2.mem ((c.tc : Thread Cert.UpdOutRefIdeal.nD Cert.UpdOutRefIdeal.τ).loc Cert.UpdOutRefIdeal.main_arg3) = m ((c.tc : Thread Cert.UpdOutRefIdeal.nD Cert.UpdOutRefIdeal.τ).loc Cert.UpdOutRefIdeal.main_arg3)
      ∧ r.2.mem ((c.tc : Thread Cert.UpdOutRefIdeal.nD Cert.UpdOutRefIdeal.τ).loc Cert.UpdOutRefIdeal.main_arg4) = m ((c.tc : Thread Cert.UpdOutRefIdeal.nD Cert.UpdOutRefIdeal.τ).loc Cert.UpdOutRefIdeal.main_arg4)
      ∧ r.2.mem ((c.tc : Thread Cert.UpdOutRefIdeal.nD Cert.UpdOutRefIdeal.τ).loc Cert.UpdOutRefIdeal.main_arg5) = m ((c.tc : Thread Cert.UpdOutRefIdeal.nD Cert.UpdOutRefIdeal.τ).loc Cert.UpdOutRefIdeal.main_arg5))
      ∧ r.2.sem = fun _ => 0)

def quiescent_UpdGlu [hUpdGlu : Cert.UpdGlu.Facts] [hPre_chip_glu : Cert.Pre_chip_glu.Facts] : Prop :=
  ∀ (m : (ℓ : Loc Cert.UpdGlu.nD Cert.UpdGlu.τ Cert.UpdGlu.sig) → Buf (Elt Bits) ℓ) (g : Dev Cert.UpdGlu.nD → PrngReg), Pre_UpdGlu m →
    θ_run (Cert.UpdGlu.defs (F := Bits)) (onTc (τ := Cert.UpdGlu.τ) (Cert.UpdGlu.main (F := Bits))) ⟨m, fun _ => 0, g⟩ (fun r => (∀ c : Dev Cert.UpdGlu.nD,
      r.2.mem ((c.tc : Thread Cert.UpdGlu.nD Cert.UpdGlu.τ).loc Cert.UpdGlu.main_arg0) = m ((c.tc : Thread Cert.UpdGlu.nD Cert.UpdGlu.τ).loc Cert.UpdGlu.main_arg0)
      ∧ r.2.mem ((c.tc : Thread Cert.UpdGlu.nD Cert.UpdGlu.τ).loc Cert.UpdGlu.main_arg1) = m ((c.tc : Thread Cert.UpdGlu.nD Cert.UpdGlu.τ).loc Cert.UpdGlu.main_arg1)
      ∧ r.2.mem ((c.tc : Thread Cert.UpdGlu.nD Cert.UpdGlu.τ).loc Cert.UpdGlu.main_arg2) = m ((c.tc : Thread Cert.UpdGlu.nD Cert.UpdGlu.τ).loc Cert.UpdGlu.main_arg2)
      ∧ r.2.mem ((c.tc : Thread Cert.UpdGlu.nD Cert.UpdGlu.τ).loc Cert.UpdGlu.main_arg3) = m ((c.tc : Thread Cert.UpdGlu.nD Cert.UpdGlu.τ).loc Cert.UpdGlu.main_arg3)
      ∧ r.2.mem ((c.tc : Thread Cert.UpdGlu.nD Cert.UpdGlu.τ).loc Cert.UpdGlu.main_arg4) = m ((c.tc : Thread Cert.UpdGlu.nD Cert.UpdGlu.τ).loc Cert.UpdGlu.main_arg4)
      ∧ r.2.mem ((c.tc : Thread Cert.UpdGlu.nD Cert.UpdGlu.τ).loc Cert.UpdGlu.main_arg5) = m ((c.tc : Thread Cert.UpdGlu.nD Cert.UpdGlu.τ).loc Cert.UpdGlu.main_arg5))
      ∧ r.2.sem = fun _ => 0)

def quiescent_UpdGluIdeal [hUpdGluIdeal : Cert.UpdGluIdeal.Facts] [hPre_chip_glu : Cert.Pre_chip_glu.Facts] : Prop :=
  ∀ (m : (ℓ : Loc Cert.UpdGluIdeal.nD Cert.UpdGluIdeal.τ Cert.UpdGluIdeal.sig) → Buf (Elt Ideal) ℓ) (g : Dev Cert.UpdGluIdeal.nD → PrngReg), Pre_UpdGluIdeal m →
    θ_run (Cert.UpdGluIdeal.defs (F := Ideal)) (onTc (τ := Cert.UpdGluIdeal.τ) (Cert.UpdGluIdeal.main (F := Ideal))) ⟨m, fun _ => 0, g⟩ (fun r => (∀ c : Dev Cert.UpdGluIdeal.nD,
      r.2.mem ((c.tc : Thread Cert.UpdGluIdeal.nD Cert.UpdGluIdeal.τ).loc Cert.UpdGluIdeal.main_arg0) = m ((c.tc : Thread Cert.UpdGluIdeal.nD Cert.UpdGluIdeal.τ).loc Cert.UpdGluIdeal.main_arg0)
      ∧ r.2.mem ((c.tc : Thread Cert.UpdGluIdeal.nD Cert.UpdGluIdeal.τ).loc Cert.UpdGluIdeal.main_arg1) = m ((c.tc : Thread Cert.UpdGluIdeal.nD Cert.UpdGluIdeal.τ).loc Cert.UpdGluIdeal.main_arg1)
      ∧ r.2.mem ((c.tc : Thread Cert.UpdGluIdeal.nD Cert.UpdGluIdeal.τ).loc Cert.UpdGluIdeal.main_arg2) = m ((c.tc : Thread Cert.UpdGluIdeal.nD Cert.UpdGluIdeal.τ).loc Cert.UpdGluIdeal.main_arg2)
      ∧ r.2.mem ((c.tc : Thread Cert.UpdGluIdeal.nD Cert.UpdGluIdeal.τ).loc Cert.UpdGluIdeal.main_arg3) = m ((c.tc : Thread Cert.UpdGluIdeal.nD Cert.UpdGluIdeal.τ).loc Cert.UpdGluIdeal.main_arg3)
      ∧ r.2.mem ((c.tc : Thread Cert.UpdGluIdeal.nD Cert.UpdGluIdeal.τ).loc Cert.UpdGluIdeal.main_arg4) = m ((c.tc : Thread Cert.UpdGluIdeal.nD Cert.UpdGluIdeal.τ).loc Cert.UpdGluIdeal.main_arg4)
      ∧ r.2.mem ((c.tc : Thread Cert.UpdGluIdeal.nD Cert.UpdGluIdeal.τ).loc Cert.UpdGluIdeal.main_arg5) = m ((c.tc : Thread Cert.UpdGluIdeal.nD Cert.UpdGluIdeal.τ).loc Cert.UpdGluIdeal.main_arg5))
      ∧ r.2.sem = fun _ => 0)

def quiescent_UpdGluRefIdeal [hUpdGluRefIdeal : Cert.UpdGluRefIdeal.Facts] : Prop :=
  ∀ (m : (ℓ : Loc Cert.UpdGluRefIdeal.nD Cert.UpdGluRefIdeal.τ Cert.UpdGluRefIdeal.sig) → Buf (Elt Ideal) ℓ) (g : Dev Cert.UpdGluRefIdeal.nD → PrngReg), Pre_UpdGluRefIdeal m →
    θ_run (Cert.UpdGluRefIdeal.defs (F := Ideal)) (onTc (τ := Cert.UpdGluRefIdeal.τ) (Cert.UpdGluRefIdeal.main (F := Ideal))) ⟨m, fun _ => 0, g⟩ (fun r => (∀ c : Dev Cert.UpdGluRefIdeal.nD,
      r.2.mem ((c.tc : Thread Cert.UpdGluRefIdeal.nD Cert.UpdGluRefIdeal.τ).loc Cert.UpdGluRefIdeal.main_arg0) = m ((c.tc : Thread Cert.UpdGluRefIdeal.nD Cert.UpdGluRefIdeal.τ).loc Cert.UpdGluRefIdeal.main_arg0)
      ∧ r.2.mem ((c.tc : Thread Cert.UpdGluRefIdeal.nD Cert.UpdGluRefIdeal.τ).loc Cert.UpdGluRefIdeal.main_arg1) = m ((c.tc : Thread Cert.UpdGluRefIdeal.nD Cert.UpdGluRefIdeal.τ).loc Cert.UpdGluRefIdeal.main_arg1)
      ∧ r.2.mem ((c.tc : Thread Cert.UpdGluRefIdeal.nD Cert.UpdGluRefIdeal.τ).loc Cert.UpdGluRefIdeal.main_arg2) = m ((c.tc : Thread Cert.UpdGluRefIdeal.nD Cert.UpdGluRefIdeal.τ).loc Cert.UpdGluRefIdeal.main_arg2)
      ∧ r.2.mem ((c.tc : Thread Cert.UpdGluRefIdeal.nD Cert.UpdGluRefIdeal.τ).loc Cert.UpdGluRefIdeal.main_arg3) = m ((c.tc : Thread Cert.UpdGluRefIdeal.nD Cert.UpdGluRefIdeal.τ).loc Cert.UpdGluRefIdeal.main_arg3)
      ∧ r.2.mem ((c.tc : Thread Cert.UpdGluRefIdeal.nD Cert.UpdGluRefIdeal.τ).loc Cert.UpdGluRefIdeal.main_arg4) = m ((c.tc : Thread Cert.UpdGluRefIdeal.nD Cert.UpdGluRefIdeal.τ).loc Cert.UpdGluRefIdeal.main_arg4)
      ∧ r.2.mem ((c.tc : Thread Cert.UpdGluRefIdeal.nD Cert.UpdGluRefIdeal.τ).loc Cert.UpdGluRefIdeal.main_arg5) = m ((c.tc : Thread Cert.UpdGluRefIdeal.nD Cert.UpdGluRefIdeal.τ).loc Cert.UpdGluRefIdeal.main_arg5))
      ∧ r.2.sem = fun _ => 0)

def quiescent_UpdGluRefIdeal_pre_chip_glu [hUpdGluRefIdeal : Cert.UpdGluRefIdeal.Facts] [hPre_chip_glu : Cert.Pre_chip_glu.Facts] : Prop :=
  ∀ (m : (ℓ : Loc Cert.UpdGluRefIdeal.nD Cert.UpdGluRefIdeal.τ Cert.UpdGluRefIdeal.sig) → Buf (Elt Ideal) ℓ) (g : Dev Cert.UpdGluRefIdeal.nD → PrngReg), Pre_UpdGluRefIdeal_chip_glu m →
    θ_run (Cert.UpdGluRefIdeal.defs (F := Ideal)) (onTc (τ := Cert.UpdGluRefIdeal.τ) (Cert.UpdGluRefIdeal.main (F := Ideal))) ⟨m, fun _ => 0, g⟩ (fun r => (∀ c : Dev Cert.UpdGluRefIdeal.nD,
      r.2.mem ((c.tc : Thread Cert.UpdGluRefIdeal.nD Cert.UpdGluRefIdeal.τ).loc Cert.UpdGluRefIdeal.main_arg0) = m ((c.tc : Thread Cert.UpdGluRefIdeal.nD Cert.UpdGluRefIdeal.τ).loc Cert.UpdGluRefIdeal.main_arg0)
      ∧ r.2.mem ((c.tc : Thread Cert.UpdGluRefIdeal.nD Cert.UpdGluRefIdeal.τ).loc Cert.UpdGluRefIdeal.main_arg1) = m ((c.tc : Thread Cert.UpdGluRefIdeal.nD Cert.UpdGluRefIdeal.τ).loc Cert.UpdGluRefIdeal.main_arg1)
      ∧ r.2.mem ((c.tc : Thread Cert.UpdGluRefIdeal.nD Cert.UpdGluRefIdeal.τ).loc Cert.UpdGluRefIdeal.main_arg2) = m ((c.tc : Thread Cert.UpdGluRefIdeal.nD Cert.UpdGluRefIdeal.τ).loc Cert.UpdGluRefIdeal.main_arg2)
      ∧ r.2.mem ((c.tc : Thread Cert.UpdGluRefIdeal.nD Cert.UpdGluRefIdeal.τ).loc Cert.UpdGluRefIdeal.main_arg3) = m ((c.tc : Thread Cert.UpdGluRefIdeal.nD Cert.UpdGluRefIdeal.τ).loc Cert.UpdGluRefIdeal.main_arg3)
      ∧ r.2.mem ((c.tc : Thread Cert.UpdGluRefIdeal.nD Cert.UpdGluRefIdeal.τ).loc Cert.UpdGluRefIdeal.main_arg4) = m ((c.tc : Thread Cert.UpdGluRefIdeal.nD Cert.UpdGluRefIdeal.τ).loc Cert.UpdGluRefIdeal.main_arg4)
      ∧ r.2.mem ((c.tc : Thread Cert.UpdGluRefIdeal.nD Cert.UpdGluRefIdeal.τ).loc Cert.UpdGluRefIdeal.main_arg5) = m ((c.tc : Thread Cert.UpdGluRefIdeal.nD Cert.UpdGluRefIdeal.τ).loc Cert.UpdGluRefIdeal.main_arg5))
      ∧ r.2.sem = fun _ => 0)

def quiescent_UpdUp [hUpdUp : Cert.UpdUp.Facts] [hPre_chip_up : Cert.Pre_chip_up.Facts] : Prop :=
  ∀ (m : (ℓ : Loc Cert.UpdUp.nD Cert.UpdUp.τ Cert.UpdUp.sig) → Buf (Elt Bits) ℓ) (g : Dev Cert.UpdUp.nD → PrngReg), Pre_UpdUp m →
    θ_run (Cert.UpdUp.defs (F := Bits)) (onTc (τ := Cert.UpdUp.τ) (Cert.UpdUp.main (F := Bits))) ⟨m, fun _ => 0, g⟩ (fun r => (∀ c : Dev Cert.UpdUp.nD,
      r.2.mem ((c.tc : Thread Cert.UpdUp.nD Cert.UpdUp.τ).loc Cert.UpdUp.main_arg0) = m ((c.tc : Thread Cert.UpdUp.nD Cert.UpdUp.τ).loc Cert.UpdUp.main_arg0)
      ∧ r.2.mem ((c.tc : Thread Cert.UpdUp.nD Cert.UpdUp.τ).loc Cert.UpdUp.main_arg1) = m ((c.tc : Thread Cert.UpdUp.nD Cert.UpdUp.τ).loc Cert.UpdUp.main_arg1)
      ∧ r.2.mem ((c.tc : Thread Cert.UpdUp.nD Cert.UpdUp.τ).loc Cert.UpdUp.main_arg2) = m ((c.tc : Thread Cert.UpdUp.nD Cert.UpdUp.τ).loc Cert.UpdUp.main_arg2)
      ∧ r.2.mem ((c.tc : Thread Cert.UpdUp.nD Cert.UpdUp.τ).loc Cert.UpdUp.main_arg3) = m ((c.tc : Thread Cert.UpdUp.nD Cert.UpdUp.τ).loc Cert.UpdUp.main_arg3)
      ∧ r.2.mem ((c.tc : Thread Cert.UpdUp.nD Cert.UpdUp.τ).loc Cert.UpdUp.main_arg4) = m ((c.tc : Thread Cert.UpdUp.nD Cert.UpdUp.τ).loc Cert.UpdUp.main_arg4)
      ∧ r.2.mem ((c.tc : Thread Cert.UpdUp.nD Cert.UpdUp.τ).loc Cert.UpdUp.main_arg5) = m ((c.tc : Thread Cert.UpdUp.nD Cert.UpdUp.τ).loc Cert.UpdUp.main_arg5))
      ∧ r.2.sem = fun _ => 0)

def quiescent_UpdUpIdeal [hUpdUpIdeal : Cert.UpdUpIdeal.Facts] [hPre_chip_up : Cert.Pre_chip_up.Facts] : Prop :=
  ∀ (m : (ℓ : Loc Cert.UpdUpIdeal.nD Cert.UpdUpIdeal.τ Cert.UpdUpIdeal.sig) → Buf (Elt Ideal) ℓ) (g : Dev Cert.UpdUpIdeal.nD → PrngReg), Pre_UpdUpIdeal m →
    θ_run (Cert.UpdUpIdeal.defs (F := Ideal)) (onTc (τ := Cert.UpdUpIdeal.τ) (Cert.UpdUpIdeal.main (F := Ideal))) ⟨m, fun _ => 0, g⟩ (fun r => (∀ c : Dev Cert.UpdUpIdeal.nD,
      r.2.mem ((c.tc : Thread Cert.UpdUpIdeal.nD Cert.UpdUpIdeal.τ).loc Cert.UpdUpIdeal.main_arg0) = m ((c.tc : Thread Cert.UpdUpIdeal.nD Cert.UpdUpIdeal.τ).loc Cert.UpdUpIdeal.main_arg0)
      ∧ r.2.mem ((c.tc : Thread Cert.UpdUpIdeal.nD Cert.UpdUpIdeal.τ).loc Cert.UpdUpIdeal.main_arg1) = m ((c.tc : Thread Cert.UpdUpIdeal.nD Cert.UpdUpIdeal.τ).loc Cert.UpdUpIdeal.main_arg1)
      ∧ r.2.mem ((c.tc : Thread Cert.UpdUpIdeal.nD Cert.UpdUpIdeal.τ).loc Cert.UpdUpIdeal.main_arg2) = m ((c.tc : Thread Cert.UpdUpIdeal.nD Cert.UpdUpIdeal.τ).loc Cert.UpdUpIdeal.main_arg2)
      ∧ r.2.mem ((c.tc : Thread Cert.UpdUpIdeal.nD Cert.UpdUpIdeal.τ).loc Cert.UpdUpIdeal.main_arg3) = m ((c.tc : Thread Cert.UpdUpIdeal.nD Cert.UpdUpIdeal.τ).loc Cert.UpdUpIdeal.main_arg3)
      ∧ r.2.mem ((c.tc : Thread Cert.UpdUpIdeal.nD Cert.UpdUpIdeal.τ).loc Cert.UpdUpIdeal.main_arg4) = m ((c.tc : Thread Cert.UpdUpIdeal.nD Cert.UpdUpIdeal.τ).loc Cert.UpdUpIdeal.main_arg4)
      ∧ r.2.mem ((c.tc : Thread Cert.UpdUpIdeal.nD Cert.UpdUpIdeal.τ).loc Cert.UpdUpIdeal.main_arg5) = m ((c.tc : Thread Cert.UpdUpIdeal.nD Cert.UpdUpIdeal.τ).loc Cert.UpdUpIdeal.main_arg5))
      ∧ r.2.sem = fun _ => 0)

def quiescent_UpdUpRefIdeal [hUpdUpRefIdeal : Cert.UpdUpRefIdeal.Facts] : Prop :=
  ∀ (m : (ℓ : Loc Cert.UpdUpRefIdeal.nD Cert.UpdUpRefIdeal.τ Cert.UpdUpRefIdeal.sig) → Buf (Elt Ideal) ℓ) (g : Dev Cert.UpdUpRefIdeal.nD → PrngReg), Pre_UpdUpRefIdeal m →
    θ_run (Cert.UpdUpRefIdeal.defs (F := Ideal)) (onTc (τ := Cert.UpdUpRefIdeal.τ) (Cert.UpdUpRefIdeal.main (F := Ideal))) ⟨m, fun _ => 0, g⟩ (fun r => (∀ c : Dev Cert.UpdUpRefIdeal.nD,
      r.2.mem ((c.tc : Thread Cert.UpdUpRefIdeal.nD Cert.UpdUpRefIdeal.τ).loc Cert.UpdUpRefIdeal.main_arg0) = m ((c.tc : Thread Cert.UpdUpRefIdeal.nD Cert.UpdUpRefIdeal.τ).loc Cert.UpdUpRefIdeal.main_arg0)
      ∧ r.2.mem ((c.tc : Thread Cert.UpdUpRefIdeal.nD Cert.UpdUpRefIdeal.τ).loc Cert.UpdUpRefIdeal.main_arg1) = m ((c.tc : Thread Cert.UpdUpRefIdeal.nD Cert.UpdUpRefIdeal.τ).loc Cert.UpdUpRefIdeal.main_arg1)
      ∧ r.2.mem ((c.tc : Thread Cert.UpdUpRefIdeal.nD Cert.UpdUpRefIdeal.τ).loc Cert.UpdUpRefIdeal.main_arg2) = m ((c.tc : Thread Cert.UpdUpRefIdeal.nD Cert.UpdUpRefIdeal.τ).loc Cert.UpdUpRefIdeal.main_arg2)
      ∧ r.2.mem ((c.tc : Thread Cert.UpdUpRefIdeal.nD Cert.UpdUpRefIdeal.τ).loc Cert.UpdUpRefIdeal.main_arg3) = m ((c.tc : Thread Cert.UpdUpRefIdeal.nD Cert.UpdUpRefIdeal.τ).loc Cert.UpdUpRefIdeal.main_arg3)
      ∧ r.2.mem ((c.tc : Thread Cert.UpdUpRefIdeal.nD Cert.UpdUpRefIdeal.τ).loc Cert.UpdUpRefIdeal.main_arg4) = m ((c.tc : Thread Cert.UpdUpRefIdeal.nD Cert.UpdUpRefIdeal.τ).loc Cert.UpdUpRefIdeal.main_arg4)
      ∧ r.2.mem ((c.tc : Thread Cert.UpdUpRefIdeal.nD Cert.UpdUpRefIdeal.τ).loc Cert.UpdUpRefIdeal.main_arg5) = m ((c.tc : Thread Cert.UpdUpRefIdeal.nD Cert.UpdUpRefIdeal.τ).loc Cert.UpdUpRefIdeal.main_arg5))
      ∧ r.2.sem = fun _ => 0)

def quiescent_UpdUpRefIdeal_pre_chip_up [hUpdUpRefIdeal : Cert.UpdUpRefIdeal.Facts] [hPre_chip_up : Cert.Pre_chip_up.Facts] : Prop :=
  ∀ (m : (ℓ : Loc Cert.UpdUpRefIdeal.nD Cert.UpdUpRefIdeal.τ Cert.UpdUpRefIdeal.sig) → Buf (Elt Ideal) ℓ) (g : Dev Cert.UpdUpRefIdeal.nD → PrngReg), Pre_UpdUpRefIdeal_chip_up m →
    θ_run (Cert.UpdUpRefIdeal.defs (F := Ideal)) (onTc (τ := Cert.UpdUpRefIdeal.τ) (Cert.UpdUpRefIdeal.main (F := Ideal))) ⟨m, fun _ => 0, g⟩ (fun r => (∀ c : Dev Cert.UpdUpRefIdeal.nD,
      r.2.mem ((c.tc : Thread Cert.UpdUpRefIdeal.nD Cert.UpdUpRefIdeal.τ).loc Cert.UpdUpRefIdeal.main_arg0) = m ((c.tc : Thread Cert.UpdUpRefIdeal.nD Cert.UpdUpRefIdeal.τ).loc Cert.UpdUpRefIdeal.main_arg0)
      ∧ r.2.mem ((c.tc : Thread Cert.UpdUpRefIdeal.nD Cert.UpdUpRefIdeal.τ).loc Cert.UpdUpRefIdeal.main_arg1) = m ((c.tc : Thread Cert.UpdUpRefIdeal.nD Cert.UpdUpRefIdeal.τ).loc Cert.UpdUpRefIdeal.main_arg1)
      ∧ r.2.mem ((c.tc : Thread Cert.UpdUpRefIdeal.nD Cert.UpdUpRefIdeal.τ).loc Cert.UpdUpRefIdeal.main_arg2) = m ((c.tc : Thread Cert.UpdUpRefIdeal.nD Cert.UpdUpRefIdeal.τ).loc Cert.UpdUpRefIdeal.main_arg2)
      ∧ r.2.mem ((c.tc : Thread Cert.UpdUpRefIdeal.nD Cert.UpdUpRefIdeal.τ).loc Cert.UpdUpRefIdeal.main_arg3) = m ((c.tc : Thread Cert.UpdUpRefIdeal.nD Cert.UpdUpRefIdeal.τ).loc Cert.UpdUpRefIdeal.main_arg3)
      ∧ r.2.mem ((c.tc : Thread Cert.UpdUpRefIdeal.nD Cert.UpdUpRefIdeal.τ).loc Cert.UpdUpRefIdeal.main_arg4) = m ((c.tc : Thread Cert.UpdUpRefIdeal.nD Cert.UpdUpRefIdeal.τ).loc Cert.UpdUpRefIdeal.main_arg4)
      ∧ r.2.mem ((c.tc : Thread Cert.UpdUpRefIdeal.nD Cert.UpdUpRefIdeal.τ).loc Cert.UpdUpRefIdeal.main_arg5) = m ((c.tc : Thread Cert.UpdUpRefIdeal.nD Cert.UpdUpRefIdeal.τ).loc Cert.UpdUpRefIdeal.main_arg5))
      ∧ r.2.sem = fun _ => 0)

def quiescent_UpdIn [hUpdIn : Cert.UpdIn.Facts] [hPre_chip_in : Cert.Pre_chip_in.Facts] : Prop :=
  ∀ (m : (ℓ : Loc Cert.UpdIn.nD Cert.UpdIn.τ Cert.UpdIn.sig) → Buf (Elt Bits) ℓ) (g : Dev Cert.UpdIn.nD → PrngReg), Pre_UpdIn m →
    θ_run (Cert.UpdIn.defs (F := Bits)) (onTc (τ := Cert.UpdIn.τ) (Cert.UpdIn.main (F := Bits))) ⟨m, fun _ => 0, g⟩ (fun r => (∀ c : Dev Cert.UpdIn.nD,
      r.2.mem ((c.tc : Thread Cert.UpdIn.nD Cert.UpdIn.τ).loc Cert.UpdIn.main_arg0) = m ((c.tc : Thread Cert.UpdIn.nD Cert.UpdIn.τ).loc Cert.UpdIn.main_arg0)
      ∧ r.2.mem ((c.tc : Thread Cert.UpdIn.nD Cert.UpdIn.τ).loc Cert.UpdIn.main_arg1) = m ((c.tc : Thread Cert.UpdIn.nD Cert.UpdIn.τ).loc Cert.UpdIn.main_arg1)
      ∧ r.2.mem ((c.tc : Thread Cert.UpdIn.nD Cert.UpdIn.τ).loc Cert.UpdIn.main_arg2) = m ((c.tc : Thread Cert.UpdIn.nD Cert.UpdIn.τ).loc Cert.UpdIn.main_arg2)
      ∧ r.2.mem ((c.tc : Thread Cert.UpdIn.nD Cert.UpdIn.τ).loc Cert.UpdIn.main_arg3) = m ((c.tc : Thread Cert.UpdIn.nD Cert.UpdIn.τ).loc Cert.UpdIn.main_arg3)
      ∧ r.2.mem ((c.tc : Thread Cert.UpdIn.nD Cert.UpdIn.τ).loc Cert.UpdIn.main_arg4) = m ((c.tc : Thread Cert.UpdIn.nD Cert.UpdIn.τ).loc Cert.UpdIn.main_arg4)
      ∧ r.2.mem ((c.tc : Thread Cert.UpdIn.nD Cert.UpdIn.τ).loc Cert.UpdIn.main_arg5) = m ((c.tc : Thread Cert.UpdIn.nD Cert.UpdIn.τ).loc Cert.UpdIn.main_arg5))
      ∧ r.2.sem = fun _ => 0)

def quiescent_UpdInIdeal [hUpdInIdeal : Cert.UpdInIdeal.Facts] [hPre_chip_in : Cert.Pre_chip_in.Facts] : Prop :=
  ∀ (m : (ℓ : Loc Cert.UpdInIdeal.nD Cert.UpdInIdeal.τ Cert.UpdInIdeal.sig) → Buf (Elt Ideal) ℓ) (g : Dev Cert.UpdInIdeal.nD → PrngReg), Pre_UpdInIdeal m →
    θ_run (Cert.UpdInIdeal.defs (F := Ideal)) (onTc (τ := Cert.UpdInIdeal.τ) (Cert.UpdInIdeal.main (F := Ideal))) ⟨m, fun _ => 0, g⟩ (fun r => (∀ c : Dev Cert.UpdInIdeal.nD,
      r.2.mem ((c.tc : Thread Cert.UpdInIdeal.nD Cert.UpdInIdeal.τ).loc Cert.UpdInIdeal.main_arg0) = m ((c.tc : Thread Cert.UpdInIdeal.nD Cert.UpdInIdeal.τ).loc Cert.UpdInIdeal.main_arg0)
      ∧ r.2.mem ((c.tc : Thread Cert.UpdInIdeal.nD Cert.UpdInIdeal.τ).loc Cert.UpdInIdeal.main_arg1) = m ((c.tc : Thread Cert.UpdInIdeal.nD Cert.UpdInIdeal.τ).loc Cert.UpdInIdeal.main_arg1)
      ∧ r.2.mem ((c.tc : Thread Cert.UpdInIdeal.nD Cert.UpdInIdeal.τ).loc Cert.UpdInIdeal.main_arg2) = m ((c.tc : Thread Cert.UpdInIdeal.nD Cert.UpdInIdeal.τ).loc Cert.UpdInIdeal.main_arg2)
      ∧ r.2.mem ((c.tc : Thread Cert.UpdInIdeal.nD Cert.UpdInIdeal.τ).loc Cert.UpdInIdeal.main_arg3) = m ((c.tc : Thread Cert.UpdInIdeal.nD Cert.UpdInIdeal.τ).loc Cert.UpdInIdeal.main_arg3)
      ∧ r.2.mem ((c.tc : Thread Cert.UpdInIdeal.nD Cert.UpdInIdeal.τ).loc Cert.UpdInIdeal.main_arg4) = m ((c.tc : Thread Cert.UpdInIdeal.nD Cert.UpdInIdeal.τ).loc Cert.UpdInIdeal.main_arg4)
      ∧ r.2.mem ((c.tc : Thread Cert.UpdInIdeal.nD Cert.UpdInIdeal.τ).loc Cert.UpdInIdeal.main_arg5) = m ((c.tc : Thread Cert.UpdInIdeal.nD Cert.UpdInIdeal.τ).loc Cert.UpdInIdeal.main_arg5))
      ∧ r.2.sem = fun _ => 0)

def quiescent_UpdInRefIdeal [hUpdInRefIdeal : Cert.UpdInRefIdeal.Facts] : Prop :=
  ∀ (m : (ℓ : Loc Cert.UpdInRefIdeal.nD Cert.UpdInRefIdeal.τ Cert.UpdInRefIdeal.sig) → Buf (Elt Ideal) ℓ) (g : Dev Cert.UpdInRefIdeal.nD → PrngReg), Pre_UpdInRefIdeal m →
    θ_run (Cert.UpdInRefIdeal.defs (F := Ideal)) (onTc (τ := Cert.UpdInRefIdeal.τ) (Cert.UpdInRefIdeal.main (F := Ideal))) ⟨m, fun _ => 0, g⟩ (fun r => (∀ c : Dev Cert.UpdInRefIdeal.nD,
      r.2.mem ((c.tc : Thread Cert.UpdInRefIdeal.nD Cert.UpdInRefIdeal.τ).loc Cert.UpdInRefIdeal.main_arg0) = m ((c.tc : Thread Cert.UpdInRefIdeal.nD Cert.UpdInRefIdeal.τ).loc Cert.UpdInRefIdeal.main_arg0)
      ∧ r.2.mem ((c.tc : Thread Cert.UpdInRefIdeal.nD Cert.UpdInRefIdeal.τ).loc Cert.UpdInRefIdeal.main_arg1) = m ((c.tc : Thread Cert.UpdInRefIdeal.nD Cert.UpdInRefIdeal.τ).loc Cert.UpdInRefIdeal.main_arg1)
      ∧ r.2.mem ((c.tc : Thread Cert.UpdInRefIdeal.nD Cert.UpdInRefIdeal.τ).loc Cert.UpdInRefIdeal.main_arg2) = m ((c.tc : Thread Cert.UpdInRefIdeal.nD Cert.UpdInRefIdeal.τ).loc Cert.UpdInRefIdeal.main_arg2)
      ∧ r.2.mem ((c.tc : Thread Cert.UpdInRefIdeal.nD Cert.UpdInRefIdeal.τ).loc Cert.UpdInRefIdeal.main_arg3) = m ((c.tc : Thread Cert.UpdInRefIdeal.nD Cert.UpdInRefIdeal.τ).loc Cert.UpdInRefIdeal.main_arg3)
      ∧ r.2.mem ((c.tc : Thread Cert.UpdInRefIdeal.nD Cert.UpdInRefIdeal.τ).loc Cert.UpdInRefIdeal.main_arg4) = m ((c.tc : Thread Cert.UpdInRefIdeal.nD Cert.UpdInRefIdeal.τ).loc Cert.UpdInRefIdeal.main_arg4)
      ∧ r.2.mem ((c.tc : Thread Cert.UpdInRefIdeal.nD Cert.UpdInRefIdeal.τ).loc Cert.UpdInRefIdeal.main_arg5) = m ((c.tc : Thread Cert.UpdInRefIdeal.nD Cert.UpdInRefIdeal.τ).loc Cert.UpdInRefIdeal.main_arg5))
      ∧ r.2.sem = fun _ => 0)

def quiescent_UpdInRefIdeal_pre_chip_in [hUpdInRefIdeal : Cert.UpdInRefIdeal.Facts] [hPre_chip_in : Cert.Pre_chip_in.Facts] : Prop :=
  ∀ (m : (ℓ : Loc Cert.UpdInRefIdeal.nD Cert.UpdInRefIdeal.τ Cert.UpdInRefIdeal.sig) → Buf (Elt Ideal) ℓ) (g : Dev Cert.UpdInRefIdeal.nD → PrngReg), Pre_UpdInRefIdeal_chip_in m →
    θ_run (Cert.UpdInRefIdeal.defs (F := Ideal)) (onTc (τ := Cert.UpdInRefIdeal.τ) (Cert.UpdInRefIdeal.main (F := Ideal))) ⟨m, fun _ => 0, g⟩ (fun r => (∀ c : Dev Cert.UpdInRefIdeal.nD,
      r.2.mem ((c.tc : Thread Cert.UpdInRefIdeal.nD Cert.UpdInRefIdeal.τ).loc Cert.UpdInRefIdeal.main_arg0) = m ((c.tc : Thread Cert.UpdInRefIdeal.nD Cert.UpdInRefIdeal.τ).loc Cert.UpdInRefIdeal.main_arg0)
      ∧ r.2.mem ((c.tc : Thread Cert.UpdInRefIdeal.nD Cert.UpdInRefIdeal.τ).loc Cert.UpdInRefIdeal.main_arg1) = m ((c.tc : Thread Cert.UpdInRefIdeal.nD Cert.UpdInRefIdeal.τ).loc Cert.UpdInRefIdeal.main_arg1)
      ∧ r.2.mem ((c.tc : Thread Cert.UpdInRefIdeal.nD Cert.UpdInRefIdeal.τ).loc Cert.UpdInRefIdeal.main_arg2) = m ((c.tc : Thread Cert.UpdInRefIdeal.nD Cert.UpdInRefIdeal.τ).loc Cert.UpdInRefIdeal.main_arg2)
      ∧ r.2.mem ((c.tc : Thread Cert.UpdInRefIdeal.nD Cert.UpdInRefIdeal.τ).loc Cert.UpdInRefIdeal.main_arg3) = m ((c.tc : Thread Cert.UpdInRefIdeal.nD Cert.UpdInRefIdeal.τ).loc Cert.UpdInRefIdeal.main_arg3)
      ∧ r.2.mem ((c.tc : Thread Cert.UpdInRefIdeal.nD Cert.UpdInRefIdeal.τ).loc Cert.UpdInRefIdeal.main_arg4) = m ((c.tc : Thread Cert.UpdInRefIdeal.nD Cert.UpdInRefIdeal.τ).loc Cert.UpdInRefIdeal.main_arg4)
      ∧ r.2.mem ((c.tc : Thread Cert.UpdInRefIdeal.nD Cert.UpdInRefIdeal.τ).loc Cert.UpdInRefIdeal.main_arg5) = m ((c.tc : Thread Cert.UpdInRefIdeal.nD Cert.UpdInRefIdeal.τ).loc Cert.UpdInRefIdeal.main_arg5))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3))
      ∧ r.2.sem = fun _ => 0)

def quiescent_DiscBwd [hDiscBwd : Cert.DiscBwd.Facts] : Prop :=
  ∀ (m : (ℓ : Loc Cert.DiscBwd.nD Cert.DiscBwd.τ Cert.DiscBwd.sig) → Buf (Elt Bits) ℓ) (g : Dev Cert.DiscBwd.nD → PrngReg), Pre_DiscBwd m →
    θ_run (Cert.DiscBwd.defs (F := Bits)) (onTc (τ := Cert.DiscBwd.τ) (Cert.DiscBwd.main (F := Bits))) ⟨m, fun _ => 0, g⟩ (fun r => (∀ c : Dev Cert.DiscBwd.nD,
      r.2.mem ((c.tc : Thread Cert.DiscBwd.nD Cert.DiscBwd.τ).loc Cert.DiscBwd.main_arg0) = m ((c.tc : Thread Cert.DiscBwd.nD Cert.DiscBwd.τ).loc Cert.DiscBwd.main_arg0)
      ∧ r.2.mem ((c.tc : Thread Cert.DiscBwd.nD Cert.DiscBwd.τ).loc Cert.DiscBwd.main_arg1) = m ((c.tc : Thread Cert.DiscBwd.nD Cert.DiscBwd.τ).loc Cert.DiscBwd.main_arg1)
      ∧ r.2.mem ((c.tc : Thread Cert.DiscBwd.nD Cert.DiscBwd.τ).loc Cert.DiscBwd.main_arg2) = m ((c.tc : Thread Cert.DiscBwd.nD Cert.DiscBwd.τ).loc Cert.DiscBwd.main_arg2)
      ∧ r.2.mem ((c.tc : Thread Cert.DiscBwd.nD Cert.DiscBwd.τ).loc Cert.DiscBwd.main_arg3) = m ((c.tc : Thread Cert.DiscBwd.nD Cert.DiscBwd.τ).loc Cert.DiscBwd.main_arg3)
      ∧ r.2.mem ((c.tc : Thread Cert.DiscBwd.nD Cert.DiscBwd.τ).loc Cert.DiscBwd.main_arg4) = m ((c.tc : Thread Cert.DiscBwd.nD Cert.DiscBwd.τ).loc Cert.DiscBwd.main_arg4)
      ∧ r.2.mem ((c.tc : Thread Cert.DiscBwd.nD Cert.DiscBwd.τ).loc Cert.DiscBwd.main_arg5) = m ((c.tc : Thread Cert.DiscBwd.nD Cert.DiscBwd.τ).loc Cert.DiscBwd.main_arg5)
      ∧ r.2.mem ((c.tc : Thread Cert.DiscBwd.nD Cert.DiscBwd.τ).loc Cert.DiscBwd.main_arg6) = m ((c.tc : Thread Cert.DiscBwd.nD Cert.DiscBwd.τ).loc Cert.DiscBwd.main_arg6))
      ∧ r.2.sem = fun _ => 0)

def quiescent_DiscBwdIdeal [hDiscBwdIdeal : Cert.DiscBwdIdeal.Facts] : Prop :=
  ∀ (m : (ℓ : Loc Cert.DiscBwdIdeal.nD Cert.DiscBwdIdeal.τ Cert.DiscBwdIdeal.sig) → Buf (Elt Ideal) ℓ) (g : Dev Cert.DiscBwdIdeal.nD → PrngReg), Pre_DiscBwdIdeal m →
    θ_run (Cert.DiscBwdIdeal.defs (F := Ideal)) (onTc (τ := Cert.DiscBwdIdeal.τ) (Cert.DiscBwdIdeal.main (F := Ideal))) ⟨m, fun _ => 0, g⟩ (fun r => (∀ c : Dev Cert.DiscBwdIdeal.nD,
      r.2.mem ((c.tc : Thread Cert.DiscBwdIdeal.nD Cert.DiscBwdIdeal.τ).loc Cert.DiscBwdIdeal.main_arg0) = m ((c.tc : Thread Cert.DiscBwdIdeal.nD Cert.DiscBwdIdeal.τ).loc Cert.DiscBwdIdeal.main_arg0)
      ∧ r.2.mem ((c.tc : Thread Cert.DiscBwdIdeal.nD Cert.DiscBwdIdeal.τ).loc Cert.DiscBwdIdeal.main_arg1) = m ((c.tc : Thread Cert.DiscBwdIdeal.nD Cert.DiscBwdIdeal.τ).loc Cert.DiscBwdIdeal.main_arg1)
      ∧ r.2.mem ((c.tc : Thread Cert.DiscBwdIdeal.nD Cert.DiscBwdIdeal.τ).loc Cert.DiscBwdIdeal.main_arg2) = m ((c.tc : Thread Cert.DiscBwdIdeal.nD Cert.DiscBwdIdeal.τ).loc Cert.DiscBwdIdeal.main_arg2)
      ∧ r.2.mem ((c.tc : Thread Cert.DiscBwdIdeal.nD Cert.DiscBwdIdeal.τ).loc Cert.DiscBwdIdeal.main_arg3) = m ((c.tc : Thread Cert.DiscBwdIdeal.nD Cert.DiscBwdIdeal.τ).loc Cert.DiscBwdIdeal.main_arg3)
      ∧ r.2.mem ((c.tc : Thread Cert.DiscBwdIdeal.nD Cert.DiscBwdIdeal.τ).loc Cert.DiscBwdIdeal.main_arg4) = m ((c.tc : Thread Cert.DiscBwdIdeal.nD Cert.DiscBwdIdeal.τ).loc Cert.DiscBwdIdeal.main_arg4)
      ∧ r.2.mem ((c.tc : Thread Cert.DiscBwdIdeal.nD Cert.DiscBwdIdeal.τ).loc Cert.DiscBwdIdeal.main_arg5) = m ((c.tc : Thread Cert.DiscBwdIdeal.nD Cert.DiscBwdIdeal.τ).loc Cert.DiscBwdIdeal.main_arg5)
      ∧ r.2.mem ((c.tc : Thread Cert.DiscBwdIdeal.nD Cert.DiscBwdIdeal.τ).loc Cert.DiscBwdIdeal.main_arg6) = m ((c.tc : Thread Cert.DiscBwdIdeal.nD Cert.DiscBwdIdeal.τ).loc Cert.DiscBwdIdeal.main_arg6))
      ∧ r.2.sem = fun _ => 0)

def quiescent_DiscBwdRefIdeal [hDiscBwdRefIdeal : Cert.DiscBwdRefIdeal.Facts] : Prop :=
  ∀ (m : (ℓ : Loc Cert.DiscBwdRefIdeal.nD Cert.DiscBwdRefIdeal.τ Cert.DiscBwdRefIdeal.sig) → Buf (Elt Ideal) ℓ) (g : Dev Cert.DiscBwdRefIdeal.nD → PrngReg), Pre_DiscBwdRefIdeal m →
    θ_run (Cert.DiscBwdRefIdeal.defs (F := Ideal)) (onTc (τ := Cert.DiscBwdRefIdeal.τ) (Cert.DiscBwdRefIdeal.main (F := Ideal))) ⟨m, fun _ => 0, g⟩ (fun r => (∀ c : Dev Cert.DiscBwdRefIdeal.nD,
      r.2.mem ((c.tc : Thread Cert.DiscBwdRefIdeal.nD Cert.DiscBwdRefIdeal.τ).loc Cert.DiscBwdRefIdeal.main_arg0) = m ((c.tc : Thread Cert.DiscBwdRefIdeal.nD Cert.DiscBwdRefIdeal.τ).loc Cert.DiscBwdRefIdeal.main_arg0)
      ∧ r.2.mem ((c.tc : Thread Cert.DiscBwdRefIdeal.nD Cert.DiscBwdRefIdeal.τ).loc Cert.DiscBwdRefIdeal.main_arg1) = m ((c.tc : Thread Cert.DiscBwdRefIdeal.nD Cert.DiscBwdRefIdeal.τ).loc Cert.DiscBwdRefIdeal.main_arg1)
      ∧ r.2.mem ((c.tc : Thread Cert.DiscBwdRefIdeal.nD Cert.DiscBwdRefIdeal.τ).loc Cert.DiscBwdRefIdeal.main_arg2) = m ((c.tc : Thread Cert.DiscBwdRefIdeal.nD Cert.DiscBwdRefIdeal.τ).loc Cert.DiscBwdRefIdeal.main_arg2)
      ∧ r.2.mem ((c.tc : Thread Cert.DiscBwdRefIdeal.nD Cert.DiscBwdRefIdeal.τ).loc Cert.DiscBwdRefIdeal.main_arg3) = m ((c.tc : Thread Cert.DiscBwdRefIdeal.nD Cert.DiscBwdRefIdeal.τ).loc Cert.DiscBwdRefIdeal.main_arg3)
      ∧ r.2.mem ((c.tc : Thread Cert.DiscBwdRefIdeal.nD Cert.DiscBwdRefIdeal.τ).loc Cert.DiscBwdRefIdeal.main_arg4) = m ((c.tc : Thread Cert.DiscBwdRefIdeal.nD Cert.DiscBwdRefIdeal.τ).loc Cert.DiscBwdRefIdeal.main_arg4)
      ∧ r.2.mem ((c.tc : Thread Cert.DiscBwdRefIdeal.nD Cert.DiscBwdRefIdeal.τ).loc Cert.DiscBwdRefIdeal.main_arg5) = m ((c.tc : Thread Cert.DiscBwdRefIdeal.nD Cert.DiscBwdRefIdeal.τ).loc Cert.DiscBwdRefIdeal.main_arg5)
      ∧ r.2.mem ((c.tc : Thread Cert.DiscBwdRefIdeal.nD Cert.DiscBwdRefIdeal.τ).loc Cert.DiscBwdRefIdeal.main_arg6) = m ((c.tc : Thread Cert.DiscBwdRefIdeal.nD Cert.DiscBwdRefIdeal.τ).loc Cert.DiscBwdRefIdeal.main_arg6))
      ∧ r.2.sem = fun _ => 0)

def quiescent_BbarBwd [hBbarBwd : Cert.BbarBwd.Facts] : Prop :=
  ∀ (m : (ℓ : Loc Cert.BbarBwd.nD Cert.BbarBwd.τ Cert.BbarBwd.sig) → Buf (Elt Bits) ℓ) (g : Dev Cert.BbarBwd.nD → PrngReg), Pre_BbarBwd m →
    θ_run (Cert.BbarBwd.defs (F := Bits)) (onTc (τ := Cert.BbarBwd.τ) (Cert.BbarBwd.main (F := Bits))) ⟨m, fun _ => 0, g⟩ (fun r => (∀ c : Dev Cert.BbarBwd.nD,
      r.2.mem ((c.tc : Thread Cert.BbarBwd.nD Cert.BbarBwd.τ).loc Cert.BbarBwd.main_arg0) = m ((c.tc : Thread Cert.BbarBwd.nD Cert.BbarBwd.τ).loc Cert.BbarBwd.main_arg0)
      ∧ r.2.mem ((c.tc : Thread Cert.BbarBwd.nD Cert.BbarBwd.τ).loc Cert.BbarBwd.main_arg1) = m ((c.tc : Thread Cert.BbarBwd.nD Cert.BbarBwd.τ).loc Cert.BbarBwd.main_arg1)
      ∧ r.2.mem ((c.tc : Thread Cert.BbarBwd.nD Cert.BbarBwd.τ).loc Cert.BbarBwd.main_arg2) = m ((c.tc : Thread Cert.BbarBwd.nD Cert.BbarBwd.τ).loc Cert.BbarBwd.main_arg2)
      ∧ r.2.mem ((c.tc : Thread Cert.BbarBwd.nD Cert.BbarBwd.τ).loc Cert.BbarBwd.main_arg3) = m ((c.tc : Thread Cert.BbarBwd.nD Cert.BbarBwd.τ).loc Cert.BbarBwd.main_arg3)
      ∧ r.2.mem ((c.tc : Thread Cert.BbarBwd.nD Cert.BbarBwd.τ).loc Cert.BbarBwd.main_arg4) = m ((c.tc : Thread Cert.BbarBwd.nD Cert.BbarBwd.τ).loc Cert.BbarBwd.main_arg4)
      ∧ r.2.mem ((c.tc : Thread Cert.BbarBwd.nD Cert.BbarBwd.τ).loc Cert.BbarBwd.main_arg5) = m ((c.tc : Thread Cert.BbarBwd.nD Cert.BbarBwd.τ).loc Cert.BbarBwd.main_arg5))
      ∧ r.2.sem = fun _ => 0)

def quiescent_BbarBwdIdeal [hBbarBwdIdeal : Cert.BbarBwdIdeal.Facts] : Prop :=
  ∀ (m : (ℓ : Loc Cert.BbarBwdIdeal.nD Cert.BbarBwdIdeal.τ Cert.BbarBwdIdeal.sig) → Buf (Elt Ideal) ℓ) (g : Dev Cert.BbarBwdIdeal.nD → PrngReg), Pre_BbarBwdIdeal m →
    θ_run (Cert.BbarBwdIdeal.defs (F := Ideal)) (onTc (τ := Cert.BbarBwdIdeal.τ) (Cert.BbarBwdIdeal.main (F := Ideal))) ⟨m, fun _ => 0, g⟩ (fun r => (∀ c : Dev Cert.BbarBwdIdeal.nD,
      r.2.mem ((c.tc : Thread Cert.BbarBwdIdeal.nD Cert.BbarBwdIdeal.τ).loc Cert.BbarBwdIdeal.main_arg0) = m ((c.tc : Thread Cert.BbarBwdIdeal.nD Cert.BbarBwdIdeal.τ).loc Cert.BbarBwdIdeal.main_arg0)
      ∧ r.2.mem ((c.tc : Thread Cert.BbarBwdIdeal.nD Cert.BbarBwdIdeal.τ).loc Cert.BbarBwdIdeal.main_arg1) = m ((c.tc : Thread Cert.BbarBwdIdeal.nD Cert.BbarBwdIdeal.τ).loc Cert.BbarBwdIdeal.main_arg1)
      ∧ r.2.mem ((c.tc : Thread Cert.BbarBwdIdeal.nD Cert.BbarBwdIdeal.τ).loc Cert.BbarBwdIdeal.main_arg2) = m ((c.tc : Thread Cert.BbarBwdIdeal.nD Cert.BbarBwdIdeal.τ).loc Cert.BbarBwdIdeal.main_arg2)
      ∧ r.2.mem ((c.tc : Thread Cert.BbarBwdIdeal.nD Cert.BbarBwdIdeal.τ).loc Cert.BbarBwdIdeal.main_arg3) = m ((c.tc : Thread Cert.BbarBwdIdeal.nD Cert.BbarBwdIdeal.τ).loc Cert.BbarBwdIdeal.main_arg3)
      ∧ r.2.mem ((c.tc : Thread Cert.BbarBwdIdeal.nD Cert.BbarBwdIdeal.τ).loc Cert.BbarBwdIdeal.main_arg4) = m ((c.tc : Thread Cert.BbarBwdIdeal.nD Cert.BbarBwdIdeal.τ).loc Cert.BbarBwdIdeal.main_arg4)
      ∧ r.2.mem ((c.tc : Thread Cert.BbarBwdIdeal.nD Cert.BbarBwdIdeal.τ).loc Cert.BbarBwdIdeal.main_arg5) = m ((c.tc : Thread Cert.BbarBwdIdeal.nD Cert.BbarBwdIdeal.τ).loc Cert.BbarBwdIdeal.main_arg5))
      ∧ r.2.sem = fun _ => 0)

def quiescent_BbarBwdRefIdeal [hBbarBwdRefIdeal : Cert.BbarBwdRefIdeal.Facts] : Prop :=
  ∀ (m : (ℓ : Loc Cert.BbarBwdRefIdeal.nD Cert.BbarBwdRefIdeal.τ Cert.BbarBwdRefIdeal.sig) → Buf (Elt Ideal) ℓ) (g : Dev Cert.BbarBwdRefIdeal.nD → PrngReg), Pre_BbarBwdRefIdeal m →
    θ_run (Cert.BbarBwdRefIdeal.defs (F := Ideal)) (onTc (τ := Cert.BbarBwdRefIdeal.τ) (Cert.BbarBwdRefIdeal.main (F := Ideal))) ⟨m, fun _ => 0, g⟩ (fun r => (∀ c : Dev Cert.BbarBwdRefIdeal.nD,
      r.2.mem ((c.tc : Thread Cert.BbarBwdRefIdeal.nD Cert.BbarBwdRefIdeal.τ).loc Cert.BbarBwdRefIdeal.main_arg0) = m ((c.tc : Thread Cert.BbarBwdRefIdeal.nD Cert.BbarBwdRefIdeal.τ).loc Cert.BbarBwdRefIdeal.main_arg0)
      ∧ r.2.mem ((c.tc : Thread Cert.BbarBwdRefIdeal.nD Cert.BbarBwdRefIdeal.τ).loc Cert.BbarBwdRefIdeal.main_arg1) = m ((c.tc : Thread Cert.BbarBwdRefIdeal.nD Cert.BbarBwdRefIdeal.τ).loc Cert.BbarBwdRefIdeal.main_arg1)
      ∧ r.2.mem ((c.tc : Thread Cert.BbarBwdRefIdeal.nD Cert.BbarBwdRefIdeal.τ).loc Cert.BbarBwdRefIdeal.main_arg2) = m ((c.tc : Thread Cert.BbarBwdRefIdeal.nD Cert.BbarBwdRefIdeal.τ).loc Cert.BbarBwdRefIdeal.main_arg2)
      ∧ r.2.mem ((c.tc : Thread Cert.BbarBwdRefIdeal.nD Cert.BbarBwdRefIdeal.τ).loc Cert.BbarBwdRefIdeal.main_arg3) = m ((c.tc : Thread Cert.BbarBwdRefIdeal.nD Cert.BbarBwdRefIdeal.τ).loc Cert.BbarBwdRefIdeal.main_arg3)
      ∧ r.2.mem ((c.tc : Thread Cert.BbarBwdRefIdeal.nD Cert.BbarBwdRefIdeal.τ).loc Cert.BbarBwdRefIdeal.main_arg4) = m ((c.tc : Thread Cert.BbarBwdRefIdeal.nD Cert.BbarBwdRefIdeal.τ).loc Cert.BbarBwdRefIdeal.main_arg4)
      ∧ r.2.mem ((c.tc : Thread Cert.BbarBwdRefIdeal.nD Cert.BbarBwdRefIdeal.τ).loc Cert.BbarBwdRefIdeal.main_arg5) = m ((c.tc : Thread Cert.BbarBwdRefIdeal.nD Cert.BbarBwdRefIdeal.τ).loc Cert.BbarBwdRefIdeal.main_arg5))
      ∧ r.2.sem = fun _ => 0)

def quiescent_DnOutBwd [hDnOutBwd : Cert.DnOutBwd.Facts] : Prop :=
  ∀ (m : (ℓ : Loc Cert.DnOutBwd.nD Cert.DnOutBwd.τ Cert.DnOutBwd.sig) → Buf (Elt Bits) ℓ) (g : Dev Cert.DnOutBwd.nD → PrngReg), Pre_DnOutBwd m →
    θ_run (Cert.DnOutBwd.defs (F := Bits)) (onTc (τ := Cert.DnOutBwd.τ) (Cert.DnOutBwd.main (F := Bits))) ⟨m, fun _ => 0, g⟩ (fun r => (∀ c : Dev Cert.DnOutBwd.nD,
      r.2.mem ((c.tc : Thread Cert.DnOutBwd.nD Cert.DnOutBwd.τ).loc Cert.DnOutBwd.main_arg0) = m ((c.tc : Thread Cert.DnOutBwd.nD Cert.DnOutBwd.τ).loc Cert.DnOutBwd.main_arg0)
      ∧ r.2.mem ((c.tc : Thread Cert.DnOutBwd.nD Cert.DnOutBwd.τ).loc Cert.DnOutBwd.main_arg1) = m ((c.tc : Thread Cert.DnOutBwd.nD Cert.DnOutBwd.τ).loc Cert.DnOutBwd.main_arg1)
      ∧ r.2.mem ((c.tc : Thread Cert.DnOutBwd.nD Cert.DnOutBwd.τ).loc Cert.DnOutBwd.main_arg2) = m ((c.tc : Thread Cert.DnOutBwd.nD Cert.DnOutBwd.τ).loc Cert.DnOutBwd.main_arg2)
      ∧ r.2.mem ((c.tc : Thread Cert.DnOutBwd.nD Cert.DnOutBwd.τ).loc Cert.DnOutBwd.main_arg3) = m ((c.tc : Thread Cert.DnOutBwd.nD Cert.DnOutBwd.τ).loc Cert.DnOutBwd.main_arg3))
      ∧ r.2.sem = fun _ => 0)

def quiescent_DnOutBwdIdeal [hDnOutBwdIdeal : Cert.DnOutBwdIdeal.Facts] : Prop :=
  ∀ (m : (ℓ : Loc Cert.DnOutBwdIdeal.nD Cert.DnOutBwdIdeal.τ Cert.DnOutBwdIdeal.sig) → Buf (Elt Ideal) ℓ) (g : Dev Cert.DnOutBwdIdeal.nD → PrngReg), Pre_DnOutBwdIdeal m →
    θ_run (Cert.DnOutBwdIdeal.defs (F := Ideal)) (onTc (τ := Cert.DnOutBwdIdeal.τ) (Cert.DnOutBwdIdeal.main (F := Ideal))) ⟨m, fun _ => 0, g⟩ (fun r => (∀ c : Dev Cert.DnOutBwdIdeal.nD,
      r.2.mem ((c.tc : Thread Cert.DnOutBwdIdeal.nD Cert.DnOutBwdIdeal.τ).loc Cert.DnOutBwdIdeal.main_arg0) = m ((c.tc : Thread Cert.DnOutBwdIdeal.nD Cert.DnOutBwdIdeal.τ).loc Cert.DnOutBwdIdeal.main_arg0)
      ∧ r.2.mem ((c.tc : Thread Cert.DnOutBwdIdeal.nD Cert.DnOutBwdIdeal.τ).loc Cert.DnOutBwdIdeal.main_arg1) = m ((c.tc : Thread Cert.DnOutBwdIdeal.nD Cert.DnOutBwdIdeal.τ).loc Cert.DnOutBwdIdeal.main_arg1)
      ∧ r.2.mem ((c.tc : Thread Cert.DnOutBwdIdeal.nD Cert.DnOutBwdIdeal.τ).loc Cert.DnOutBwdIdeal.main_arg2) = m ((c.tc : Thread Cert.DnOutBwdIdeal.nD Cert.DnOutBwdIdeal.τ).loc Cert.DnOutBwdIdeal.main_arg2)
      ∧ r.2.mem ((c.tc : Thread Cert.DnOutBwdIdeal.nD Cert.DnOutBwdIdeal.τ).loc Cert.DnOutBwdIdeal.main_arg3) = m ((c.tc : Thread Cert.DnOutBwdIdeal.nD Cert.DnOutBwdIdeal.τ).loc Cert.DnOutBwdIdeal.main_arg3))
      ∧ r.2.sem = fun _ => 0)

def quiescent_DnOutBwdRefIdeal [hDnOutBwdRefIdeal : Cert.DnOutBwdRefIdeal.Facts] : Prop :=
  ∀ (m : (ℓ : Loc Cert.DnOutBwdRefIdeal.nD Cert.DnOutBwdRefIdeal.τ Cert.DnOutBwdRefIdeal.sig) → Buf (Elt Ideal) ℓ) (g : Dev Cert.DnOutBwdRefIdeal.nD → PrngReg), Pre_DnOutBwdRefIdeal m →
    θ_run (Cert.DnOutBwdRefIdeal.defs (F := Ideal)) (onTc (τ := Cert.DnOutBwdRefIdeal.τ) (Cert.DnOutBwdRefIdeal.main (F := Ideal))) ⟨m, fun _ => 0, g⟩ (fun r => (∀ c : Dev Cert.DnOutBwdRefIdeal.nD,
      r.2.mem ((c.tc : Thread Cert.DnOutBwdRefIdeal.nD Cert.DnOutBwdRefIdeal.τ).loc Cert.DnOutBwdRefIdeal.main_arg0) = m ((c.tc : Thread Cert.DnOutBwdRefIdeal.nD Cert.DnOutBwdRefIdeal.τ).loc Cert.DnOutBwdRefIdeal.main_arg0)
      ∧ r.2.mem ((c.tc : Thread Cert.DnOutBwdRefIdeal.nD Cert.DnOutBwdRefIdeal.τ).loc Cert.DnOutBwdRefIdeal.main_arg1) = m ((c.tc : Thread Cert.DnOutBwdRefIdeal.nD Cert.DnOutBwdRefIdeal.τ).loc Cert.DnOutBwdRefIdeal.main_arg1)
      ∧ r.2.mem ((c.tc : Thread Cert.DnOutBwdRefIdeal.nD Cert.DnOutBwdRefIdeal.τ).loc Cert.DnOutBwdRefIdeal.main_arg2) = m ((c.tc : Thread Cert.DnOutBwdRefIdeal.nD Cert.DnOutBwdRefIdeal.τ).loc Cert.DnOutBwdRefIdeal.main_arg2)
      ∧ r.2.mem ((c.tc : Thread Cert.DnOutBwdRefIdeal.nD Cert.DnOutBwdRefIdeal.τ).loc Cert.DnOutBwdRefIdeal.main_arg3) = m ((c.tc : Thread Cert.DnOutBwdRefIdeal.nD Cert.DnOutBwdRefIdeal.τ).loc Cert.DnOutBwdRefIdeal.main_arg3))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1))
      ∧ r.2.sem = fun _ => 0)

def quiescent_PrepBwd [hPrepBwd : Cert.PrepBwd.Facts] : Prop :=
  ∀ (m : (ℓ : Loc Cert.PrepBwd.nD Cert.PrepBwd.τ Cert.PrepBwd.sig) → Buf (Elt Bits) ℓ) (g : Dev Cert.PrepBwd.nD → PrngReg), Pre_PrepBwd m →
    θ_run (Cert.PrepBwd.defs (F := Bits)) (onTc (τ := Cert.PrepBwd.τ) (Cert.PrepBwd.main (F := Bits))) ⟨m, fun _ => 0, g⟩ (fun r => (∀ c : Dev Cert.PrepBwd.nD,
      r.2.mem ((c.tc : Thread Cert.PrepBwd.nD Cert.PrepBwd.τ).loc Cert.PrepBwd.main_arg0) = m ((c.tc : Thread Cert.PrepBwd.nD Cert.PrepBwd.τ).loc Cert.PrepBwd.main_arg0)
      ∧ r.2.mem ((c.tc : Thread Cert.PrepBwd.nD Cert.PrepBwd.τ).loc Cert.PrepBwd.main_arg1) = m ((c.tc : Thread Cert.PrepBwd.nD Cert.PrepBwd.τ).loc Cert.PrepBwd.main_arg1)
      ∧ r.2.mem ((c.tc : Thread Cert.PrepBwd.nD Cert.PrepBwd.τ).loc Cert.PrepBwd.main_arg2) = m ((c.tc : Thread Cert.PrepBwd.nD Cert.PrepBwd.τ).loc Cert.PrepBwd.main_arg2))
      ∧ r.2.sem = fun _ => 0)

def quiescent_PrepBwdIdeal [hPrepBwdIdeal : Cert.PrepBwdIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2))
      ∧ r.2.sem = fun _ => 0)

def quiescent_PrepBwdRefIdeal [hPrepBwdRefIdeal : Cert.PrepBwdRefIdeal.Facts] : Prop :=
  ∀ (m : (ℓ : Loc Cert.PrepBwdRefIdeal.nD Cert.PrepBwdRefIdeal.τ Cert.PrepBwdRefIdeal.sig) → Buf (Elt Ideal) ℓ) (g : Dev Cert.PrepBwdRefIdeal.nD → PrngReg), Pre_PrepBwdRefIdeal m →
    θ_run (Cert.PrepBwdRefIdeal.defs (F := Ideal)) (onTc (τ := Cert.PrepBwdRefIdeal.τ) (Cert.PrepBwdRefIdeal.main (F := Ideal))) ⟨m, fun _ => 0, g⟩ (fun r => (∀ c : Dev Cert.PrepBwdRefIdeal.nD,
      r.2.mem ((c.tc : Thread Cert.PrepBwdRefIdeal.nD Cert.PrepBwdRefIdeal.τ).loc Cert.PrepBwdRefIdeal.main_arg0) = m ((c.tc : Thread Cert.PrepBwdRefIdeal.nD Cert.PrepBwdRefIdeal.τ).loc Cert.PrepBwdRefIdeal.main_arg0)
      ∧ r.2.mem ((c.tc : Thread Cert.PrepBwdRefIdeal.nD Cert.PrepBwdRefIdeal.τ).loc Cert.PrepBwdRefIdeal.main_arg1) = m ((c.tc : Thread Cert.PrepBwdRefIdeal.nD Cert.PrepBwdRefIdeal.τ).loc Cert.PrepBwdRefIdeal.main_arg1)
      ∧ r.2.mem ((c.tc : Thread Cert.PrepBwdRefIdeal.nD Cert.PrepBwdRefIdeal.τ).loc Cert.PrepBwdRefIdeal.main_arg2) = m ((c.tc : Thread Cert.PrepBwdRefIdeal.nD Cert.PrepBwdRefIdeal.τ).loc Cert.PrepBwdRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_DiscFwd [hDiscFwd : Cert.DiscFwd.Facts] : Prop :=
  ∀ (m : (ℓ : Loc Cert.DiscFwd.nD Cert.DiscFwd.τ Cert.DiscFwd.sig) → Buf (Elt Bits) ℓ) (g : Dev Cert.DiscFwd.nD → PrngReg), Pre_DiscFwd m →
    θ_run (Cert.DiscFwd.defs (F := Bits)) (onTc (τ := Cert.DiscFwd.τ) (Cert.DiscFwd.main (F := Bits))) ⟨m, fun _ => 0, g⟩ (fun r => (∀ c : Dev Cert.DiscFwd.nD,
      r.2.mem ((c.tc : Thread Cert.DiscFwd.nD Cert.DiscFwd.τ).loc Cert.DiscFwd.main_arg0) = m ((c.tc : Thread Cert.DiscFwd.nD Cert.DiscFwd.τ).loc Cert.DiscFwd.main_arg0)
      ∧ r.2.mem ((c.tc : Thread Cert.DiscFwd.nD Cert.DiscFwd.τ).loc Cert.DiscFwd.main_arg1) = m ((c.tc : Thread Cert.DiscFwd.nD Cert.DiscFwd.τ).loc Cert.DiscFwd.main_arg1)
      ∧ r.2.mem ((c.tc : Thread Cert.DiscFwd.nD Cert.DiscFwd.τ).loc Cert.DiscFwd.main_arg2) = m ((c.tc : Thread Cert.DiscFwd.nD Cert.DiscFwd.τ).loc Cert.DiscFwd.main_arg2))
      ∧ r.2.sem = fun _ => 0)

def quiescent_DiscFwdIdeal [hDiscFwdIdeal : Cert.DiscFwdIdeal.Facts] : Prop :=
  ∀ (m : (ℓ : Loc Cert.DiscFwdIdeal.nD Cert.DiscFwdIdeal.τ Cert.DiscFwdIdeal.sig) → Buf (Elt Ideal) ℓ) (g : Dev Cert.DiscFwdIdeal.nD → PrngReg), Pre_DiscFwdIdeal m →
    θ_run (Cert.DiscFwdIdeal.defs (F := Ideal)) (onTc (τ := Cert.DiscFwdIdeal.τ) (Cert.DiscFwdIdeal.main (F := Ideal))) ⟨m, fun _ => 0, g⟩ (fun r => (∀ c : Dev Cert.DiscFwdIdeal.nD,
      r.2.mem ((c.tc : Thread Cert.DiscFwdIdeal.nD Cert.DiscFwdIdeal.τ).loc Cert.DiscFwdIdeal.main_arg0) = m ((c.tc : Thread Cert.DiscFwdIdeal.nD Cert.DiscFwdIdeal.τ).loc Cert.DiscFwdIdeal.main_arg0)
      ∧ r.2.mem ((c.tc : Thread Cert.DiscFwdIdeal.nD Cert.DiscFwdIdeal.τ).loc Cert.DiscFwdIdeal.main_arg1) = m ((c.tc : Thread Cert.DiscFwdIdeal.nD Cert.DiscFwdIdeal.τ).loc Cert.DiscFwdIdeal.main_arg1)
      ∧ r.2.mem ((c.tc : Thread Cert.DiscFwdIdeal.nD Cert.DiscFwdIdeal.τ).loc Cert.DiscFwdIdeal.main_arg2) = m ((c.tc : Thread Cert.DiscFwdIdeal.nD Cert.DiscFwdIdeal.τ).loc Cert.DiscFwdIdeal.main_arg2))
      ∧ r.2.sem = fun _ => 0)

def quiescent_DiscFwdRefIdeal [hDiscFwdRefIdeal : Cert.DiscFwdRefIdeal.Facts] : Prop :=
  ∀ (m : (ℓ : Loc Cert.DiscFwdRefIdeal.nD Cert.DiscFwdRefIdeal.τ Cert.DiscFwdRefIdeal.sig) → Buf (Elt Ideal) ℓ) (g : Dev Cert.DiscFwdRefIdeal.nD → PrngReg), Pre_DiscFwdRefIdeal m →
    θ_run (Cert.DiscFwdRefIdeal.defs (F := Ideal)) (onTc (τ := Cert.DiscFwdRefIdeal.τ) (Cert.DiscFwdRefIdeal.main (F := Ideal))) ⟨m, fun _ => 0, g⟩ (fun r => (∀ c : Dev Cert.DiscFwdRefIdeal.nD,
      r.2.mem ((c.tc : Thread Cert.DiscFwdRefIdeal.nD Cert.DiscFwdRefIdeal.τ).loc Cert.DiscFwdRefIdeal.main_arg0) = m ((c.tc : Thread Cert.DiscFwdRefIdeal.nD Cert.DiscFwdRefIdeal.τ).loc Cert.DiscFwdRefIdeal.main_arg0)
      ∧ r.2.mem ((c.tc : Thread Cert.DiscFwdRefIdeal.nD Cert.DiscFwdRefIdeal.τ).loc Cert.DiscFwdRefIdeal.main_arg1) = m ((c.tc : Thread Cert.DiscFwdRefIdeal.nD Cert.DiscFwdRefIdeal.τ).loc Cert.DiscFwdRefIdeal.main_arg1)
      ∧ r.2.mem ((c.tc : Thread Cert.DiscFwdRefIdeal.nD Cert.DiscFwdRefIdeal.τ).loc Cert.DiscFwdRefIdeal.main_arg2) = m ((c.tc : Thread Cert.DiscFwdRefIdeal.nD Cert.DiscFwdRefIdeal.τ).loc Cert.DiscFwdRefIdeal.main_arg2))
      ∧ r.2.sem = fun _ => 0)

def quiescent_BbarFwd [hBbarFwd : Cert.BbarFwd.Facts] : Prop :=
  ∀ (m : (ℓ : Loc Cert.BbarFwd.nD Cert.BbarFwd.τ Cert.BbarFwd.sig) → Buf (Elt Bits) ℓ) (g : Dev Cert.BbarFwd.nD → PrngReg), Pre_BbarFwd m →
    θ_run (Cert.BbarFwd.defs (F := Bits)) (onTc (τ := Cert.BbarFwd.τ) (Cert.BbarFwd.main (F := Bits))) ⟨m, fun _ => 0, g⟩ (fun r => (∀ c : Dev Cert.BbarFwd.nD,
      r.2.mem ((c.tc : Thread Cert.BbarFwd.nD Cert.BbarFwd.τ).loc Cert.BbarFwd.main_arg0) = m ((c.tc : Thread Cert.BbarFwd.nD Cert.BbarFwd.τ).loc Cert.BbarFwd.main_arg0)
      ∧ r.2.mem ((c.tc : Thread Cert.BbarFwd.nD Cert.BbarFwd.τ).loc Cert.BbarFwd.main_arg1) = m ((c.tc : Thread Cert.BbarFwd.nD Cert.BbarFwd.τ).loc Cert.BbarFwd.main_arg1)
      ∧ r.2.mem ((c.tc : Thread Cert.BbarFwd.nD Cert.BbarFwd.τ).loc Cert.BbarFwd.main_arg2) = m ((c.tc : Thread Cert.BbarFwd.nD Cert.BbarFwd.τ).loc Cert.BbarFwd.main_arg2)
      ∧ r.2.mem ((c.tc : Thread Cert.BbarFwd.nD Cert.BbarFwd.τ).loc Cert.BbarFwd.main_arg3) = m ((c.tc : Thread Cert.BbarFwd.nD Cert.BbarFwd.τ).loc Cert.BbarFwd.main_arg3))
      ∧ r.2.sem = fun _ => 0)

def quiescent_BbarFwdIdeal [hBbarFwdIdeal : Cert.BbarFwdIdeal.Facts] : Prop :=
  ∀ (m : (ℓ : Loc Cert.BbarFwdIdeal.nD Cert.BbarFwdIdeal.τ Cert.BbarFwdIdeal.sig) → Buf (Elt Ideal) ℓ) (g : Dev Cert.BbarFwdIdeal.nD → PrngReg), Pre_BbarFwdIdeal m →
    θ_run (Cert.BbarFwdIdeal.defs (F := Ideal)) (onTc (τ := Cert.BbarFwdIdeal.τ) (Cert.BbarFwdIdeal.main (F := Ideal))) ⟨m, fun _ => 0, g⟩ (fun r => (∀ c : Dev Cert.BbarFwdIdeal.nD,
      r.2.mem ((c.tc : Thread Cert.BbarFwdIdeal.nD Cert.BbarFwdIdeal.τ).loc Cert.BbarFwdIdeal.main_arg0) = m ((c.tc : Thread Cert.BbarFwdIdeal.nD Cert.BbarFwdIdeal.τ).loc Cert.BbarFwdIdeal.main_arg0)
      ∧ r.2.mem ((c.tc : Thread Cert.BbarFwdIdeal.nD Cert.BbarFwdIdeal.τ).loc Cert.BbarFwdIdeal.main_arg1) = m ((c.tc : Thread Cert.BbarFwdIdeal.nD Cert.BbarFwdIdeal.τ).loc Cert.BbarFwdIdeal.main_arg1)
      ∧ r.2.mem ((c.tc : Thread Cert.BbarFwdIdeal.nD Cert.BbarFwdIdeal.τ).loc Cert.BbarFwdIdeal.main_arg2) = m ((c.tc : Thread Cert.BbarFwdIdeal.nD Cert.BbarFwdIdeal.τ).loc Cert.BbarFwdIdeal.main_arg2)
      ∧ r.2.mem ((c.tc : Thread Cert.BbarFwdIdeal.nD Cert.BbarFwdIdeal.τ).loc Cert.BbarFwdIdeal.main_arg3) = m ((c.tc : Thread Cert.BbarFwdIdeal.nD Cert.BbarFwdIdeal.τ).loc Cert.BbarFwdIdeal.main_arg3))
      ∧ r.2.sem = fun _ => 0)

def quiescent_BbarFwdRefIdeal [hBbarFwdRefIdeal : Cert.BbarFwdRefIdeal.Facts] : Prop :=
  ∀ (m : (ℓ : Loc Cert.BbarFwdRefIdeal.nD Cert.BbarFwdRefIdeal.τ Cert.BbarFwdRefIdeal.sig) → Buf (Elt Ideal) ℓ) (g : Dev Cert.BbarFwdRefIdeal.nD → PrngReg), Pre_BbarFwdRefIdeal m →
    θ_run (Cert.BbarFwdRefIdeal.defs (F := Ideal)) (onTc (τ := Cert.BbarFwdRefIdeal.τ) (Cert.BbarFwdRefIdeal.main (F := Ideal))) ⟨m, fun _ => 0, g⟩ (fun r => (∀ c : Dev Cert.BbarFwdRefIdeal.nD,
      r.2.mem ((c.tc : Thread Cert.BbarFwdRefIdeal.nD Cert.BbarFwdRefIdeal.τ).loc Cert.BbarFwdRefIdeal.main_arg0) = m ((c.tc : Thread Cert.BbarFwdRefIdeal.nD Cert.BbarFwdRefIdeal.τ).loc Cert.BbarFwdRefIdeal.main_arg0)
      ∧ r.2.mem ((c.tc : Thread Cert.BbarFwdRefIdeal.nD Cert.BbarFwdRefIdeal.τ).loc Cert.BbarFwdRefIdeal.main_arg1) = m ((c.tc : Thread Cert.BbarFwdRefIdeal.nD Cert.BbarFwdRefIdeal.τ).loc Cert.BbarFwdRefIdeal.main_arg1)
      ∧ r.2.mem ((c.tc : Thread Cert.BbarFwdRefIdeal.nD Cert.BbarFwdRefIdeal.τ).loc Cert.BbarFwdRefIdeal.main_arg2) = m ((c.tc : Thread Cert.BbarFwdRefIdeal.nD Cert.BbarFwdRefIdeal.τ).loc Cert.BbarFwdRefIdeal.main_arg2)
      ∧ r.2.mem ((c.tc : Thread Cert.BbarFwdRefIdeal.nD Cert.BbarFwdRefIdeal.τ).loc Cert.BbarFwdRefIdeal.main_arg3) = m ((c.tc : Thread Cert.BbarFwdRefIdeal.nD Cert.BbarFwdRefIdeal.τ).loc Cert.BbarFwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_DnOutFwd [hDnOutFwd : Cert.DnOutFwd.Facts] : Prop :=
  ∀ (m : (ℓ : Loc Cert.DnOutFwd.nD Cert.DnOutFwd.τ Cert.DnOutFwd.sig) → Buf (Elt Bits) ℓ) (g : Dev Cert.DnOutFwd.nD → PrngReg), Pre_DnOutFwd m →
    θ_run (Cert.DnOutFwd.defs (F := Bits)) (onTc (τ := Cert.DnOutFwd.τ) (Cert.DnOutFwd.main (F := Bits))) ⟨m, fun _ => 0, g⟩ (fun r => (∀ c : Dev Cert.DnOutFwd.nD,
      r.2.mem ((c.tc : Thread Cert.DnOutFwd.nD Cert.DnOutFwd.τ).loc Cert.DnOutFwd.main_arg0) = m ((c.tc : Thread Cert.DnOutFwd.nD Cert.DnOutFwd.τ).loc Cert.DnOutFwd.main_arg0)
      ∧ r.2.mem ((c.tc : Thread Cert.DnOutFwd.nD Cert.DnOutFwd.τ).loc Cert.DnOutFwd.main_arg1) = m ((c.tc : Thread Cert.DnOutFwd.nD Cert.DnOutFwd.τ).loc Cert.DnOutFwd.main_arg1)
      ∧ r.2.mem ((c.tc : Thread Cert.DnOutFwd.nD Cert.DnOutFwd.τ).loc Cert.DnOutFwd.main_arg2) = m ((c.tc : Thread Cert.DnOutFwd.nD Cert.DnOutFwd.τ).loc Cert.DnOutFwd.main_arg2))
      ∧ r.2.sem = fun _ => 0)

def quiescent_DnOutFwdIdeal [hDnOutFwdIdeal : Cert.DnOutFwdIdeal.Facts] : Prop :=
  ∀ (m : (ℓ : Loc Cert.DnOutFwdIdeal.nD Cert.DnOutFwdIdeal.τ Cert.DnOutFwdIdeal.sig) → Buf (Elt Ideal) ℓ) (g : Dev Cert.DnOutFwdIdeal.nD → PrngReg), Pre_DnOutFwdIdeal m →
    θ_run (Cert.DnOutFwdIdeal.defs (F := Ideal)) (onTc (τ := Cert.DnOutFwdIdeal.τ) (Cert.DnOutFwdIdeal.main (F := Ideal))) ⟨m, fun _ => 0, g⟩ (fun r => (∀ c : Dev Cert.DnOutFwdIdeal.nD,
      r.2.mem ((c.tc : Thread Cert.DnOutFwdIdeal.nD Cert.DnOutFwdIdeal.τ).loc Cert.DnOutFwdIdeal.main_arg0) = m ((c.tc : Thread Cert.DnOutFwdIdeal.nD Cert.DnOutFwdIdeal.τ).loc Cert.DnOutFwdIdeal.main_arg0)
      ∧ r.2.mem ((c.tc : Thread Cert.DnOutFwdIdeal.nD Cert.DnOutFwdIdeal.τ).loc Cert.DnOutFwdIdeal.main_arg1) = m ((c.tc : Thread Cert.DnOutFwdIdeal.nD Cert.DnOutFwdIdeal.τ).loc Cert.DnOutFwdIdeal.main_arg1)
      ∧ r.2.mem ((c.tc : Thread Cert.DnOutFwdIdeal.nD Cert.DnOutFwdIdeal.τ).loc Cert.DnOutFwdIdeal.main_arg2) = m ((c.tc : Thread Cert.DnOutFwdIdeal.nD Cert.DnOutFwdIdeal.τ).loc Cert.DnOutFwdIdeal.main_arg2))
      ∧ r.2.sem = fun _ => 0)

def quiescent_DnOutFwdRefIdeal [hDnOutFwdRefIdeal : Cert.DnOutFwdRefIdeal.Facts] : Prop :=
  ∀ (m : (ℓ : Loc Cert.DnOutFwdRefIdeal.nD Cert.DnOutFwdRefIdeal.τ Cert.DnOutFwdRefIdeal.sig) → Buf (Elt Ideal) ℓ) (g : Dev Cert.DnOutFwdRefIdeal.nD → PrngReg), Pre_DnOutFwdRefIdeal m →
    θ_run (Cert.DnOutFwdRefIdeal.defs (F := Ideal)) (onTc (τ := Cert.DnOutFwdRefIdeal.τ) (Cert.DnOutFwdRefIdeal.main (F := Ideal))) ⟨m, fun _ => 0, g⟩ (fun r => (∀ c : Dev Cert.DnOutFwdRefIdeal.nD,
      r.2.mem ((c.tc : Thread Cert.DnOutFwdRefIdeal.nD Cert.DnOutFwdRefIdeal.τ).loc Cert.DnOutFwdRefIdeal.main_arg0) = m ((c.tc : Thread Cert.DnOutFwdRefIdeal.nD Cert.DnOutFwdRefIdeal.τ).loc Cert.DnOutFwdRefIdeal.main_arg0)
      ∧ r.2.mem ((c.tc : Thread Cert.DnOutFwdRefIdeal.nD Cert.DnOutFwdRefIdeal.τ).loc Cert.DnOutFwdRefIdeal.main_arg1) = m ((c.tc : Thread Cert.DnOutFwdRefIdeal.nD Cert.DnOutFwdRefIdeal.τ).loc Cert.DnOutFwdRefIdeal.main_arg1)
      ∧ r.2.mem ((c.tc : Thread Cert.DnOutFwdRefIdeal.nD Cert.DnOutFwdRefIdeal.τ).loc Cert.DnOutFwdRefIdeal.main_arg2) = m ((c.tc : Thread Cert.DnOutFwdRefIdeal.nD Cert.DnOutFwdRefIdeal.τ).loc Cert.DnOutFwdRefIdeal.main_arg2))
      ∧ r.2.sem = fun _ => 0)

def quiescent_GatesFwd [hGatesFwd : Cert.GatesFwd.Facts] : Prop :=
  ∀ (m : (ℓ : Loc Cert.GatesFwd.nD Cert.GatesFwd.τ Cert.GatesFwd.sig) → Buf (Elt Bits) ℓ) (g : Dev Cert.GatesFwd.nD → PrngReg), Pre_GatesFwd m →
    θ_run (Cert.GatesFwd.defs (F := Bits)) (onTc (τ := Cert.GatesFwd.τ) (Cert.GatesFwd.main (F := Bits))) ⟨m, fun _ => 0, g⟩ (fun r => (∀ c : Dev Cert.GatesFwd.nD,
      r.2.mem ((c.tc : Thread Cert.GatesFwd.nD Cert.GatesFwd.τ).loc Cert.GatesFwd.main_arg0) = m ((c.tc : Thread Cert.GatesFwd.nD Cert.GatesFwd.τ).loc Cert.GatesFwd.main_arg0)
      ∧ r.2.mem ((c.tc : Thread Cert.GatesFwd.nD Cert.GatesFwd.τ).loc Cert.GatesFwd.main_arg1) = m ((c.tc : Thread Cert.GatesFwd.nD Cert.GatesFwd.τ).loc Cert.GatesFwd.main_arg1)
      ∧ r.2.mem ((c.tc : Thread Cert.GatesFwd.nD Cert.GatesFwd.τ).loc Cert.GatesFwd.main_arg2) = m ((c.tc : Thread Cert.GatesFwd.nD Cert.GatesFwd.τ).loc Cert.GatesFwd.main_arg2))
      ∧ r.2.sem = fun _ => 0)

def quiescent_GatesFwdIdeal [hGatesFwdIdeal : Cert.GatesFwdIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg), Pre_GatesFwdIdeal m →
    θ_run (Cert.GatesFwdIdeal.defs (F := Ideal)) (onTc (τ := Cert.GatesFwdIdeal.τ) (Cert.GatesFwdIdeal.main (F := Ideal))) ⟨m, fun _ => 0, g⟩ (fun r => (∀ c : Dev Cert.GatesFwdIdeal.nD,
      r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
      ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
      ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2))
      ∧ r.2.sem = fun _ => 0)

def quiescent_GatesFwdRefIdeal [hGatesFwdRefIdeal : Cert.GatesFwdRefIdeal.Facts] : Prop :=
  ∀ (m : (ℓ : Loc Cert.GatesFwdRefIdeal.nD Cert.GatesFwdRefIdeal.τ Cert.GatesFwdRefIdeal.sig) → Buf (Elt Ideal) ℓ) (g : Dev Cert.GatesFwdRefIdeal.nD → PrngReg), Pre_GatesFwdRefIdeal m →
    θ_run (Cert.GatesFwdRefIdeal.defs (F := Ideal)) (onTc (τ := Cert.GatesFwdRefIdeal.τ) (Cert.GatesFwdRefIdeal.main (F := Ideal))) ⟨m, fun _ => 0, g⟩ (fun r => (∀ c : Dev Cert.GatesFwdRefIdeal.nD,
      r.2.mem ((c.tc : Thread Cert.GatesFwdRefIdeal.nD Cert.GatesFwdRefIdeal.τ).loc Cert.GatesFwdRefIdeal.main_arg0) = m ((c.tc : Thread Cert.GatesFwdRefIdeal.nD Cert.GatesFwdRefIdeal.τ).loc Cert.GatesFwdRefIdeal.main_arg0)
      ∧ r.2.mem ((c.tc : Thread Cert.GatesFwdRefIdeal.nD Cert.GatesFwdRefIdeal.τ).loc Cert.GatesFwdRefIdeal.main_arg1) = m ((c.tc : Thread Cert.GatesFwdRefIdeal.nD Cert.GatesFwdRefIdeal.τ).loc Cert.GatesFwdRefIdeal.main_arg1)
      ∧ r.2.mem ((c.tc : Thread Cert.GatesFwdRefIdeal.nD Cert.GatesFwdRefIdeal.τ).loc Cert.GatesFwdRefIdeal.main_arg2) = m ((c.tc : Thread Cert.GatesFwdRefIdeal.nD Cert.GatesFwdRefIdeal.τ).loc Cert.GatesFwdRefIdeal.main_arg2))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_v32) = v1 c
          ∧ r.2.mem ((c.tc : Thread Cert.MergeRefIdeal.nD Cert.MergeRefIdeal.τ).loc Cert.MergeRefIdeal.main_v33) = v2 c
          ∧ r.2.mem ((c.tc : Thread Cert.MergeRefIdeal.nD Cert.MergeRefIdeal.τ).loc Cert.MergeRefIdeal.main_v34) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v6) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1))

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v4) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v6) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_DOut_DOutIdeal : Prop :=
  True

def algebraic_DOutIdeal_DOutRefIdeal [hDOutIdeal : Cert.DOutIdeal.Facts] [hDOutRefIdeal : Cert.DOutRefIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutRefIdeal.nD Cert.DOutRefIdeal.τ Cert.DOutRefIdeal.sig) → Buf (Elt Ideal) ℓ) (g' : Dev Cert.DOutRefIdeal.nD → PrngReg), Pre_DOutIdeal m →
    (∀ c : Dev Cert.DOutIdeal.nD,
      m' ((c.tc : Thread Cert.DOutRefIdeal.nD Cert.DOutRefIdeal.τ).loc Cert.DOutRefIdeal.main_arg0) = m ((c.tc : Thread Cert.DOutIdeal.nD Cert.DOutIdeal.τ).loc Cert.DOutIdeal.main_arg0)
      ∧ m' ((c.tc : Thread Cert.DOutRefIdeal.nD Cert.DOutRefIdeal.τ).loc Cert.DOutRefIdeal.main_arg1) = m ((c.tc : Thread Cert.DOutIdeal.nD Cert.DOutIdeal.τ).loc Cert.DOutIdeal.main_arg1)) →
    ∃ (v0 : (c : Dev Cert.DOutIdeal.nD) → Buf (Elt Ideal) ((c.tc : Thread Cert.DOutIdeal.nD Cert.DOutIdeal.τ).loc Cert.DOutIdeal.main_v0)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v0) = v0 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v4) = v0 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1))

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)) →
    ∃ (v0 : (c : Dev Cert.GradWInIdeal.nD) → Buf (Elt Ideal) ((c.tc : Thread Cert.GradWInIdeal.nD Cert.GradWInIdeal.τ).loc Cert.GradWInIdeal.main_v0)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v0) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v8) = v0 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1))

def preserves_GradWInGates_GradWInGatesIdeal : Prop :=
  True

def algebraic_GradWInGatesIdeal_GradWInGatesRefIdeal [hGradWInGatesIdeal : Cert.GradWInGatesIdeal.Facts] [hGradWInGatesRefIdeal : Cert.GradWInGatesRefIdeal.Facts] : Prop :=
  ∀ (m : (ℓ : Loc Cert.GradWInGatesIdeal.nD Cert.GradWInGatesIdeal.τ Cert.GradWInGatesIdeal.sig) → Buf (Elt Ideal) ℓ) (g : Dev Cert.GradWInGatesIdeal.nD → PrngReg)
    (m' : (ℓ : Loc Cert.GradWInGatesRefIdeal.nD Cert.GradWInGatesRefIdeal.τ Cert.GradWInGatesRefIdeal.sig) → Buf (Elt Ideal) ℓ) (g' : Dev Cert.GradWInGatesRefIdeal.nD → PrngReg), Pre_GradWInGatesIdeal m →
    (∀ c : Dev Cert.GradWInGatesIdeal.nD,
      m' ((c.tc : Thread Cert.GradWInGatesRefIdeal.nD Cert.GradWInGatesRefIdeal.τ).loc Cert.GradWInGatesRefIdeal.main_arg0) = m ((c.tc : Thread Cert.GradWInGatesIdeal.nD Cert.GradWInGatesIdeal.τ).loc Cert.GradWInGatesIdeal.main_arg0)
      ∧ m' ((c.tc : Thread Cert.GradWInGatesRefIdeal.nD Cert.GradWInGatesRefIdeal.τ).loc Cert.GradWInGatesRefIdeal.main_arg1) = m ((c.tc : Thread Cert.GradWInGatesIdeal.nD Cert.GradWInGatesIdeal.τ).loc Cert.GradWInGatesIdeal.main_arg1)) →
    ∃ (v0 : (c : Dev Cert.GradWInGatesIdeal.nD) → Buf (Elt Ideal) ((c.tc : Thread Cert.GradWInGatesIdeal.nD Cert.GradWInGatesIdeal.τ).loc Cert.GradWInGatesIdeal.main_v0)),
      θ_run (Cert.GradWInGatesIdeal.defs (F := Ideal)) (onTc (τ := Cert.GradWInGatesIdeal.τ) (Cert.GradWInGatesIdeal.main (F := Ideal))) ⟨m, fun _ => 0, g⟩ (fun r => ∀ c : Dev Cert.GradWInGatesIdeal.nD,
          r.2.mem ((c.tc : Thread Cert.GradWInGatesIdeal.nD Cert.GradWInGatesIdeal.τ).loc Cert.GradWInGatesIdeal.main_v0) = v0 c
          ∧ r.2.mem ((c.tc : Thread Cert.GradWInGatesIdeal.nD Cert.GradWInGatesIdeal.τ).loc Cert.GradWInGatesIdeal.main_arg0) = m ((c.tc : Thread Cert.GradWInGatesIdeal.nD Cert.GradWInGatesIdeal.τ).loc Cert.GradWInGatesIdeal.main_arg0)
          ∧ r.2.mem ((c.tc : Thread Cert.GradWInGatesIdeal.nD Cert.GradWInGatesIdeal.τ).loc Cert.GradWInGatesIdeal.main_arg1) = m ((c.tc : Thread Cert.GradWInGatesIdeal.nD Cert.GradWInGatesIdeal.τ).loc Cert.GradWInGatesIdeal.main_arg1))
      ∧ θ_run (Cert.GradWInGatesRefIdeal.defs (F := Ideal)) (onTc (τ := Cert.GradWInGatesRefIdeal.τ) (Cert.GradWInGatesRefIdeal.main (F := Ideal))) ⟨m', fun _ => 0, g'⟩ (fun r => ∀ c : Dev Cert.GradWInGatesRefIdeal.nD,
          r.2.mem ((c.tc : Thread Cert.GradWInGatesRefIdeal.nD Cert.GradWInGatesRefIdeal.τ).loc Cert.GradWInGatesRefIdeal.main_v8) = v0 c
          ∧ r.2.mem ((c.tc : Thread Cert.GradWInGatesRefIdeal.nD Cert.GradWInGatesRefIdeal.τ).loc Cert.GradWInGatesRefIdeal.main_arg0) = m' ((c.tc : Thread Cert.GradWInGatesRefIdeal.nD Cert.GradWInGatesRefIdeal.τ).loc Cert.GradWInGatesRefIdeal.main_arg0)
          ∧ r.2.mem ((c.tc : Thread Cert.GradWInGatesRefIdeal.nD Cert.GradWInGatesRefIdeal.τ).loc Cert.GradWInGatesRefIdeal.main_arg1) = m' ((c.tc : Thread Cert.GradWInGatesRefIdeal.nD Cert.GradWInGatesRefIdeal.τ).loc Cert.GradWInGatesRefIdeal.main_arg1))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v0)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v0) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v3) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v2) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_DHMain_DHMainIdeal : Prop :=
  True

def algebraic_DHMainIdeal_DHMainRefIdeal [hDHMainIdeal : Cert.DHMainIdeal.Facts] [hDHMainRefIdeal : Cert.DHMainRefIdeal.Facts] : Prop :=
  ∀ (m : (ℓ : Loc Cert.DHMainIdeal.nD Cert.DHMainIdeal.τ Cert.DHMainIdeal.sig) → Buf (Elt Ideal) ℓ) (g : Dev Cert.DHMainIdeal.nD → PrngReg)
    (m' : (ℓ : Loc Cert.DHMainRefIdeal.nD Cert.DHMainRefIdeal.τ Cert.DHMainRefIdeal.sig) → Buf (Elt Ideal) ℓ) (g' : Dev Cert.DHMainRefIdeal.nD → PrngReg), Pre_DHMainIdeal m →
    (∀ c : Dev Cert.DHMainIdeal.nD,
      m' ((c.tc : Thread Cert.DHMainRefIdeal.nD Cert.DHMainRefIdeal.τ).loc Cert.DHMainRefIdeal.main_arg0) = m ((c.tc : Thread Cert.DHMainIdeal.nD Cert.DHMainIdeal.τ).loc Cert.DHMainIdeal.main_arg0)
      ∧ m' ((c.tc : Thread Cert.DHMainRefIdeal.nD Cert.DHMainRefIdeal.τ).loc Cert.DHMainRefIdeal.main_arg1) = m ((c.tc : Thread Cert.DHMainIdeal.nD Cert.DHMainIdeal.τ).loc Cert.DHMainIdeal.main_arg1)) →
    ∃ (v0 : (c : Dev Cert.DHMainIdeal.nD) → Buf (Elt Ideal) ((c.tc : Thread Cert.DHMainIdeal.nD Cert.DHMainIdeal.τ).loc Cert.DHMainIdeal.main_v0)),
      θ_run (Cert.DHMainIdeal.defs (F := Ideal)) (onTc (τ := Cert.DHMainIdeal.τ) (Cert.DHMainIdeal.main (F := Ideal))) ⟨m, fun _ => 0, g⟩ (fun r => ∀ c : Dev Cert.DHMainIdeal.nD,
          r.2.mem ((c.tc : Thread Cert.DHMainIdeal.nD Cert.DHMainIdeal.τ).loc Cert.DHMainIdeal.main_v0) = v0 c
          ∧ r.2.mem ((c.tc : Thread Cert.DHMainIdeal.nD Cert.DHMainIdeal.τ).loc Cert.DHMainIdeal.main_arg0) = m ((c.tc : Thread Cert.DHMainIdeal.nD Cert.DHMainIdeal.τ).loc Cert.DHMainIdeal.main_arg0)
          ∧ r.2.mem ((c.tc : Thread Cert.DHMainIdeal.nD Cert.DHMainIdeal.τ).loc Cert.DHMainIdeal.main_arg1) = m ((c.tc : Thread Cert.DHMainIdeal.nD Cert.DHMainIdeal.τ).loc Cert.DHMainIdeal.main_arg1))
      ∧ θ_run (Cert.DHMainRefIdeal.defs (F := Ideal)) (onTc (τ := Cert.DHMainRefIdeal.τ) (Cert.DHMainRefIdeal.main (F := Ideal))) ⟨m', fun _ => 0, g'⟩ (fun r => ∀ c : Dev Cert.DHMainRefIdeal.nD,
          r.2.mem ((c.tc : Thread Cert.DHMainRefIdeal.nD Cert.DHMainRefIdeal.τ).loc Cert.DHMainRefIdeal.main_v6) = v0 c
          ∧ r.2.mem ((c.tc : Thread Cert.DHMainRefIdeal.nD Cert.DHMainRefIdeal.τ).loc Cert.DHMainRefIdeal.main_arg0) = m' ((c.tc : Thread Cert.DHMainRefIdeal.nD Cert.DHMainRefIdeal.τ).loc Cert.DHMainRefIdeal.main_arg0)
          ∧ r.2.mem ((c.tc : Thread Cert.DHMainRefIdeal.nD Cert.DHMainRefIdeal.τ).loc Cert.DHMainRefIdeal.main_arg1) = m' ((c.tc : Thread Cert.DHMainRefIdeal.nD Cert.DHMainRefIdeal.τ).loc Cert.DHMainRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)
      ∧ m' ((c.tc : Thread Cert.DHRefIdeal.nD Cert.DHRefIdeal.τ).loc Cert.DHRefIdeal.main_arg2) = m ((c.tc : Thread Cert.DHIdeal.nD Cert.DHIdeal.τ).loc Cert.DHIdeal.main_arg2)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
          ∧ r.2.mem ((c.tc : Thread Cert.DHIdeal.nD Cert.DHIdeal.τ).loc Cert.DHIdeal.main_arg2) = m ((c.tc : Thread Cert.DHIdeal.nD Cert.DHIdeal.τ).loc Cert.DHIdeal.main_arg2))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v6) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1)
          ∧ r.2.mem ((c.tc : Thread Cert.DHRefIdeal.nD Cert.DHRefIdeal.τ).loc Cert.DHRefIdeal.main_arg2) = m' ((c.tc : Thread Cert.DHRefIdeal.nD Cert.DHRefIdeal.τ).loc Cert.DHRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v34) = v0 c
          ∧ r.2.mem ((c.tc : Thread Cert.RmsRefIdeal.nD Cert.RmsRefIdeal.τ).loc Cert.RmsRefIdeal.main_v17) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_2)) (v2 : (c : Dev Cert.FinalIdeal.nD) → Buf (Elt Ideal) ((c.tc : Thread Cert.FinalIdeal.nD Cert.FinalIdeal.τ).loc Cert.FinalIdeal.main_v0_3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_2) = v1 c
          ∧ r.2.mem ((c.tc : Thread Cert.FinalIdeal.nD Cert.FinalIdeal.τ).loc Cert.FinalIdeal.main_v0_3) = v2 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v49) = v0 c
          ∧ r.2.mem ((c.tc : Thread Cert.FinalRefIdeal.nD Cert.FinalRefIdeal.τ).loc Cert.FinalRefIdeal.main_v50) = v1 c
          ∧ r.2.mem ((c.tc : Thread Cert.FinalRefIdeal.nD Cert.FinalRefIdeal.τ).loc Cert.FinalRefIdeal.main_v33) = v2 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)) →
    ∃ (v0 : (c : Dev Cert.SlotsIdeal.nD) → Buf (Elt Ideal) ((c.tc : Thread Cert.SlotsIdeal.nD Cert.SlotsIdeal.τ).loc Cert.SlotsIdeal.main_v0)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v0) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v0) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def preserves_Adamw_AdamwIdeal : Prop :=
  IdealRules.named_const.Statement Cert.AdamwIdeal.κ "inv_bias1" .f32 0x3FC48605#32 ((8388608 / 5463681 : ℝ) : EReal)
  ∧ IdealRules.named_const.Statement Cert.AdamwIdeal.κ "inv_bias2" .f32 0x42C8E6D3#32 ((268435456 / 2672307 : ℝ) : EReal)

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v1_0)) (v1 : (c : Dev Cert.AdamwIdeal.nD) → Buf (Elt Ideal) ((c.tc : Thread Cert.AdamwIdeal.nD Cert.AdamwIdeal.τ).loc Cert.AdamwIdeal.main_v1_1)) (v2 : (c : Dev Cert.AdamwIdeal.nD) → Buf (Elt Ideal) ((c.tc : Thread Cert.AdamwIdeal.nD Cert.AdamwIdeal.τ).loc Cert.AdamwIdeal.main_v1_2)) (v3 : (c : Dev Cert.AdamwIdeal.nD) → Buf (Elt Ideal) ((c.tc : Thread Cert.AdamwIdeal.nD Cert.AdamwIdeal.τ).loc Cert.AdamwIdeal.main_v1_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v1_0) = v0 c
          ∧ r.2.mem ((c.tc : Thread Cert.AdamwIdeal.nD Cert.AdamwIdeal.τ).loc Cert.AdamwIdeal.main_v1_1) = v1 c
          ∧ r.2.mem ((c.tc : Thread Cert.AdamwIdeal.nD Cert.AdamwIdeal.τ).loc Cert.AdamwIdeal.main_v1_2) = v2 c
          ∧ r.2.mem ((c.tc : Thread Cert.AdamwIdeal.nD Cert.AdamwIdeal.τ).loc Cert.AdamwIdeal.main_v1_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_arg3) = v0 c
          ∧ r.2.mem ((c.tc : Thread Cert.AdamwRefIdeal.nD Cert.AdamwRefIdeal.τ).loc Cert.AdamwRefIdeal.main_v23) = v1 c
          ∧ r.2.mem ((c.tc : Thread Cert.AdamwRefIdeal.nD Cert.AdamwRefIdeal.τ).loc Cert.AdamwRefIdeal.main_v4) = v2 c
          ∧ r.2.mem ((c.tc : Thread Cert.AdamwRefIdeal.nD Cert.AdamwRefIdeal.τ).loc Cert.AdamwRefIdeal.main_v10) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_UpdOut_UpdOutIdeal : Prop :=
  IdealRules.named_const.Statement Cert.UpdOutIdeal.κ "inv_bias1" .f32 0x3FC48605#32 ((8388608 / 5463681 : ℝ) : EReal)
  ∧ IdealRules.named_const.Statement Cert.UpdOutIdeal.κ "inv_bias2" .f32 0x42C8E6D3#32 ((268435456 / 2672307 : ℝ) : EReal)

def algebraic_UpdOutIdeal_UpdOutRefIdeal [hUpdOutIdeal : Cert.UpdOutIdeal.Facts] [hUpdOutRefIdeal : Cert.UpdOutRefIdeal.Facts] [hPre_chip_out : Cert.Pre_chip_out.Facts] : Prop :=
  ∀ (m : (ℓ : Loc Cert.UpdOutIdeal.nD Cert.UpdOutIdeal.τ Cert.UpdOutIdeal.sig) → Buf (Elt Ideal) ℓ) (g : Dev Cert.UpdOutIdeal.nD → PrngReg)
    (m' : (ℓ : Loc Cert.UpdOutRefIdeal.nD Cert.UpdOutRefIdeal.τ Cert.UpdOutRefIdeal.sig) → Buf (Elt Ideal) ℓ) (g' : Dev Cert.UpdOutRefIdeal.nD → PrngReg), Pre_UpdOutIdeal m →
    (∀ c : Dev Cert.UpdOutIdeal.nD,
      m' ((c.tc : Thread Cert.UpdOutRefIdeal.nD Cert.UpdOutRefIdeal.τ).loc Cert.UpdOutRefIdeal.main_arg0) = m ((c.tc : Thread Cert.UpdOutIdeal.nD Cert.UpdOutIdeal.τ).loc Cert.UpdOutIdeal.main_arg0)
      ∧ m' ((c.tc : Thread Cert.UpdOutRefIdeal.nD Cert.UpdOutRefIdeal.τ).loc Cert.UpdOutRefIdeal.main_arg1) = m ((c.tc : Thread Cert.UpdOutIdeal.nD Cert.UpdOutIdeal.τ).loc Cert.UpdOutIdeal.main_arg1)
      ∧ m' ((c.tc : Thread Cert.UpdOutRefIdeal.nD Cert.UpdOutRefIdeal.τ).loc Cert.UpdOutRefIdeal.main_arg2) = m ((c.tc : Thread Cert.UpdOutIdeal.nD Cert.UpdOutIdeal.τ).loc Cert.UpdOutIdeal.main_arg2)
      ∧ m' ((c.tc : Thread Cert.UpdOutRefIdeal.nD Cert.UpdOutRefIdeal.τ).loc Cert.UpdOutRefIdeal.main_arg3) = m ((c.tc : Thread Cert.UpdOutIdeal.nD Cert.UpdOutIdeal.τ).loc Cert.UpdOutIdeal.main_arg3)
      ∧ m' ((c.tc : Thread Cert.UpdOutRefIdeal.nD Cert.UpdOutRefIdeal.τ).loc Cert.UpdOutRefIdeal.main_arg4) = m ((c.tc : Thread Cert.UpdOutIdeal.nD Cert.UpdOutIdeal.τ).loc Cert.UpdOutIdeal.main_arg4)
      ∧ m' ((c.tc : Thread Cert.UpdOutRefIdeal.nD Cert.UpdOutRefIdeal.τ).loc Cert.UpdOutRefIdeal.main_arg5) = m ((c.tc : Thread Cert.UpdOutIdeal.nD Cert.UpdOutIdeal.τ).loc Cert.UpdOutIdeal.main_arg5)) →
    ∃ (v0 : (c : Dev Cert.UpdOutIdeal.nD) → Buf (Elt Ideal) ((c.tc : Thread Cert.UpdOutIdeal.nD Cert.UpdOutIdeal.τ).loc Cert.UpdOutIdeal.main_v0_0)) (v1 : (c : Dev Cert.UpdOutIdeal.nD) → Buf (Elt Ideal) ((c.tc : Thread Cert.UpdOutIdeal.nD Cert.UpdOutIdeal.τ).loc Cert.UpdOutIdeal.main_v0_1)) (v2 : (c : Dev Cert.UpdOutIdeal.nD) → Buf (Elt Ideal) ((c.tc : Thread Cert.UpdOutIdeal.nD Cert.UpdOutIdeal.τ).loc Cert.UpdOutIdeal.main_v0_2)) (v3 : (c : Dev Cert.UpdOutIdeal.nD) → Buf (Elt Ideal) ((c.tc : Thread Cert.UpdOutIdeal.nD Cert.UpdOutIdeal.τ).loc Cert.UpdOutIdeal.main_v0_3)),
      θ_run (Cert.UpdOutIdeal.defs (F := Ideal)) (onTc (τ := Cert.UpdOutIdeal.τ) (Cert.UpdOutIdeal.main (F := Ideal))) ⟨m, fun _ => 0, g⟩ (fun r => ∀ c : Dev Cert.UpdOutIdeal.nD,
          r.2.mem ((c.tc : Thread Cert.UpdOutIdeal.nD Cert.UpdOutIdeal.τ).loc Cert.UpdOutIdeal.main_v0_0) = v0 c
          ∧ r.2.mem ((c.tc : Thread Cert.UpdOutIdeal.nD Cert.UpdOutIdeal.τ).loc Cert.UpdOutIdeal.main_v0_1) = v1 c
          ∧ r.2.mem ((c.tc : Thread Cert.UpdOutIdeal.nD Cert.UpdOutIdeal.τ).loc Cert.UpdOutIdeal.main_v0_2) = v2 c
          ∧ r.2.mem ((c.tc : Thread Cert.UpdOutIdeal.nD Cert.UpdOutIdeal.τ).loc Cert.UpdOutIdeal.main_v0_3) = v3 c
          ∧ r.2.mem ((c.tc : Thread Cert.UpdOutIdeal.nD Cert.UpdOutIdeal.τ).loc Cert.UpdOutIdeal.main_arg0) = m ((c.tc : Thread Cert.UpdOutIdeal.nD Cert.UpdOutIdeal.τ).loc Cert.UpdOutIdeal.main_arg0)
          ∧ r.2.mem ((c.tc : Thread Cert.UpdOutIdeal.nD Cert.UpdOutIdeal.τ).loc Cert.UpdOutIdeal.main_arg1) = m ((c.tc : Thread Cert.UpdOutIdeal.nD Cert.UpdOutIdeal.τ).loc Cert.UpdOutIdeal.main_arg1)
          ∧ r.2.mem ((c.tc : Thread Cert.UpdOutIdeal.nD Cert.UpdOutIdeal.τ).loc Cert.UpdOutIdeal.main_arg2) = m ((c.tc : Thread Cert.UpdOutIdeal.nD Cert.UpdOutIdeal.τ).loc Cert.UpdOutIdeal.main_arg2)
          ∧ r.2.mem ((c.tc : Thread Cert.UpdOutIdeal.nD Cert.UpdOutIdeal.τ).loc Cert.UpdOutIdeal.main_arg3) = m ((c.tc : Thread Cert.UpdOutIdeal.nD Cert.UpdOutIdeal.τ).loc Cert.UpdOutIdeal.main_arg3)
          ∧ r.2.mem ((c.tc : Thread Cert.UpdOutIdeal.nD Cert.UpdOutIdeal.τ).loc Cert.UpdOutIdeal.main_arg4) = m ((c.tc : Thread Cert.UpdOutIdeal.nD Cert.UpdOutIdeal.τ).loc Cert.UpdOutIdeal.main_arg4)
          ∧ r.2.mem ((c.tc : Thread Cert.UpdOutIdeal.nD Cert.UpdOutIdeal.τ).loc Cert.UpdOutIdeal.main_arg5) = m ((c.tc : Thread Cert.UpdOutIdeal.nD Cert.UpdOutIdeal.τ).loc Cert.UpdOutIdeal.main_arg5))
      ∧ θ_run (Cert.UpdOutRefIdeal.defs (F := Ideal)) (onTc (τ := Cert.UpdOutRefIdeal.τ) (Cert.UpdOutRefIdeal.main (F := Ideal))) ⟨m', fun _ => 0, g'⟩ (fun r => ∀ c : Dev Cert.UpdOutRefIdeal.nD,
          r.2.mem ((c.tc : Thread Cert.UpdOutRefIdeal.nD Cert.UpdOutRefIdeal.τ).loc Cert.UpdOutRefIdeal.main_v7) = v0 c
          ∧ r.2.mem ((c.tc : Thread Cert.UpdOutRefIdeal.nD Cert.UpdOutRefIdeal.τ).loc Cert.UpdOutRefIdeal.main_v31) = v1 c
          ∧ r.2.mem ((c.tc : Thread Cert.UpdOutRefIdeal.nD Cert.UpdOutRefIdeal.τ).loc Cert.UpdOutRefIdeal.main_v12) = v2 c
          ∧ r.2.mem ((c.tc : Thread Cert.UpdOutRefIdeal.nD Cert.UpdOutRefIdeal.τ).loc Cert.UpdOutRefIdeal.main_v18) = v3 c
          ∧ r.2.mem ((c.tc : Thread Cert.UpdOutRefIdeal.nD Cert.UpdOutRefIdeal.τ).loc Cert.UpdOutRefIdeal.main_arg0) = m' ((c.tc : Thread Cert.UpdOutRefIdeal.nD Cert.UpdOutRefIdeal.τ).loc Cert.UpdOutRefIdeal.main_arg0)
          ∧ r.2.mem ((c.tc : Thread Cert.UpdOutRefIdeal.nD Cert.UpdOutRefIdeal.τ).loc Cert.UpdOutRefIdeal.main_arg1) = m' ((c.tc : Thread Cert.UpdOutRefIdeal.nD Cert.UpdOutRefIdeal.τ).loc Cert.UpdOutRefIdeal.main_arg1)
          ∧ r.2.mem ((c.tc : Thread Cert.UpdOutRefIdeal.nD Cert.UpdOutRefIdeal.τ).loc Cert.UpdOutRefIdeal.main_arg2) = m' ((c.tc : Thread Cert.UpdOutRefIdeal.nD Cert.UpdOutRefIdeal.τ).loc Cert.UpdOutRefIdeal.main_arg2)
          ∧ r.2.mem ((c.tc : Thread Cert.UpdOutRefIdeal.nD Cert.UpdOutRefIdeal.τ).loc Cert.UpdOutRefIdeal.main_arg3) = m' ((c.tc : Thread Cert.UpdOutRefIdeal.nD Cert.UpdOutRefIdeal.τ).loc Cert.UpdOutRefIdeal.main_arg3)
          ∧ r.2.mem ((c.tc : Thread Cert.UpdOutRefIdeal.nD Cert.UpdOutRefIdeal.τ).loc Cert.UpdOutRefIdeal.main_arg4) = m' ((c.tc : Thread Cert.UpdOutRefIdeal.nD Cert.UpdOutRefIdeal.τ).loc Cert.UpdOutRefIdeal.main_arg4)
          ∧ r.2.mem ((c.tc : Thread Cert.UpdOutRefIdeal.nD Cert.UpdOutRefIdeal.τ).loc Cert.UpdOutRefIdeal.main_arg5) = m' ((c.tc : Thread Cert.UpdOutRefIdeal.nD Cert.UpdOutRefIdeal.τ).loc Cert.UpdOutRefIdeal.main_arg5))

def preserves_UpdGlu_UpdGluIdeal : Prop :=
  IdealRules.named_const.Statement Cert.UpdGluIdeal.κ "inv_bias1" .f32 0x3FC48605#32 ((8388608 / 5463681 : ℝ) : EReal)
  ∧ IdealRules.named_const.Statement Cert.UpdGluIdeal.κ "inv_bias2" .f32 0x42C8E6D3#32 ((268435456 / 2672307 : ℝ) : EReal)

def algebraic_UpdGluIdeal_UpdGluRefIdeal [hUpdGluIdeal : Cert.UpdGluIdeal.Facts] [hUpdGluRefIdeal : Cert.UpdGluRefIdeal.Facts] [hPre_chip_glu : Cert.Pre_chip_glu.Facts] : Prop :=
  ∀ (m : (ℓ : Loc Cert.UpdGluIdeal.nD Cert.UpdGluIdeal.τ Cert.UpdGluIdeal.sig) → Buf (Elt Ideal) ℓ) (g : Dev Cert.UpdGluIdeal.nD → PrngReg)
    (m' : (ℓ : Loc Cert.UpdGluRefIdeal.nD Cert.UpdGluRefIdeal.τ Cert.UpdGluRefIdeal.sig) → Buf (Elt Ideal) ℓ) (g' : Dev Cert.UpdGluRefIdeal.nD → PrngReg), Pre_UpdGluIdeal m →
    (∀ c : Dev Cert.UpdGluIdeal.nD,
      m' ((c.tc : Thread Cert.UpdGluRefIdeal.nD Cert.UpdGluRefIdeal.τ).loc Cert.UpdGluRefIdeal.main_arg0) = m ((c.tc : Thread Cert.UpdGluIdeal.nD Cert.UpdGluIdeal.τ).loc Cert.UpdGluIdeal.main_arg0)
      ∧ m' ((c.tc : Thread Cert.UpdGluRefIdeal.nD Cert.UpdGluRefIdeal.τ).loc Cert.UpdGluRefIdeal.main_arg1) = m ((c.tc : Thread Cert.UpdGluIdeal.nD Cert.UpdGluIdeal.τ).loc Cert.UpdGluIdeal.main_arg1)
      ∧ m' ((c.tc : Thread Cert.UpdGluRefIdeal.nD Cert.UpdGluRefIdeal.τ).loc Cert.UpdGluRefIdeal.main_arg2) = m ((c.tc : Thread Cert.UpdGluIdeal.nD Cert.UpdGluIdeal.τ).loc Cert.UpdGluIdeal.main_arg2)
      ∧ m' ((c.tc : Thread Cert.UpdGluRefIdeal.nD Cert.UpdGluRefIdeal.τ).loc Cert.UpdGluRefIdeal.main_arg3) = m ((c.tc : Thread Cert.UpdGluIdeal.nD Cert.UpdGluIdeal.τ).loc Cert.UpdGluIdeal.main_arg3)
      ∧ m' ((c.tc : Thread Cert.UpdGluRefIdeal.nD Cert.UpdGluRefIdeal.τ).loc Cert.UpdGluRefIdeal.main_arg4) = m ((c.tc : Thread Cert.UpdGluIdeal.nD Cert.UpdGluIdeal.τ).loc Cert.UpdGluIdeal.main_arg4)
      ∧ m' ((c.tc : Thread Cert.UpdGluRefIdeal.nD Cert.UpdGluRefIdeal.τ).loc Cert.UpdGluRefIdeal.main_arg5) = m ((c.tc : Thread Cert.UpdGluIdeal.nD Cert.UpdGluIdeal.τ).loc Cert.UpdGluIdeal.main_arg5)) →
    ∃ (v0 : (c : Dev Cert.UpdGluIdeal.nD) → Buf (Elt Ideal) ((c.tc : Thread Cert.UpdGluIdeal.nD Cert.UpdGluIdeal.τ).loc Cert.UpdGluIdeal.main_v0_0)) (v1 : (c : Dev Cert.UpdGluIdeal.nD) → Buf (Elt Ideal) ((c.tc : Thread Cert.UpdGluIdeal.nD Cert.UpdGluIdeal.τ).loc Cert.UpdGluIdeal.main_v0_1)) (v2 : (c : Dev Cert.UpdGluIdeal.nD) → Buf (Elt Ideal) ((c.tc : Thread Cert.UpdGluIdeal.nD Cert.UpdGluIdeal.τ).loc Cert.UpdGluIdeal.main_v0_2)) (v3 : (c : Dev Cert.UpdGluIdeal.nD) → Buf (Elt Ideal) ((c.tc : Thread Cert.UpdGluIdeal.nD Cert.UpdGluIdeal.τ).loc Cert.UpdGluIdeal.main_v0_3)),
      θ_run (Cert.UpdGluIdeal.defs (F := Ideal)) (onTc (τ := Cert.UpdGluIdeal.τ) (Cert.UpdGluIdeal.main (F := Ideal))) ⟨m, fun _ => 0, g⟩ (fun r => ∀ c : Dev Cert.UpdGluIdeal.nD,
          r.2.mem ((c.tc : Thread Cert.UpdGluIdeal.nD Cert.UpdGluIdeal.τ).loc Cert.UpdGluIdeal.main_v0_0) = v0 c
          ∧ r.2.mem ((c.tc : Thread Cert.UpdGluIdeal.nD Cert.UpdGluIdeal.τ).loc Cert.UpdGluIdeal.main_v0_1) = v1 c
          ∧ r.2.mem ((c.tc : Thread Cert.UpdGluIdeal.nD Cert.UpdGluIdeal.τ).loc Cert.UpdGluIdeal.main_v0_2) = v2 c
          ∧ r.2.mem ((c.tc : Thread Cert.UpdGluIdeal.nD Cert.UpdGluIdeal.τ).loc Cert.UpdGluIdeal.main_v0_3) = v3 c
          ∧ r.2.mem ((c.tc : Thread Cert.UpdGluIdeal.nD Cert.UpdGluIdeal.τ).loc Cert.UpdGluIdeal.main_arg0) = m ((c.tc : Thread Cert.UpdGluIdeal.nD Cert.UpdGluIdeal.τ).loc Cert.UpdGluIdeal.main_arg0)
          ∧ r.2.mem ((c.tc : Thread Cert.UpdGluIdeal.nD Cert.UpdGluIdeal.τ).loc Cert.UpdGluIdeal.main_arg1) = m ((c.tc : Thread Cert.UpdGluIdeal.nD Cert.UpdGluIdeal.τ).loc Cert.UpdGluIdeal.main_arg1)
          ∧ r.2.mem ((c.tc : Thread Cert.UpdGluIdeal.nD Cert.UpdGluIdeal.τ).loc Cert.UpdGluIdeal.main_arg2) = m ((c.tc : Thread Cert.UpdGluIdeal.nD Cert.UpdGluIdeal.τ).loc Cert.UpdGluIdeal.main_arg2)
          ∧ r.2.mem ((c.tc : Thread Cert.UpdGluIdeal.nD Cert.UpdGluIdeal.τ).loc Cert.UpdGluIdeal.main_arg3) = m ((c.tc : Thread Cert.UpdGluIdeal.nD Cert.UpdGluIdeal.τ).loc Cert.UpdGluIdeal.main_arg3)
          ∧ r.2.mem ((c.tc : Thread Cert.UpdGluIdeal.nD Cert.UpdGluIdeal.τ).loc Cert.UpdGluIdeal.main_arg4) = m ((c.tc : Thread Cert.UpdGluIdeal.nD Cert.UpdGluIdeal.τ).loc Cert.UpdGluIdeal.main_arg4)
          ∧ r.2.mem ((c.tc : Thread Cert.UpdGluIdeal.nD Cert.UpdGluIdeal.τ).loc Cert.UpdGluIdeal.main_arg5) = m ((c.tc : Thread Cert.UpdGluIdeal.nD Cert.UpdGluIdeal.τ).loc Cert.UpdGluIdeal.main_arg5))
      ∧ θ_run (Cert.UpdGluRefIdeal.defs (F := Ideal)) (onTc (τ := Cert.UpdGluRefIdeal.τ) (Cert.UpdGluRefIdeal.main (F := Ideal))) ⟨m', fun _ => 0, g'⟩ (fun r => ∀ c : Dev Cert.UpdGluRefIdeal.nD,
          r.2.mem ((c.tc : Thread Cert.UpdGluRefIdeal.nD Cert.UpdGluRefIdeal.τ).loc Cert.UpdGluRefIdeal.main_v7) = v0 c
          ∧ r.2.mem ((c.tc : Thread Cert.UpdGluRefIdeal.nD Cert.UpdGluRefIdeal.τ).loc Cert.UpdGluRefIdeal.main_v31) = v1 c
          ∧ r.2.mem ((c.tc : Thread Cert.UpdGluRefIdeal.nD Cert.UpdGluRefIdeal.τ).loc Cert.UpdGluRefIdeal.main_v12) = v2 c
          ∧ r.2.mem ((c.tc : Thread Cert.UpdGluRefIdeal.nD Cert.UpdGluRefIdeal.τ).loc Cert.UpdGluRefIdeal.main_v18) = v3 c
          ∧ r.2.mem ((c.tc : Thread Cert.UpdGluRefIdeal.nD Cert.UpdGluRefIdeal.τ).loc Cert.UpdGluRefIdeal.main_arg0) = m' ((c.tc : Thread Cert.UpdGluRefIdeal.nD Cert.UpdGluRefIdeal.τ).loc Cert.UpdGluRefIdeal.main_arg0)
          ∧ r.2.mem ((c.tc : Thread Cert.UpdGluRefIdeal.nD Cert.UpdGluRefIdeal.τ).loc Cert.UpdGluRefIdeal.main_arg1) = m' ((c.tc : Thread Cert.UpdGluRefIdeal.nD Cert.UpdGluRefIdeal.τ).loc Cert.UpdGluRefIdeal.main_arg1)
          ∧ r.2.mem ((c.tc : Thread Cert.UpdGluRefIdeal.nD Cert.UpdGluRefIdeal.τ).loc Cert.UpdGluRefIdeal.main_arg2) = m' ((c.tc : Thread Cert.UpdGluRefIdeal.nD Cert.UpdGluRefIdeal.τ).loc Cert.UpdGluRefIdeal.main_arg2)
          ∧ r.2.mem ((c.tc : Thread Cert.UpdGluRefIdeal.nD Cert.UpdGluRefIdeal.τ).loc Cert.UpdGluRefIdeal.main_arg3) = m' ((c.tc : Thread Cert.UpdGluRefIdeal.nD Cert.UpdGluRefIdeal.τ).loc Cert.UpdGluRefIdeal.main_arg3)
          ∧ r.2.mem ((c.tc : Thread Cert.UpdGluRefIdeal.nD Cert.UpdGluRefIdeal.τ).loc Cert.UpdGluRefIdeal.main_arg4) = m' ((c.tc : Thread Cert.UpdGluRefIdeal.nD Cert.UpdGluRefIdeal.τ).loc Cert.UpdGluRefIdeal.main_arg4)
          ∧ r.2.mem ((c.tc : Thread Cert.UpdGluRefIdeal.nD Cert.UpdGluRefIdeal.τ).loc Cert.UpdGluRefIdeal.main_arg5) = m' ((c.tc : Thread Cert.UpdGluRefIdeal.nD Cert.UpdGluRefIdeal.τ).loc Cert.UpdGluRefIdeal.main_arg5))

def preserves_UpdUp_UpdUpIdeal : Prop :=
  IdealRules.named_const.Statement Cert.UpdUpIdeal.κ "inv_bias1" .f32 0x3FC48605#32 ((8388608 / 5463681 : ℝ) : EReal)
  ∧ IdealRules.named_const.Statement Cert.UpdUpIdeal.κ "inv_bias2" .f32 0x42C8E6D3#32 ((268435456 / 2672307 : ℝ) : EReal)

def algebraic_UpdUpIdeal_UpdUpRefIdeal [hUpdUpIdeal : Cert.UpdUpIdeal.Facts] [hUpdUpRefIdeal : Cert.UpdUpRefIdeal.Facts] [hPre_chip_up : Cert.Pre_chip_up.Facts] : Prop :=
  ∀ (m : (ℓ : Loc Cert.UpdUpIdeal.nD Cert.UpdUpIdeal.τ Cert.UpdUpIdeal.sig) → Buf (Elt Ideal) ℓ) (g : Dev Cert.UpdUpIdeal.nD → PrngReg)
    (m' : (ℓ : Loc Cert.UpdUpRefIdeal.nD Cert.UpdUpRefIdeal.τ Cert.UpdUpRefIdeal.sig) → Buf (Elt Ideal) ℓ) (g' : Dev Cert.UpdUpRefIdeal.nD → PrngReg), Pre_UpdUpIdeal m →
    (∀ c : Dev Cert.UpdUpIdeal.nD,
      m' ((c.tc : Thread Cert.UpdUpRefIdeal.nD Cert.UpdUpRefIdeal.τ).loc Cert.UpdUpRefIdeal.main_arg0) = m ((c.tc : Thread Cert.UpdUpIdeal.nD Cert.UpdUpIdeal.τ).loc Cert.UpdUpIdeal.main_arg0)
      ∧ m' ((c.tc : Thread Cert.UpdUpRefIdeal.nD Cert.UpdUpRefIdeal.τ).loc Cert.UpdUpRefIdeal.main_arg1) = m ((c.tc : Thread Cert.UpdUpIdeal.nD Cert.UpdUpIdeal.τ).loc Cert.UpdUpIdeal.main_arg1)
      ∧ m' ((c.tc : Thread Cert.UpdUpRefIdeal.nD Cert.UpdUpRefIdeal.τ).loc Cert.UpdUpRefIdeal.main_arg2) = m ((c.tc : Thread Cert.UpdUpIdeal.nD Cert.UpdUpIdeal.τ).loc Cert.UpdUpIdeal.main_arg2)
      ∧ m' ((c.tc : Thread Cert.UpdUpRefIdeal.nD Cert.UpdUpRefIdeal.τ).loc Cert.UpdUpRefIdeal.main_arg3) = m ((c.tc : Thread Cert.UpdUpIdeal.nD Cert.UpdUpIdeal.τ).loc Cert.UpdUpIdeal.main_arg3)
      ∧ m' ((c.tc : Thread Cert.UpdUpRefIdeal.nD Cert.UpdUpRefIdeal.τ).loc Cert.UpdUpRefIdeal.main_arg4) = m ((c.tc : Thread Cert.UpdUpIdeal.nD Cert.UpdUpIdeal.τ).loc Cert.UpdUpIdeal.main_arg4)
      ∧ m' ((c.tc : Thread Cert.UpdUpRefIdeal.nD Cert.UpdUpRefIdeal.τ).loc Cert.UpdUpRefIdeal.main_arg5) = m ((c.tc : Thread Cert.UpdUpIdeal.nD Cert.UpdUpIdeal.τ).loc Cert.UpdUpIdeal.main_arg5)) →
    ∃ (v0 : (c : Dev Cert.UpdUpIdeal.nD) → Buf (Elt Ideal) ((c.tc : Thread Cert.UpdUpIdeal.nD Cert.UpdUpIdeal.τ).loc Cert.UpdUpIdeal.main_v0_0)) (v1 : (c : Dev Cert.UpdUpIdeal.nD) → Buf (Elt Ideal) ((c.tc : Thread Cert.UpdUpIdeal.nD Cert.UpdUpIdeal.τ).loc Cert.UpdUpIdeal.main_v0_1)) (v2 : (c : Dev Cert.UpdUpIdeal.nD) → Buf (Elt Ideal) ((c.tc : Thread Cert.UpdUpIdeal.nD Cert.UpdUpIdeal.τ).loc Cert.UpdUpIdeal.main_v0_2)) (v3 : (c : Dev Cert.UpdUpIdeal.nD) → Buf (Elt Ideal) ((c.tc : Thread Cert.UpdUpIdeal.nD Cert.UpdUpIdeal.τ).loc Cert.UpdUpIdeal.main_v0_3)),
      θ_run (Cert.UpdUpIdeal.defs (F := Ideal)) (onTc (τ := Cert.UpdUpIdeal.τ) (Cert.UpdUpIdeal.main (F := Ideal))) ⟨m, fun _ => 0, g⟩ (fun r => ∀ c : Dev Cert.UpdUpIdeal.nD,
          r.2.mem ((c.tc : Thread Cert.UpdUpIdeal.nD Cert.UpdUpIdeal.τ).loc Cert.UpdUpIdeal.main_v0_0) = v0 c
          ∧ r.2.mem ((c.tc : Thread Cert.UpdUpIdeal.nD Cert.UpdUpIdeal.τ).loc Cert.UpdUpIdeal.main_v0_1) = v1 c
          ∧ r.2.mem ((c.tc : Thread Cert.UpdUpIdeal.nD Cert.UpdUpIdeal.τ).loc Cert.UpdUpIdeal.main_v0_2) = v2 c
          ∧ r.2.mem ((c.tc : Thread Cert.UpdUpIdeal.nD Cert.UpdUpIdeal.τ).loc Cert.UpdUpIdeal.main_v0_3) = v3 c
          ∧ r.2.mem ((c.tc : Thread Cert.UpdUpIdeal.nD Cert.UpdUpIdeal.τ).loc Cert.UpdUpIdeal.main_arg0) = m ((c.tc : Thread Cert.UpdUpIdeal.nD Cert.UpdUpIdeal.τ).loc Cert.UpdUpIdeal.main_arg0)
          ∧ r.2.mem ((c.tc : Thread Cert.UpdUpIdeal.nD Cert.UpdUpIdeal.τ).loc Cert.UpdUpIdeal.main_arg1) = m ((c.tc : Thread Cert.UpdUpIdeal.nD Cert.UpdUpIdeal.τ).loc Cert.UpdUpIdeal.main_arg1)
          ∧ r.2.mem ((c.tc : Thread Cert.UpdUpIdeal.nD Cert.UpdUpIdeal.τ).loc Cert.UpdUpIdeal.main_arg2) = m ((c.tc : Thread Cert.UpdUpIdeal.nD Cert.UpdUpIdeal.τ).loc Cert.UpdUpIdeal.main_arg2)
          ∧ r.2.mem ((c.tc : Thread Cert.UpdUpIdeal.nD Cert.UpdUpIdeal.τ).loc Cert.UpdUpIdeal.main_arg3) = m ((c.tc : Thread Cert.UpdUpIdeal.nD Cert.UpdUpIdeal.τ).loc Cert.UpdUpIdeal.main_arg3)
          ∧ r.2.mem ((c.tc : Thread Cert.UpdUpIdeal.nD Cert.UpdUpIdeal.τ).loc Cert.UpdUpIdeal.main_arg4) = m ((c.tc : Thread Cert.UpdUpIdeal.nD Cert.UpdUpIdeal.τ).loc Cert.UpdUpIdeal.main_arg4)
          ∧ r.2.mem ((c.tc : Thread Cert.UpdUpIdeal.nD Cert.UpdUpIdeal.τ).loc Cert.UpdUpIdeal.main_arg5) = m ((c.tc : Thread Cert.UpdUpIdeal.nD Cert.UpdUpIdeal.τ).loc Cert.UpdUpIdeal.main_arg5))
      ∧ θ_run (Cert.UpdUpRefIdeal.defs (F := Ideal)) (onTc (τ := Cert.UpdUpRefIdeal.τ) (Cert.UpdUpRefIdeal.main (F := Ideal))) ⟨m', fun _ => 0, g'⟩ (fun r => ∀ c : Dev Cert.UpdUpRefIdeal.nD,
          r.2.mem ((c.tc : Thread Cert.UpdUpRefIdeal.nD Cert.UpdUpRefIdeal.τ).loc Cert.UpdUpRefIdeal.main_v7) = v0 c
          ∧ r.2.mem ((c.tc : Thread Cert.UpdUpRefIdeal.nD Cert.UpdUpRefIdeal.τ).loc Cert.UpdUpRefIdeal.main_v31) = v1 c
          ∧ r.2.mem ((c.tc : Thread Cert.UpdUpRefIdeal.nD Cert.UpdUpRefIdeal.τ).loc Cert.UpdUpRefIdeal.main_v12) = v2 c
          ∧ r.2.mem ((c.tc : Thread Cert.UpdUpRefIdeal.nD Cert.UpdUpRefIdeal.τ).loc Cert.UpdUpRefIdeal.main_v18) = v3 c
          ∧ r.2.mem ((c.tc : Thread Cert.UpdUpRefIdeal.nD Cert.UpdUpRefIdeal.τ).loc Cert.UpdUpRefIdeal.main_arg0) = m' ((c.tc : Thread Cert.UpdUpRefIdeal.nD Cert.UpdUpRefIdeal.τ).loc Cert.UpdUpRefIdeal.main_arg0)
          ∧ r.2.mem ((c.tc : Thread Cert.UpdUpRefIdeal.nD Cert.UpdUpRefIdeal.τ).loc Cert.UpdUpRefIdeal.main_arg1) = m' ((c.tc : Thread Cert.UpdUpRefIdeal.nD Cert.UpdUpRefIdeal.τ).loc Cert.UpdUpRefIdeal.main_arg1)
          ∧ r.2.mem ((c.tc : Thread Cert.UpdUpRefIdeal.nD Cert.UpdUpRefIdeal.τ).loc Cert.UpdUpRefIdeal.main_arg2) = m' ((c.tc : Thread Cert.UpdUpRefIdeal.nD Cert.UpdUpRefIdeal.τ).loc Cert.UpdUpRefIdeal.main_arg2)
          ∧ r.2.mem ((c.tc : Thread Cert.UpdUpRefIdeal.nD Cert.UpdUpRefIdeal.τ).loc Cert.UpdUpRefIdeal.main_arg3) = m' ((c.tc : Thread Cert.UpdUpRefIdeal.nD Cert.UpdUpRefIdeal.τ).loc Cert.UpdUpRefIdeal.main_arg3)
          ∧ r.2.mem ((c.tc : Thread Cert.UpdUpRefIdeal.nD Cert.UpdUpRefIdeal.τ).loc Cert.UpdUpRefIdeal.main_arg4) = m' ((c.tc : Thread Cert.UpdUpRefIdeal.nD Cert.UpdUpRefIdeal.τ).loc Cert.UpdUpRefIdeal.main_arg4)
          ∧ r.2.mem ((c.tc : Thread Cert.UpdUpRefIdeal.nD Cert.UpdUpRefIdeal.τ).loc Cert.UpdUpRefIdeal.main_arg5) = m' ((c.tc : Thread Cert.UpdUpRefIdeal.nD Cert.UpdUpRefIdeal.τ).loc Cert.UpdUpRefIdeal.main_arg5))

def preserves_UpdIn_UpdInIdeal : Prop :=
  IdealRules.named_const.Statement Cert.UpdInIdeal.κ "inv_bias1" .f32 0x3FC48605#32 ((8388608 / 5463681 : ℝ) : EReal)
  ∧ IdealRules.named_const.Statement Cert.UpdInIdeal.κ "inv_bias2" .f32 0x42C8E6D3#32 ((268435456 / 2672307 : ℝ) : EReal)

def algebraic_UpdInIdeal_UpdInRefIdeal [hUpdInIdeal : Cert.UpdInIdeal.Facts] [hUpdInRefIdeal : Cert.UpdInRefIdeal.Facts] [hPre_chip_in : Cert.Pre_chip_in.Facts] : Prop :=
  ∀ (m : (ℓ : Loc Cert.UpdInIdeal.nD Cert.UpdInIdeal.τ Cert.UpdInIdeal.sig) → Buf (Elt Ideal) ℓ) (g : Dev Cert.UpdInIdeal.nD → PrngReg)
    (m' : (ℓ : Loc Cert.UpdInRefIdeal.nD Cert.UpdInRefIdeal.τ Cert.UpdInRefIdeal.sig) → Buf (Elt Ideal) ℓ) (g' : Dev Cert.UpdInRefIdeal.nD → PrngReg), Pre_UpdInIdeal m →
    (∀ c : Dev Cert.UpdInIdeal.nD,
      m' ((c.tc : Thread Cert.UpdInRefIdeal.nD Cert.UpdInRefIdeal.τ).loc Cert.UpdInRefIdeal.main_arg0) = m ((c.tc : Thread Cert.UpdInIdeal.nD Cert.UpdInIdeal.τ).loc Cert.UpdInIdeal.main_arg0)
      ∧ m' ((c.tc : Thread Cert.UpdInRefIdeal.nD Cert.UpdInRefIdeal.τ).loc Cert.UpdInRefIdeal.main_arg1) = m ((c.tc : Thread Cert.UpdInIdeal.nD Cert.UpdInIdeal.τ).loc Cert.UpdInIdeal.main_arg1)
      ∧ m' ((c.tc : Thread Cert.UpdInRefIdeal.nD Cert.UpdInRefIdeal.τ).loc Cert.UpdInRefIdeal.main_arg2) = m ((c.tc : Thread Cert.UpdInIdeal.nD Cert.UpdInIdeal.τ).loc Cert.UpdInIdeal.main_arg2)
      ∧ m' ((c.tc : Thread Cert.UpdInRefIdeal.nD Cert.UpdInRefIdeal.τ).loc Cert.UpdInRefIdeal.main_arg3) = m ((c.tc : Thread Cert.UpdInIdeal.nD Cert.UpdInIdeal.τ).loc Cert.UpdInIdeal.main_arg3)
      ∧ m' ((c.tc : Thread Cert.UpdInRefIdeal.nD Cert.UpdInRefIdeal.τ).loc Cert.UpdInRefIdeal.main_arg4) = m ((c.tc : Thread Cert.UpdInIdeal.nD Cert.UpdInIdeal.τ).loc Cert.UpdInIdeal.main_arg4)
      ∧ m' ((c.tc : Thread Cert.UpdInRefIdeal.nD Cert.UpdInRefIdeal.τ).loc Cert.UpdInRefIdeal.main_arg5) = m ((c.tc : Thread Cert.UpdInIdeal.nD Cert.UpdInIdeal.τ).loc Cert.UpdInIdeal.main_arg5)) →
    ∃ (v0 : (c : Dev Cert.UpdInIdeal.nD) → Buf (Elt Ideal) ((c.tc : Thread Cert.UpdInIdeal.nD Cert.UpdInIdeal.τ).loc Cert.UpdInIdeal.main_v0_0)) (v1 : (c : Dev Cert.UpdInIdeal.nD) → Buf (Elt Ideal) ((c.tc : Thread Cert.UpdInIdeal.nD Cert.UpdInIdeal.τ).loc Cert.UpdInIdeal.main_v0_1)) (v2 : (c : Dev Cert.UpdInIdeal.nD) → Buf (Elt Ideal) ((c.tc : Thread Cert.UpdInIdeal.nD Cert.UpdInIdeal.τ).loc Cert.UpdInIdeal.main_v0_2)) (v3 : (c : Dev Cert.UpdInIdeal.nD) → Buf (Elt Ideal) ((c.tc : Thread Cert.UpdInIdeal.nD Cert.UpdInIdeal.τ).loc Cert.UpdInIdeal.main_v0_3)),
      θ_run (Cert.UpdInIdeal.defs (F := Ideal)) (onTc (τ := Cert.UpdInIdeal.τ) (Cert.UpdInIdeal.main (F := Ideal))) ⟨m, fun _ => 0, g⟩ (fun r => ∀ c : Dev Cert.UpdInIdeal.nD,
          r.2.mem ((c.tc : Thread Cert.UpdInIdeal.nD Cert.UpdInIdeal.τ).loc Cert.UpdInIdeal.main_v0_0) = v0 c
          ∧ r.2.mem ((c.tc : Thread Cert.UpdInIdeal.nD Cert.UpdInIdeal.τ).loc Cert.UpdInIdeal.main_v0_1) = v1 c
          ∧ r.2.mem ((c.tc : Thread Cert.UpdInIdeal.nD Cert.UpdInIdeal.τ).loc Cert.UpdInIdeal.main_v0_2) = v2 c
          ∧ r.2.mem ((c.tc : Thread Cert.UpdInIdeal.nD Cert.UpdInIdeal.τ).loc Cert.UpdInIdeal.main_v0_3) = v3 c
          ∧ r.2.mem ((c.tc : Thread Cert.UpdInIdeal.nD Cert.UpdInIdeal.τ).loc Cert.UpdInIdeal.main_arg0) = m ((c.tc : Thread Cert.UpdInIdeal.nD Cert.UpdInIdeal.τ).loc Cert.UpdInIdeal.main_arg0)
          ∧ r.2.mem ((c.tc : Thread Cert.UpdInIdeal.nD Cert.UpdInIdeal.τ).loc Cert.UpdInIdeal.main_arg1) = m ((c.tc : Thread Cert.UpdInIdeal.nD Cert.UpdInIdeal.τ).loc Cert.UpdInIdeal.main_arg1)
          ∧ r.2.mem ((c.tc : Thread Cert.UpdInIdeal.nD Cert.UpdInIdeal.τ).loc Cert.UpdInIdeal.main_arg2) = m ((c.tc : Thread Cert.UpdInIdeal.nD Cert.UpdInIdeal.τ).loc Cert.UpdInIdeal.main_arg2)
          ∧ r.2.mem ((c.tc : Thread Cert.UpdInIdeal.nD Cert.UpdInIdeal.τ).loc Cert.UpdInIdeal.main_arg3) = m ((c.tc : Thread Cert.UpdInIdeal.nD Cert.UpdInIdeal.τ).loc Cert.UpdInIdeal.main_arg3)
          ∧ r.2.mem ((c.tc : Thread Cert.UpdInIdeal.nD Cert.UpdInIdeal.τ).loc Cert.UpdInIdeal.main_arg4) = m ((c.tc : Thread Cert.UpdInIdeal.nD Cert.UpdInIdeal.τ).loc Cert.UpdInIdeal.main_arg4)
          ∧ r.2.mem ((c.tc : Thread Cert.UpdInIdeal.nD Cert.UpdInIdeal.τ).loc Cert.UpdInIdeal.main_arg5) = m ((c.tc : Thread Cert.UpdInIdeal.nD Cert.UpdInIdeal.τ).loc Cert.UpdInIdeal.main_arg5))
      ∧ θ_run (Cert.UpdInRefIdeal.defs (F := Ideal)) (onTc (τ := Cert.UpdInRefIdeal.τ) (Cert.UpdInRefIdeal.main (F := Ideal))) ⟨m', fun _ => 0, g'⟩ (fun r => ∀ c : Dev Cert.UpdInRefIdeal.nD,
          r.2.mem ((c.tc : Thread Cert.UpdInRefIdeal.nD Cert.UpdInRefIdeal.τ).loc Cert.UpdInRefIdeal.main_v7) = v0 c
          ∧ r.2.mem ((c.tc : Thread Cert.UpdInRefIdeal.nD Cert.UpdInRefIdeal.τ).loc Cert.UpdInRefIdeal.main_v31) = v1 c
          ∧ r.2.mem ((c.tc : Thread Cert.UpdInRefIdeal.nD Cert.UpdInRefIdeal.τ).loc Cert.UpdInRefIdeal.main_v12) = v2 c
          ∧ r.2.mem ((c.tc : Thread Cert.UpdInRefIdeal.nD Cert.UpdInRefIdeal.τ).loc Cert.UpdInRefIdeal.main_v18) = v3 c
          ∧ r.2.mem ((c.tc : Thread Cert.UpdInRefIdeal.nD Cert.UpdInRefIdeal.τ).loc Cert.UpdInRefIdeal.main_arg0) = m' ((c.tc : Thread Cert.UpdInRefIdeal.nD Cert.UpdInRefIdeal.τ).loc Cert.UpdInRefIdeal.main_arg0)
          ∧ r.2.mem ((c.tc : Thread Cert.UpdInRefIdeal.nD Cert.UpdInRefIdeal.τ).loc Cert.UpdInRefIdeal.main_arg1) = m' ((c.tc : Thread Cert.UpdInRefIdeal.nD Cert.UpdInRefIdeal.τ).loc Cert.UpdInRefIdeal.main_arg1)
          ∧ r.2.mem ((c.tc : Thread Cert.UpdInRefIdeal.nD Cert.UpdInRefIdeal.τ).loc Cert.UpdInRefIdeal.main_arg2) = m' ((c.tc : Thread Cert.UpdInRefIdeal.nD Cert.UpdInRefIdeal.τ).loc Cert.UpdInRefIdeal.main_arg2)
          ∧ r.2.mem ((c.tc : Thread Cert.UpdInRefIdeal.nD Cert.UpdInRefIdeal.τ).loc Cert.UpdInRefIdeal.main_arg3) = m' ((c.tc : Thread Cert.UpdInRefIdeal.nD Cert.UpdInRefIdeal.τ).loc Cert.UpdInRefIdeal.main_arg3)
          ∧ r.2.mem ((c.tc : Thread Cert.UpdInRefIdeal.nD Cert.UpdInRefIdeal.τ).loc Cert.UpdInRefIdeal.main_arg4) = m' ((c.tc : Thread Cert.UpdInRefIdeal.nD Cert.UpdInRefIdeal.τ).loc Cert.UpdInRefIdeal.main_arg4)
          ∧ r.2.mem ((c.tc : Thread Cert.UpdInRefIdeal.nD Cert.UpdInRefIdeal.τ).loc Cert.UpdInRefIdeal.main_arg5) = m' ((c.tc : Thread Cert.UpdInRefIdeal.nD Cert.UpdInRefIdeal.τ).loc Cert.UpdInRefIdeal.main_arg5))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)
      ∧ m' ((c.tc : Thread Cert.GluBwdRefIdeal.nD Cert.GluBwdRefIdeal.τ).loc Cert.GluBwdRefIdeal.main_arg3) = m ((c.tc : Thread Cert.GluBwdIdeal.nD Cert.GluBwdIdeal.τ).loc Cert.GluBwdIdeal.main_arg3)) →
    ∃ (v0 : (c : Dev Cert.GluBwdIdeal.nD) → Buf (Elt Ideal) ((c.tc : Thread Cert.GluBwdIdeal.nD Cert.GluBwdIdeal.τ).loc Cert.GluBwdIdeal.main_v0_0)) (v1 : (c : Dev Cert.GluBwdIdeal.nD) → Buf (Elt Ideal) ((c.tc : Thread Cert.GluBwdIdeal.nD Cert.GluBwdIdeal.τ).loc Cert.GluBwdIdeal.main_v0_1)) (v2 : (c : Dev Cert.GluBwdIdeal.nD) → Buf (Elt Ideal) ((c.tc : Thread Cert.GluBwdIdeal.nD Cert.GluBwdIdeal.τ).loc Cert.GluBwdIdeal.main_v0_2)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0_0) = v0 c
          ∧ r.2.mem ((c.tc : Thread Cert.GluBwdIdeal.nD Cert.GluBwdIdeal.τ).loc Cert.GluBwdIdeal.main_v0_1) = v1 c
          ∧ r.2.mem ((c.tc : Thread Cert.GluBwdIdeal.nD Cert.GluBwdIdeal.τ).loc Cert.GluBwdIdeal.main_v0_2) = v2 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v57) = v0 c
          ∧ r.2.mem ((c.tc : Thread Cert.GluBwdRefIdeal.nD Cert.GluBwdRefIdeal.τ).loc Cert.GluBwdRefIdeal.main_v58) = v1 c
          ∧ r.2.mem ((c.tc : Thread Cert.GluBwdRefIdeal.nD Cert.GluBwdRefIdeal.τ).loc Cert.GluBwdRefIdeal.main_v43) = v2 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2)
          ∧ r.2.mem ((c.tc : Thread Cert.GluBwdRefIdeal.nD Cert.GluBwdRefIdeal.τ).loc Cert.GluBwdRefIdeal.main_arg3) = m' ((c.tc : Thread Cert.GluBwdRefIdeal.nD Cert.GluBwdRefIdeal.τ).loc Cert.GluBwdRefIdeal.main_arg3))

def preserves_DiscBwd_DiscBwdIdeal : Prop :=
  True

def algebraic_DiscBwdIdeal_DiscBwdRefIdeal [hDiscBwdIdeal : Cert.DiscBwdIdeal.Facts] [hDiscBwdRefIdeal : Cert.DiscBwdRefIdeal.Facts] : Prop :=
  ∀ (m : (ℓ : Loc Cert.DiscBwdIdeal.nD Cert.DiscBwdIdeal.τ Cert.DiscBwdIdeal.sig) → Buf (Elt Ideal) ℓ) (g : Dev Cert.DiscBwdIdeal.nD → PrngReg)
    (m' : (ℓ : Loc Cert.DiscBwdRefIdeal.nD Cert.DiscBwdRefIdeal.τ Cert.DiscBwdRefIdeal.sig) → Buf (Elt Ideal) ℓ) (g' : Dev Cert.DiscBwdRefIdeal.nD → PrngReg), Pre_DiscBwdIdeal m →
    (∀ c : Dev Cert.DiscBwdIdeal.nD,
      m' ((c.tc : Thread Cert.DiscBwdRefIdeal.nD Cert.DiscBwdRefIdeal.τ).loc Cert.DiscBwdRefIdeal.main_arg0) = m ((c.tc : Thread Cert.DiscBwdIdeal.nD Cert.DiscBwdIdeal.τ).loc Cert.DiscBwdIdeal.main_arg0)
      ∧ m' ((c.tc : Thread Cert.DiscBwdRefIdeal.nD Cert.DiscBwdRefIdeal.τ).loc Cert.DiscBwdRefIdeal.main_arg1) = m ((c.tc : Thread Cert.DiscBwdIdeal.nD Cert.DiscBwdIdeal.τ).loc Cert.DiscBwdIdeal.main_arg1)
      ∧ m' ((c.tc : Thread Cert.DiscBwdRefIdeal.nD Cert.DiscBwdRefIdeal.τ).loc Cert.DiscBwdRefIdeal.main_arg2) = m ((c.tc : Thread Cert.DiscBwdIdeal.nD Cert.DiscBwdIdeal.τ).loc Cert.DiscBwdIdeal.main_arg2)
      ∧ m' ((c.tc : Thread Cert.DiscBwdRefIdeal.nD Cert.DiscBwdRefIdeal.τ).loc Cert.DiscBwdRefIdeal.main_arg3) = m ((c.tc : Thread Cert.DiscBwdIdeal.nD Cert.DiscBwdIdeal.τ).loc Cert.DiscBwdIdeal.main_arg3)
      ∧ m' ((c.tc : Thread Cert.DiscBwdRefIdeal.nD Cert.DiscBwdRefIdeal.τ).loc Cert.DiscBwdRefIdeal.main_arg4) = m ((c.tc : Thread Cert.DiscBwdIdeal.nD Cert.DiscBwdIdeal.τ).loc Cert.DiscBwdIdeal.main_arg4)
      ∧ m' ((c.tc : Thread Cert.DiscBwdRefIdeal.nD Cert.DiscBwdRefIdeal.τ).loc Cert.DiscBwdRefIdeal.main_arg5) = m ((c.tc : Thread Cert.DiscBwdIdeal.nD Cert.DiscBwdIdeal.τ).loc Cert.DiscBwdIdeal.main_arg5)
      ∧ m' ((c.tc : Thread Cert.DiscBwdRefIdeal.nD Cert.DiscBwdRefIdeal.τ).loc Cert.DiscBwdRefIdeal.main_arg6) = m ((c.tc : Thread Cert.DiscBwdIdeal.nD Cert.DiscBwdIdeal.τ).loc Cert.DiscBwdIdeal.main_arg6)) →
    ∃ (v0 : (c : Dev Cert.DiscBwdIdeal.nD) → Buf (Elt Ideal) ((c.tc : Thread Cert.DiscBwdIdeal.nD Cert.DiscBwdIdeal.τ).loc Cert.DiscBwdIdeal.main_v0_0)) (v1 : (c : Dev Cert.DiscBwdIdeal.nD) → Buf (Elt Ideal) ((c.tc : Thread Cert.DiscBwdIdeal.nD Cert.DiscBwdIdeal.τ).loc Cert.DiscBwdIdeal.main_v0_1)) (v2 : (c : Dev Cert.DiscBwdIdeal.nD) → Buf (Elt Ideal) ((c.tc : Thread Cert.DiscBwdIdeal.nD Cert.DiscBwdIdeal.τ).loc Cert.DiscBwdIdeal.main_v0_2)),
      θ_run (Cert.DiscBwdIdeal.defs (F := Ideal)) (onTc (τ := Cert.DiscBwdIdeal.τ) (Cert.DiscBwdIdeal.main (F := Ideal))) ⟨m, fun _ => 0, g⟩ (fun r => ∀ c : Dev Cert.DiscBwdIdeal.nD,
          r.2.mem ((c.tc : Thread Cert.DiscBwdIdeal.nD Cert.DiscBwdIdeal.τ).loc Cert.DiscBwdIdeal.main_v0_0) = v0 c
          ∧ r.2.mem ((c.tc : Thread Cert.DiscBwdIdeal.nD Cert.DiscBwdIdeal.τ).loc Cert.DiscBwdIdeal.main_v0_1) = v1 c
          ∧ r.2.mem ((c.tc : Thread Cert.DiscBwdIdeal.nD Cert.DiscBwdIdeal.τ).loc Cert.DiscBwdIdeal.main_v0_2) = v2 c
          ∧ r.2.mem ((c.tc : Thread Cert.DiscBwdIdeal.nD Cert.DiscBwdIdeal.τ).loc Cert.DiscBwdIdeal.main_arg0) = m ((c.tc : Thread Cert.DiscBwdIdeal.nD Cert.DiscBwdIdeal.τ).loc Cert.DiscBwdIdeal.main_arg0)
          ∧ r.2.mem ((c.tc : Thread Cert.DiscBwdIdeal.nD Cert.DiscBwdIdeal.τ).loc Cert.DiscBwdIdeal.main_arg1) = m ((c.tc : Thread Cert.DiscBwdIdeal.nD Cert.DiscBwdIdeal.τ).loc Cert.DiscBwdIdeal.main_arg1)
          ∧ r.2.mem ((c.tc : Thread Cert.DiscBwdIdeal.nD Cert.DiscBwdIdeal.τ).loc Cert.DiscBwdIdeal.main_arg2) = m ((c.tc : Thread Cert.DiscBwdIdeal.nD Cert.DiscBwdIdeal.τ).loc Cert.DiscBwdIdeal.main_arg2)
          ∧ r.2.mem ((c.tc : Thread Cert.DiscBwdIdeal.nD Cert.DiscBwdIdeal.τ).loc Cert.DiscBwdIdeal.main_arg3) = m ((c.tc : Thread Cert.DiscBwdIdeal.nD Cert.DiscBwdIdeal.τ).loc Cert.DiscBwdIdeal.main_arg3)
          ∧ r.2.mem ((c.tc : Thread Cert.DiscBwdIdeal.nD Cert.DiscBwdIdeal.τ).loc Cert.DiscBwdIdeal.main_arg4) = m ((c.tc : Thread Cert.DiscBwdIdeal.nD Cert.DiscBwdIdeal.τ).loc Cert.DiscBwdIdeal.main_arg4)
          ∧ r.2.mem ((c.tc : Thread Cert.DiscBwdIdeal.nD Cert.DiscBwdIdeal.τ).loc Cert.DiscBwdIdeal.main_arg5) = m ((c.tc : Thread Cert.DiscBwdIdeal.nD Cert.DiscBwdIdeal.τ).loc Cert.DiscBwdIdeal.main_arg5)
          ∧ r.2.mem ((c.tc : Thread Cert.DiscBwdIdeal.nD Cert.DiscBwdIdeal.τ).loc Cert.DiscBwdIdeal.main_arg6) = m ((c.tc : Thread Cert.DiscBwdIdeal.nD Cert.DiscBwdIdeal.τ).loc Cert.DiscBwdIdeal.main_arg6))
      ∧ θ_run (Cert.DiscBwdRefIdeal.defs (F := Ideal)) (onTc (τ := Cert.DiscBwdRefIdeal.τ) (Cert.DiscBwdRefIdeal.main (F := Ideal))) ⟨m', fun _ => 0, g'⟩ (fun r => ∀ c : Dev Cert.DiscBwdRefIdeal.nD,
          r.2.mem ((c.tc : Thread Cert.DiscBwdRefIdeal.nD Cert.DiscBwdRefIdeal.τ).loc Cert.DiscBwdRefIdeal.main_v93) = v0 c
          ∧ r.2.mem ((c.tc : Thread Cert.DiscBwdRefIdeal.nD Cert.DiscBwdRefIdeal.τ).loc Cert.DiscBwdRefIdeal.main_v85) = v1 c
          ∧ r.2.mem ((c.tc : Thread Cert.DiscBwdRefIdeal.nD Cert.DiscBwdRefIdeal.τ).loc Cert.DiscBwdRefIdeal.main_v94) = v2 c
          ∧ r.2.mem ((c.tc : Thread Cert.DiscBwdRefIdeal.nD Cert.DiscBwdRefIdeal.τ).loc Cert.DiscBwdRefIdeal.main_arg0) = m' ((c.tc : Thread Cert.DiscBwdRefIdeal.nD Cert.DiscBwdRefIdeal.τ).loc Cert.DiscBwdRefIdeal.main_arg0)
          ∧ r.2.mem ((c.tc : Thread Cert.DiscBwdRefIdeal.nD Cert.DiscBwdRefIdeal.τ).loc Cert.DiscBwdRefIdeal.main_arg1) = m' ((c.tc : Thread Cert.DiscBwdRefIdeal.nD Cert.DiscBwdRefIdeal.τ).loc Cert.DiscBwdRefIdeal.main_arg1)
          ∧ r.2.mem ((c.tc : Thread Cert.DiscBwdRefIdeal.nD Cert.DiscBwdRefIdeal.τ).loc Cert.DiscBwdRefIdeal.main_arg2) = m' ((c.tc : Thread Cert.DiscBwdRefIdeal.nD Cert.DiscBwdRefIdeal.τ).loc Cert.DiscBwdRefIdeal.main_arg2)
          ∧ r.2.mem ((c.tc : Thread Cert.DiscBwdRefIdeal.nD Cert.DiscBwdRefIdeal.τ).loc Cert.DiscBwdRefIdeal.main_arg3) = m' ((c.tc : Thread Cert.DiscBwdRefIdeal.nD Cert.DiscBwdRefIdeal.τ).loc Cert.DiscBwdRefIdeal.main_arg3)
          ∧ r.2.mem ((c.tc : Thread Cert.DiscBwdRefIdeal.nD Cert.DiscBwdRefIdeal.τ).loc Cert.DiscBwdRefIdeal.main_arg4) = m' ((c.tc : Thread Cert.DiscBwdRefIdeal.nD Cert.DiscBwdRefIdeal.τ).loc Cert.DiscBwdRefIdeal.main_arg4)
          ∧ r.2.mem ((c.tc : Thread Cert.DiscBwdRefIdeal.nD Cert.DiscBwdRefIdeal.τ).loc Cert.DiscBwdRefIdeal.main_arg5) = m' ((c.tc : Thread Cert.DiscBwdRefIdeal.nD Cert.DiscBwdRefIdeal.τ).loc Cert.DiscBwdRefIdeal.main_arg5)
          ∧ r.2.mem ((c.tc : Thread Cert.DiscBwdRefIdeal.nD Cert.DiscBwdRefIdeal.τ).loc Cert.DiscBwdRefIdeal.main_arg6) = m' ((c.tc : Thread Cert.DiscBwdRefIdeal.nD Cert.DiscBwdRefIdeal.τ).loc Cert.DiscBwdRefIdeal.main_arg6))

def preserves_BbarBwd_BbarBwdIdeal : Prop :=
  True

def algebraic_BbarBwdIdeal_BbarBwdRefIdeal [hBbarBwdIdeal : Cert.BbarBwdIdeal.Facts] [hBbarBwdRefIdeal : Cert.BbarBwdRefIdeal.Facts] : Prop :=
  ∀ (m : (ℓ : Loc Cert.BbarBwdIdeal.nD Cert.BbarBwdIdeal.τ Cert.BbarBwdIdeal.sig) → Buf (Elt Ideal) ℓ) (g : Dev Cert.BbarBwdIdeal.nD → PrngReg)
    (m' : (ℓ : Loc Cert.BbarBwdRefIdeal.nD Cert.BbarBwdRefIdeal.τ Cert.BbarBwdRefIdeal.sig) → Buf (Elt Ideal) ℓ) (g' : Dev Cert.BbarBwdRefIdeal.nD → PrngReg), Pre_BbarBwdIdeal m →
    (∀ c : Dev Cert.BbarBwdIdeal.nD,
      m' ((c.tc : Thread Cert.BbarBwdRefIdeal.nD Cert.BbarBwdRefIdeal.τ).loc Cert.BbarBwdRefIdeal.main_arg0) = m ((c.tc : Thread Cert.BbarBwdIdeal.nD Cert.BbarBwdIdeal.τ).loc Cert.BbarBwdIdeal.main_arg0)
      ∧ m' ((c.tc : Thread Cert.BbarBwdRefIdeal.nD Cert.BbarBwdRefIdeal.τ).loc Cert.BbarBwdRefIdeal.main_arg1) = m ((c.tc : Thread Cert.BbarBwdIdeal.nD Cert.BbarBwdIdeal.τ).loc Cert.BbarBwdIdeal.main_arg1)
      ∧ m' ((c.tc : Thread Cert.BbarBwdRefIdeal.nD Cert.BbarBwdRefIdeal.τ).loc Cert.BbarBwdRefIdeal.main_arg2) = m ((c.tc : Thread Cert.BbarBwdIdeal.nD Cert.BbarBwdIdeal.τ).loc Cert.BbarBwdIdeal.main_arg2)
      ∧ m' ((c.tc : Thread Cert.BbarBwdRefIdeal.nD Cert.BbarBwdRefIdeal.τ).loc Cert.BbarBwdRefIdeal.main_arg3) = m ((c.tc : Thread Cert.BbarBwdIdeal.nD Cert.BbarBwdIdeal.τ).loc Cert.BbarBwdIdeal.main_arg3)
      ∧ m' ((c.tc : Thread Cert.BbarBwdRefIdeal.nD Cert.BbarBwdRefIdeal.τ).loc Cert.BbarBwdRefIdeal.main_arg4) = m ((c.tc : Thread Cert.BbarBwdIdeal.nD Cert.BbarBwdIdeal.τ).loc Cert.BbarBwdIdeal.main_arg4)
      ∧ m' ((c.tc : Thread Cert.BbarBwdRefIdeal.nD Cert.BbarBwdRefIdeal.τ).loc Cert.BbarBwdRefIdeal.main_arg5) = m ((c.tc : Thread Cert.BbarBwdIdeal.nD Cert.BbarBwdIdeal.τ).loc Cert.BbarBwdIdeal.main_arg5)) →
    ∃ (v0 : (c : Dev Cert.BbarBwdIdeal.nD) → Buf (Elt Ideal) ((c.tc : Thread Cert.BbarBwdIdeal.nD Cert.BbarBwdIdeal.τ).loc Cert.BbarBwdIdeal.main_v0_0)) (v1 : (c : Dev Cert.BbarBwdIdeal.nD) → Buf (Elt Ideal) ((c.tc : Thread Cert.BbarBwdIdeal.nD Cert.BbarBwdIdeal.τ).loc Cert.BbarBwdIdeal.main_v0_1)) (v2 : (c : Dev Cert.BbarBwdIdeal.nD) → Buf (Elt Ideal) ((c.tc : Thread Cert.BbarBwdIdeal.nD Cert.BbarBwdIdeal.τ).loc Cert.BbarBwdIdeal.main_v0_2)) (v3 : (c : Dev Cert.BbarBwdIdeal.nD) → Buf (Elt Ideal) ((c.tc : Thread Cert.BbarBwdIdeal.nD Cert.BbarBwdIdeal.τ).loc Cert.BbarBwdIdeal.main_v0_3)),
      θ_run (Cert.BbarBwdIdeal.defs (F := Ideal)) (onTc (τ := Cert.BbarBwdIdeal.τ) (Cert.BbarBwdIdeal.main (F := Ideal))) ⟨m, fun _ => 0, g⟩ (fun r => ∀ c : Dev Cert.BbarBwdIdeal.nD,
          r.2.mem ((c.tc : Thread Cert.BbarBwdIdeal.nD Cert.BbarBwdIdeal.τ).loc Cert.BbarBwdIdeal.main_v0_0) = v0 c
          ∧ r.2.mem ((c.tc : Thread Cert.BbarBwdIdeal.nD Cert.BbarBwdIdeal.τ).loc Cert.BbarBwdIdeal.main_v0_1) = v1 c
          ∧ r.2.mem ((c.tc : Thread Cert.BbarBwdIdeal.nD Cert.BbarBwdIdeal.τ).loc Cert.BbarBwdIdeal.main_v0_2) = v2 c
          ∧ r.2.mem ((c.tc : Thread Cert.BbarBwdIdeal.nD Cert.BbarBwdIdeal.τ).loc Cert.BbarBwdIdeal.main_v0_3) = v3 c
          ∧ r.2.mem ((c.tc : Thread Cert.BbarBwdIdeal.nD Cert.BbarBwdIdeal.τ).loc Cert.BbarBwdIdeal.main_arg0) = m ((c.tc : Thread Cert.BbarBwdIdeal.nD Cert.BbarBwdIdeal.τ).loc Cert.BbarBwdIdeal.main_arg0)
          ∧ r.2.mem ((c.tc : Thread Cert.BbarBwdIdeal.nD Cert.BbarBwdIdeal.τ).loc Cert.BbarBwdIdeal.main_arg1) = m ((c.tc : Thread Cert.BbarBwdIdeal.nD Cert.BbarBwdIdeal.τ).loc Cert.BbarBwdIdeal.main_arg1)
          ∧ r.2.mem ((c.tc : Thread Cert.BbarBwdIdeal.nD Cert.BbarBwdIdeal.τ).loc Cert.BbarBwdIdeal.main_arg2) = m ((c.tc : Thread Cert.BbarBwdIdeal.nD Cert.BbarBwdIdeal.τ).loc Cert.BbarBwdIdeal.main_arg2)
          ∧ r.2.mem ((c.tc : Thread Cert.BbarBwdIdeal.nD Cert.BbarBwdIdeal.τ).loc Cert.BbarBwdIdeal.main_arg3) = m ((c.tc : Thread Cert.BbarBwdIdeal.nD Cert.BbarBwdIdeal.τ).loc Cert.BbarBwdIdeal.main_arg3)
          ∧ r.2.mem ((c.tc : Thread Cert.BbarBwdIdeal.nD Cert.BbarBwdIdeal.τ).loc Cert.BbarBwdIdeal.main_arg4) = m ((c.tc : Thread Cert.BbarBwdIdeal.nD Cert.BbarBwdIdeal.τ).loc Cert.BbarBwdIdeal.main_arg4)
          ∧ r.2.mem ((c.tc : Thread Cert.BbarBwdIdeal.nD Cert.BbarBwdIdeal.τ).loc Cert.BbarBwdIdeal.main_arg5) = m ((c.tc : Thread Cert.BbarBwdIdeal.nD Cert.BbarBwdIdeal.τ).loc Cert.BbarBwdIdeal.main_arg5))
      ∧ θ_run (Cert.BbarBwdRefIdeal.defs (F := Ideal)) (onTc (τ := Cert.BbarBwdRefIdeal.τ) (Cert.BbarBwdRefIdeal.main (F := Ideal))) ⟨m', fun _ => 0, g'⟩ (fun r => ∀ c : Dev Cert.BbarBwdRefIdeal.nD,
          r.2.mem ((c.tc : Thread Cert.BbarBwdRefIdeal.nD Cert.BbarBwdRefIdeal.τ).loc Cert.BbarBwdRefIdeal.main_v37) = v0 c
          ∧ r.2.mem ((c.tc : Thread Cert.BbarBwdRefIdeal.nD Cert.BbarBwdRefIdeal.τ).loc Cert.BbarBwdRefIdeal.main_v30) = v1 c
          ∧ r.2.mem ((c.tc : Thread Cert.BbarBwdRefIdeal.nD Cert.BbarBwdRefIdeal.τ).loc Cert.BbarBwdRefIdeal.main_v33) = v2 c
          ∧ r.2.mem ((c.tc : Thread Cert.BbarBwdRefIdeal.nD Cert.BbarBwdRefIdeal.τ).loc Cert.BbarBwdRefIdeal.main_v26) = v3 c
          ∧ r.2.mem ((c.tc : Thread Cert.BbarBwdRefIdeal.nD Cert.BbarBwdRefIdeal.τ).loc Cert.BbarBwdRefIdeal.main_arg0) = m' ((c.tc : Thread Cert.BbarBwdRefIdeal.nD Cert.BbarBwdRefIdeal.τ).loc Cert.BbarBwdRefIdeal.main_arg0)
          ∧ r.2.mem ((c.tc : Thread Cert.BbarBwdRefIdeal.nD Cert.BbarBwdRefIdeal.τ).loc Cert.BbarBwdRefIdeal.main_arg1) = m' ((c.tc : Thread Cert.BbarBwdRefIdeal.nD Cert.BbarBwdRefIdeal.τ).loc Cert.BbarBwdRefIdeal.main_arg1)
          ∧ r.2.mem ((c.tc : Thread Cert.BbarBwdRefIdeal.nD Cert.BbarBwdRefIdeal.τ).loc Cert.BbarBwdRefIdeal.main_arg2) = m' ((c.tc : Thread Cert.BbarBwdRefIdeal.nD Cert.BbarBwdRefIdeal.τ).loc Cert.BbarBwdRefIdeal.main_arg2)
          ∧ r.2.mem ((c.tc : Thread Cert.BbarBwdRefIdeal.nD Cert.BbarBwdRefIdeal.τ).loc Cert.BbarBwdRefIdeal.main_arg3) = m' ((c.tc : Thread Cert.BbarBwdRefIdeal.nD Cert.BbarBwdRefIdeal.τ).loc Cert.BbarBwdRefIdeal.main_arg3)
          ∧ r.2.mem ((c.tc : Thread Cert.BbarBwdRefIdeal.nD Cert.BbarBwdRefIdeal.τ).loc Cert.BbarBwdRefIdeal.main_arg4) = m' ((c.tc : Thread Cert.BbarBwdRefIdeal.nD Cert.BbarBwdRefIdeal.τ).loc Cert.BbarBwdRefIdeal.main_arg4)
          ∧ r.2.mem ((c.tc : Thread Cert.BbarBwdRefIdeal.nD Cert.BbarBwdRefIdeal.τ).loc Cert.BbarBwdRefIdeal.main_arg5) = m' ((c.tc : Thread Cert.BbarBwdRefIdeal.nD Cert.BbarBwdRefIdeal.τ).loc Cert.BbarBwdRefIdeal.main_arg5))

def preserves_DnOutBwd_DnOutBwdIdeal : Prop :=
  True

def algebraic_DnOutBwdIdeal_DnOutBwdRefIdeal [hDnOutBwdIdeal : Cert.DnOutBwdIdeal.Facts] [hDnOutBwdRefIdeal : Cert.DnOutBwdRefIdeal.Facts] : Prop :=
  ∀ (m : (ℓ : Loc Cert.DnOutBwdIdeal.nD Cert.DnOutBwdIdeal.τ Cert.DnOutBwdIdeal.sig) → Buf (Elt Ideal) ℓ) (g : Dev Cert.DnOutBwdIdeal.nD → PrngReg)
    (m' : (ℓ : Loc Cert.DnOutBwdRefIdeal.nD Cert.DnOutBwdRefIdeal.τ Cert.DnOutBwdRefIdeal.sig) → Buf (Elt Ideal) ℓ) (g' : Dev Cert.DnOutBwdRefIdeal.nD → PrngReg), Pre_DnOutBwdIdeal m →
    (∀ c : Dev Cert.DnOutBwdIdeal.nD,
      m' ((c.tc : Thread Cert.DnOutBwdRefIdeal.nD Cert.DnOutBwdRefIdeal.τ).loc Cert.DnOutBwdRefIdeal.main_arg0) = m ((c.tc : Thread Cert.DnOutBwdIdeal.nD Cert.DnOutBwdIdeal.τ).loc Cert.DnOutBwdIdeal.main_arg0)
      ∧ m' ((c.tc : Thread Cert.DnOutBwdRefIdeal.nD Cert.DnOutBwdRefIdeal.τ).loc Cert.DnOutBwdRefIdeal.main_arg1) = m ((c.tc : Thread Cert.DnOutBwdIdeal.nD Cert.DnOutBwdIdeal.τ).loc Cert.DnOutBwdIdeal.main_arg1)
      ∧ m' ((c.tc : Thread Cert.DnOutBwdRefIdeal.nD Cert.DnOutBwdRefIdeal.τ).loc Cert.DnOutBwdRefIdeal.main_arg2) = m ((c.tc : Thread Cert.DnOutBwdIdeal.nD Cert.DnOutBwdIdeal.τ).loc Cert.DnOutBwdIdeal.main_arg2)
      ∧ m' ((c.tc : Thread Cert.DnOutBwdRefIdeal.nD Cert.DnOutBwdRefIdeal.τ).loc Cert.DnOutBwdRefIdeal.main_arg3) = m ((c.tc : Thread Cert.DnOutBwdIdeal.nD Cert.DnOutBwdIdeal.τ).loc Cert.DnOutBwdIdeal.main_arg3)) →
    ∃ (v0 : (c : Dev Cert.DnOutBwdIdeal.nD) → Buf (Elt Ideal) ((c.tc : Thread Cert.DnOutBwdIdeal.nD Cert.DnOutBwdIdeal.τ).loc Cert.DnOutBwdIdeal.main_v0_0)) (v1 : (c : Dev Cert.DnOutBwdIdeal.nD) → Buf (Elt Ideal) ((c.tc : Thread Cert.DnOutBwdIdeal.nD Cert.DnOutBwdIdeal.τ).loc Cert.DnOutBwdIdeal.main_v0_1)) (v2 : (c : Dev Cert.DnOutBwdIdeal.nD) → Buf (Elt Ideal) ((c.tc : Thread Cert.DnOutBwdIdeal.nD Cert.DnOutBwdIdeal.τ).loc Cert.DnOutBwdIdeal.main_v0_2)),
      θ_run (Cert.DnOutBwdIdeal.defs (F := Ideal)) (onTc (τ := Cert.DnOutBwdIdeal.τ) (Cert.DnOutBwdIdeal.main (F := Ideal))) ⟨m, fun _ => 0, g⟩ (fun r => ∀ c : Dev Cert.DnOutBwdIdeal.nD,
          r.2.mem ((c.tc : Thread Cert.DnOutBwdIdeal.nD Cert.DnOutBwdIdeal.τ).loc Cert.DnOutBwdIdeal.main_v0_0) = v0 c
          ∧ r.2.mem ((c.tc : Thread Cert.DnOutBwdIdeal.nD Cert.DnOutBwdIdeal.τ).loc Cert.DnOutBwdIdeal.main_v0_1) = v1 c
          ∧ r.2.mem ((c.tc : Thread Cert.DnOutBwdIdeal.nD Cert.DnOutBwdIdeal.τ).loc Cert.DnOutBwdIdeal.main_v0_2) = v2 c
          ∧ r.2.mem ((c.tc : Thread Cert.DnOutBwdIdeal.nD Cert.DnOutBwdIdeal.τ).loc Cert.DnOutBwdIdeal.main_arg0) = m ((c.tc : Thread Cert.DnOutBwdIdeal.nD Cert.DnOutBwdIdeal.τ).loc Cert.DnOutBwdIdeal.main_arg0)
          ∧ r.2.mem ((c.tc : Thread Cert.DnOutBwdIdeal.nD Cert.DnOutBwdIdeal.τ).loc Cert.DnOutBwdIdeal.main_arg1) = m ((c.tc : Thread Cert.DnOutBwdIdeal.nD Cert.DnOutBwdIdeal.τ).loc Cert.DnOutBwdIdeal.main_arg1)
          ∧ r.2.mem ((c.tc : Thread Cert.DnOutBwdIdeal.nD Cert.DnOutBwdIdeal.τ).loc Cert.DnOutBwdIdeal.main_arg2) = m ((c.tc : Thread Cert.DnOutBwdIdeal.nD Cert.DnOutBwdIdeal.τ).loc Cert.DnOutBwdIdeal.main_arg2)
          ∧ r.2.mem ((c.tc : Thread Cert.DnOutBwdIdeal.nD Cert.DnOutBwdIdeal.τ).loc Cert.DnOutBwdIdeal.main_arg3) = m ((c.tc : Thread Cert.DnOutBwdIdeal.nD Cert.DnOutBwdIdeal.τ).loc Cert.DnOutBwdIdeal.main_arg3))
      ∧ θ_run (Cert.DnOutBwdRefIdeal.defs (F := Ideal)) (onTc (τ := Cert.DnOutBwdRefIdeal.τ) (Cert.DnOutBwdRefIdeal.main (F := Ideal))) ⟨m', fun _ => 0, g'⟩ (fun r => ∀ c : Dev Cert.DnOutBwdRefIdeal.nD,
          r.2.mem ((c.tc : Thread Cert.DnOutBwdRefIdeal.nD Cert.DnOutBwdRefIdeal.τ).loc Cert.DnOutBwdRefIdeal.main_v46) = v0 c
          ∧ r.2.mem ((c.tc : Thread Cert.DnOutBwdRefIdeal.nD Cert.DnOutBwdRefIdeal.τ).loc Cert.DnOutBwdRefIdeal.main_v48) = v1 c
          ∧ r.2.mem ((c.tc : Thread Cert.DnOutBwdRefIdeal.nD Cert.DnOutBwdRefIdeal.τ).loc Cert.DnOutBwdRefIdeal.main_v31) = v2 c
          ∧ r.2.mem ((c.tc : Thread Cert.DnOutBwdRefIdeal.nD Cert.DnOutBwdRefIdeal.τ).loc Cert.DnOutBwdRefIdeal.main_arg0) = m' ((c.tc : Thread Cert.DnOutBwdRefIdeal.nD Cert.DnOutBwdRefIdeal.τ).loc Cert.DnOutBwdRefIdeal.main_arg0)
          ∧ r.2.mem ((c.tc : Thread Cert.DnOutBwdRefIdeal.nD Cert.DnOutBwdRefIdeal.τ).loc Cert.DnOutBwdRefIdeal.main_arg1) = m' ((c.tc : Thread Cert.DnOutBwdRefIdeal.nD Cert.DnOutBwdRefIdeal.τ).loc Cert.DnOutBwdRefIdeal.main_arg1)
          ∧ r.2.mem ((c.tc : Thread Cert.DnOutBwdRefIdeal.nD Cert.DnOutBwdRefIdeal.τ).loc Cert.DnOutBwdRefIdeal.main_arg2) = m' ((c.tc : Thread Cert.DnOutBwdRefIdeal.nD Cert.DnOutBwdRefIdeal.τ).loc Cert.DnOutBwdRefIdeal.main_arg2)
          ∧ r.2.mem ((c.tc : Thread Cert.DnOutBwdRefIdeal.nD Cert.DnOutBwdRefIdeal.τ).loc Cert.DnOutBwdRefIdeal.main_arg3) = m' ((c.tc : Thread Cert.DnOutBwdRefIdeal.nD Cert.DnOutBwdRefIdeal.τ).loc Cert.DnOutBwdRefIdeal.main_arg3))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)) →
    ∃ (v0 : (c : Dev Cert.PrepFwdIdeal.nD) → Buf (Elt Ideal) ((c.tc : Thread Cert.PrepFwdIdeal.nD Cert.PrepFwdIdeal.τ).loc Cert.PrepFwdIdeal.main_v0)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v0) = v0 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v48) = v0 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1))

def preserves_PrepBwd_PrepBwdIdeal : Prop :=
  True

def algebraic_PrepBwdIdeal_PrepBwdRefIdeal [hPrepBwdIdeal : Cert.PrepBwdIdeal.Facts] [hPrepBwdRefIdeal : Cert.PrepBwdRefIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg)
    (m' : (ℓ : Loc Cert.PrepBwdRefIdeal.nD Cert.PrepBwdRefIdeal.τ Cert.PrepBwdRefIdeal.sig) → Buf (Elt Ideal) ℓ) (g' : Dev Cert.PrepBwdRefIdeal.nD → PrngReg), Pre_PrepBwdIdeal m →
    (∀ c : Dev Cert.PrepBwdIdeal.nD,
      m' ((c.tc : Thread Cert.PrepBwdRefIdeal.nD Cert.PrepBwdRefIdeal.τ).loc Cert.PrepBwdRefIdeal.main_arg0) = m ((c.tc : Thread Cert.PrepBwdIdeal.nD Cert.PrepBwdIdeal.τ).loc Cert.PrepBwdIdeal.main_arg0)
      ∧ m' ((c.tc : Thread Cert.PrepBwdRefIdeal.nD Cert.PrepBwdRefIdeal.τ).loc Cert.PrepBwdRefIdeal.main_arg1) = m ((c.tc : Thread Cert.PrepBwdIdeal.nD Cert.PrepBwdIdeal.τ).loc Cert.PrepBwdIdeal.main_arg1)
      ∧ m' ((c.tc : Thread Cert.PrepBwdRefIdeal.nD Cert.PrepBwdRefIdeal.τ).loc Cert.PrepBwdRefIdeal.main_arg2) = m ((c.tc : Thread Cert.PrepBwdIdeal.nD Cert.PrepBwdIdeal.τ).loc Cert.PrepBwdIdeal.main_arg2)) →
    ∃ (v0 : (c : Dev Cert.PrepBwdIdeal.nD) → Buf (Elt Ideal) ((c.tc : Thread Cert.PrepBwdIdeal.nD Cert.PrepBwdIdeal.τ).loc Cert.PrepBwdIdeal.main_v0_0)) (v1 : (c : Dev Cert.PrepBwdIdeal.nD) → Buf (Elt Ideal) ((c.tc : Thread Cert.PrepBwdIdeal.nD Cert.PrepBwdIdeal.τ).loc Cert.PrepBwdIdeal.main_v0_1)),
      θ_run (Cert.PrepBwdIdeal.defs (F := Ideal)) (onTc (τ := Cert.PrepBwdIdeal.τ) (Cert.PrepBwdIdeal.main (F := Ideal))) ⟨m, fun _ => 0, g⟩ (fun r => ∀ c : Dev Cert.PrepBwdIdeal.nD,
          r.2.mem ((c.tc : Thread Cert.PrepBwdIdeal.nD Cert.PrepBwdIdeal.τ).loc Cert.PrepBwdIdeal.main_v0_0) = v0 c
          ∧ r.2.mem ((c.tc : Thread Cert.PrepBwdIdeal.nD Cert.PrepBwdIdeal.τ).loc Cert.PrepBwdIdeal.main_v0_1) = v1 c
          ∧ r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
          ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
          ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2))
      ∧ θ_run (Cert.PrepBwdRefIdeal.defs (F := Ideal)) (onTc (τ := Cert.PrepBwdRefIdeal.τ) (Cert.PrepBwdRefIdeal.main (F := Ideal))) ⟨m', fun _ => 0, g'⟩ (fun r => ∀ c : Dev Cert.PrepBwdRefIdeal.nD,
          r.2.mem ((c.tc : Thread Cert.PrepBwdRefIdeal.nD Cert.PrepBwdRefIdeal.τ).loc Cert.PrepBwdRefIdeal.main_v132) = v0 c
          ∧ r.2.mem ((c.tc : Thread Cert.PrepBwdRefIdeal.nD Cert.PrepBwdRefIdeal.τ).loc Cert.PrepBwdRefIdeal.main_v127) = v1 c
          ∧ r.2.mem ((c.tc : Thread Cert.PrepBwdRefIdeal.nD Cert.PrepBwdRefIdeal.τ).loc Cert.PrepBwdRefIdeal.main_arg0) = m' ((c.tc : Thread Cert.PrepBwdRefIdeal.nD Cert.PrepBwdRefIdeal.τ).loc Cert.PrepBwdRefIdeal.main_arg0)
          ∧ r.2.mem ((c.tc : Thread Cert.PrepBwdRefIdeal.nD Cert.PrepBwdRefIdeal.τ).loc Cert.PrepBwdRefIdeal.main_arg1) = m' ((c.tc : Thread Cert.PrepBwdRefIdeal.nD Cert.PrepBwdRefIdeal.τ).loc Cert.PrepBwdRefIdeal.main_arg1)
          ∧ r.2.mem ((c.tc : Thread Cert.PrepBwdRefIdeal.nD Cert.PrepBwdRefIdeal.τ).loc Cert.PrepBwdRefIdeal.main_arg2) = m' ((c.tc : Thread Cert.PrepBwdRefIdeal.nD Cert.PrepBwdRefIdeal.τ).loc Cert.PrepBwdRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v27) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_DiscFwd_DiscFwdIdeal : Prop :=
  True

def algebraic_DiscFwdIdeal_DiscFwdRefIdeal [hDiscFwdIdeal : Cert.DiscFwdIdeal.Facts] [hDiscFwdRefIdeal : Cert.DiscFwdRefIdeal.Facts] : Prop :=
  ∀ (m : (ℓ : Loc Cert.DiscFwdIdeal.nD Cert.DiscFwdIdeal.τ Cert.DiscFwdIdeal.sig) → Buf (Elt Ideal) ℓ) (g : Dev Cert.DiscFwdIdeal.nD → PrngReg)
    (m' : (ℓ : Loc Cert.DiscFwdRefIdeal.nD Cert.DiscFwdRefIdeal.τ Cert.DiscFwdRefIdeal.sig) → Buf (Elt Ideal) ℓ) (g' : Dev Cert.DiscFwdRefIdeal.nD → PrngReg), Pre_DiscFwdIdeal m →
    (∀ c : Dev Cert.DiscFwdIdeal.nD,
      m' ((c.tc : Thread Cert.DiscFwdRefIdeal.nD Cert.DiscFwdRefIdeal.τ).loc Cert.DiscFwdRefIdeal.main_arg0) = m ((c.tc : Thread Cert.DiscFwdIdeal.nD Cert.DiscFwdIdeal.τ).loc Cert.DiscFwdIdeal.main_arg0)
      ∧ m' ((c.tc : Thread Cert.DiscFwdRefIdeal.nD Cert.DiscFwdRefIdeal.τ).loc Cert.DiscFwdRefIdeal.main_arg1) = m ((c.tc : Thread Cert.DiscFwdIdeal.nD Cert.DiscFwdIdeal.τ).loc Cert.DiscFwdIdeal.main_arg1)
      ∧ m' ((c.tc : Thread Cert.DiscFwdRefIdeal.nD Cert.DiscFwdRefIdeal.τ).loc Cert.DiscFwdRefIdeal.main_arg2) = m ((c.tc : Thread Cert.DiscFwdIdeal.nD Cert.DiscFwdIdeal.τ).loc Cert.DiscFwdIdeal.main_arg2)) →
    ∃ (v0 : (c : Dev Cert.DiscFwdIdeal.nD) → Buf (Elt Ideal) ((c.tc : Thread Cert.DiscFwdIdeal.nD Cert.DiscFwdIdeal.τ).loc Cert.DiscFwdIdeal.main_v0_0)) (v1 : (c : Dev Cert.DiscFwdIdeal.nD) → Buf (Elt Ideal) ((c.tc : Thread Cert.DiscFwdIdeal.nD Cert.DiscFwdIdeal.τ).loc Cert.DiscFwdIdeal.main_v0_1)) (v2 : (c : Dev Cert.DiscFwdIdeal.nD) → Buf (Elt Ideal) ((c.tc : Thread Cert.DiscFwdIdeal.nD Cert.DiscFwdIdeal.τ).loc Cert.DiscFwdIdeal.main_v0_2)) (v3 : (c : Dev Cert.DiscFwdIdeal.nD) → Buf (Elt Ideal) ((c.tc : Thread Cert.DiscFwdIdeal.nD Cert.DiscFwdIdeal.τ).loc Cert.DiscFwdIdeal.main_v0_3)),
      θ_run (Cert.DiscFwdIdeal.defs (F := Ideal)) (onTc (τ := Cert.DiscFwdIdeal.τ) (Cert.DiscFwdIdeal.main (F := Ideal))) ⟨m, fun _ => 0, g⟩ (fun r => ∀ c : Dev Cert.DiscFwdIdeal.nD,
          r.2.mem ((c.tc : Thread Cert.DiscFwdIdeal.nD Cert.DiscFwdIdeal.τ).loc Cert.DiscFwdIdeal.main_v0_0) = v0 c
          ∧ r.2.mem ((c.tc : Thread Cert.DiscFwdIdeal.nD Cert.DiscFwdIdeal.τ).loc Cert.DiscFwdIdeal.main_v0_1) = v1 c
          ∧ r.2.mem ((c.tc : Thread Cert.DiscFwdIdeal.nD Cert.DiscFwdIdeal.τ).loc Cert.DiscFwdIdeal.main_v0_2) = v2 c
          ∧ r.2.mem ((c.tc : Thread Cert.DiscFwdIdeal.nD Cert.DiscFwdIdeal.τ).loc Cert.DiscFwdIdeal.main_v0_3) = v3 c
          ∧ r.2.mem ((c.tc : Thread Cert.DiscFwdIdeal.nD Cert.DiscFwdIdeal.τ).loc Cert.DiscFwdIdeal.main_arg0) = m ((c.tc : Thread Cert.DiscFwdIdeal.nD Cert.DiscFwdIdeal.τ).loc Cert.DiscFwdIdeal.main_arg0)
          ∧ r.2.mem ((c.tc : Thread Cert.DiscFwdIdeal.nD Cert.DiscFwdIdeal.τ).loc Cert.DiscFwdIdeal.main_arg1) = m ((c.tc : Thread Cert.DiscFwdIdeal.nD Cert.DiscFwdIdeal.τ).loc Cert.DiscFwdIdeal.main_arg1)
          ∧ r.2.mem ((c.tc : Thread Cert.DiscFwdIdeal.nD Cert.DiscFwdIdeal.τ).loc Cert.DiscFwdIdeal.main_arg2) = m ((c.tc : Thread Cert.DiscFwdIdeal.nD Cert.DiscFwdIdeal.τ).loc Cert.DiscFwdIdeal.main_arg2))
      ∧ θ_run (Cert.DiscFwdRefIdeal.defs (F := Ideal)) (onTc (τ := Cert.DiscFwdRefIdeal.τ) (Cert.DiscFwdRefIdeal.main (F := Ideal))) ⟨m', fun _ => 0, g'⟩ (fun r => ∀ c : Dev Cert.DiscFwdRefIdeal.nD,
          r.2.mem ((c.tc : Thread Cert.DiscFwdRefIdeal.nD Cert.DiscFwdRefIdeal.τ).loc Cert.DiscFwdRefIdeal.main_v7) = v0 c
          ∧ r.2.mem ((c.tc : Thread Cert.DiscFwdRefIdeal.nD Cert.DiscFwdRefIdeal.τ).loc Cert.DiscFwdRefIdeal.main_v11) = v1 c
          ∧ r.2.mem ((c.tc : Thread Cert.DiscFwdRefIdeal.nD Cert.DiscFwdRefIdeal.τ).loc Cert.DiscFwdRefIdeal.main_v20) = v2 c
          ∧ r.2.mem ((c.tc : Thread Cert.DiscFwdRefIdeal.nD Cert.DiscFwdRefIdeal.τ).loc Cert.DiscFwdRefIdeal.main_v24) = v3 c
          ∧ r.2.mem ((c.tc : Thread Cert.DiscFwdRefIdeal.nD Cert.DiscFwdRefIdeal.τ).loc Cert.DiscFwdRefIdeal.main_arg0) = m' ((c.tc : Thread Cert.DiscFwdRefIdeal.nD Cert.DiscFwdRefIdeal.τ).loc Cert.DiscFwdRefIdeal.main_arg0)
          ∧ r.2.mem ((c.tc : Thread Cert.DiscFwdRefIdeal.nD Cert.DiscFwdRefIdeal.τ).loc Cert.DiscFwdRefIdeal.main_arg1) = m' ((c.tc : Thread Cert.DiscFwdRefIdeal.nD Cert.DiscFwdRefIdeal.τ).loc Cert.DiscFwdRefIdeal.main_arg1)
          ∧ r.2.mem ((c.tc : Thread Cert.DiscFwdRefIdeal.nD Cert.DiscFwdRefIdeal.τ).loc Cert.DiscFwdRefIdeal.main_arg2) = m' ((c.tc : Thread Cert.DiscFwdRefIdeal.nD Cert.DiscFwdRefIdeal.τ).loc Cert.DiscFwdRefIdeal.main_arg2))

def preserves_BbarFwd_BbarFwdIdeal : Prop :=
  True

def algebraic_BbarFwdIdeal_BbarFwdRefIdeal [hBbarFwdIdeal : Cert.BbarFwdIdeal.Facts] [hBbarFwdRefIdeal : Cert.BbarFwdRefIdeal.Facts] : Prop :=
  ∀ (m : (ℓ : Loc Cert.BbarFwdIdeal.nD Cert.BbarFwdIdeal.τ Cert.BbarFwdIdeal.sig) → Buf (Elt Ideal) ℓ) (g : Dev Cert.BbarFwdIdeal.nD → PrngReg)
    (m' : (ℓ : Loc Cert.BbarFwdRefIdeal.nD Cert.BbarFwdRefIdeal.τ Cert.BbarFwdRefIdeal.sig) → Buf (Elt Ideal) ℓ) (g' : Dev Cert.BbarFwdRefIdeal.nD → PrngReg), Pre_BbarFwdIdeal m →
    (∀ c : Dev Cert.BbarFwdIdeal.nD,
      m' ((c.tc : Thread Cert.BbarFwdRefIdeal.nD Cert.BbarFwdRefIdeal.τ).loc Cert.BbarFwdRefIdeal.main_arg0) = m ((c.tc : Thread Cert.BbarFwdIdeal.nD Cert.BbarFwdIdeal.τ).loc Cert.BbarFwdIdeal.main_arg0)
      ∧ m' ((c.tc : Thread Cert.BbarFwdRefIdeal.nD Cert.BbarFwdRefIdeal.τ).loc Cert.BbarFwdRefIdeal.main_arg1) = m ((c.tc : Thread Cert.BbarFwdIdeal.nD Cert.BbarFwdIdeal.τ).loc Cert.BbarFwdIdeal.main_arg1)
      ∧ m' ((c.tc : Thread Cert.BbarFwdRefIdeal.nD Cert.BbarFwdRefIdeal.τ).loc Cert.BbarFwdRefIdeal.main_arg2) = m ((c.tc : Thread Cert.BbarFwdIdeal.nD Cert.BbarFwdIdeal.τ).loc Cert.BbarFwdIdeal.main_arg2)
      ∧ m' ((c.tc : Thread Cert.BbarFwdRefIdeal.nD Cert.BbarFwdRefIdeal.τ).loc Cert.BbarFwdRefIdeal.main_arg3) = m ((c.tc : Thread Cert.BbarFwdIdeal.nD Cert.BbarFwdIdeal.τ).loc Cert.BbarFwdIdeal.main_arg3)) →
    ∃ (v0 : (c : Dev Cert.BbarFwdIdeal.nD) → Buf (Elt Ideal) ((c.tc : Thread Cert.BbarFwdIdeal.nD Cert.BbarFwdIdeal.τ).loc Cert.BbarFwdIdeal.main_v0_0)) (v1 : (c : Dev Cert.BbarFwdIdeal.nD) → Buf (Elt Ideal) ((c.tc : Thread Cert.BbarFwdIdeal.nD Cert.BbarFwdIdeal.τ).loc Cert.BbarFwdIdeal.main_v0_1)),
      θ_run (Cert.BbarFwdIdeal.defs (F := Ideal)) (onTc (τ := Cert.BbarFwdIdeal.τ) (Cert.BbarFwdIdeal.main (F := Ideal))) ⟨m, fun _ => 0, g⟩ (fun r => ∀ c : Dev Cert.BbarFwdIdeal.nD,
          r.2.mem ((c.tc : Thread Cert.BbarFwdIdeal.nD Cert.BbarFwdIdeal.τ).loc Cert.BbarFwdIdeal.main_v0_0) = v0 c
          ∧ r.2.mem ((c.tc : Thread Cert.BbarFwdIdeal.nD Cert.BbarFwdIdeal.τ).loc Cert.BbarFwdIdeal.main_v0_1) = v1 c
          ∧ r.2.mem ((c.tc : Thread Cert.BbarFwdIdeal.nD Cert.BbarFwdIdeal.τ).loc Cert.BbarFwdIdeal.main_arg0) = m ((c.tc : Thread Cert.BbarFwdIdeal.nD Cert.BbarFwdIdeal.τ).loc Cert.BbarFwdIdeal.main_arg0)
          ∧ r.2.mem ((c.tc : Thread Cert.BbarFwdIdeal.nD Cert.BbarFwdIdeal.τ).loc Cert.BbarFwdIdeal.main_arg1) = m ((c.tc : Thread Cert.BbarFwdIdeal.nD Cert.BbarFwdIdeal.τ).loc Cert.BbarFwdIdeal.main_arg1)
          ∧ r.2.mem ((c.tc : Thread Cert.BbarFwdIdeal.nD Cert.BbarFwdIdeal.τ).loc Cert.BbarFwdIdeal.main_arg2) = m ((c.tc : Thread Cert.BbarFwdIdeal.nD Cert.BbarFwdIdeal.τ).loc Cert.BbarFwdIdeal.main_arg2)
          ∧ r.2.mem ((c.tc : Thread Cert.BbarFwdIdeal.nD Cert.BbarFwdIdeal.τ).loc Cert.BbarFwdIdeal.main_arg3) = m ((c.tc : Thread Cert.BbarFwdIdeal.nD Cert.BbarFwdIdeal.τ).loc Cert.BbarFwdIdeal.main_arg3))
      ∧ θ_run (Cert.BbarFwdRefIdeal.defs (F := Ideal)) (onTc (τ := Cert.BbarFwdRefIdeal.τ) (Cert.BbarFwdRefIdeal.main (F := Ideal))) ⟨m', fun _ => 0, g'⟩ (fun r => ∀ c : Dev Cert.BbarFwdRefIdeal.nD,
          r.2.mem ((c.tc : Thread Cert.BbarFwdRefIdeal.nD Cert.BbarFwdRefIdeal.τ).loc Cert.BbarFwdRefIdeal.main_v4) = v0 c
          ∧ r.2.mem ((c.tc : Thread Cert.BbarFwdRefIdeal.nD Cert.BbarFwdRefIdeal.τ).loc Cert.BbarFwdRefIdeal.main_v9) = v1 c
          ∧ r.2.mem ((c.tc : Thread Cert.BbarFwdRefIdeal.nD Cert.BbarFwdRefIdeal.τ).loc Cert.BbarFwdRefIdeal.main_arg0) = m' ((c.tc : Thread Cert.BbarFwdRefIdeal.nD Cert.BbarFwdRefIdeal.τ).loc Cert.BbarFwdRefIdeal.main_arg0)
          ∧ r.2.mem ((c.tc : Thread Cert.BbarFwdRefIdeal.nD Cert.BbarFwdRefIdeal.τ).loc Cert.BbarFwdRefIdeal.main_arg1) = m' ((c.tc : Thread Cert.BbarFwdRefIdeal.nD Cert.BbarFwdRefIdeal.τ).loc Cert.BbarFwdRefIdeal.main_arg1)
          ∧ r.2.mem ((c.tc : Thread Cert.BbarFwdRefIdeal.nD Cert.BbarFwdRefIdeal.τ).loc Cert.BbarFwdRefIdeal.main_arg2) = m' ((c.tc : Thread Cert.BbarFwdRefIdeal.nD Cert.BbarFwdRefIdeal.τ).loc Cert.BbarFwdRefIdeal.main_arg2)
          ∧ r.2.mem ((c.tc : Thread Cert.BbarFwdRefIdeal.nD Cert.BbarFwdRefIdeal.τ).loc Cert.BbarFwdRefIdeal.main_arg3) = m' ((c.tc : Thread Cert.BbarFwdRefIdeal.nD Cert.BbarFwdRefIdeal.τ).loc Cert.BbarFwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_DnOutFwd_DnOutFwdIdeal : Prop :=
  True

def algebraic_DnOutFwdIdeal_DnOutFwdRefIdeal [hDnOutFwdIdeal : Cert.DnOutFwdIdeal.Facts] [hDnOutFwdRefIdeal : Cert.DnOutFwdRefIdeal.Facts] : Prop :=
  ∀ (m : (ℓ : Loc Cert.DnOutFwdIdeal.nD Cert.DnOutFwdIdeal.τ Cert.DnOutFwdIdeal.sig) → Buf (Elt Ideal) ℓ) (g : Dev Cert.DnOutFwdIdeal.nD → PrngReg)
    (m' : (ℓ : Loc Cert.DnOutFwdRefIdeal.nD Cert.DnOutFwdRefIdeal.τ Cert.DnOutFwdRefIdeal.sig) → Buf (Elt Ideal) ℓ) (g' : Dev Cert.DnOutFwdRefIdeal.nD → PrngReg), Pre_DnOutFwdIdeal m →
    (∀ c : Dev Cert.DnOutFwdIdeal.nD,
      m' ((c.tc : Thread Cert.DnOutFwdRefIdeal.nD Cert.DnOutFwdRefIdeal.τ).loc Cert.DnOutFwdRefIdeal.main_arg0) = m ((c.tc : Thread Cert.DnOutFwdIdeal.nD Cert.DnOutFwdIdeal.τ).loc Cert.DnOutFwdIdeal.main_arg0)
      ∧ m' ((c.tc : Thread Cert.DnOutFwdRefIdeal.nD Cert.DnOutFwdRefIdeal.τ).loc Cert.DnOutFwdRefIdeal.main_arg1) = m ((c.tc : Thread Cert.DnOutFwdIdeal.nD Cert.DnOutFwdIdeal.τ).loc Cert.DnOutFwdIdeal.main_arg1)
      ∧ m' ((c.tc : Thread Cert.DnOutFwdRefIdeal.nD Cert.DnOutFwdRefIdeal.τ).loc Cert.DnOutFwdRefIdeal.main_arg2) = m ((c.tc : Thread Cert.DnOutFwdIdeal.nD Cert.DnOutFwdIdeal.τ).loc Cert.DnOutFwdIdeal.main_arg2)) →
    ∃ (v0 : (c : Dev Cert.DnOutFwdIdeal.nD) → Buf (Elt Ideal) ((c.tc : Thread Cert.DnOutFwdIdeal.nD Cert.DnOutFwdIdeal.τ).loc Cert.DnOutFwdIdeal.main_v0)),
      θ_run (Cert.DnOutFwdIdeal.defs (F := Ideal)) (onTc (τ := Cert.DnOutFwdIdeal.τ) (Cert.DnOutFwdIdeal.main (F := Ideal))) ⟨m, fun _ => 0, g⟩ (fun r => ∀ c : Dev Cert.DnOutFwdIdeal.nD,
          r.2.mem ((c.tc : Thread Cert.DnOutFwdIdeal.nD Cert.DnOutFwdIdeal.τ).loc Cert.DnOutFwdIdeal.main_v0) = v0 c
          ∧ r.2.mem ((c.tc : Thread Cert.DnOutFwdIdeal.nD Cert.DnOutFwdIdeal.τ).loc Cert.DnOutFwdIdeal.main_arg0) = m ((c.tc : Thread Cert.DnOutFwdIdeal.nD Cert.DnOutFwdIdeal.τ).loc Cert.DnOutFwdIdeal.main_arg0)
          ∧ r.2.mem ((c.tc : Thread Cert.DnOutFwdIdeal.nD Cert.DnOutFwdIdeal.τ).loc Cert.DnOutFwdIdeal.main_arg1) = m ((c.tc : Thread Cert.DnOutFwdIdeal.nD Cert.DnOutFwdIdeal.τ).loc Cert.DnOutFwdIdeal.main_arg1)
          ∧ r.2.mem ((c.tc : Thread Cert.DnOutFwdIdeal.nD Cert.DnOutFwdIdeal.τ).loc Cert.DnOutFwdIdeal.main_arg2) = m ((c.tc : Thread Cert.DnOutFwdIdeal.nD Cert.DnOutFwdIdeal.τ).loc Cert.DnOutFwdIdeal.main_arg2))
      ∧ θ_run (Cert.DnOutFwdRefIdeal.defs (F := Ideal)) (onTc (τ := Cert.DnOutFwdRefIdeal.τ) (Cert.DnOutFwdRefIdeal.main (F := Ideal))) ⟨m', fun _ => 0, g'⟩ (fun r => ∀ c : Dev Cert.DnOutFwdRefIdeal.nD,
          r.2.mem ((c.tc : Thread Cert.DnOutFwdRefIdeal.nD Cert.DnOutFwdRefIdeal.τ).loc Cert.DnOutFwdRefIdeal.main_v19) = v0 c
          ∧ r.2.mem ((c.tc : Thread Cert.DnOutFwdRefIdeal.nD Cert.DnOutFwdRefIdeal.τ).loc Cert.DnOutFwdRefIdeal.main_arg0) = m' ((c.tc : Thread Cert.DnOutFwdRefIdeal.nD Cert.DnOutFwdRefIdeal.τ).loc Cert.DnOutFwdRefIdeal.main_arg0)
          ∧ r.2.mem ((c.tc : Thread Cert.DnOutFwdRefIdeal.nD Cert.DnOutFwdRefIdeal.τ).loc Cert.DnOutFwdRefIdeal.main_arg1) = m' ((c.tc : Thread Cert.DnOutFwdRefIdeal.nD Cert.DnOutFwdRefIdeal.τ).loc Cert.DnOutFwdRefIdeal.main_arg1)
          ∧ r.2.mem ((c.tc : Thread Cert.DnOutFwdRefIdeal.nD Cert.DnOutFwdRefIdeal.τ).loc Cert.DnOutFwdRefIdeal.main_arg2) = m' ((c.tc : Thread Cert.DnOutFwdRefIdeal.nD Cert.DnOutFwdRefIdeal.τ).loc Cert.DnOutFwdRefIdeal.main_arg2))

def preserves_GatesFwd_GatesFwdIdeal : Prop :=
  True

def algebraic_GatesFwdIdeal_GatesFwdRefIdeal [hGatesFwdIdeal : Cert.GatesFwdIdeal.Facts] [hGatesFwdRefIdeal : Cert.GatesFwdRefIdeal.Facts] : Prop :=
  ∀ (m : (ℓ : Loc Cert.GatesFwdIdeal.nD Cert.GatesFwdIdeal.τ Cert.GatesFwdIdeal.sig) → Buf (Elt Ideal) ℓ) (g : Dev Cert.GatesFwdIdeal.nD → PrngReg)
    (m' : (ℓ : Loc Cert.GatesFwdRefIdeal.nD Cert.GatesFwdRefIdeal.τ Cert.GatesFwdRefIdeal.sig) → Buf (Elt Ideal) ℓ) (g' : Dev Cert.GatesFwdRefIdeal.nD → PrngReg), Pre_GatesFwdIdeal m →
    (∀ c : Dev Cert.GatesFwdIdeal.nD,
      m' ((c.tc : Thread Cert.GatesFwdRefIdeal.nD Cert.GatesFwdRefIdeal.τ).loc Cert.GatesFwdRefIdeal.main_arg0) = m ((c.tc : Thread Cert.GatesFwdIdeal.nD Cert.GatesFwdIdeal.τ).loc Cert.GatesFwdIdeal.main_arg0)
      ∧ m' ((c.tc : Thread Cert.GatesFwdRefIdeal.nD Cert.GatesFwdRefIdeal.τ).loc Cert.GatesFwdRefIdeal.main_arg1) = m ((c.tc : Thread Cert.GatesFwdIdeal.nD Cert.GatesFwdIdeal.τ).loc Cert.GatesFwdIdeal.main_arg1)
      ∧ m' ((c.tc : Thread Cert.GatesFwdRefIdeal.nD Cert.GatesFwdRefIdeal.τ).loc Cert.GatesFwdRefIdeal.main_arg2) = m ((c.tc : Thread Cert.GatesFwdIdeal.nD Cert.GatesFwdIdeal.τ).loc Cert.GatesFwdIdeal.main_arg2)) →
    ∃ (v0 : (c : Dev Cert.GatesFwdIdeal.nD) → Buf (Elt Ideal) ((c.tc : Thread Cert.GatesFwdIdeal.nD Cert.GatesFwdIdeal.τ).loc Cert.GatesFwdIdeal.main_v0)),
      θ_run (Cert.GatesFwdIdeal.defs (F := Ideal)) (onTc (τ := Cert.GatesFwdIdeal.τ) (Cert.GatesFwdIdeal.main (F := Ideal))) ⟨m, fun _ => 0, g⟩ (fun r => ∀ c : Dev Cert.GatesFwdIdeal.nD,
          r.2.mem ((c.tc : Thread Cert.GatesFwdIdeal.nD Cert.GatesFwdIdeal.τ).loc Cert.GatesFwdIdeal.main_v0) = v0 c
          ∧ r.2.mem ((c.tc : Thread Cert.GatesFwdIdeal.nD Cert.GatesFwdIdeal.τ).loc Cert.GatesFwdIdeal.main_arg0) = m ((c.tc : Thread Cert.GatesFwdIdeal.nD Cert.GatesFwdIdeal.τ).loc Cert.GatesFwdIdeal.main_arg0)
          ∧ r.2.mem ((c.tc : Thread Cert.GatesFwdIdeal.nD Cert.GatesFwdIdeal.τ).loc Cert.GatesFwdIdeal.main_arg1) = m ((c.tc : Thread Cert.GatesFwdIdeal.nD Cert.GatesFwdIdeal.τ).loc Cert.GatesFwdIdeal.main_arg1)
          ∧ r.2.mem ((c.tc : Thread Cert.GatesFwdIdeal.nD Cert.GatesFwdIdeal.τ).loc Cert.GatesFwdIdeal.main_arg2) = m ((c.tc : Thread Cert.GatesFwdIdeal.nD Cert.GatesFwdIdeal.τ).loc Cert.GatesFwdIdeal.main_arg2))
      ∧ θ_run (Cert.GatesFwdRefIdeal.defs (F := Ideal)) (onTc (τ := Cert.GatesFwdRefIdeal.τ) (Cert.GatesFwdRefIdeal.main (F := Ideal))) ⟨m', fun _ => 0, g'⟩ (fun r => ∀ c : Dev Cert.GatesFwdRefIdeal.nD,
          r.2.mem ((c.tc : Thread Cert.GatesFwdRefIdeal.nD Cert.GatesFwdRefIdeal.τ).loc Cert.GatesFwdRefIdeal.main_v18) = v0 c
          ∧ r.2.mem ((c.tc : Thread Cert.GatesFwdRefIdeal.nD Cert.GatesFwdRefIdeal.τ).loc Cert.GatesFwdRefIdeal.main_arg0) = m' ((c.tc : Thread Cert.GatesFwdRefIdeal.nD Cert.GatesFwdRefIdeal.τ).loc Cert.GatesFwdRefIdeal.main_arg0)
          ∧ r.2.mem ((c.tc : Thread Cert.GatesFwdRefIdeal.nD Cert.GatesFwdRefIdeal.τ).loc Cert.GatesFwdRefIdeal.main_arg1) = m' ((c.tc : Thread Cert.GatesFwdRefIdeal.nD Cert.GatesFwdRefIdeal.τ).loc Cert.GatesFwdRefIdeal.main_arg1)
          ∧ r.2.mem ((c.tc : Thread Cert.GatesFwdRefIdeal.nD Cert.GatesFwdRefIdeal.τ).loc Cert.GatesFwdRefIdeal.main_arg2) = m' ((c.tc : Thread Cert.GatesFwdRefIdeal.nD Cert.GatesFwdRefIdeal.τ).loc Cert.GatesFwdRefIdeal.main_arg2))

def Claim : Prop :=
  ∃ (hMerge : Cert.Merge.Facts) (hMergeIdeal : Cert.MergeIdeal.Facts) (hMergeRefIdeal : Cert.MergeRefIdeal.Facts) (hGradWOut : Cert.GradWOut.Facts) (hGradWOutIdeal : Cert.GradWOutIdeal.Facts) (hGradWOutRefIdeal : Cert.GradWOutRefIdeal.Facts) (hDMixed : Cert.DMixed.Facts) (hDMixedIdeal : Cert.DMixedIdeal.Facts) (hDMixedRefIdeal : Cert.DMixedRefIdeal.Facts) (hGradUp : Cert.GradUp.Facts) (hGradUpIdeal : Cert.GradUpIdeal.Facts) (hGradUpRefIdeal : Cert.GradUpRefIdeal.Facts) (hDOut : Cert.DOut.Facts) (hDOutIdeal : Cert.DOutIdeal.Facts) (hDOutRefIdeal : Cert.DOutRefIdeal.Facts) (hGradWIn : Cert.GradWIn.Facts) (hGradWInIdeal : Cert.GradWInIdeal.Facts) (hGradWInRefIdeal : Cert.GradWInRefIdeal.Facts) (hGradWInGates : Cert.GradWInGates.Facts) (hGradWInGatesIdeal : Cert.GradWInGatesIdeal.Facts) (hGradWInGatesRefIdeal : Cert.GradWInGatesRefIdeal.Facts) (hProjGates : Cert.ProjGates.Facts) (hProjGatesIdeal : Cert.ProjGatesIdeal.Facts) (hProjGatesRefIdeal : Cert.ProjGatesRefIdeal.Facts) (hUp : Cert.Up.Facts) (hUpIdeal : Cert.UpIdeal.Facts) (hUpRefIdeal : Cert.UpRefIdeal.Facts) (hWOut : Cert.WOut.Facts) (hWOutIdeal : Cert.WOutIdeal.Facts) (hWOutRefIdeal : Cert.WOutRefIdeal.Facts) (hProj : Cert.Proj.Facts) (hProjIdeal : Cert.ProjIdeal.Facts) (hProjRefIdeal : Cert.ProjRefIdeal.Facts) (hDHMain : Cert.DHMain.Facts) (hDHMainIdeal : Cert.DHMainIdeal.Facts) (hDHMainRefIdeal : Cert.DHMainRefIdeal.Facts) (hDH : Cert.DH.Facts) (hDHIdeal : Cert.DHIdeal.Facts) (hDHRefIdeal : Cert.DHRefIdeal.Facts) (hRms : Cert.Rms.Facts) (hRmsIdeal : Cert.RmsIdeal.Facts) (hRmsRefIdeal : Cert.RmsRefIdeal.Facts) (hFinal : Cert.Final.Facts) (hFinalIdeal : Cert.FinalIdeal.Facts) (hFinalRefIdeal : Cert.FinalRefIdeal.Facts) (hSlots : Cert.Slots.Facts) (hSlotsIdeal : Cert.SlotsIdeal.Facts) (hSlotsRefIdeal : Cert.SlotsRefIdeal.Facts) (hAdamw : Cert.Adamw.Facts) (hAdamwIdeal : Cert.AdamwIdeal.Facts) (hAdamwRefIdeal : Cert.AdamwRefIdeal.Facts) (hUpdOut : Cert.UpdOut.Facts) (hUpdOutIdeal : Cert.UpdOutIdeal.Facts) (hUpdOutRefIdeal : Cert.UpdOutRefIdeal.Facts) (hUpdGlu : Cert.UpdGlu.Facts) (hUpdGluIdeal : Cert.UpdGluIdeal.Facts) (hUpdGluRefIdeal : Cert.UpdGluRefIdeal.Facts) (hUpdUp : Cert.UpdUp.Facts) (hUpdUpIdeal : Cert.UpdUpIdeal.Facts) (hUpdUpRefIdeal : Cert.UpdUpRefIdeal.Facts) (hUpdIn : Cert.UpdIn.Facts) (hUpdInIdeal : Cert.UpdInIdeal.Facts) (hUpdInRefIdeal : Cert.UpdInRefIdeal.Facts) (hGluBwd : Cert.GluBwd.Facts) (hGluBwdIdeal : Cert.GluBwdIdeal.Facts) (hGluBwdRefIdeal : Cert.GluBwdRefIdeal.Facts) (hDiscBwd : Cert.DiscBwd.Facts) (hDiscBwdIdeal : Cert.DiscBwdIdeal.Facts) (hDiscBwdRefIdeal : Cert.DiscBwdRefIdeal.Facts) (hBbarBwd : Cert.BbarBwd.Facts) (hBbarBwdIdeal : Cert.BbarBwdIdeal.Facts) (hBbarBwdRefIdeal : Cert.BbarBwdRefIdeal.Facts) (hDnOutBwd : Cert.DnOutBwd.Facts) (hDnOutBwdIdeal : Cert.DnOutBwdIdeal.Facts) (hDnOutBwdRefIdeal : Cert.DnOutBwdRefIdeal.Facts) (hPrepFwd : Cert.PrepFwd.Facts) (hPrepFwdIdeal : Cert.PrepFwdIdeal.Facts) (hPrepFwdRefIdeal : Cert.PrepFwdRefIdeal.Facts) (hPrepBwd : Cert.PrepBwd.Facts) (hPrepBwdIdeal : Cert.PrepBwdIdeal.Facts) (hPrepBwdRefIdeal : Cert.PrepBwdRefIdeal.Facts) (hGluFwd : Cert.GluFwd.Facts) (hGluFwdIdeal : Cert.GluFwdIdeal.Facts) (hGluFwdRefIdeal : Cert.GluFwdRefIdeal.Facts) (hDiscFwd : Cert.DiscFwd.Facts) (hDiscFwdIdeal : Cert.DiscFwdIdeal.Facts) (hDiscFwdRefIdeal : Cert.DiscFwdRefIdeal.Facts) (hBbarFwd : Cert.BbarFwd.Facts) (hBbarFwdIdeal : Cert.BbarFwdIdeal.Facts) (hBbarFwdRefIdeal : Cert.BbarFwdRefIdeal.Facts) (hRmsFwd : Cert.RmsFwd.Facts) (hRmsFwdIdeal : Cert.RmsFwdIdeal.Facts) (hRmsFwdRefIdeal : Cert.RmsFwdRefIdeal.Facts) (hMergeFwd : Cert.MergeFwd.Facts) (hMergeFwdIdeal : Cert.MergeFwdIdeal.Facts) (hMergeFwdRefIdeal : Cert.MergeFwdRefIdeal.Facts) (hDnOutFwd : Cert.DnOutFwd.Facts) (hDnOutFwdIdeal : Cert.DnOutFwdIdeal.Facts) (hDnOutFwdRefIdeal : Cert.DnOutFwdRefIdeal.Facts) (hGatesFwd : Cert.GatesFwd.Facts) (hGatesFwdIdeal : Cert.GatesFwdIdeal.Facts) (hGatesFwdRefIdeal : Cert.GatesFwdRefIdeal.Facts) (hPre_chip_out : Cert.Pre_chip_out.Facts) (hPre_chip_glu : Cert.Pre_chip_glu.Facts) (hPre_chip_up : Cert.Pre_chip_up.Facts) (hPre_chip_in : Cert.Pre_chip_in.Facts),
    quiescent_Merge (hMerge := hMerge)
    ∧ quiescent_MergeIdeal (hMergeIdeal := hMergeIdeal)
    ∧ quiescent_MergeRefIdeal (hMergeRefIdeal := hMergeRefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_DMixed (hDMixed := hDMixed)
    ∧ quiescent_DMixedIdeal (hDMixedIdeal := hDMixedIdeal)
    ∧ quiescent_DMixedRefIdeal (hDMixedRefIdeal := hDMixedRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_DOut (hDOut := hDOut)
    ∧ quiescent_DOutIdeal (hDOutIdeal := hDOutIdeal)
    ∧ quiescent_DOutRefIdeal (hDOutRefIdeal := hDOutRefIdeal)
    ∧ quiescent_GradWIn (hGradWIn := hGradWIn)
    ∧ quiescent_GradWInIdeal (hGradWInIdeal := hGradWInIdeal)
    ∧ quiescent_GradWInRefIdeal (hGradWInRefIdeal := hGradWInRefIdeal)
    ∧ quiescent_GradWInGates (hGradWInGates := hGradWInGates)
    ∧ quiescent_GradWInGatesIdeal (hGradWInGatesIdeal := hGradWInGatesIdeal)
    ∧ quiescent_GradWInGatesRefIdeal (hGradWInGatesRefIdeal := hGradWInGatesRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_Up (hUp := hUp)
    ∧ quiescent_UpIdeal (hUpIdeal := hUpIdeal)
    ∧ quiescent_UpRefIdeal (hUpRefIdeal := hUpRefIdeal)
    ∧ quiescent_WOut (hWOut := hWOut)
    ∧ quiescent_WOutIdeal (hWOutIdeal := hWOutIdeal)
    ∧ quiescent_WOutRefIdeal (hWOutRefIdeal := hWOutRefIdeal)
    ∧ quiescent_Proj (hProj := hProj)
    ∧ quiescent_ProjIdeal (hProjIdeal := hProjIdeal)
    ∧ quiescent_ProjRefIdeal (hProjRefIdeal := hProjRefIdeal)
    ∧ quiescent_DHMain (hDHMain := hDHMain)
    ∧ quiescent_DHMainIdeal (hDHMainIdeal := hDHMainIdeal)
    ∧ quiescent_DHMainRefIdeal (hDHMainRefIdeal := hDHMainRefIdeal)
    ∧ quiescent_DH (hDH := hDH)
    ∧ quiescent_DHIdeal (hDHIdeal := hDHIdeal)
    ∧ quiescent_DHRefIdeal (hDHRefIdeal := hDHRefIdeal)
    ∧ quiescent_Rms (hRms := hRms)
    ∧ quiescent_RmsIdeal (hRmsIdeal := hRmsIdeal)
    ∧ quiescent_RmsRefIdeal (hRmsRefIdeal := hRmsRefIdeal)
    ∧ quiescent_Final (hFinal := hFinal)
    ∧ quiescent_FinalIdeal (hFinalIdeal := hFinalIdeal)
    ∧ quiescent_FinalRefIdeal (hFinalRefIdeal := hFinalRefIdeal)
    ∧ quiescent_Slots (hSlots := hSlots)
    ∧ quiescent_SlotsIdeal (hSlotsIdeal := hSlotsIdeal)
    ∧ quiescent_SlotsRefIdeal (hSlotsRefIdeal := hSlotsRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_UpdOut (hUpdOut := hUpdOut) (hPre_chip_out := hPre_chip_out)
    ∧ quiescent_UpdOutIdeal (hUpdOutIdeal := hUpdOutIdeal) (hPre_chip_out := hPre_chip_out)
    ∧ quiescent_UpdOutRefIdeal (hUpdOutRefIdeal := hUpdOutRefIdeal)
    ∧ quiescent_UpdOutRefIdeal_pre_chip_out (hUpdOutRefIdeal := hUpdOutRefIdeal) (hPre_chip_out := hPre_chip_out)
    ∧ quiescent_UpdGlu (hUpdGlu := hUpdGlu) (hPre_chip_glu := hPre_chip_glu)
    ∧ quiescent_UpdGluIdeal (hUpdGluIdeal := hUpdGluIdeal) (hPre_chip_glu := hPre_chip_glu)
    ∧ quiescent_UpdGluRefIdeal (hUpdGluRefIdeal := hUpdGluRefIdeal)
    ∧ quiescent_UpdGluRefIdeal_pre_chip_glu (hUpdGluRefIdeal := hUpdGluRefIdeal) (hPre_chip_glu := hPre_chip_glu)
    ∧ quiescent_UpdUp (hUpdUp := hUpdUp) (hPre_chip_up := hPre_chip_up)
    ∧ quiescent_UpdUpIdeal (hUpdUpIdeal := hUpdUpIdeal) (hPre_chip_up := hPre_chip_up)
    ∧ quiescent_UpdUpRefIdeal (hUpdUpRefIdeal := hUpdUpRefIdeal)
    ∧ quiescent_UpdUpRefIdeal_pre_chip_up (hUpdUpRefIdeal := hUpdUpRefIdeal) (hPre_chip_up := hPre_chip_up)
    ∧ quiescent_UpdIn (hUpdIn := hUpdIn) (hPre_chip_in := hPre_chip_in)
    ∧ quiescent_UpdInIdeal (hUpdInIdeal := hUpdInIdeal) (hPre_chip_in := hPre_chip_in)
    ∧ quiescent_UpdInRefIdeal (hUpdInRefIdeal := hUpdInRefIdeal)
    ∧ quiescent_UpdInRefIdeal_pre_chip_in (hUpdInRefIdeal := hUpdInRefIdeal) (hPre_chip_in := hPre_chip_in)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_DiscBwd (hDiscBwd := hDiscBwd)
    ∧ quiescent_DiscBwdIdeal (hDiscBwdIdeal := hDiscBwdIdeal)
    ∧ quiescent_DiscBwdRefIdeal (hDiscBwdRefIdeal := hDiscBwdRefIdeal)
    ∧ quiescent_BbarBwd (hBbarBwd := hBbarBwd)
    ∧ quiescent_BbarBwdIdeal (hBbarBwdIdeal := hBbarBwdIdeal)
    ∧ quiescent_BbarBwdRefIdeal (hBbarBwdRefIdeal := hBbarBwdRefIdeal)
    ∧ quiescent_DnOutBwd (hDnOutBwd := hDnOutBwd)
    ∧ quiescent_DnOutBwdIdeal (hDnOutBwdIdeal := hDnOutBwdIdeal)
    ∧ quiescent_DnOutBwdRefIdeal (hDnOutBwdRefIdeal := hDnOutBwdRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_PrepBwd (hPrepBwd := hPrepBwd)
    ∧ quiescent_PrepBwdIdeal (hPrepBwdIdeal := hPrepBwdIdeal)
    ∧ quiescent_PrepBwdRefIdeal (hPrepBwdRefIdeal := hPrepBwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_DiscFwd (hDiscFwd := hDiscFwd)
    ∧ quiescent_DiscFwdIdeal (hDiscFwdIdeal := hDiscFwdIdeal)
    ∧ quiescent_DiscFwdRefIdeal (hDiscFwdRefIdeal := hDiscFwdRefIdeal)
    ∧ quiescent_BbarFwd (hBbarFwd := hBbarFwd)
    ∧ quiescent_BbarFwdIdeal (hBbarFwdIdeal := hBbarFwdIdeal)
    ∧ quiescent_BbarFwdRefIdeal (hBbarFwdRefIdeal := hBbarFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_DnOutFwd (hDnOutFwd := hDnOutFwd)
    ∧ quiescent_DnOutFwdIdeal (hDnOutFwdIdeal := hDnOutFwdIdeal)
    ∧ quiescent_DnOutFwdRefIdeal (hDnOutFwdRefIdeal := hDnOutFwdRefIdeal)
    ∧ quiescent_GatesFwd (hGatesFwd := hGatesFwd)
    ∧ quiescent_GatesFwdIdeal (hGatesFwdIdeal := hGatesFwdIdeal)
    ∧ quiescent_GatesFwdRefIdeal (hGatesFwdRefIdeal := hGatesFwdRefIdeal)
    ∧ preserves_Merge_MergeIdeal
    ∧ algebraic_MergeIdeal_MergeRefIdeal (hMergeIdeal := hMergeIdeal) (hMergeRefIdeal := hMergeRefIdeal)
    ∧ preserves_GradWOut_GradWOutIdeal
    ∧ algebraic_GradWOutIdeal_GradWOutRefIdeal (hGradWOutIdeal := hGradWOutIdeal) (hGradWOutRefIdeal := hGradWOutRefIdeal)
    ∧ preserves_DMixed_DMixedIdeal
    ∧ algebraic_DMixedIdeal_DMixedRefIdeal (hDMixedIdeal := hDMixedIdeal) (hDMixedRefIdeal := hDMixedRefIdeal)
    ∧ preserves_GradUp_GradUpIdeal
    ∧ algebraic_GradUpIdeal_GradUpRefIdeal (hGradUpIdeal := hGradUpIdeal) (hGradUpRefIdeal := hGradUpRefIdeal)
    ∧ preserves_DOut_DOutIdeal
    ∧ algebraic_DOutIdeal_DOutRefIdeal (hDOutIdeal := hDOutIdeal) (hDOutRefIdeal := hDOutRefIdeal)
    ∧ preserves_GradWIn_GradWInIdeal
    ∧ algebraic_GradWInIdeal_GradWInRefIdeal (hGradWInIdeal := hGradWInIdeal) (hGradWInRefIdeal := hGradWInRefIdeal)
    ∧ preserves_GradWInGates_GradWInGatesIdeal
    ∧ algebraic_GradWInGatesIdeal_GradWInGatesRefIdeal (hGradWInGatesIdeal := hGradWInGatesIdeal) (hGradWInGatesRefIdeal := hGradWInGatesRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_Up_UpIdeal
    ∧ algebraic_UpIdeal_UpRefIdeal (hUpIdeal := hUpIdeal) (hUpRefIdeal := hUpRefIdeal)
    ∧ preserves_WOut_WOutIdeal
    ∧ algebraic_WOutIdeal_WOutRefIdeal (hWOutIdeal := hWOutIdeal) (hWOutRefIdeal := hWOutRefIdeal)
    ∧ preserves_Proj_ProjIdeal
    ∧ algebraic_ProjIdeal_ProjRefIdeal (hProjIdeal := hProjIdeal) (hProjRefIdeal := hProjRefIdeal)
    ∧ preserves_DHMain_DHMainIdeal
    ∧ algebraic_DHMainIdeal_DHMainRefIdeal (hDHMainIdeal := hDHMainIdeal) (hDHMainRefIdeal := hDHMainRefIdeal)
    ∧ preserves_DH_DHIdeal
    ∧ algebraic_DHIdeal_DHRefIdeal (hDHIdeal := hDHIdeal) (hDHRefIdeal := hDHRefIdeal)
    ∧ preserves_Rms_RmsIdeal
    ∧ algebraic_RmsIdeal_RmsRefIdeal (hRmsIdeal := hRmsIdeal) (hRmsRefIdeal := hRmsRefIdeal)
    ∧ preserves_Final_FinalIdeal
    ∧ algebraic_FinalIdeal_FinalRefIdeal (hFinalIdeal := hFinalIdeal) (hFinalRefIdeal := hFinalRefIdeal)
    ∧ preserves_Slots_SlotsIdeal
    ∧ algebraic_SlotsIdeal_SlotsRefIdeal (hSlotsIdeal := hSlotsIdeal) (hSlotsRefIdeal := hSlotsRefIdeal)
    ∧ preserves_Adamw_AdamwIdeal
    ∧ algebraic_AdamwIdeal_AdamwRefIdeal (hAdamwIdeal := hAdamwIdeal) (hAdamwRefIdeal := hAdamwRefIdeal)
    ∧ preserves_UpdOut_UpdOutIdeal
    ∧ algebraic_UpdOutIdeal_UpdOutRefIdeal (hUpdOutIdeal := hUpdOutIdeal) (hUpdOutRefIdeal := hUpdOutRefIdeal) (hPre_chip_out := hPre_chip_out)
    ∧ preserves_UpdGlu_UpdGluIdeal
    ∧ algebraic_UpdGluIdeal_UpdGluRefIdeal (hUpdGluIdeal := hUpdGluIdeal) (hUpdGluRefIdeal := hUpdGluRefIdeal) (hPre_chip_glu := hPre_chip_glu)
    ∧ preserves_UpdUp_UpdUpIdeal
    ∧ algebraic_UpdUpIdeal_UpdUpRefIdeal (hUpdUpIdeal := hUpdUpIdeal) (hUpdUpRefIdeal := hUpdUpRefIdeal) (hPre_chip_up := hPre_chip_up)
    ∧ preserves_UpdIn_UpdInIdeal
    ∧ algebraic_UpdInIdeal_UpdInRefIdeal (hUpdInIdeal := hUpdInIdeal) (hUpdInRefIdeal := hUpdInRefIdeal) (hPre_chip_in := hPre_chip_in)
    ∧ preserves_GluBwd_GluBwdIdeal
    ∧ algebraic_GluBwdIdeal_GluBwdRefIdeal (hGluBwdIdeal := hGluBwdIdeal) (hGluBwdRefIdeal := hGluBwdRefIdeal)
    ∧ preserves_DiscBwd_DiscBwdIdeal
    ∧ algebraic_DiscBwdIdeal_DiscBwdRefIdeal (hDiscBwdIdeal := hDiscBwdIdeal) (hDiscBwdRefIdeal := hDiscBwdRefIdeal)
    ∧ preserves_BbarBwd_BbarBwdIdeal
    ∧ algebraic_BbarBwdIdeal_BbarBwdRefIdeal (hBbarBwdIdeal := hBbarBwdIdeal) (hBbarBwdRefIdeal := hBbarBwdRefIdeal)
    ∧ preserves_DnOutBwd_DnOutBwdIdeal
    ∧ algebraic_DnOutBwdIdeal_DnOutBwdRefIdeal (hDnOutBwdIdeal := hDnOutBwdIdeal) (hDnOutBwdRefIdeal := hDnOutBwdRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_PrepBwd_PrepBwdIdeal
    ∧ algebraic_PrepBwdIdeal_PrepBwdRefIdeal (hPrepBwdIdeal := hPrepBwdIdeal) (hPrepBwdRefIdeal := hPrepBwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_DiscFwd_DiscFwdIdeal
    ∧ algebraic_DiscFwdIdeal_DiscFwdRefIdeal (hDiscFwdIdeal := hDiscFwdIdeal) (hDiscFwdRefIdeal := hDiscFwdRefIdeal)
    ∧ preserves_BbarFwd_BbarFwdIdeal
    ∧ algebraic_BbarFwdIdeal_BbarFwdRefIdeal (hBbarFwdIdeal := hBbarFwdIdeal) (hBbarFwdRefIdeal := hBbarFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_DnOutFwd_DnOutFwdIdeal
    ∧ algebraic_DnOutFwdIdeal_DnOutFwdRefIdeal (hDnOutFwdIdeal := hDnOutFwdIdeal) (hDnOutFwdRefIdeal := hDnOutFwdRefIdeal)
    ∧ preserves_GatesFwd_GatesFwdIdeal
    ∧ algebraic_GatesFwdIdeal_GatesFwdRefIdeal (hGatesFwdIdeal := hGatesFwdIdeal) (hGatesFwdRefIdeal := hGatesFwdRefIdeal)
-- ==== Pre_chip_glu.lean ====
abbrev S1 : Shape := ⟨1, ![1]⟩
abbrev S128x1024 : Shape := ⟨2, ![128, 1024]⟩
abbrev S4x128x1024 : Shape := ⟨3, ![4, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S128x1024 .f32) (main_arg2 : FVec F S128x1024 .f32) (main_arg3 : FVec F S128x1024 .f32) (main_arg4 : FVec F S4x128x1024 .bf16) (main_arg5 : FVec F S4x128x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_chip_in.lean ====
abbrev S1 : Shape := ⟨1, ![1]⟩
abbrev S1282x2048 : Shape := ⟨2, ![1282, 2048]⟩
abbrev S4x1282x2048 : Shape := ⟨3, ![4, 1282, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1282x2048 .f32) (main_arg2 : FVec F S1282x2048 .f32) (main_arg3 : FVec F S1282x2048 .f32) (main_arg4 : FVec F S4x1282x2048 .bf16) (main_arg5 : FVec F S4x1282x2048 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_chip_out.lean ====
abbrev S1 : Shape := ⟨1, ![1]⟩
abbrev S256x2048 : Shape := ⟨2, ![256, 2048]⟩
abbrev S4x256x2048 : Shape := ⟨3, ![4, 256, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S256x2048 .f32) (main_arg2 : FVec F S256x2048 .f32) (main_arg3 : FVec F S256x2048 .f32) (main_arg4 : FVec F S4x256x2048 .bf16) (main_arg5 : FVec F S4x256x2048 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_chip_up.lean ====
abbrev S1 : Shape := ⟨1, ![1]⟩
abbrev S1024x256 : Shape := ⟨2, ![1024, 256]⟩
abbrev S4x1024x256 : Shape := ⟨3, ![4, 1024, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1024x256 .f32) (main_arg2 : FVec F S1024x256 .f32) (main_arg3 : FVec F S1024x256 .f32) (main_arg4 : FVec F S4x1024x256 .bf16) (main_arg5 : FVec F S4x1024x256 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Merge.lean ====
abbrev S2048x4096 : Shape := ⟨2, ![2048, 4096]⟩
abbrev S2048x2048 : Shape := ⟨2, ![2048, 2048]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S2048x2048, .bf16⟩
  | .hbm, ⟨43, _⟩ => ⟨S2048x2048, .bf16⟩
  | .hbm, ⟨44, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== GradWOut.lean ====
abbrev S2048x2048 : Shape := ⟨2, ![2048, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWOutRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DMixed.lean ====
abbrev S2048x2048 : Shape := ⟨2, ![2048, 2048]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixedRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradUp.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S1024x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DOut.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOutRefIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x2048, .f32⟩
  | .hbm, ⟨3, _⟩ => ⟨S1024x2048, .f32⟩
  | .hbm, ⟨4, _⟩ => ⟨S_, .f32⟩
  | .hbm, ⟨5, _⟩ => ⟨S2048x1024, .f32⟩
  | .hbm, ⟨6, _⟩ => ⟨S2048x2048, .f32⟩
  | .hbm, ⟨7, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradWIn.lean ====
abbrev S2048x6656 : Shape := ⟨2, ![2048, 6656]⟩
abbrev S2048x2048 : Shape := ⟨2, ![2048, 2048]⟩
abbrev S6656x2048 : Shape := ⟨2, ![6656, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x6656, .bf16⟩
  | .hbm, ⟨1, _⟩ => ⟨S2048x2048, .bf16⟩
  | .hbm, ⟨2, _⟩ => ⟨S6656x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWInRefIdeal.lean ====
abbrev S2048x6656 : Shape := ⟨2, ![2048, 6656]⟩
abbrev S2048x2048 : Shape := ⟨2, ![2048, 2048]⟩
abbrev S_ : Shape := ⟨0, ![]⟩
abbrev S6656x2048 : Shape := ⟨2, ![6656, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x6656, .bf16⟩
  | .hbm, ⟨1, _⟩ => ⟨S2048x2048, .bf16⟩
  | .hbm, ⟨2, _⟩ => ⟨S2048x6656, .f32⟩
  | .hbm, ⟨3, _⟩ => ⟨S2048x2048, .f32⟩
  | .hbm, ⟨4, _⟩ => ⟨S_, .f32⟩
  | .hbm, ⟨5, _⟩ => ⟨S6656x2048, .f32⟩
  | .hbm, ⟨6, _⟩ => ⟨S2048x6656, .f32⟩
  | .hbm, ⟨7, _⟩ => ⟨S2048x6656, .f32⟩
  | .hbm, ⟨8, _⟩ => ⟨S6656x2048, .f32⟩
  | .hbm, ⟨9, _⟩ => ⟨S2048x6656, .f32⟩
  | .hbm, ⟨10, _⟩ => ⟨S6656x2048, .f32⟩
  | .hbm, ⟨11, _⟩ => ⟨S6656x2048, .bf16⟩
  | _, _ => ⟨S2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradWInGates.lean ====
abbrev S2048x4096 : Shape := ⟨2, ![2048, 4096]⟩
abbrev S2048x2048 : Shape := ⟨2, ![2048, 2048]⟩
abbrev S4096x2048 : Shape := ⟨2, ![4096, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S4096x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWInGatesRefIdeal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x4096, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S2048x4096, .f32⟩
  | .hbm, ⟨7, _⟩ => ⟨S2048x4096, .f32⟩
  | .hbm, ⟨8, _⟩ => ⟨S4096x2048, .f32⟩
  | .hbm, ⟨9, _⟩ => ⟨S2048x4096, .f32⟩
  | .hbm, ⟨10, _⟩ => ⟨S4096x2048, .f32⟩
  | .hbm, ⟨11, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjGates.lean ====
abbrev S2048x2048 : Shape := ⟨2, ![2048, 2048]⟩
abbrev S4096x2048 : Shape := ⟨2, ![4096, 2048]⟩
abbrev S2048x4096 : Shape := ⟨2, ![2048, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGatesRefIdeal.lean ====
abbrev S2048x2048 : Shape := ⟨2, ![2048, 2048]⟩
abbrev S4096x2048 : Shape := ⟨2, ![4096, 2048]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S2048x2048, .f32⟩
  | .hbm, ⟨3, _⟩ => ⟨S4096x2048, .f32⟩
  | .hbm, ⟨4, _⟩ => ⟨S2048x4096, .f32⟩
  | .hbm, ⟨5, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S2048x1024 : Shape := ⟨2, ![2048, 1024]⟩
abbrev S1024x2048 : Shape := ⟨2, ![1024, 2048]⟩
abbrev S2048x2048 : Shape := ⟨2, ![2048, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WOut.lean ====
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proj.lean ====
abbrev S2048x2048 : Shape := ⟨2, ![2048, 2048]⟩
abbrev S10256x2048 : Shape := ⟨2, ![10256, 2048]⟩
abbrev S2048x6656 : Shape := ⟨2, ![2048, 6656]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S10256x2048, .bf16⟩
  | .hbm, ⟨2, _⟩ => ⟨S2048x6656, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S2048x2048 : Shape := ⟨2, ![2048, 2048]⟩
abbrev S10256x2048 : Shape := ⟨2, ![10256, 2048]⟩
abbrev S6656x2048 : Shape := ⟨2, ![6656, 2048]⟩
abbrev S2048x6656 : Shape := ⟨2, ![2048, 6656]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S10256x2048, .bf16⟩
  | .hbm, ⟨2, _⟩ => ⟨S2048x2048, .f32⟩
  | .hbm, ⟨3, _⟩ => ⟨S6656x2048, .bf16⟩
  | .hbm, ⟨4, _⟩ => ⟨S6656x2048, .f32⟩
  | .hbm, ⟨5, _⟩ => ⟨S2048x6656, .f32⟩
  | .hbm, ⟨6, _⟩ => ⟨S2048x6656, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DHMain.lean ====
abbrev S2048x6656 : Shape := ⟨2, ![2048, 6656]⟩
abbrev S10256x2048 : Shape := ⟨2, ![10256, 2048]⟩
abbrev S2048x2048 : Shape := ⟨2, ![2048, 2048]⟩
abbrev S1024x1664 : Shape := ⟨2, ![1024, 1664]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6656, .bf16⟩
  | .hbm, ⟨1, _⟩ => ⟨S10256x2048, .bf16⟩
  | .hbm, ⟨2, _⟩ => ⟨S2048x2048, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHMainRefIdeal.lean ====
abbrev S2048x6656 : Shape := ⟨2, ![2048, 6656]⟩
abbrev S10256x2048 : Shape := ⟨2, ![10256, 2048]⟩
abbrev S6656x2048 : Shape := ⟨2, ![6656, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x6656, .bf16⟩
  | .hbm, ⟨1, _⟩ => ⟨S10256x2048, .bf16⟩
  | .hbm, ⟨2, _⟩ => ⟨S6656x2048, .bf16⟩
  | .hbm, ⟨3, _⟩ => ⟨S6656x2048, .f32⟩
  | .hbm, ⟨4, _⟩ => ⟨S2048x6656, .f32⟩
  | .hbm, ⟨5, _⟩ => ⟨S_, .f32⟩
  | .hbm, ⟨6, _⟩ => ⟨S2048x2048, .f32⟩
  | .hbm, ⟨7, _⟩ => ⟨S2048x6656, .f32⟩
  | .hbm, ⟨8, _⟩ => ⟨S2048x6656, .f32⟩
  | .hbm, ⟨9, _⟩ => ⟨S2048x2048, .f32⟩
  | _, _ => ⟨S2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DH.lean ====
abbrev S2048x4096 : Shape := ⟨2, ![2048, 4096]⟩
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DHRefIdeal.lean ====
abbrev S2048x4096 : Shape := ⟨2, ![2048, 4096]⟩
abbrev S4096x2048 : Shape := ⟨2, ![4096, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S4096x2048, .f32⟩
  | .hbm, ⟨4, _⟩ => ⟨S2048x4096, .f32⟩
  | .hbm, ⟨5, _⟩ => ⟨S_, .f32⟩
  | .hbm, ⟨6, _⟩ => ⟨S2048x2048, .f32⟩
  | .hbm, ⟨7, _⟩ => ⟨S2048x4096, .f32⟩
  | .hbm, ⟨8, _⟩ => ⟨S2048x4096, .f32⟩
  | .hbm, ⟨9, _⟩ => ⟨S2048x2048, .f32⟩
  | .hbm, ⟨10, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Rms.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Final.lean ====
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x1, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x1, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FinalRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Slots.lean ====
abbrev S8x2304x128 : Shape := ⟨3, ![8, 2304, 128]⟩
abbrev S2304x128 : Shape := ⟨2, ![2304, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2304x128, .f32⟩
  | .hbm, ⟨1, _⟩ => ⟨S2304x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![9, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SlotsRefIdeal.lean ====
abbrev S8x2304x128 : Shape := ⟨3, ![8, 2304, 128]⟩
abbrev S_ : Shape := ⟨0, ![]⟩
abbrev S2304x128 : Shape := ⟨2, ![2304, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2304x128, .f32⟩
  | .hbm, ⟨1, _⟩ => ⟨S_, .f32⟩
  | .hbm, ⟨2, _⟩ => ⟨S2304x128, .f32⟩
  | _, _ => ⟨S8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adamw.lean ====
abbrev S2304x128 : Shape := ⟨2, ![2304, 128]⟩
abbrev S1x2304x128 : Shape := ⟨3, ![1, 2304, 128]⟩
abbrev S256x128 : Shape := ⟨2, ![256, 128]⟩
abbrev S1x256x128 : Shape := ⟨3, ![1, 256, 128]⟩

abbrev nBuf : Space → Nat
  | .hbm => 9
  | .vmem => 16
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S1x2304x128, .f32⟩
  | .hbm, ⟨5, _⟩ => ⟨S2304x128, .f32⟩
  | .hbm, ⟨6, _⟩ => ⟨S2304x128, .f32⟩
  | .hbm, ⟨7, _⟩ => ⟨S2304x128, .f32⟩
  | .hbm, ⟨8, _⟩ => ⟨S2304x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256x128, .f32⟩
  | .local _ .vmem, ⟨7, _⟩ => ⟨S1x256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamwRefIdeal.lean ====
abbrev S2304x128 : Shape := ⟨2, ![2304, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S_, .f32⟩
  | .hbm, ⟨5, _⟩ => ⟨S2304x128, .f32⟩
  | .hbm, ⟨6, _⟩ => ⟨S2304x128, .f32⟩
  | .hbm, ⟨7, _⟩ => ⟨S_, .f32⟩
  | .hbm, ⟨8, _⟩ => ⟨S2304x128, .f32⟩
  | .hbm, ⟨9, _⟩ => ⟨S2304x128, .f32⟩
  | .hbm, ⟨10, _⟩ => ⟨S2304x128, .f32⟩
  | .hbm, ⟨11, _⟩ => ⟨S_, .f32⟩
  | .hbm, ⟨12, _⟩ => ⟨S2304x128, .f32⟩
  | .hbm, ⟨13, _⟩ => ⟨S2304x128, .f32⟩
  | .hbm, ⟨14, _⟩ => ⟨S2304x128, .f32⟩
  | .hbm, ⟨15, _⟩ => ⟨S_, .f32⟩
  | .hbm, ⟨16, _⟩ => ⟨S2304x128, .f32⟩
  | .hbm, ⟨17, _⟩ => ⟨S2304x128, .f32⟩
  | .hbm, ⟨18, _⟩ => ⟨S2304x128, .f32⟩
  | .hbm, ⟨19, _⟩ => ⟨S_, .f32⟩
  | .hbm, ⟨20, _⟩ => ⟨S2304x128, .f32⟩
  | .hbm, ⟨21, _⟩ => ⟨S2304x128, .f32⟩
  | .hbm, ⟨22, _⟩ => ⟨S_, .f32⟩
  | .hbm, ⟨23, _⟩ => ⟨S2304x128, .f32⟩
  | .hbm, ⟨24, _⟩ => ⟨S2304x128, .f32⟩
  | .hbm, ⟨25, _⟩ => ⟨S2304x128, .f32⟩
  | .hbm, ⟨26, _⟩ => ⟨S_, .f32⟩
  | .hbm, ⟨27, _⟩ => ⟨S2304x128, .f32⟩
  | .hbm, ⟨28, _⟩ => ⟨S2304x128, .f32⟩
  | .hbm, ⟨29, _⟩ => ⟨S2304x128, .f32⟩
  | .hbm, ⟨30, _⟩ => ⟨S_, .f32⟩
  | .hbm, ⟨31, _⟩ => ⟨S2304x128, .f32⟩
  | .hbm, ⟨32, _⟩ => ⟨S2304x128, .f32⟩
  | .hbm, ⟨33, _⟩ => ⟨S2304x128, .f32⟩
  | .hbm, ⟨34, _⟩ => ⟨S_, .f32⟩
  | .hbm, ⟨35, _⟩ => ⟨S2304x128, .f32⟩
  | .hbm, ⟨36, _⟩ => ⟨S2304x128, .f32⟩
  | _, _ => ⟨S2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdOut.lean ====
abbrev S1 : Shape := ⟨1, ![1]⟩
abbrev S256x2048 : Shape := ⟨2, ![256, 2048]⟩
abbrev S4x256x2048 : Shape := ⟨3, ![4, 256, 2048]⟩
abbrev S128x2048 : Shape := ⟨2, ![128, 2048]⟩
abbrev S1x128x2048 : Shape := ⟨3, ![1, 128, 2048]⟩

abbrev nBuf : Space → Nat
  | .hbm => 9
  | .vmem => 22
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S4x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .smem, ⟨0, _⟩ => ⟨S1, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  ![v1.toNat, arg0.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  ![v1.toNat, arg0.toNat, arg1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  ![v1.toNat, arg0.toNat, arg1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  ![v1.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpdOutIdeal.lean ====
abbrev S1 : Shape := ⟨1, ![1]⟩
abbrev S256x2048 : Shape := ⟨2, ![256, 2048]⟩
abbrev S4x256x2048 : Shape := ⟨3, ![4, 256, 2048]⟩
abbrev S128x2048 : Shape := ⟨2, ![128, 2048]⟩
abbrev S1x128x2048 : Shape := ⟨3, ![1, 128, 2048]⟩

abbrev nBuf : Space → Nat
  | .hbm => 9
  | .vmem => 22
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S4x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .smem, ⟨0, _⟩ => ⟨S1, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  ![v1.toNat, arg0.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  ![v1.toNat, arg0.toNat, arg1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  ![v1.toNat, arg0.toNat, arg1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  ![v1.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpdOutRefIdeal.lean ====
abbrev S1 : Shape := ⟨1, ![1]⟩
abbrev S256x2048 : Shape := ⟨2, ![256, 2048]⟩
abbrev S4x256x2048 : Shape := ⟨3, ![4, 256, 2048]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S4x256x2048, .bf16⟩
  | .hbm, ⟨5, _⟩ => ⟨S4x256x2048, .bf16⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x256x2048, .i1⟩
  | .hbm, ⟨12, _⟩ => ⟨S4x256x2048, .bf16⟩
  | .hbm, ⟨13, _⟩ => ⟨S4x256x2048, .f32⟩
  | .hbm, ⟨14, _⟩ => ⟨S_, .f32⟩
  | .hbm, ⟨15, _⟩ => ⟨S256x2048, .f32⟩
  | .hbm, ⟨16, _⟩ => ⟨S_, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== UpdGlu.lean ====
abbrev S1 : Shape := ⟨1, ![1]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 9
  | .vmem => 11
  | .smem => 1
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S4x128x1024, .bf16⟩
  | .hbm, ⟨4, _⟩ => ⟨S4x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  ![v1.toNat, arg0.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  ![v1.toNat, arg0.toNat, arg1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  ![v1.toNat, arg0.toNat, arg1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  ![v1.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== UpdGluIdeal.lean ====
abbrev S1 : Shape := ⟨1, ![1]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 9
  | .vmem => 11
  | .smem => 1
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S4x128x1024, .bf16⟩
  | .hbm, ⟨4, _⟩ => ⟨S4x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨2, ![1, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  ![v1.toNat, arg0.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  ![v1.toNat, arg0.toNat, arg1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  ![v1.toNat, arg0.toNat, arg1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  ![v1.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== UpdGluRefIdeal.lean ====
abbrev S1 : Shape := ⟨1, ![1]⟩
abbrev S128x1024 : Shape := ⟨2, ![128, 1024]⟩
abbrev S4x128x1024 : Shape := ⟨3, ![4, 128, 1024]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .bf16⟩
  | .hbm, ⟨5, _⟩ => ⟨S4x128x1024, .bf16⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x128x1024, .i1⟩
  | .hbm, ⟨12, _⟩ => ⟨S4x128x1024, .bf16⟩
  | .hbm, ⟨13, _⟩ => ⟨S4x128x1024, .f32⟩
  | .hbm, ⟨14, _⟩ => ⟨S_, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== UpdUp.lean ====
abbrev S1 : Shape := ⟨1, ![1]⟩
abbrev S1024x256 : Shape := ⟨2, ![1024, 256]⟩
abbrev S4x1024x256 : Shape := ⟨3, ![4, 1024, 256]⟩
abbrev S1x1024x256 : Shape := ⟨3, ![1, 1024, 256]⟩

abbrev nBuf : Space → Nat
  | .hbm => 9
  | .vmem => 11
  | .smem => 1
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S4x1024x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .smem, ⟨0, _⟩ => ⟨S1, .i32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  ![v1.toNat, arg0.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  ![v1.toNat, arg0.toNat, arg1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  ![v1.toNat, arg0.toNat, arg1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  ![v1.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== UpdUpIdeal.lean ====
abbrev S1 : Shape := ⟨1, ![1]⟩
abbrev S1024x256 : Shape := ⟨2, ![1024, 256]⟩
abbrev S4x1024x256 : Shape := ⟨3, ![4, 1024, 256]⟩
abbrev S1x1024x256 : Shape := ⟨3, ![1, 1024, 256]⟩

abbrev nBuf : Space → Nat
  | .hbm => 9
  | .vmem => 11
  | .smem => 1
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S4x1024x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .smem, ⟨0, _⟩ => ⟨S1, .i32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨2, ![1, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  ![v1.toNat, arg0.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  ![v1.toNat, arg0.toNat, arg1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  ![v1.toNat, arg0.toNat, arg1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  ![v1.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== UpdUpRefIdeal.lean ====
abbrev S1 : Shape := ⟨1, ![1]⟩
abbrev S1024x256 : Shape := ⟨2, ![1024, 256]⟩
abbrev S4x1024x256 : Shape := ⟨3, ![4, 1024, 256]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S4x1024x256, .bf16⟩
  | .hbm, ⟨5, _⟩ => ⟨S4x1024x256, .bf16⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x1024x256, .i1⟩
  | .hbm, ⟨12, _⟩ => ⟨S4x1024x256, .bf16⟩
  | .hbm, ⟨13, _⟩ => ⟨S4x1024x256, .f32⟩
  | .hbm, ⟨14, _⟩ => ⟨S_, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== UpdIn.lean ====
abbrev S1 : Shape := ⟨1, ![1]⟩
abbrev S1282x2048 : Shape := ⟨2, ![1282, 2048]⟩
abbrev S4x1282x2048 : Shape := ⟨3, ![4, 1282, 2048]⟩
abbrev S1282x256 : Shape := ⟨2, ![1282, 256]⟩
abbrev S1x1282x256 : Shape := ⟨3, ![1, 1282, 256]⟩

abbrev nBuf : Space → Nat
  | .hbm => 9
  | .vmem => 22
  | .smem => 1
  | _ => 0

abbrev bufTy : (tb : Table) → Fin (tcTables nBuf tb) → BufTy
  | .hbm, ⟨0, _⟩ => ⟨S1282x2048, .f32⟩
  | .hbm, ⟨1, _⟩ => ⟨S1282x2048, .f32⟩
  | .hbm, ⟨2, _⟩ => ⟨S1282x2048, .f32⟩
  | .hbm, ⟨3, _⟩ => ⟨S4x1282x2048, .bf16⟩
  | .hbm, ⟨4, _⟩ => ⟨S4x1282x2048, .bf16⟩
  | .hbm, ⟨5, _⟩ => ⟨S1282x2048, .f32⟩
  | .hbm, ⟨6, _⟩ => ⟨S1282x2048, .f32⟩
  | .hbm, ⟨7, _⟩ => ⟨S1282x2048, .f32⟩
  | .hbm, ⟨8, _⟩ => ⟨S1282x2048, .f32⟩
  | .local _ .vmem, ⟨0, _⟩ => ⟨S1282x256, .f32⟩
  | .local _ .vmem, ⟨1, _⟩ => ⟨S1282x256, .f32⟩
  | .local _ .vmem, ⟨2, _⟩ => ⟨S1282x256, .f32⟩
  | .local _ .vmem, ⟨3, _⟩ => ⟨S1282x256, .f32⟩
  | .local _ .vmem, ⟨4, _⟩ => ⟨S1282x256, .f32⟩
  | .local _ .vmem, ⟨5, _⟩ => ⟨S1282x256, .f32⟩
  | .local _ .vmem, ⟨6, _⟩ => ⟨S1x1282x256, .bf16⟩
  | .local _ .vmem, ⟨7, _⟩ => ⟨S1x1282x256, .bf16⟩
  | .local _ .vmem, ⟨8, _⟩ => ⟨S1x1282x256, .bf16⟩
  | .local _ .vmem, ⟨9, _⟩ => ⟨S1x1282x256, .bf16⟩
  | .local _ .vmem, ⟨10, _⟩ => ⟨S1x1282x256, .bf16⟩
  | .local _ .vmem, ⟨11, _⟩ => ⟨S1x1282x256, .bf16⟩
  | .local _ .vmem, ⟨12, _⟩ => ⟨S1x1282x256, .bf16⟩
  | .local _ .vmem, ⟨13, _⟩ => ⟨S1x1282x256, .bf16⟩
  | .local _ .vmem, ⟨14, _⟩ => ⟨S1282x256, .f32⟩
  | .local _ .vmem, ⟨15, _⟩ => ⟨S1282x256, .f32⟩
  | .local _ .vmem, ⟨16, _⟩ => ⟨S1282x256, .f32⟩
  | .local _ .vmem, ⟨17, _⟩ => ⟨S1282x256, .f32⟩
  | .local _ .vmem, ⟨18, _⟩ => ⟨S1282x256, .f32⟩
  | .local _ .vmem, ⟨19, _⟩ => ⟨S1282x256, .f32⟩
  | .local _ .vmem, ⟨20, _⟩ => ⟨S1282x256, .f32⟩
  | .local _ .vmem, ⟨21, _⟩ => ⟨S1282x256, .f32⟩
  | .local _ .smem, ⟨0, _⟩ => ⟨S1, .i32⟩
  | _, _ => ⟨S1282x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  ![v1.toNat, arg0.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  ![v1.toNat, arg0.toNat, arg1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  ![v1.toNat, arg0.toNat, arg1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  ![v1.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1282x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1282x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1282x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1282x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1282x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1282x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1282x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1282x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1282x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1282x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1282x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpdInIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== UpdInRefIdeal.lean ====
abbrev S1 : Shape := ⟨1, ![1]⟩
abbrev S1282x2048 : Shape := ⟨2, ![1282, 2048]⟩
abbrev S4x1282x2048 : Shape := ⟨3, ![4, 1282, 2048]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1282x2048, .f32⟩
  | .hbm, ⟨2, _⟩ => ⟨S1282x2048, .f32⟩
  | .hbm, ⟨3, _⟩ => ⟨S1282x2048, .f32⟩
  | .hbm, ⟨4, _⟩ => ⟨S4x1282x2048, .bf16⟩
  | .hbm, ⟨5, _⟩ => ⟨S4x1282x2048, .bf16⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x1282x2048, .i1⟩
  | .hbm, ⟨12, _⟩ => ⟨S4x1282x2048, .bf16⟩
  | .hbm, ⟨13, _⟩ => ⟨S4x1282x2048, .f32⟩
  | .hbm, ⟨14, _⟩ => ⟨S_, .f32⟩
  | .hbm, ⟨15, _⟩ => ⟨S1282x2048, .f32⟩
  | .hbm, ⟨16, _⟩ => ⟨S_, .f32⟩
  | .hbm, ⟨17, _⟩ => ⟨S1282x2048, .f32⟩
  | .hbm, ⟨18, _⟩ => ⟨S1282x2048, .f32⟩
  | .hbm, ⟨19, _⟩ => ⟨S_, .f32⟩
  | .hbm, ⟨20, _⟩ => ⟨S1282x2048, .f32⟩
  | .hbm, ⟨21, _⟩ => ⟨S1282x2048, .f32⟩
  | .hbm, ⟨22, _⟩ => ⟨S1282x2048, .f32⟩
  | .hbm, ⟨23, _⟩ => ⟨S_, .f32⟩
  | .hbm, ⟨24, _⟩ => ⟨S1282x2048, .f32⟩
  | .hbm, ⟨25, _⟩ => ⟨S1282x2048, .f32⟩
  | .hbm, ⟨26, _⟩ => ⟨S1282x2048, .f32⟩
  | .hbm, ⟨27, _⟩ => ⟨S_, .f32⟩
  | .hbm, ⟨28, _⟩ => ⟨S1282x2048, .f32⟩
  | .hbm, ⟨29, _⟩ => ⟨S1282x2048, .f32⟩
  | .hbm, ⟨30, _⟩ => ⟨S1282x2048, .f32⟩
  | .hbm, ⟨31, _⟩ => ⟨S_, .f32⟩
  | .hbm, ⟨32, _⟩ => ⟨S1282x2048, .f32⟩
  | .hbm, ⟨33, _⟩ => ⟨S1282x2048, .f32⟩
  | .hbm, ⟨34, _⟩ => ⟨S_, .f32⟩
  | .hbm, ⟨35, _⟩ => ⟨S1282x2048, .f32⟩
  | .hbm, ⟨36, _⟩ => ⟨S1282x2048, .f32⟩
  | .hbm, ⟨37, _⟩ => ⟨S1282x2048, .f32⟩
  | .hbm, ⟨38, _⟩ => ⟨S_, .f32⟩
  | .hbm, ⟨39, _⟩ => ⟨S1282x2048, .f32⟩
  | .hbm, ⟨40, _⟩ => ⟨S1282x2048, .f32⟩
  | .hbm, ⟨41, _⟩ => ⟨S1282x2048, .f32⟩
  | .hbm, ⟨42, _⟩ => ⟨S_, .f32⟩
  | .hbm, ⟨43, _⟩ => ⟨S1282x2048, .f32⟩
  | .hbm, ⟨44, _⟩ => ⟨S1282x2048, .f32⟩
  | .hbm, ⟨45, _⟩ => ⟨S1282x2048, .f32⟩
  | .hbm, ⟨46, _⟩ => ⟨S_, .f32⟩
  | .hbm, ⟨47, _⟩ => ⟨S1282x2048, .f32⟩
  | .hbm, ⟨48, _⟩ => ⟨S1282x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== GluBwd.lean ====
abbrev S2048x1024 : Shape := ⟨2, ![2048, 1024]⟩
abbrev S2048x6656 : Shape := ⟨2, ![2048, 6656]⟩
abbrev S1024x1024 : Shape := ⟨2, ![1024, 1024]⟩
abbrev S256x1024 : Shape := ⟨2, ![256, 1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1024x1024, .bf16⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluBwdRefIdeal.lean ====
abbrev S2048x1024 : Shape := ⟨2, ![2048, 1024]⟩
abbrev S2048x6656 : Shape := ⟨2, ![2048, 6656]⟩
abbrev S1024x1024 : Shape := ⟨2, ![1024, 1024]⟩
abbrev S_ : Shape := ⟨0, ![]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1024x1024, .bf16⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1024x1024, .f32⟩
  | .hbm, ⟨72, _⟩ => ⟨S1024x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v34_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v34_1 : Ref sig .tc := ⟨.hbm, 59, rfl⟩
abbrev main_v34_0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== DiscBwd.lean ====
abbrev S64x64 : Shape := ⟨2, ![64, 64]⟩
abbrev S64x1 : Shape := ⟨2, ![64, 1]⟩
abbrev S64 : Shape := ⟨1, ![64]⟩

abbrev nBuf : Space → Nat
  | .hbm => 10
  | .vmem => 10
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x1, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x1, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x1, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== DiscBwdRefIdeal.lean ====
abbrev S64x64 : Shape := ⟨2, ![64, 64]⟩
abbrev S64x1 : Shape := ⟨2, ![64, 1]⟩
abbrev S_ : Shape := ⟨0, ![]⟩
abbrev S64 : Shape := ⟨1, ![64]⟩

abbrev nBuf : Space → Nat
  | .hbm => 108
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x1, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x1, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S64x64, .f32⟩
  | .hbm, ⟨79, _⟩ => ⟨S_, .f32⟩
  | .hbm, ⟨80, _⟩ => ⟨S64, .f32⟩
  | .hbm, ⟨81, _⟩ => ⟨S64x1, .f32⟩
  | .hbm, ⟨82, _⟩ => ⟨S64x64, .f32⟩
  | .hbm, ⟨83, _⟩ => ⟨S64x64, .f32⟩
  | .hbm, ⟨84, _⟩ => ⟨S64x64, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S64x64, .f32⟩
  | .hbm, ⟨89, _⟩ => ⟨S64x64, .f32⟩
  | .hbm, ⟨90, _⟩ => ⟨S64x64, .f32⟩
  | .hbm, ⟨91, _⟩ => ⟨S_, .f32⟩
  | .hbm, ⟨92, _⟩ => ⟨S64, .f32⟩
  | .hbm, ⟨93, _⟩ => ⟨S64x1, .f32⟩
  | .hbm, ⟨94, _⟩ => ⟨S64x1, .f32⟩
  | .hbm, ⟨95, _⟩ => ⟨S64x64, .f32⟩
  | .hbm, ⟨96, _⟩ => ⟨S64x64, .f32⟩
  | .hbm, ⟨97, _⟩ => ⟨S64x64, .f32⟩
  | .hbm, ⟨98, _⟩ => ⟨S64x64, .f32⟩
  | .hbm, ⟨99, _⟩ => ⟨S64x64, .f32⟩
  | .hbm, ⟨100, _⟩ => ⟨S_, .f32⟩
  | .hbm, ⟨101, _⟩ => ⟨S64, .f32⟩
  | .hbm, ⟨102, _⟩ => ⟨S64x1, .f32⟩
  | .hbm, ⟨103, _⟩ => ⟨S64x1, .f32⟩
  | .hbm, ⟨104, _⟩ => ⟨S64x64, .f32⟩
  | .hbm, ⟨105, _⟩ => ⟨S64x64, .f32⟩
  | .hbm, ⟨106, _⟩ => ⟨S64x64, .f32⟩
  | .hbm, ⟨107, _⟩ => ⟨S64x1, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_2 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_cst_3 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_4 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩

abbrev nD : Nat := 1
abbrev τ : Topo := Topo.v7x

variable {F : FTy → Type} [FloatOps F]
-- ==== BbarBwd.lean ====
abbrev S4096x1 : Shape := ⟨2, ![4096, 1]⟩
abbrev S4096x16 : Shape := ⟨2, ![4096, 16]⟩
abbrev S4096 : Shape := ⟨1, ![4096]⟩

abbrev nBuf : Space → Nat
  | .hbm => 10
  | .vmem => 10
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x1, .f32⟩
  | .hbm, ⟨7, _⟩ => ⟨S4096x1, .f32⟩
  | .hbm, ⟨8, _⟩ => ⟨S4096x16, .f32⟩
  | .hbm, ⟨9, _⟩ => ⟨S4096x16, .f32⟩
  | .local _ .vmem, ⟨0, _⟩ => ⟨S4096x1, .f32⟩
  | .local _ .vmem, ⟨1, _⟩ => ⟨S4096x1, .f32⟩
  | .local _ .vmem, ⟨2, _⟩ => ⟨S4096x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | .local _ .vmem, ⟨6, _⟩ => ⟨S4096x1, .f32⟩
  | .local _ .vmem, ⟨7, _⟩ => ⟨S4096x1, .f32⟩
  | .local _ .vmem, ⟨8, _⟩ => ⟨S4096x16, .f32⟩
  | .local _ .vmem, ⟨9, _⟩ => ⟨S4096x16, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== BbarBwdRefIdeal.lean ====
abbrev S4096x1 : Shape := ⟨2, ![4096, 1]⟩
abbrev S4096x16 : Shape := ⟨2, ![4096, 16]⟩
abbrev S_ : Shape := ⟨0, ![]⟩
abbrev S4096 : Shape := ⟨1, ![4096]⟩

abbrev nBuf : Space → Nat
  | .hbm => 48
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1, .f32⟩
  | .hbm, ⟨40, _⟩ => ⟨S4096x16, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== DnOutBwd.lean ====
abbrev S2048x1024 : Shape := ⟨2, ![2048, 1024]⟩
abbrev S2048x6656 : Shape := ⟨2, ![2048, 6656]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1x128, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DnOutBwdRefIdeal.lean ====
abbrev S2048x1024 : Shape := ⟨2, ![2048, 1024]⟩
abbrev S2048x6656 : Shape := ⟨2, ![2048, 6656]⟩
abbrev S1x128 : Shape := ⟨2, ![1, 128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S128 : Shape := ⟨1, ![128]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1x128, .f32⟩
  | .hbm, ⟨3, _⟩ => ⟨S2048x1024, .f32⟩
  | .hbm, ⟨4, _⟩ => ⟨S2048x8x128, .f32⟩
  | .hbm, ⟨5, _⟩ => ⟨S2048x1024, .f32⟩
  | .hbm, ⟨6, _⟩ => ⟨S2048x8x128, .f32⟩
  | .hbm, ⟨7, _⟩ => ⟨S2048x8x128, .f32⟩
  | .hbm, ⟨8, _⟩ => ⟨S_, .f32⟩
  | .hbm, ⟨9, _⟩ => ⟨S2048x8, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S2048x8x1, .f32⟩
  | .hbm, ⟨18, _⟩ => ⟨S2048x8x1, .f32⟩
  | .hbm, ⟨19, _⟩ => ⟨S_, .f32⟩
  | .hbm, ⟨20, _⟩ => ⟨S2048x8x1, .f32⟩
  | .hbm, ⟨21, _⟩ => ⟨S2048x8x1, .f32⟩
  | .hbm, ⟨22, _⟩ => ⟨S2048x8x128, .f32⟩
  | .hbm, ⟨23, _⟩ => ⟨S2048x8x128, .f32⟩
  | .hbm, ⟨24, _⟩ => ⟨S1x1x128, .f32⟩
  | .hbm, ⟨25, _⟩ => ⟨S2048x8x128, .f32⟩
  | .hbm, ⟨26, _⟩ => ⟨S2048x8x128, .f32⟩
  | .hbm, ⟨27, _⟩ => ⟨S2048x8x128, .f32⟩
  | .hbm, ⟨28, _⟩ => ⟨S2048x8x128, .f32⟩
  | .hbm, ⟨29, _⟩ => ⟨S_, .f32⟩
  | .hbm, ⟨30, _⟩ => ⟨S2048x8x128, .f32⟩
  | .hbm, ⟨31, _⟩ => ⟨S2048x8x128, .f32⟩
  | .hbm, ⟨32, _⟩ => ⟨S_, .f32⟩
  | .hbm, ⟨33, _⟩ => ⟨S2048x8x128, .f32⟩
  | .hbm, ⟨34, _⟩ => ⟨S2048x8x128, .f32⟩
  | .hbm, ⟨35, _⟩ => ⟨S_, .f32⟩
  | .hbm, ⟨36, _⟩ => ⟨S2048x8x128, .f32⟩
  | .hbm, ⟨37, _⟩ => ⟨S2048x8x128, .f32⟩
  | .hbm, ⟨38, _⟩ => ⟨S2048x8x128, .f32⟩
  | .hbm, ⟨39, _⟩ => ⟨S2048x8x128, .f32⟩
  | .hbm, ⟨40, _⟩ => ⟨S2048x8x128, .f32⟩
  | .hbm, ⟨41, _⟩ => ⟨S2048x8x128, .f32⟩
  | .hbm, ⟨42, _⟩ => ⟨S2048x8x128, .f32⟩
  | .hbm, ⟨43, _⟩ => ⟨S2048x8x128, .f32⟩
  | .hbm, ⟨44, _⟩ => ⟨S2048x8x128, .f32⟩
  | .hbm, ⟨45, _⟩ => ⟨S2048x8x128, .f32⟩
  | .hbm, ⟨46, _⟩ => ⟨S2048x8x128, .f32⟩
  | .hbm, ⟨47, _⟩ => ⟨S2048x8x128, .f32⟩
  | .hbm, ⟨48, _⟩ => ⟨S2048x8x128, .f32⟩
  | .hbm, ⟨49, _⟩ => ⟨S_, .f32⟩
  | .hbm, ⟨50, _⟩ => ⟨S128, .f32⟩
  | .hbm, ⟨51, _⟩ => ⟨S1x1x128, .f32⟩
  | .hbm, ⟨52, _⟩ => ⟨S2048x8x128, .f32⟩
  | .hbm, ⟨53, _⟩ => ⟨S2048x8x128, .f32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S2048x8x128, .f32⟩
  | .hbm, ⟨58, _⟩ => ⟨S_, .f32⟩
  | .hbm, ⟨59, _⟩ => ⟨S2048x8, .f32⟩
  | .hbm, ⟨60, _⟩ => ⟨S2048x8x1, .f32⟩
  | .hbm, ⟨61, _⟩ => ⟨S2048x8x128, .f32⟩
  | .hbm, ⟨62, _⟩ => ⟨S2048x8x128, .f32⟩
  | .hbm, ⟨63, _⟩ => ⟨S2048x8x1, .f32⟩
  | .hbm, ⟨64, _⟩ => ⟨S_, .f32⟩
  | .hbm, ⟨65, _⟩ => ⟨S2048x8x1, .f32⟩
  | .hbm, ⟨66, _⟩ => ⟨S2048x8x1, .f32⟩
  | .hbm, ⟨67, _⟩ => ⟨S_, .f32⟩
  | .hbm, ⟨68, _⟩ => ⟨S2048x8, .f32⟩
  | .hbm, ⟨69, _⟩ => ⟨S2048x8x128, .f32⟩
  | .hbm, ⟨70, _⟩ => ⟨S2048x8x128, .f32⟩
  | .hbm, ⟨71, _⟩ => ⟨S2048x8x128, .f32⟩
  | .hbm, ⟨72, _⟩ => ⟨S2048x8x128, .f32⟩
  | .hbm, ⟨73, _⟩ => ⟨S2048x8x128, .f32⟩
  | .hbm, ⟨74, _⟩ => ⟨S2048x1024, .f32⟩
  | .hbm, ⟨75, _⟩ => ⟨S2048x1024, .f32⟩
  | .hbm, ⟨76, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== PrepFwd.lean ====
abbrev S2048x6656 : Shape := ⟨2, ![2048, 6656]⟩
abbrev S4x3072 : Shape := ⟨2, ![4, 3072]⟩
abbrev S2048x3072 : Shape := ⟨2, ![2048, 3072]⟩
abbrev S2048x128 : Shape := ⟨2, ![2048, 128]⟩
abbrev S4x128 : Shape := ⟨2, ![4, 128]⟩
abbrev S1x128 : Shape := ⟨2, ![1, 128]⟩
abbrev S2048x1 : Shape := ⟨2, ![2048, 1]⟩
abbrev S2048 : Shape := ⟨1, ![2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x6656, .f32⟩
  | .hbm, ⟨1, _⟩ => ⟨S4x3072, .f32⟩
  | .hbm, ⟨2, _⟩ => ⟨S2048x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrepFwdRefIdeal.lean ====
abbrev S2048x6656 : Shape := ⟨2, ![2048, 6656]⟩
abbrev S4x3072 : Shape := ⟨2, ![4, 3072]⟩
abbrev S2048x3072 : Shape := ⟨2, ![2048, 3072]⟩
abbrev S_ : Shape := ⟨0, ![]⟩
abbrev S3x3072 : Shape := ⟨2, ![3, 3072]⟩
abbrev S2051x3072 : Shape := ⟨2, ![2051, 3072]⟩
abbrev S1x3072 : Shape := ⟨2, ![1, 3072]⟩
abbrev S2048x24x128 : Shape := ⟨3, ![2048, 24, 128]⟩
abbrev S2048x8x128 : Shape := ⟨3, ![2048, 8, 128]⟩
abbrev S2048x8 : Shape := ⟨2, ![2048, 8]⟩
abbrev S2048x8x1 : Shape := ⟨3, ![2048, 8, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S4x3072, .f32⟩
  | .hbm, ⟨2, _⟩ => ⟨S2048x3072, .f32⟩
  | .hbm, ⟨3, _⟩ => ⟨S_, .f32⟩
  | .hbm, ⟨4, _⟩ => ⟨S3x3072, .f32⟩
  | .hbm, ⟨5, _⟩ => ⟨S2051x3072, .f32⟩
  | .hbm, ⟨6, _⟩ => ⟨S2048x3072, .f32⟩
  | .hbm, ⟨7, _⟩ => ⟨S1x3072, .f32⟩
  | .hbm, ⟨8, _⟩ => ⟨S2048x3072, .f32⟩
  | .hbm, ⟨9, _⟩ => ⟨S2048x3072, .f32⟩
  | .hbm, ⟨10, _⟩ => ⟨S_, .f32⟩
  | .hbm, ⟨11, _⟩ => ⟨S2048x3072, .f32⟩
  | .hbm, ⟨12, _⟩ => ⟨S2048x3072, .f32⟩
  | .hbm, ⟨13, _⟩ => ⟨S2048x3072, .f32⟩
  | .hbm, ⟨14, _⟩ => ⟨S1x3072, .f32⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S1x3072, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S1x3072, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S_, .f32⟩
  | .hbm, ⟨34, _⟩ => ⟨S2048x3072, .f32⟩
  | .hbm, ⟨35, _⟩ => ⟨S2048x3072, .f32⟩
  | .hbm, ⟨36, _⟩ => ⟨S2048x3072, .f32⟩
  | .hbm, ⟨37, _⟩ => ⟨S2048x24x128, .f32⟩
  | .hbm, ⟨38, _⟩ => ⟨S2048x8x128, .f32⟩
  | .hbm, ⟨39, _⟩ => ⟨S2048x8x128, .f32⟩
  | .hbm, ⟨40, _⟩ => ⟨S2048x8x128, .f32⟩
  | .hbm, ⟨41, _⟩ => ⟨S2048x8x128, .f32⟩
  | .hbm, ⟨42, _⟩ => ⟨S_, .f32⟩
  | .hbm, ⟨43, _⟩ => ⟨S2048x8, .f32⟩
  | .hbm, ⟨44, _⟩ => ⟨S2048x8x1, .f32⟩
  | .hbm, ⟨45, _⟩ => ⟨S_, .f32⟩
  | .hbm, ⟨46, _⟩ => ⟨S2048x8x1, .f32⟩
  | .hbm, ⟨47, _⟩ => ⟨S2048x8x1, .f32⟩
  | .hbm, ⟨48, _⟩ => ⟨S2048x8x1, .f32⟩
  | .hbm, ⟨49, _⟩ => ⟨S2048x8x128, .f32⟩
  | .hbm, ⟨50, _⟩ => ⟨S2048x8x128, .f32⟩
  | .hbm, ⟨51, _⟩ => ⟨S_, .f32⟩
  | .hbm, ⟨52, _⟩ => ⟨S2048x8x128, .f32⟩
  | .hbm, ⟨53, _⟩ => ⟨S2048x8x128, .f32⟩
  | .hbm, ⟨54, _⟩ => ⟨S2048x8x128, .f32⟩
  | .hbm, ⟨55, _⟩ => ⟨S_, .f32⟩
  | .hbm, ⟨56, _⟩ => ⟨S2048x8, .f32⟩
  | .hbm, ⟨57, _⟩ => ⟨S2048x8x1, .f32⟩
  | .hbm, ⟨58, _⟩ => ⟨S_, .f32⟩
  | .hbm, ⟨59, _⟩ => ⟨S2048x8x1, .f32⟩
  | .hbm, ⟨60, _⟩ => ⟨S2048x8x1, .f32⟩
  | .hbm, ⟨61, _⟩ => ⟨S2048x8x1, .f32⟩
  | .hbm, ⟨62, _⟩ => ⟨S2048x8x128, .f32⟩
  | .hbm, ⟨63, _⟩ => ⟨S2048x8x128, .f32⟩
  | .hbm, ⟨64, _⟩ => ⟨S2048x24x128, .f32⟩
  | .hbm, ⟨65, _⟩ => ⟨S2048x3072, .f32⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== PrepBwd.lean ====
abbrev S2048x6656 : Shape := ⟨2, ![2048, 6656]⟩
abbrev S4x3072 : Shape := ⟨2, ![4, 3072]⟩
abbrev S3x2048x1024 : Shape := ⟨3, ![3, 2048, 1024]⟩
abbrev S2048x3072 : Shape := ⟨2, ![2048, 3072]⟩
abbrev S2048x128 : Shape := ⟨2, ![2048, 128]⟩
abbrev S4x128 : Shape := ⟨2, ![4, 128]⟩
abbrev S1x2048x128 : Shape := ⟨3, ![1, 2048, 128]⟩
abbrev S1x128 : Shape := ⟨2, ![1, 128]⟩
abbrev S2048x1 : Shape := ⟨2, ![2048, 1]⟩
abbrev S2048 : Shape := ⟨1, ![2048]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S2048x6656, .f32⟩
  | .hbm, ⟨1, _⟩ => ⟨S4x3072, .f32⟩
  | .hbm, ⟨2, _⟩ => ⟨S3x2048x1024, .f32⟩
  | .hbm, ⟨3, _⟩ => ⟨S2048x3072, .bf16⟩
  | .hbm, ⟨4, _⟩ => ⟨S4x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrepBwdRefIdeal.lean ====
abbrev S2048x6656 : Shape := ⟨2, ![2048, 6656]⟩
abbrev S4x3072 : Shape := ⟨2, ![4, 3072]⟩
abbrev S3x2048x1024 : Shape := ⟨3, ![3, 2048, 1024]⟩
abbrev S2048x3072 : Shape := ⟨2, ![2048, 3072]⟩
abbrev S_ : Shape := ⟨0, ![]⟩
abbrev S3x3072 : Shape := ⟨2, ![3, 3072]⟩
abbrev S2051x3072 : Shape := ⟨2, ![2051, 3072]⟩
abbrev S1x3072 : Shape := ⟨2, ![1, 3072]⟩
abbrev S2048x24x128 : Shape := ⟨3, ![2048, 24, 128]⟩
abbrev S2048x8x128 : Shape := ⟨3, ![2048, 8, 128]⟩
abbrev S2048x8 : Shape := ⟨2, ![2048, 8]⟩
abbrev S2048x8x1 : Shape := ⟨3, ![2048, 8, 1]⟩
abbrev S1x2048x1024 : Shape := ⟨3, ![1, 2048, 1024]⟩
abbrev S2048x1024 : Shape := ⟨2, ![2048, 1024]⟩
abbrev S3072 : Shape := ⟨1, ![3072]⟩

abbrev nBuf : Space → Nat
  | .hbm => 178
  | .vmem => 0
  | .smem => 0
  | _ => 0

abbrev hbmTy0_0 (i : Nat) : BufTy := match i % 128 with
  | 0 => ⟨S2048x6656, .f32⟩
  | 1 => ⟨S4x3072, .f32⟩
  | 2 => ⟨S3x2048x1024, .f32⟩
  | 3 => ⟨S2048x3072, .f32⟩
  | 4 => ⟨S_, .f32⟩
  | 5 => ⟨S3x3072, .f32⟩
  | 6 => ⟨S2051x3072, .f32⟩
  | 7 => ⟨S_, .f32⟩
  | 8 => ⟨S3x3072, .f32⟩
  | 9 => ⟨S2048x3072, .f32⟩
  | 10 => ⟨S1x3072, .f32⟩
  | 11 => ⟨S2048x3072, .f32⟩
  | 12 => ⟨S2048x3072, .f32⟩
  | 13 => ⟨S_, .f32⟩
  | 14 => ⟨S2048x3072, .f32⟩
  | 15 => ⟨S2048x3072, .f32⟩
  | 16 => ⟨S2048x3072, .f32⟩
  | 17 => ⟨S1x3072, .f32⟩
  | 18 => ⟨S2048x3072, .f32⟩
  | 19 => ⟨S2048x3072, .f32⟩
  | 20 => ⟨S2048x3072, .f32⟩
  | 21 => ⟨S2048x3072, .f32⟩
  | 22 => ⟨S1x3072, .f32⟩
  | 23 => ⟨S2048x3072, .f32⟩
  | 24 => ⟨S2048x3072, .f32⟩
  | 25 => ⟨S2048x3072, .f32⟩
  | 26 => ⟨S2048x3072, .f32⟩
  | 27 => ⟨S1x3072, .f32⟩
  | 28 => ⟨S2048x3072, .f32⟩
  | 29 => ⟨S2048x3072, .f32⟩
  | 30 => ⟨S2048x3072, .f32⟩
  | 31 => ⟨S2048x3072, .f32⟩
  | 32 => ⟨S2048x3072, .f32⟩
  | 33 => ⟨S_, .f32⟩
  | 34 => ⟨S2048x3072, .f32⟩
  | 35 => ⟨S2048x3072, .f32⟩
  | 36 => ⟨S_, .f32⟩
  | 37 => ⟨S2048x3072, .f32⟩
  | 38 => ⟨S2048x3072, .f32⟩
  | 39 => ⟨S_, .f32⟩
  | 40 => ⟨S2048x3072, .f32⟩
  | 41 => ⟨S2048x3072, .f32⟩
  | 42 => ⟨S2048x3072, .f32⟩
  | 43 => ⟨S2048x3072, .f32⟩
  | 44 => ⟨S2048x24x128, .f32⟩
  | 45 => ⟨S2048x8x128, .f32⟩
  | 46 => ⟨S2048x8x128, .f32⟩
  | 47 => ⟨S2048x8x128, .f32⟩
  | 48 => ⟨S2048x8x128, .f32⟩
  | 49 => ⟨S_, .f32⟩
  | 50 => ⟨S2048x8, .f32⟩
  | 51 => ⟨S2048x8x1, .f32⟩
  | 52 => ⟨S_, .f32⟩
  | 53 => ⟨S2048x8x1, .f32⟩
  | 54 => ⟨S2048x8x1, .f32⟩
  | 55 => ⟨S2048x8x1, .f32⟩
  | 56 => ⟨S2048x8x1, .f32⟩
  | 57 => ⟨S_, .f32⟩
  | 58 => ⟨S2048x8x1, .f32⟩
  | 59 => ⟨S2048x8x1, .f32⟩
  | 60 => ⟨S2048x8x128, .f32⟩
  | 61 => ⟨S2048x8x128, .f32⟩
  | 62 => ⟨S_, .f32⟩
  | 63 => ⟨S2048x8x128, .f32⟩
  | 64 => ⟨S2048x8x128, .f32⟩
  | 65 => ⟨S2048x8x128, .f32⟩
  | 66 => ⟨S_, .f32⟩
  | 67 => ⟨S2048x8, .f32⟩
  | 68 => ⟨S2048x8x1, .f32⟩
  | 69 => ⟨S_, .f32⟩
  | 70 => ⟨S2048x8x1, .f32⟩
  | 71 => ⟨S2048x8x1, .f32⟩
  | 72 => ⟨S2048x8x1, .f32⟩
  | 73 => ⟨S2048x8x1, .f32⟩
  | 74 => ⟨S_, .f32⟩
  | 75 => ⟨S2048x8x1, .f32⟩
  | 76 => ⟨S2048x8x1, .f32⟩
  | 77 => ⟨S2048x8x128, .f32⟩
  | 78 => ⟨S2048x8x128, .f32⟩
  | 79 => ⟨S2048x24x128, .f32⟩
  | 80 => ⟨S2048x3072, .f32⟩
  | 81 => ⟨S1x2048x1024, .f32⟩
  | 82 => ⟨S2048x1024, .f32⟩
  | 83 => ⟨S1x2048x1024, .f32⟩
  | 84 => ⟨S2048x1024, .f32⟩
  | 85 => ⟨S1x2048x1024, .f32⟩
  | 86 => ⟨S2048x1024, .f32⟩
  | 87 => ⟨S2048x3072, .f32⟩
  | 88 => ⟨S2048x24x128, .f32⟩
  | 89 => ⟨S2048x8x128, .f32⟩
  | 90 => ⟨S2048x8x128, .f32⟩
  | 91 => ⟨S2048x8x128, .f32⟩
  | 92 => ⟨S2048x8x128, .f32⟩
  | 93 => ⟨S_, .f32⟩
  | 94 => ⟨S2048x8, .f32⟩
  | 95 => ⟨S2048x8x1, .f32⟩
  | 96 => ⟨S2048x8x128, .f32⟩
  | 97 => ⟨S2048x8x128, .f32⟩
  | 98 => ⟨S2048x8x1, .f32⟩
  | 99 => ⟨S_, .f32⟩
  | 100 => ⟨S2048x8, .f32⟩
  | 101 => ⟨S2048x8x128, .f32⟩
  | 102 => ⟨S2048x8x128, .f32⟩
  | 103 => ⟨S2048x8x128, .f32⟩
  | 104 => ⟨S2048x8x128, .f32⟩
  | 105 => ⟨S2048x8x128, .f32⟩
  | 106 => ⟨S_, .f32⟩
  | 107 => ⟨S2048x8x128, .f32⟩
  | 108 => ⟨S2048x8x128, .f32⟩
  | 109 => ⟨S2048x8x128, .f32⟩
  | 110 => ⟨S_, .f32⟩
  | 111 => ⟨S2048x8, .f32⟩
  | 112 => ⟨S2048x8x1, .f32⟩
  | 113 => ⟨S2048x8x128, .f32⟩
  | 114 => ⟨S2048x8x128, .f32⟩
  | 115 => ⟨S2048x8x1, .f32⟩
  | 116 => ⟨S_, .f32⟩
  | 117 => ⟨S2048x8, .f32⟩
  | 118 => ⟨S2048x8x128, .f32⟩
  | 119 => ⟨S2048x8x128, .f32⟩
  | 120 => ⟨S2048x8x128, .f32⟩
  | 121 => ⟨S2048x8x128, .f32⟩
  | 122 => ⟨S2048x8x128, .f32⟩
  | 123 => ⟨S2048x24x128, .f32⟩
  | 124 => ⟨S2048x3072, .f32⟩
  | 125 => ⟨S2048x3072, .f32⟩
  | 126 => ⟨S2048x3072, .f32⟩
  | 127 => ⟨S2048x3072, .f32⟩
  | _ => ⟨S2048x6656, .f32⟩

abbrev hbmTy0_1 (i : Nat) : BufTy := match i % 128 with
  | 0 => ⟨S2048x3072, .f32⟩
  | 1 => ⟨S2048x3072, .f32⟩
  | 2 => ⟨S_, .f32⟩
  | 3 => ⟨S3072, .f32⟩
  | 4 => ⟨S1x3072, .f32⟩
  | 5 => ⟨S2048x3072, .f32⟩
  | 6 => ⟨S2048x3072, .f32⟩
  | 7 => ⟨S_, .f32⟩
  | 8 => ⟨S4x3072, .f32⟩
  | 9 => ⟨S_, .f32⟩
  | 10 => ⟨S2051x3072, .f32⟩
  | 11 => ⟨S2048x3072, .f32⟩
  | 12 => ⟨S_, .f32⟩
  | 13 => ⟨S3072, .f32⟩
  | 14 => ⟨S1x3072, .f32⟩
  | 15 => ⟨S2048x3072, .f32⟩
  | 16 => ⟨S2048x3072, .f32⟩
  | 17 => ⟨S_, .f32⟩
  | 18 => ⟨S4x3072, .f32⟩
  | 19 => ⟨S4x3072, .f32⟩
  | 20 => ⟨S_, .f32⟩
  | 21 => ⟨S2051x3072, .f32⟩
  | 22 => ⟨S2051x3072, .f32⟩
  | 23 => ⟨S2048x3072, .f32⟩
  | 24 => ⟨S_, .f32⟩
  | 25 => ⟨S3072, .f32⟩
  | 26 => ⟨S1x3072, .f32⟩
  | 27 => ⟨S2048x3072, .f32⟩
  | 28 => ⟨S2048x3072, .f32⟩
  | 29 => ⟨S_, .f32⟩
  | 30 => ⟨S4x3072, .f32⟩
  | 31 => ⟨S4x3072, .f32⟩
  | 32 => ⟨S_, .f32⟩
  | 33 => ⟨S2051x3072, .f32⟩
  | 34 => ⟨S2051x3072, .f32⟩
  | 35 => ⟨S2048x3072, .f32⟩
  | 36 => ⟨S_, .f32⟩
  | 37 => ⟨S3072, .f32⟩
  | 38 => ⟨S1x3072, .f32⟩
  | 39 => ⟨S2048x3072, .f32⟩
  | 40 => ⟨S2048x3072, .f32⟩
  | 41 => ⟨S_, .f32⟩
  | 42 => ⟨S4x3072, .f32⟩
  | 43 => ⟨S4x3072, .f32⟩
  | 44 => ⟨S_, .f32⟩
  | 45 => ⟨S2051x3072, .f32⟩
  | 46 => ⟨S2051x3072, .f32⟩
  | 47 => ⟨S3x3072, .f32⟩
  | 48 => ⟨S2048x3072, .f32⟩
  | 49 => ⟨S2048x3072, .bf16⟩
  | _ => ⟨S2048x6656, .f32⟩

abbrev hbmTy (i : Nat) : BufTy := match i / 128 with
  | 0 => hbmTy0_0 i
  | 1 => hbmTy0_1 i
  | _ => ⟨S2048x6656, .f32⟩

abbrev bufTy : (tb : Table) → Fin (tcTables nBuf tb) → BufTy
  | .hbm, ⟨i, _⟩ => hbmTy i
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v25_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v25_1 : Ref sig .tc := ⟨.hbm, 42, rfl⟩
abbrev main_v25_0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_9 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_11 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_13 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_v95 : Ref sig .tc := ⟨.hbm, 128, rfl⟩
abbrev main_v96 : Ref sig .tc := ⟨.hbm, 129, rfl⟩
abbrev main_cst_14 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_15 : Ref sig .tc := ⟨.hbm, 135, rfl⟩
abbrev main_v101 : Ref sig .tc := ⟨.hbm, 136, rfl⟩
abbrev main_cst_16 : Ref sig .tc := ⟨.hbm, 137, rfl⟩
abbrev main_v102 : Ref sig .tc := ⟨.hbm, 138, rfl⟩
abbrev main_v103 : Ref sig .tc := ⟨.hbm, 139, rfl⟩
abbrev main_cst_17 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_18 : Ref sig .tc := ⟨.hbm, 145, rfl⟩
abbrev main_v108 : Ref sig .tc := ⟨.hbm, 146, rfl⟩
abbrev main_v109 : Ref sig .tc := ⟨.hbm, 147, rfl⟩
abbrev main_cst_19 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_20 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_21 : Ref sig .tc := ⟨.hbm, 157, rfl⟩
abbrev main_v117 : Ref sig .tc := ⟨.hbm, 158, rfl⟩
abbrev main_v118 : Ref sig .tc := ⟨.hbm, 159, rfl⟩
abbrev main_cst_22 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_23 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_24 : Ref sig .tc := ⟨.hbm, 169, rfl⟩
abbrev main_v126 : Ref sig .tc := ⟨.hbm, 170, rfl⟩
abbrev main_v127 : Ref sig .tc := ⟨.hbm, 171, rfl⟩
abbrev main_cst_25 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩

abbrev nD : Nat := 1
abbrev τ : Topo := Topo.v7x

variable {F : FTy → Type} [FloatOps F]
-- ==== GluFwd.lean ====
abbrev S2048x1024 : Shape := ⟨2, ![2048, 1024]⟩
abbrev S2048x6656 : Shape := ⟨2, ![2048, 6656]⟩
abbrev S1024x1024 : Shape := ⟨2, ![1024, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1024x1024, .bf16⟩
  | .hbm, ⟨3, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluFwdRefIdeal.lean ====
abbrev S2048x1024 : Shape := ⟨2, ![2048, 1024]⟩
abbrev S2048x6656 : Shape := ⟨2, ![2048, 6656]⟩
abbrev S1024x1024 : Shape := ⟨2, ![1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1024x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S2048x1024, .f32⟩
  | .hbm, ⟨23, _⟩ => ⟨S1024x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== DiscFwd.lean ====
abbrev S64x64 : Shape := ⟨2, ![64, 64]⟩
abbrev S64x1 : Shape := ⟨2, ![64, 1]⟩

abbrev nBuf : Space → Nat
  | .hbm => 7
  | .vmem => 7
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x1, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DiscFwdRefIdeal.lean ====
abbrev S64x64 : Shape := ⟨2, ![64, 64]⟩
abbrev S64x1 : Shape := ⟨2, ![64, 1]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x1, .f32⟩
  | .hbm, ⟨3, _⟩ => ⟨S64x1, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== BbarFwd.lean ====
abbrev S4096x1 : Shape := ⟨2, ![4096, 1]⟩
abbrev S4096x16 : Shape := ⟨2, ![4096, 16]⟩

abbrev nBuf : Space → Nat
  | .hbm => 6
  | .vmem => 6
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .local _ .vmem, ⟨0, _⟩ => ⟨S4096x1, .f32⟩
  | .local _ .vmem, ⟨1, _⟩ => ⟨S4096x1, .f32⟩
  | .local _ .vmem, ⟨2, _⟩ => ⟨S4096x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== BbarFwdRefIdeal.lean ====
abbrev S4096x1 : Shape := ⟨2, ![4096, 1]⟩
abbrev S4096x16 : Shape := ⟨2, ![4096, 16]⟩

abbrev nBuf : Space → Nat
  | .hbm => 14
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== RmsFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MergeFwd.lean ====
abbrev S2048x4096 : Shape := ⟨2, ![2048, 4096]⟩
abbrev S2048x2048 : Shape := ⟨2, ![2048, 2048]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFwdRefIdeal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DnOutFwd.lean ====
abbrev S2048x1024 : Shape := ⟨2, ![2048, 1024]⟩
abbrev S2048x6656 : Shape := ⟨2, ![2048, 6656]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1x128, .f32⟩
  | .hbm, ⟨3, _⟩ => ⟨S2048x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnOutFwdRefIdeal.lean ====
abbrev S2048x1024 : Shape := ⟨2, ![2048, 1024]⟩
abbrev S2048x6656 : Shape := ⟨2, ![2048, 6656]⟩
abbrev S1x128 : Shape := ⟨2, ![1, 128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1x128, .f32⟩
  | .hbm, ⟨3, _⟩ => ⟨S2048x8x128, .f32⟩
  | .hbm, ⟨4, _⟩ => ⟨S2048x1024, .f32⟩
  | .hbm, ⟨5, _⟩ => ⟨S2048x8x128, .f32⟩
  | .hbm, ⟨6, _⟩ => ⟨S2048x8x128, .f32⟩
  | .hbm, ⟨7, _⟩ => ⟨S_, .f32⟩
  | .hbm, ⟨8, _⟩ => ⟨S2048x8, .f32⟩
  | .hbm, ⟨9, _⟩ => ⟨S2048x8x1, .f32⟩
  | .hbm, ⟨10, _⟩ => ⟨S_, .f32⟩
  | .hbm, ⟨11, _⟩ => ⟨S2048x8x1, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S2048x8x1, .f32⟩
  | .hbm, ⟨17, _⟩ => ⟨S2048x8x128, .f32⟩
  | .hbm, ⟨18, _⟩ => ⟨S2048x8x128, .f32⟩
  | .hbm, ⟨19, _⟩ => ⟨S1x1x128, .f32⟩
  | .hbm, ⟨20, _⟩ => ⟨S2048x8x128, .f32⟩
  | .hbm, ⟨21, _⟩ => ⟨S2048x8x128, .f32⟩
  | .hbm, ⟨22, _⟩ => ⟨S2048x8x128, .f32⟩
  | .hbm, ⟨23, _⟩ => ⟨S2048x8x128, .f32⟩
  | .hbm, ⟨24, _⟩ => ⟨S_, .f32⟩
  | .hbm, ⟨25, _⟩ => ⟨S2048x8x128, .f32⟩
  | .hbm, ⟨26, _⟩ => ⟨S2048x8x128, .f32⟩
  | .hbm, ⟨27, _⟩ => ⟨S_, .f32⟩
  | .hbm, ⟨28, _⟩ => ⟨S2048x8x128, .f32⟩
  | .hbm, ⟨29, _⟩ => ⟨S2048x8x128, .f32⟩
  | .hbm, ⟨30, _⟩ => ⟨S2048x8x128, .f32⟩
  | .hbm, ⟨31, _⟩ => ⟨S2048x8x128, .f32⟩
  | .hbm, ⟨32, _⟩ => ⟨S2048x1024, .f32⟩
  | .hbm, ⟨33, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== GatesFwd.lean ====
abbrev S2048x6656 : Shape := ⟨2, ![2048, 6656]⟩
abbrev S1x128 : Shape := ⟨2, ![1, 128]⟩
abbrev S2048x128 : Shape := ⟨2, ![2048, 128]⟩
abbrev S256x128 : Shape := ⟨2, ![256, 128]⟩

abbrev nBuf : Space → Nat
  | .hbm => 4
  | .vmem => 6
  | .smem => 0
  | _ => 0

abbrev bufTy : (tb : Table) → Fin (tcTables nBuf tb) → BufTy
  | .hbm, ⟨0, _⟩ => ⟨S2048x6656, .f32⟩
  | .hbm, ⟨1, _⟩ => ⟨S1x128, .f32⟩
  | .hbm, ⟨2, _⟩ => ⟨S1x128, .f32⟩
  | .hbm, ⟨3, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatesFwdRefIdeal.lean ====
abbrev S2048x6656 : Shape := ⟨2, ![2048, 6656]⟩
abbrev S1x128 : Shape := ⟨2, ![1, 128]⟩
abbrev S2048x8 : Shape := ⟨2, ![2048, 8]⟩
abbrev S_ : Shape := ⟨0, ![]⟩
abbrev S1x8 : Shape := ⟨2, ![1, 8]⟩
abbrev S2048x112 : Shape := ⟨2, ![2048, 112]⟩
abbrev S2048x128 : Shape := ⟨2, ![2048, 128]⟩

abbrev nBuf : Space → Nat
  | .hbm => 38
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S1x128, .f32⟩
  | .hbm, ⟨2, _⟩ => ⟨S1x128, .f32⟩
  | .hbm, ⟨3, _⟩ => ⟨S2048x8, .f32⟩
  | .hbm, ⟨4, _⟩ => ⟨S2048x8, .f32⟩
  | .hbm, ⟨5, _⟩ => ⟨S2048x8, .f32⟩
  | .hbm, ⟨6, _⟩ => ⟨S_, .f32⟩
  | .hbm, ⟨7, _⟩ => ⟨S2048x8, .f32⟩
  | .hbm, ⟨8, _⟩ => ⟨S2048x8, .f32⟩
  | .hbm, ⟨9, _⟩ => ⟨S_, .f32⟩
  | .hbm, ⟨10, _⟩ => ⟨S2048x8, .f32⟩
  | .hbm, ⟨11, _⟩ => ⟨S2048x8, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S2048x8, .f32⟩
  | .hbm, ⟨16, _⟩ => ⟨S1x8, .f32⟩
  | .hbm, ⟨17, _⟩ => ⟨S2048x8, .f32⟩
  | .hbm, ⟨18, _⟩ => ⟨S2048x8, .f32⟩
  | .hbm, ⟨19, _⟩ => ⟨S_, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .i1⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S2048x8, .f32⟩
  | .hbm, ⟨32, _⟩ => ⟨S2048x8, .f32⟩
  | .hbm, ⟨33, _⟩ => ⟨S2048x8, .f32⟩
  | .hbm, ⟨34, _⟩ => ⟨S2048x8, .f32⟩
  | .hbm, ⟨35, _⟩ => ⟨S_, .f32⟩
  | .hbm, ⟨36, _⟩ => ⟨S2048x112, .f32⟩
  | .hbm, ⟨37, _⟩ => ⟨S2048x128, .f32⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Proof.Merge.lean ====
/- The gate-merge backward call: its four result arrays, element by element, are the reference's. -/
module

public import proofs.«01_k».proof.Proof.Gen.MergeIdeal.Value
public import proofs.«01_k».proof.Proof.Gen.MergeRefIdeal.Run
public import proofs.«01_k».proof.Proof.Gen.MergeRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.MergeProof

open Cert.MergeIdeal Cert.MergeIdeal.Gen

variable (m : (ℓ : Loc nD τ sig) → Buf (Elt Ideal) ℓ)

/-- Where each block of the call sits: row band `t / 2`, column band `t % 2`; the second gate lies two
    column bands further right. -/
theorem idx : ∀ t : Fin cfg0.N, win0_0.index t = ![t.val / 2, t.val % 2]
    ∧ win0_1.index t = ![t.val / 2, t.val % 2 + 2] ∧ win0_2.index t = ![t.val / 2, t.val % 2]
    ∧ win0_3.index t = ![t.val / 2, t.val % 2] ∧ win0_4.index t = ![t.val / 2, t.val % 2]
    ∧ win0_5.index t = ![t.val / 2, t.val % 2] ∧ win0_6.index t = ![t.val / 2, t.val % 2]
    ∧ win0_7.index t = ![t.val / 2, t.val % 2] ∧ win0_8.index t = ![t.val / 2, t.val % 2] :=
  (by decide +kernel : ∀ t : Fin grid0.N, _)

/-- The gradient of the first gate's preactivation. -/
theorem final5 (c : Dev nD) : (dats m 0 c).arrAt 5 (cfgs 0).N
    = Cert.MergeRefIdeal.Read.val_main_v31 (F := Ideal) (m ((c : Thread nD τ).loc main_arg0)) (m ((c : Thread nD τ).loc main_arg1)) (m ((c : Thread nD τ).loc main_arg3)) := by
  refine (dats m 0 c).arrAt_eq_of_covers 5 _ (by decide +kernel) fun t _ y => ?_
  rw [← Cert.MergeRefIdeal.Read.val_main_v31_eq]
  blk_simp
  rw [after0_5]; frame_out
  unfold_payloads
  pointwise
  simp only [zero_sub]
  blk_point [iblk, V, idx t]

/-- The gradient of the second gate's preactivation. -/
theorem final6 (c : Dev nD) : (dats m 0 c).arrAt 6 (cfgs 0).N
    = Cert.MergeRefIdeal.Read.val_main_v32 (F := Ideal) (m ((c : Thread nD τ).loc main_arg0)) (m ((c : Thread nD τ).loc main_arg2)) (m ((c : Thread nD τ).loc main_arg3)) := by
  refine (dats m 0 c).arrAt_eq_of_covers 6 _ (by decide +kernel) fun t _ y => ?_
  rw [← Cert.MergeRefIdeal.Read.val_main_v32_eq]
  blk_simp
  rw [after0_6]; frame_out
  unfold_payloads
  pointwise
  simp only [zero_sub]
  blk_point [iblk, V, idx t]

/-- The gradient of the first branch. -/
theorem final7 (c : Dev nD) : (dats m 0 c).arrAt 7 (cfgs 0).N
    = Cert.MergeRefIdeal.Read.val_main_v33 (F := Ideal) (m ((c : Thread nD τ).loc main_arg0)) (m ((c : Thread nD τ).loc main_arg3)) := by
  refine (dats m 0 c).arrAt_eq_of_covers 7 _ (by decide +kernel) fun t _ y => ?_
  rw [← Cert.MergeRefIdeal.Read.val_main_v33_eq]
  blk_simp
  rw [after0_7]; frame_out
  unfold_payloads
  pointwise
  simp only [zero_sub]
  blk_point [iblk, V, idx t]

/-- The gradient of the second branch. -/
theorem final8 (c : Dev nD) : (dats m 0 c).arrAt 8 (cfgs 0).N
    = Cert.MergeRefIdeal.Read.val_main_v34 (F := Ideal) (m ((c : Thread nD τ).loc main_arg0)) (m ((c : Thread nD τ).loc main_arg3)) := by
  refine (dats m 0 c).arrAt_eq_of_covers 8 _ (by decide +kernel) fun t _ y => ?_
  rw [← Cert.MergeRefIdeal.Read.val_main_v34_eq]
  blk_simp
  rw [after0_8]; frame_out
  unfold_payloads
  pointwise
  simp only [zero_sub]
  blk_point [iblk, V, idx t]

end Cert.MergeProof

end
-- ==== Proof.MergeClaim.lean ====
/- The gate-merge backward call: the claim, from the two runs and the four equations. -/
module

public import proofs.«01_k».proof.Proof.Gen.MergeIdeal.Value
public import proofs.«01_k».proof.Proof.Gen.MergeRefIdeal.Run
public import proofs.«01_k».proof.Proof.Gen.MergeRefIdeal.Read
public import Idealize.ShloMosaic.Lib.Claim
public import Idealize.ShloMosaic.Lib.Pipeline.ValueKit
public import Idealize.ShloMosaic.Lib.Pointwise
public import proofs.«01_k».proof.Defs
public import proofs.«01_k».proof.Proof.Merge

@[expose] public section

set_option maxRecDepth 16384

noncomputable section

open Idealize.ShloMosaic Idealize.ShloMosaic.TcCoe Idealize.SL.Sem
open Idealize.ShloMosaic.Pipeline (Dat)

namespace Cert.MergeProof

open Cert.MergeIdeal Cert.MergeIdeal.Gen

variable (m : (ℓ : Loc nD τ sig) → Buf (Elt Ideal) ℓ)

/-- The reference runs, and keeps its arguments. -/
theorem frame_ref : Cert.quiescent_MergeRefIdeal := fun m g _ =>
  (θ_run Cert.MergeRefIdeal.defs _ _).mono
    (fun r h => ⟨fun c => (h c).2.2.2.2, sem_eq_zero_of_no_sems (by decide) r.2⟩)
    (Cert.MergeRefIdeal.Value.run (F := Ideal) m g)

/-- The two programs compute the same four arrays over the extended reals. -/
theorem values : Cert.algebraic_MergeIdeal_MergeRefIdeal := by
  pair_intro
  · run_from Cert.MergeIdeal.Value.run_blocks m g
  · run_from Cert.MergeRefIdeal.Value.run m' g'
    · exact (Cert.MergeRefIdeal.Read.val_main_v31_eq _ _ _).trans (final5 m c).symm
    · exact (Cert.MergeRefIdeal.Read.val_main_v32_eq _ _ _).trans (final6 m c).symm
    · exact (Cert.MergeRefIdeal.Read.val_main_v33_eq _ _).trans (final7 m c).symm
    · exact (Cert.MergeRefIdeal.Read.val_main_v34_eq _ _).trans (final8 m c).symm

end Cert.MergeProof

end
-- ==== Proof.GradWOut.lean ====
/- The gradient of the output projection. -/
module

public import proofs.«01_k».proof.Proof.Gen.GradWOutIdeal.Value
public import proofs.«01_k».proof.Proof.Gen.GradWOutRefIdeal.Run
public import proofs.«01_k».proof.Proof.Gen.GradWOutRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.GradWOutProof

open Cert.GradWOutIdeal Cert.GradWOutIdeal.Gen

variable (m : (ℓ : Loc nD τ sig) → Buf (Elt Ideal) ℓ)

/-- Where the blocks of point `t` sit. -/
theorem idx : ∀ t : Fin cfg0.N, win0_0.index t = ![0, t.val / 4]
    ∧ win0_1.index t = ![0, t.val % 4] ∧ win0_2.index t = ![t.val / 4, t.val % 4] :=
  (by decide +kernel : ∀ t : Fin grid0.N, _)

/-- The gradient of the output projection. -/
theorem final (c : Dev nD) : (dats m 0 c).arrAt 2 (cfgs 0).N
    = Cert.GradWOutRefIdeal.Read.val_main_v6 (F := Ideal) (m ((c : Thread nD τ).loc main_arg0)) (m ((c : Thread nD τ).loc main_arg1)) := by
  refine (dats m 0 c).arrAt_eq_of_covers 2 _ (by decide +kernel) fun t _ y => ?_
  rw [← Cert.GradWOutRefIdeal.Read.val_main_v6_eq]
  blk_simp
  rw [after0_2]; frame_out
  unfold_payloads
  pointwise
  refine Finset.sum_congr (M := EReal) rfl fun k _ => Eq.trans ?_ (mul_comm (G := EReal) _ _)
  blk_point [iblk, V, idx t]

/-- Every run of the reference ends, its arguments unchanged and no signal left. -/
theorem frame_ref : Cert.quiescent_GradWOutRefIdeal := fun m g _ =>
  (θ_run Cert.GradWOutRefIdeal.defs _ _).mono
    (fun r h => ⟨fun c => (h c).2, sem_eq_zero_of_no_sems (by decide) r.2⟩)
    (Cert.GradWOutRefIdeal.Value.run (F := Ideal) m g)

/-- The call's result is the reference's. -/
theorem values : Cert.algebraic_GradWOutIdeal_GradWOutRefIdeal := by
  pair_intro
  · run_from Cert.GradWOutIdeal.Value.run_blocks m g
  · run_from Cert.GradWOutRefIdeal.Value.run m' g'
    · exact (Cert.GradWOutRefIdeal.Read.val_main_v6_eq _ _).trans (final m c).symm

end Cert.GradWOutProof
-- ==== Proof.DMixed.lean ====
/- The cotangent of the merged branches. -/
module

public import proofs.«01_k».proof.Proof.Gen.DMixedIdeal.Value
public import proofs.«01_k».proof.Proof.Gen.DMixedRefIdeal.Run
public import proofs.«01_k».proof.Proof.Gen.DMixedRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.DMixedProof

open Cert.DMixedIdeal Cert.DMixedIdeal.Gen

variable (m : (ℓ : Loc nD τ sig) → Buf (Elt Ideal) ℓ)

/-- Where the blocks of point `t` sit. -/
theorem idx : ∀ t : Fin cfg0.N, win0_0.index t = ![t.val / 4, 0]
    ∧ win0_1.index t = ![t.val % 4, 0] ∧ win0_2.index t = ![t.val / 4, t.val % 4] :=
  (by decide +kernel : ∀ t : Fin grid0.N, _)

/-- The cotangent of the merged branches. -/
theorem final (c : Dev nD) : (dats m 0 c).arrAt 2 (cfgs 0).N
    = Cert.DMixedRefIdeal.Read.val_main_v4 (F := Ideal) (m ((c : Thread nD τ).loc main_arg0)) (m ((c : Thread nD τ).loc main_arg1)) := by
  refine (dats m 0 c).arrAt_eq_of_covers 2 _ (by decide +kernel) fun t _ y => ?_
  rw [← Cert.DMixedRefIdeal.Read.val_main_v4_eq]
  blk_simp
  rw [after0_2]; frame_out
  unfold_payloads
  pointwise
  blk_point [iblk, V, idx t]

/-- Every run of the reference ends, its arguments unchanged and no signal left. -/
theorem frame_ref : Cert.quiescent_DMixedRefIdeal := fun m g _ =>
  (θ_run Cert.DMixedRefIdeal.defs _ _).mono
    (fun r h => ⟨fun c => (h c).2, sem_eq_zero_of_no_sems (by decide) r.2⟩)
    (Cert.DMixedRefIdeal.Value.run (F := Ideal) m g)

/-- The call's result is the reference's. -/
theorem values : Cert.algebraic_DMixedIdeal_DMixedRefIdeal := by
  pair_intro
  · run_from Cert.DMixedIdeal.Value.run_blocks m g
  · run_from Cert.DMixedRefIdeal.Value.run m' g'
    · exact (Cert.DMixedRefIdeal.Read.val_main_v4_eq _ _).trans (final m c).symm

end Cert.DMixedProof
-- ==== Proof.GradUp.lean ====
/- The gradient of a branch's up projection; the two branches' calls are this same one. -/
module

public import proofs.«01_k».proof.Proof.Gen.GradUpIdeal.Value
public import proofs.«01_k».proof.Proof.Gen.GradUpRefIdeal.Run
public import proofs.«01_k».proof.Proof.Gen.GradUpRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.GradUpProof

open Cert.GradUpIdeal Cert.GradUpIdeal.Gen

variable (m : (ℓ : Loc nD τ sig) → Buf (Elt Ideal) ℓ)

/-- Where the blocks of point `t` sit. -/
theorem idx : ∀ t : Fin cfg0.N, win0_0.index t = ![0, t.val / 4]
    ∧ win0_1.index t = ![0, t.val % 4] ∧ win0_2.index t = ![t.val / 4, t.val % 4] :=
  (by decide +kernel : ∀ t : Fin grid0.N, _)

/-- The gradient of a branch's up projection; the two branches' calls are this same one. -/
theorem final (c : Dev nD) : (dats m 0 c).arrAt 2 (cfgs 0).N
    = Cert.GradUpRefIdeal.Read.val_main_v6 (F := Ideal) (m ((c : Thread nD τ).loc main_arg0)) (m ((c : Thread nD τ).loc main_arg1)) := by
  refine (dats m 0 c).arrAt_eq_of_covers 2 _ (by decide +kernel) fun t _ y => ?_
  rw [← Cert.GradUpRefIdeal.Read.val_main_v6_eq]
  blk_simp
  rw [after0_2]; frame_out
  unfold_payloads
  pointwise
  refine Finset.sum_congr (M := EReal) rfl fun k _ => Eq.trans ?_ (mul_comm (G := EReal) _ _)
  blk_point [iblk, V, idx t]

/-- Every run of the reference ends, its arguments unchanged and no signal left. -/
theorem frame_ref : Cert.quiescent_GradUpRefIdeal := fun m g _ =>
  (θ_run Cert.GradUpRefIdeal.defs _ _).mono
    (fun r h => ⟨fun c => (h c).2, sem_eq_zero_of_no_sems (by decide) r.2⟩)
    (Cert.GradUpRefIdeal.Value.run (F := Ideal) m g)

/-- The call's result is the reference's. -/
theorem values : Cert.algebraic_GradUpIdeal_GradUpRefIdeal := by
  pair_intro
  · run_from Cert.GradUpIdeal.Value.run_blocks m g
  · run_from Cert.GradUpRefIdeal.Value.run m' g'
    · exact (Cert.GradUpRefIdeal.Read.val_main_v6_eq _ _).trans (final m c).symm

end Cert.GradUpProof
-- ==== Proof.DOut.lean ====
/- The cotangent of a branch before its up projection; the two branches' calls are this same one. -/
module

public import proofs.«01_k».proof.Proof.Gen.DOutIdeal.Value
public import proofs.«01_k».proof.Proof.Gen.DOutRefIdeal.Run
public import proofs.«01_k».proof.Proof.Gen.DOutRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.DOutProof

open Cert.DOutIdeal Cert.DOutIdeal.Gen

variable (m : (ℓ : Loc nD τ sig) → Buf (Elt Ideal) ℓ)

/-- Where the blocks of point `t` sit. -/
theorem idx : ∀ t : Fin cfg0.N, win0_0.index t = ![t.val / 2, 0]
    ∧ win0_1.index t = ![t.val % 2, 0] ∧ win0_2.index t = ![t.val / 2, t.val % 2] :=
  (by decide +kernel : ∀ t : Fin grid0.N, _)

/-- The cotangent of a branch before its up projection; the two branches' calls are this same one. -/
theorem final (c : Dev nD) : (dats m 0 c).arrAt 2 (cfgs 0).N
    = Cert.DOutRefIdeal.Read.val_main_v4 (F := Ideal) (m ((c : Thread nD τ).loc main_arg0)) (m ((c : Thread nD τ).loc main_arg1)) := by
  refine (dats m 0 c).arrAt_eq_of_covers 2 _ (by decide +kernel) fun t _ y => ?_
  rw [← Cert.DOutRefIdeal.Read.val_main_v4_eq]
  blk_simp
  rw [after0_2]; frame_out
  unfold_payloads
  pointwise
  blk_point [iblk, V, idx t]

/-- Every run of the reference ends, its arguments unchanged and no signal left. -/
theorem frame_ref : Cert.quiescent_DOutRefIdeal := fun m g _ =>
  (θ_run Cert.DOutRefIdeal.defs _ _).mono
    (fun r h => ⟨fun c => (h c).2, sem_eq_zero_of_no_sems (by decide) r.2⟩)
    (Cert.DOutRefIdeal.Value.run (F := Ideal) m g)

/-- The call's result is the reference's. -/
theorem values : Cert.algebraic_DOutIdeal_DOutRefIdeal := by
  pair_intro
  · run_from Cert.DOutIdeal.Value.run_blocks m g
  · run_from Cert.DOutRefIdeal.Value.run m' g'
    · exact (Cert.DOutRefIdeal.Read.val_main_v4_eq _ _).trans (final m c).symm

end Cert.DOutProof
-- ==== Proof.GradWIn.lean ====
/- The gradient of the input projection, its gates left out. -/
module

public import proofs.«01_k».proof.Proof.Gen.GradWInIdeal.Value
public import proofs.«01_k».proof.Proof.Gen.GradWInRefIdeal.Run
public import proofs.«01_k».proof.Proof.Gen.GradWInRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.GradWInProof

open Cert.GradWInIdeal Cert.GradWInIdeal.Gen

variable (m : (ℓ : Loc nD τ sig) → Buf (Elt Ideal) ℓ)

/-- Where the blocks of point `t` sit. -/
theorem idx : ∀ t : Fin cfg0.N, win0_0.index t = ![0, t.val]
    ∧ win0_1.index t = ![0, 0] ∧ win0_2.index t = ![t.val, 0] :=
  (by decide +kernel : ∀ t : Fin grid0.N, _)

/-- The gradient of the input projection, its gates left out. -/
theorem final (c : Dev nD) : (dats m 0 c).arrAt 2 (cfgs 0).N
    = Cert.GradWInRefIdeal.Read.val_main_v8 (F := Ideal) (m ((c : Thread nD τ).loc main_arg0)) (m ((c : Thread nD τ).loc main_arg1)) := by
  refine (dats m 0 c).arrAt_eq_of_covers 2 _ (by decide +kernel) fun t _ y => ?_
  rw [← Cert.GradWInRefIdeal.Read.val_main_v8_eq]
  blk_simp
  rw [after0_2]; frame_out
  unfold_payloads
  pointwise
  blk_point [iblk, V, idx t]

/-- Every run of the reference ends, its arguments unchanged and no signal left. -/
theorem frame_ref : Cert.quiescent_GradWInRefIdeal := fun m g _ =>
  (θ_run Cert.GradWInRefIdeal.defs _ _).mono
    (fun r h => ⟨fun c => (h c).2, sem_eq_zero_of_no_sems (by decide) r.2⟩)
    (Cert.GradWInRefIdeal.Value.run (F := Ideal) m g)

/-- The call's result is the reference's. -/
theorem values : Cert.algebraic_GradWInIdeal_GradWInRefIdeal := by
  pair_intro
  · run_from Cert.GradWInIdeal.Value.run_blocks m g
  · run_from Cert.GradWInRefIdeal.Value.run m' g'
    · exact (Cert.GradWInRefIdeal.Read.val_main_v8_eq _ _).trans (final m c).symm

end Cert.GradWInProof
-- ==== Proof.GradWInGates.lean ====
/- The gradient of the gates part of the input projection. -/
module

public import proofs.«01_k».proof.Proof.Gen.GradWInGatesIdeal.Value
public import proofs.«01_k».proof.Proof.Gen.GradWInGatesRefIdeal.Run
public import proofs.«01_k».proof.Proof.Gen.GradWInGatesRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.GradWInGatesProof

open Cert.GradWInGatesIdeal Cert.GradWInGatesIdeal.Gen

variable (m : (ℓ : Loc nD τ sig) → Buf (Elt Ideal) ℓ)

/-- Where the blocks of point `t` sit. -/
theorem idx : ∀ t : Fin cfg0.N, win0_0.index t = ![0, t.val]
    ∧ win0_1.index t = ![0, 0] ∧ win0_2.index t = ![t.val, 0] :=
  (by decide +kernel : ∀ t : Fin grid0.N, _)

/-- The gradient of the gates part of the input projection. -/
theorem final (c : Dev nD) : (dats m 0 c).arrAt 2 (cfgs 0).N
    = Cert.GradWInGatesRefIdeal.Read.val_main_v8 (F := Ideal) (m ((c : Thread nD τ).loc main_arg0)) (m ((c : Thread nD τ).loc main_arg1)) := by
  refine (dats m 0 c).arrAt_eq_of_covers 2 _ (by decide +kernel) fun t _ y => ?_
  rw [← Cert.GradWInGatesRefIdeal.Read.val_main_v8_eq]
  blk_simp
  rw [after0_2]; frame_out
  unfold_payloads
  pointwise
  blk_point [iblk, V, idx t]

/-- Every run of the reference ends, its arguments unchanged and no signal left. -/
theorem frame_ref : Cert.quiescent_GradWInGatesRefIdeal := fun m g _ =>
  (θ_run Cert.GradWInGatesRefIdeal.defs _ _).mono
    (fun r h => ⟨fun c => (h c).2, sem_eq_zero_of_no_sems (by decide) r.2⟩)
    (Cert.GradWInGatesRefIdeal.Value.run (F := Ideal) m g)

/-- The call's result is the reference's. -/
theorem values : Cert.algebraic_GradWInGatesIdeal_GradWInGatesRefIdeal := by
  pair_intro
  · run_from Cert.GradWInGatesIdeal.Value.run_blocks m g
  · run_from Cert.GradWInGatesRefIdeal.Value.run m' g'
    · exact (Cert.GradWInGatesRefIdeal.Read.val_main_v8_eq _ _).trans (final m c).symm

end Cert.GradWInGatesProof
-- ==== Proof.ProjGates.lean ====
/- The gates of the input projection. -/
module

public import proofs.«01_k».proof.Proof.Gen.ProjGatesIdeal.Value
public import proofs.«01_k».proof.Proof.Gen.ProjGatesRefIdeal.Run
public import proofs.«01_k».proof.Proof.Gen.ProjGatesRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.ProjGatesProof

open Cert.ProjGatesIdeal Cert.ProjGatesIdeal.Gen

variable (m : (ℓ : Loc nD τ sig) → Buf (Elt Ideal) ℓ)

/-- Where the blocks of point `t` sit. -/
theorem idx : ∀ t : Fin cfg0.N, win0_0.index t = ![t.val / 4, 0]
    ∧ win0_1.index t = ![t.val % 4, 0] ∧ win0_2.index t = ![t.val / 4, t.val % 4] :=
  (by decide +kernel : ∀ t : Fin grid0.N, _)

/-- The gates of the input projection. -/
theorem final (c : Dev nD) : (dats m 0 c).arrAt 2 (cfgs 0).N
    = Cert.ProjGatesRefIdeal.Read.val_main_v3 (F := Ideal) (m ((c : Thread nD τ).loc main_arg0)) (m ((c : Thread nD τ).loc main_arg1)) := by
  refine (dats m 0 c).arrAt_eq_of_covers 2 _ (by decide +kernel) fun t _ y => ?_
  rw [← Cert.ProjGatesRefIdeal.Read.val_main_v3_eq]
  blk_simp
  rw [after0_2]; frame_out
  unfold_payloads
  pointwise
  blk_point [iblk, V, idx t]

/-- Every run of the reference ends, its arguments unchanged and no signal left. -/
theorem frame_ref : Cert.quiescent_ProjGatesRefIdeal := fun m g _ =>
  (θ_run Cert.ProjGatesRefIdeal.defs _ _).mono
    (fun r h => ⟨fun c => (h c).2, sem_eq_zero_of_no_sems (by decide) r.2⟩)
    (Cert.ProjGatesRefIdeal.Value.run (F := Ideal) m g)

/-- The call's result is the reference's. -/
theorem values : Cert.algebraic_ProjGatesIdeal_ProjGatesRefIdeal := by
  pair_intro
  · run_from Cert.ProjGatesIdeal.Value.run_blocks m g
  · run_from Cert.ProjGatesRefIdeal.Value.run m' g'
    · exact (Cert.ProjGatesRefIdeal.Read.val_main_v3_eq _ _).trans (final m c).symm

end Cert.ProjGatesProof
-- ==== Proof.Up.lean ====
/- A branch's up projection; the two branches' calls are this same one. -/
module

public import proofs.«01_k».proof.Proof.Gen.UpIdeal.Value
public import proofs.«01_k».proof.Proof.Gen.UpRefIdeal.Run
public import proofs.«01_k».proof.Proof.Gen.UpRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.UpProof

open Cert.UpIdeal Cert.UpIdeal.Gen

variable (m : (ℓ : Loc nD τ sig) → Buf (Elt Ideal) ℓ)

/-- Where the blocks of point `t` sit. -/
theorem idx : ∀ t : Fin cfg0.N, win0_0.index t = ![t.val / 4, 0]
    ∧ win0_1.index t = ![0, t.val % 4] ∧ win0_2.index t = ![t.val / 4, t.val % 4] :=
  (by decide +kernel : ∀ t : Fin grid0.N, _)

/-- A branch's up projection; the two branches' calls are this same one. -/
theorem final (c : Dev nD) : (dats m 0 c).arrAt 2 (cfgs 0).N
    = Cert.UpRefIdeal.Read.val_main_v2 (F := Ideal) (m ((c : Thread nD τ).loc main_arg0)) (m ((c : Thread nD τ).loc main_arg1)) := by
  refine (dats m 0 c).arrAt_eq_of_covers 2 _ (by decide +kernel) fun t _ y => ?_
  rw [← Cert.UpRefIdeal.Read.val_main_v2_eq]
  blk_simp
  rw [after0_2]; frame_out
  unfold_payloads
  pointwise
  blk_point [iblk, V, idx t]

/-- Every run of the reference ends, its arguments unchanged and no signal left. -/
theorem frame_ref : Cert.quiescent_UpRefIdeal := fun m g _ =>
  (θ_run Cert.UpRefIdeal.defs _ _).mono
    (fun r h => ⟨fun c => (h c).2, sem_eq_zero_of_no_sems (by decide) r.2⟩)
    (Cert.UpRefIdeal.Value.run (F := Ideal) m g)

/-- The call's result is the reference's. -/
theorem values : Cert.algebraic_UpIdeal_UpRefIdeal := by
  pair_intro
  · run_from Cert.UpIdeal.Value.run_blocks m g
  · run_from Cert.UpRefIdeal.Value.run m' g'
    · exact (Cert.UpRefIdeal.Read.val_main_v2_eq _ _).trans (final m c).symm

end Cert.UpProof
-- ==== Proof.WOut.lean ====
/- The output projection. -/
module

public import proofs.«01_k».proof.Proof.Gen.WOutIdeal.Value
public import proofs.«01_k».proof.Proof.Gen.WOutRefIdeal.Run
public import proofs.«01_k».proof.Proof.Gen.WOutRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.WOutProof

open Cert.WOutIdeal Cert.WOutIdeal.Gen

variable (m : (ℓ : Loc nD τ sig) → Buf (Elt Ideal) ℓ)

/-- Where the blocks of point `t` sit. -/
theorem idx : ∀ t : Fin cfg0.N, win0_0.index t = ![t.val / 4, 0]
    ∧ win0_1.index t = ![0, t.val % 4] ∧ win0_2.index t = ![t.val / 4, t.val % 4] :=
  (by decide +kernel : ∀ t : Fin grid0.N, _)

/-- The output projection. -/
theorem final (c : Dev nD) : (dats m 0 c).arrAt 2 (cfgs 0).N
    = Cert.WOutRefIdeal.Read.val_main_v2 (F := Ideal) (m ((c : Thread nD τ).loc main_arg0)) (m ((c : Thread nD τ).loc main_arg1)) := by
  refine (dats m 0 c).arrAt_eq_of_covers 2 _ (by decide +kernel) fun t _ y => ?_
  rw [← Cert.WOutRefIdeal.Read.val_main_v2_eq]
  blk_simp
  rw [after0_2]; frame_out
  unfold_payloads
  pointwise
  blk_point [iblk, V, idx t]

/-- Every run of the reference ends, its arguments unchanged and no signal left. -/
theorem frame_ref : Cert.quiescent_WOutRefIdeal := fun m g _ =>
  (θ_run Cert.WOutRefIdeal.defs _ _).mono
    (fun r h => ⟨fun c => (h c).2, sem_eq_zero_of_no_sems (by decide) r.2⟩)
    (Cert.WOutRefIdeal.Value.run (F := Ideal) m g)

/-- The call's result is the reference's. -/
theorem values : Cert.algebraic_WOutIdeal_WOutRefIdeal := by
  pair_intro
  · run_from Cert.WOutIdeal.Value.run_blocks m g
  · run_from Cert.WOutRefIdeal.Value.run m' g'
    · exact (Cert.WOutRefIdeal.Read.val_main_v2_eq _ _).trans (final m c).symm

end Cert.WOutProof
-- ==== Proof.Proj.lean ====
/- The input projection, its gates left out. -/
module

public import proofs.«01_k».proof.Proof.Gen.ProjIdeal.Value
public import proofs.«01_k».proof.Proof.Gen.ProjRefIdeal.Run
public import proofs.«01_k».proof.Proof.Gen.ProjRefIdeal.Read
public import Idealize.ShloMosaic.Lib.Claim
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.ProjProof

open Cert.ProjIdeal Cert.ProjIdeal.Gen

variable (m : (ℓ : Loc nD τ sig) → Buf (Elt Ideal) ℓ)

/-- Where the blocks of point `t` sit. -/
theorem idx : ∀ t : Fin cfg0.N, win0_0.index t = ![t.val / 13, 0]
    ∧ win0_1.index t = ![t.val % 13, 0] ∧ win0_2.index t = ![t.val / 13, t.val % 13] :=
  (by decide +kernel : ∀ t : Fin grid0.N, _)

/-- The weight's block at point `t`, element by element: no block overhangs the array's end. -/
theorem weight (c : Dev nD) (t : Fin cfg0.N) (j : S512x2048.Idx) (i : S10256x2048.Idx)
    (h0 : (i 0 : ℕ) = t.val % 13 * 512 + j 0) (h1 : (i 1 : ℕ) = j 1) :
    X0_1 m c t j = m ((c : Thread nD τ).loc main_arg1) i := by
  unfold X0_1 Pipeline.Window.fill
  rw [dif_pos (moved0_1 t j)]
  blk_ext [iblk, V, idx t]

/-- A block of the product. -/
theorem prod (x0 x1 j) : k0_pay1 (F := Ideal) x0 x1 j
    = ∑ k : Fin 2048, x0 (ix2 (j 0) k) * x1 (ix2 (j 1) k) := by pointwise [k0_pay1]

/-- The input projection, its gates left out. -/
theorem final (c : Dev nD) : (dats m 0 c).arrAt 2 (cfgs 0).N
    = Cert.ProjRefIdeal.Read.val_main_v4 (F := Ideal) (m ((c : Thread nD τ).loc main_arg0)) (m ((c : Thread nD τ).loc main_arg1)) := by
  refine (dats m 0 c).arrAt_eq_of_covers 2 _ (by decide +kernel) fun t _ y => ?_
  rw [← Cert.ProjRefIdeal.Read.val_main_v4_eq]
  blk_simp
  rw [after0_2]; unfold outsAt0; frame_out
  rw [prod]
  pointwise
  refine Fin.sum_fin_congr fun k => ?_
  have hy : (y 1 : ℕ) < 512 := (y 1).isLt
  rw [weight m c t _ (ix2 ⟨t.val % 13 * 512 + (y 1 : ℕ), by omega⟩ k)]
  · blk_point [iblk, V, idx t]
  · rfl
  · rfl

/-- Every run of the reference ends, its arguments unchanged and no signal left. -/
theorem frame_ref : Cert.quiescent_ProjRefIdeal := fun m g _ =>
  (θ_run Cert.ProjRefIdeal.defs _ _).mono
    (fun r h => ⟨fun c => (h c).2, sem_eq_zero_of_no_sems (by decide) r.2⟩)
    (Cert.ProjRefIdeal.Value.run (F := Ideal) m g)

/-- The call's result is the reference's. -/
theorem values : Cert.algebraic_ProjIdeal_ProjRefIdeal := by
  pair_intro
  · run_from Cert.ProjIdeal.Value.run_blocks m g
  · run_from Cert.ProjRefIdeal.Value.run m' g'
    · exact (Cert.ProjRefIdeal.Read.val_main_v4_eq _ _).trans (final m c).symm

end Cert.ProjProof
-- ==== Proof.DHMain.lean ====
/- The cotangent of the normalised input from all projections but the gates. -/
module

public import proofs.«01_k».proof.Proof.Gen.DHMainIdeal.Value
public import proofs.«01_k».proof.Proof.Gen.DHMainRefIdeal.Run
public import proofs.«01_k».proof.Proof.Gen.DHMainRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.DHMainProof

open Cert.DHMainIdeal Cert.DHMainIdeal.Gen

variable (m : (ℓ : Loc nD τ sig) → Buf (Elt Ideal) ℓ)

/-- Where the blocks of point `t` sit: the contraction is walked in four parts. -/
theorem idx : ∀ t : Fin cfg0.N, win0_0.index t = ![t.val / 8, t.val % 4]
    ∧ win0_1.index t = ![t.val % 4, t.val / 4 % 2] ∧ win0_2.index t = ![t.val / 8, t.val / 4 % 2] :=
  (by decide +kernel : ∀ t : Fin grid0.N, _)

/-- The first part's product. -/
theorem first (x0 x1 j) : k0_pay2 (F := Ideal) x0 x1 j
    = ∑ k : Fin 1664, x0 (ix2 (j 0) k) * x1 (ix2 k (j 1)) := by pointwise [k0_pay2, k0_pay1]

/-- A later part's, on top of what stands there. -/
theorem next (x0 x1 a j) : k0_pay3 (F := Ideal) x0 x1 a j
    = a j + ∑ k : Fin 1664, x0 (ix2 (j 0) k) * x1 (ix2 k (j 1)) := by pointwise [k0_pay3, k0_pay1]

/-- The weight's block at point `t`, element by element: no block overhangs the array's end. -/
theorem weight (c : Dev nD) (t : Fin cfg0.N) (j : S1664x1024.Idx) (i : S10256x2048.Idx)
    (h0 : (i 0 : ℕ) = t.val % 4 * 1664 + j 0) (h1 : (i 1 : ℕ) = t.val / 4 % 2 * 1024 + j 1) :
    X0_1 m c t j = m ((c : Thread nD τ).loc main_arg1) i := by
  unfold X0_1 Pipeline.Window.fill
  rw [dif_pos (moved0_1 t j)]
  blk_ext [iblk, V, idx t]

/-- The last point of a block writes the accumulated product out. -/
theorem last (c : Dev nD) (t : Fin cfg0.N) (h : t.val % 4 = 3) :
    (outsAt0 m c t.val t.isLt).1 = (outsAt0 m c t.val t.isLt).2 := by
  rw [outsAt0_C m c t (by omega) (by omega) h]
  frame_out

/-- The cotangent of the normalised input, the gates left out. -/
theorem final (c : Dev nD) : (dats m 0 c).arrAt 2 (cfgs 0).N
    = Cert.DHMainRefIdeal.Read.val_main_v6 (F := Ideal) (m ((c : Thread nD τ).loc main_arg0)) (m ((c : Thread nD τ).loc main_arg1)) := by
  refine (dats m 0 c).arrAt_eq_of_covers 2 _ (by decide +kernel) fun t hf y => ?_
  rw [← Cert.DHMainRefIdeal.Read.val_main_v6_eq]
  have h3 := (flush0_2 t).mp hf
  blk_simp
  rw [after0_2, last m c t h3, Pipeline.eq_sum_fin_of_reset_step_apply_of_flush (fun n h => (outsAt0 m c n h).2) 4 (fun _ => 0) _
    (fun t h j => by rw [outsAt0_A m c t h (by omega) (by omega)]; frame_out; rw [first, zero_add])
    (fun t h j => by
      by_cases h' : t.val % 4 = 3
      · rw [outsAt0_C m c t h (by omega) h']; frame_out; rw [next, read_unread_whole]
      · rw [outsAt0_B m c t h (by omega) h']; frame_out; rw [next, read_unread_whole])
    t h3 _, zero_add]
  pointwise
  refine Fin.sum_mul_add_congr fun s k hl => ?_
  rw [weight m c _ _ (ix2 ⟨↑s * 1664 + ↑k, by omega⟩ ((win0_2.blk t).view.emb y 1))]
  · blk_point [iblk, V, idx t, idx ⟨_, Pipeline.run_point_lt_of_flush t h3 s⟩]
  · have hs := s.isLt
    show (s : ℕ) * 1664 + (k : ℕ) = (4 * (t.val / 4) + (s : ℕ)) % 4 * 1664 + (k : ℕ)
    omega
  · have hs := s.isLt
    blk_simp [idx t]
    show t.val / 4 % 2 * 1024 + (y 1 : ℕ) = (4 * (t.val / 4) + (s : ℕ)) / 4 % 2 * 1024 + (y 1 : ℕ)
    rw [show (4 * (t.val / 4) + (s : ℕ)) / 4 = t.val / 4 by omega]

/-- Every run of the reference ends, its arguments unchanged and no signal left. -/
theorem frame_ref : Cert.quiescent_DHMainRefIdeal := fun m g _ =>
  (θ_run Cert.DHMainRefIdeal.defs _ _).mono
    (fun r h => ⟨fun c => (h c).2, sem_eq_zero_of_no_sems (by decide) r.2⟩)
    (Cert.DHMainRefIdeal.Value.run (F := Ideal) m g)

/-- The call's result is the reference's. -/
theorem values : Cert.algebraic_DHMainIdeal_DHMainRefIdeal := by
  pair_intro
  · run_from Cert.DHMainIdeal.Value.run_blocks m g
  · run_from Cert.DHMainRefIdeal.Value.run m' g'
    · exact (Cert.DHMainRefIdeal.Read.val_main_v6_eq _ _).trans (final m c).symm

end Cert.DHMainProof
-- ==== Proof.DH.lean ====
/- The cotangent of the normalised input: what the gates contribute, added to the rest. -/
module

public import proofs.«01_k».proof.Proof.Gen.DHIdeal.Value
public import proofs.«01_k».proof.Proof.Gen.DHRefIdeal.Run
public import proofs.«01_k».proof.Proof.Gen.DHRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.DHProof

open Cert.DHIdeal Cert.DHIdeal.Gen

variable (m : (ℓ : Loc nD τ sig) → Buf (Elt Ideal) ℓ)

/-- Where the blocks of point `t` sit: the contraction is walked in two halves. -/
theorem idx : ∀ t : Fin cfg0.N, win0_0.index t = ![t.val / 4, t.val % 2]
    ∧ win0_1.index t = ![t.val % 2, t.val / 2 % 2] ∧ win0_2.index t = ![t.val / 4, t.val / 2 % 2]
    ∧ win0_3.index t = ![t.val / 4, t.val / 2 % 2] :=
  (by decide +kernel : ∀ t : Fin grid0.N, _)

/-- The first half's product. -/
theorem first (x0 x1 j) : k0_pay2 (F := Ideal) x0 x1 j
    = ∑ k : Fin 2048, x0 (ix2 (j 0) k) * x1 (ix2 k (j 1)) := by pointwise [k0_pay2, k0_pay1]

/-- The second half's, on top of what stands there. -/
theorem next (x0 x1 a j) : k0_pay3 (F := Ideal) x0 x1 a j
    = a j + ∑ k : Fin 2048, x0 (ix2 (j 0) k) * x1 (ix2 k (j 1)) := by pointwise [k0_pay3, k0_pay1]

/-- The last point of a block adds what came from the other projections to the accumulated product. -/
theorem last (c : Dev nD) (t : Fin cfg0.N) (h : t.val % 2 = 1) (j) :
    (outsAt0 m c t.val t.isLt).1 j = (outsAt0 m c t.val t.isLt).2 j + iblk m c 2 t j := by
  rw [outsAt0_B m c t (by omega) h h]
  frame_out
  pointwise [k0_pay4]

/-- The cotangent of the normalised input. -/
theorem final (c : Dev nD) : (dats m 0 c).arrAt 3 (cfgs 0).N
    = Cert.DHRefIdeal.Read.val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [← Cert.DHRefIdeal.Read.val_main_v6_eq]
  have h1 := (flush0_3 t).mp hf
  blk_simp
  rw [after0_3, last m c t h1, Pipeline.eq_sum_fin_of_reset_step_apply_of_flush (fun n h => (outsAt0 m c n h).2) 2 (fun _ => 0) _
    (fun t h j => by rw [outsAt0_A m c t h (by omega) (by omega)]; frame_out; rw [first, zero_add])
    (fun t h j => by rw [outsAt0_B m c t h (by omega) (by omega)]; frame_out; rw [next, read_unread_whole])
    t h1 _, zero_add]
  pointwise
  congr 1
  · refine Fin.sum_mul_add_congr fun s k hl => ?_
    blk_point [iblk, V, idx t, idx ⟨_, Pipeline.run_point_lt_of_flush t h1 s⟩]

/-- Every run of the reference ends, its arguments unchanged and no signal left. -/
theorem frame_ref : Cert.quiescent_DHRefIdeal := fun m g _ =>
  (θ_run Cert.DHRefIdeal.defs _ _).mono
    (fun r h => ⟨fun c => (h c).2, sem_eq_zero_of_no_sems (by decide) r.2⟩)
    (Cert.DHRefIdeal.Value.run (F := Ideal) m g)

/-- The call's result is the reference's. -/
theorem values : Cert.algebraic_DHIdeal_DHRefIdeal := by
  pair_intro
  · run_from Cert.DHIdeal.Value.run_blocks m g
  · run_from Cert.DHRefIdeal.Value.run m' g'
    · exact (Cert.DHRefIdeal.Read.val_main_v6_eq _ _ _).trans (final m c).symm

end Cert.DHProof
-- ==== Proof.Rms.lean ====
/- The gradient through the root mean square normalisation, the residual's cotangent added. -/
module

public import proofs.«01_k».proof.Proof.Gen.RmsIdeal.Value
public import proofs.«01_k».proof.Proof.Gen.RmsRefIdeal.Run
public import proofs.«01_k».proof.Proof.Gen.RmsRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.RmsProof

open Cert.RmsIdeal Cert.RmsIdeal.Gen

variable (m : (ℓ : Loc nD τ sig) → Buf (Elt Ideal) ℓ)

/-- Where the blocks of point `t` sit: 256 rows a point; the weight and its gradient are one block throughout. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The part of the weight's gradient that a block of rows adds. -/
theorem part (x0 x2 : Vec Ideal S256x2048 .f32) (a : Vec Ideal S1x2048 .f32) (j) : k0_pay2 (F := Ideal) (k0_pay5 x0 x2) a j
    = a j + ∑ k : Fin 256, (x0 (ix2 k (j 1)) * k0_pay4 (F := Ideal) x0 (ix2 k 0)) * x2 (ix2 k (j 1)) := by
  pointwise [k0_pay2, k0_pay5]

/-- Nothing is there at first. -/
theorem zero (j) : k0_pay1 (F := Ideal) j = 0 := by pointwise [k0_pay1]

/-- The gradient of the input. -/
theorem final_x (c : Dev nD) : (dats m 0 c).arrAt 4 (cfgs 0).N
    = Cert.RmsRefIdeal.Read.val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [← Cert.RmsRefIdeal.Read.val_main_v34_eq]
  blk_simp
  rw [after0_4]
  by_cases h : t.val % 8 = 0
  · rw [outsAt0_A m c t h]; frame_out
    pointwise [k0_pay6, k0_pay4, k0_pay3]
    blk_point [iblk, V, idx t]
  · rw [outsAt0_B m c t h]; frame_out
    pointwise [k0_pay6, k0_pay4, k0_pay3]
    blk_point [iblk, V, idx t]

/-- The gradient of the weight. -/
theorem final_w (c : Dev nD) : (dats m 0 c).arrAt 5 (cfgs 0).N
    = Cert.RmsRefIdeal.Read.val_main_v17 (F := Ideal) (m ((c : Thread nD τ).loc main_arg0)) (m ((c : Thread nD τ).loc main_arg2)) := by
  refine (dats m 0 c).arrAt_eq_of_covers 5 _ (by decide +kernel) fun t hf y => ?_
  rw [← Cert.RmsRefIdeal.Read.val_main_v17_eq]
  have h3 := (flush0_5 t).mp hf
  blk_simp
  rw [after0_5, Pipeline.eq_sum_fin_of_reset_step_apply_of_flush (fun n h => (outsAt0 m c n h).2) 8 (fun _ => 0) _
    (fun t h j => by rw [outsAt0_A m c t h]; frame_out; rw [part, zero])
    (fun t h j => by rw [outsAt0_B m c t h]; frame_out; rw [part])
    t h3 _, zero_add]
  pointwise [k0_pay4, k0_pay3]
  refine Fin.sum_mul_add_congr fun s k hl => ?_
  blk_point [iblk, V, idx t, idx ⟨_, Pipeline.run_point_lt_of_flush t h3 s⟩]

/-- Every run of the reference ends, its arguments unchanged and no signal left. -/
theorem frame_ref : Cert.quiescent_RmsRefIdeal := fun m g _ =>
  (θ_run Cert.RmsRefIdeal.defs _ _).mono
    (fun r h => ⟨fun c => (h c).2.2, sem_eq_zero_of_no_sems (by decide) r.2⟩)
    (Cert.RmsRefIdeal.Value.run (F := Ideal) m g)

/-- The call's results are the reference's. -/
theorem values : Cert.algebraic_RmsIdeal_RmsRefIdeal := by
  pair_intro
  · run_from Cert.RmsIdeal.Value.run_blocks m g
  · refine θ_run_mono (Cert.RmsRefIdeal.Value.run m' g') fun r hr c => ⟨(hr c).1.trans ?_, (hr c).2.1.trans ?_, (hr c).2.2⟩
    all_goals obtain ⟨h0, h1, h2, h3⟩ := hagree c
    · rw [h0, h1, h2, h3]
      exact (Cert.RmsRefIdeal.Read.val_main_v34_eq _ _ _ _).trans (final_x m c).symm
    · rw [h0, h2]
      exact (Cert.RmsRefIdeal.Read.val_main_v17_eq _ _).trans (final_w m c).symm

end Cert.RmsProof
-- ==== Proof.Final.lean ====
/- The closing normalisation, the loss and the gradients that the step begins with. -/
module

public import proofs.«01_k».proof.Proof.Gen.FinalIdeal.Value
public import proofs.«01_k».proof.Proof.Gen.FinalRefIdeal.Run
public import proofs.«01_k».proof.Proof.Gen.FinalRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.FinalProof

open Cert.FinalIdeal Cert.FinalIdeal.Gen

variable (m : (ℓ : Loc nD τ sig) → Buf (Elt Ideal) ℓ)

open Cert.FinalRefIdeal.Read

/-- Where the blocks of point `t` sit: 256 rows a point; the weight, its gradient and the loss are one block throughout. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![0, 0] ∧ win0_7.index t = ![0, 0] :=
  (by decide +kernel : ∀ t : Fin grid0.N, _)

/-- A number and itself are twice the number. -/
theorem double (x : EReal) : x + x = 2 * x := by
  induction x with
  | bot => rw [EReal.bot_add, EReal.mul_bot_of_pos (by norm_num)]
  | top => rw [EReal.top_add_top, EReal.mul_top_of_pos (by norm_num)]
  | coe r => rw [← EReal.coe_add, ← two_mul, EReal.coe_mul]; rfl

/-- The product rule's two terms for a square are the derivative `2 x`. -/
theorem square (e c : EReal) : e * c + c * e = c * (Ideal.ofBits .f32 0x40000000#32 * e) := by
  rw [show Ideal.ofBits .f32 0x40000000#32 = (2 : EReal) by simp [Ideal.ofBits, Ideal.ieee, -EReal.coe_mul]; norm_num; rfl,
    mul_comm e c, double, mul_left_comm]

/-- A factor that is neither negative nor infinite goes into a sum. -/
theorem scale_sum {n : ℕ} (f : Fin n → EReal) :
    Ideal.ofBits .f32 0x3F000000#32 * ∑ k, f k = ∑ k, Ideal.ofBits .f32 0x3F000000#32 * f k := by
  have h : Ideal.ofBits .f32 0x3F000000#32 = ((1 / 2 : ℝ) : EReal) := by
    simp [Ideal.ofBits, Ideal.ieee, -EReal.coe_mul]; norm_num
  rw [h]
  exact map_sum (⟨⟨fun x : EReal => ((1 / 2 : ℝ) : EReal) * x, mul_zero _⟩, fun x y =>
    EReal.left_distrib_of_nonneg_of_ne_top (by exact_mod_cast (by norm_num : (0 : ℝ) ≤ 1 / 2)) (EReal.coe_ne_top _) x y⟩ : EReal →+ EReal) f _

/-- What the error is worth in the loss. -/
def weight : EReal := Ideal.div (Ideal.ofBits .f32 0x3F000000#32 * Ideal.ofBits .f32 0x3F800000#32) (Ideal.ofBits .f32 0x45000000#32)

/-- The loss's gradient at the prediction. -/
theorem grad (x0 x1 x3 : Vec Ideal S256x2048 .f32) (x2 : Vec Ideal S1x2048 .f32) : k0_pay8 (F := Ideal) x0 x1 x3 x2
    = fun j => weight * (Ideal.ofBits .f32 0x40000000#32 * k0_pay6 (F := Ideal) x0 x1 x3 x2 j) := by
  funext j
  rw [← square]
  pointwise [k0_pay8, weight]
  simp only [Fin.sum_univ_one]

/-- The part of the weight's gradient that a block of rows adds. -/
theorem part_w (z : Vec Ideal S256x2048 .f32) (a : Vec Ideal S1x2048 .f32) (j) : k0_pay14 (F := Ideal) z a j
    = a j + ∑ k : Fin 256, z (ix2 k (j 1)) := by
  pointwise [k0_pay14]

/-- The part of the loss that a block of rows adds. -/
theorem part_l (z : Vec Ideal S256x1 .f32) (a : Vec Ideal S1x1 .f32) (j) : k0_pay15 (F := Ideal) z a j
    = a j + ∑ k : Fin 256, z (ix2 k 0) := by
  pointwise [k0_pay15]

/-- No gradient is there at first. -/
theorem zero_w (j) : k0_pay12 (F := Ideal) j = 0 := by pointwise [k0_pay12]

/-- No loss either. -/
theorem zero_l (j) : k0_pay13 (F := Ideal) j = 0 := by pointwise [k0_pay13]

/-- The gradient of the input. -/
theorem final_x (c : Dev nD) : (dats m 0 c).arrAt 4 (cfgs 0).N
    = val_main_v49 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 8 = 0
  · rw [outsAt0_A m c t h]; frame_out
    rw [grad]
    pointwise [k0_pay10, k0_pay6, k0_pay5, k0_pay4, k0_pay3, k0_pay2, k0_pay1, weight,
      val_main_v0, val_main_v1, val_main_v2, val_main_v3, val_main_v4, val_main_v5, val_main_v6, val_main_v7, val_main_v8, val_main_v9, val_main_v10, val_main_v11, val_main_v12, val_main_v13, val_main_v14, val_main_v15, val_main_v16, val_main_v18, val_main_v19, val_main_v25, val_main_v26, val_main_v27, val_main_v28, val_main_v29, val_main_v30, val_main_v34, val_main_v35, val_main_v36, val_main_v37, val_main_v38, val_main_v39, val_main_v40, val_main_v41, val_main_v42, val_main_v43, val_main_v44, val_main_v45, val_main_v46, val_main_v47, val_main_v48, val_main_v49, val_main_cst, val_main_cst_0, val_main_cst_1, val_main_cst_2, val_main_cst_3, val_main_cst_8, val_main_cst_9, val_main_cst_10, val_main_cst_12, val_main_cst_13, val_main_cst_14]
    blk_point [iblk, V, idx t]
  · rw [outsAt0_B m c t h]; frame_out
    rw [grad]
    pointwise [k0_pay10, k0_pay6, k0_pay5, k0_pay4, k0_pay3, k0_pay2, k0_pay1, weight,
      val_main_v0, val_main_v1, val_main_v2, val_main_v3, val_main_v4, val_main_v5, val_main_v6, val_main_v7, val_main_v8, val_main_v9, val_main_v10, val_main_v11, val_main_v12, val_main_v13, val_main_v14, val_main_v15, val_main_v16, val_main_v18, val_main_v19, val_main_v25, val_main_v26, val_main_v27, val_main_v28, val_main_v29, val_main_v30, val_main_v34, val_main_v35, val_main_v36, val_main_v37, val_main_v38, val_main_v39, val_main_v40, val_main_v41, val_main_v42, val_main_v43, val_main_v44, val_main_v45, val_main_v46, val_main_v47, val_main_v48, val_main_v49, val_main_cst, val_main_cst_0, val_main_cst_1, val_main_cst_2, val_main_cst_3, val_main_cst_8, val_main_cst_9, val_main_cst_10, val_main_cst_12, val_main_cst_13, val_main_cst_14]
    blk_point [iblk, V, idx t]

/-- The gradient of the weight. -/
theorem final_w (c : Dev nD) : (dats m 0 c).arrAt 7 (cfgs 0).N
    = val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  rw [← val_main_v33_eq]
  have h3 := (flush0_7 t).mp hf
  blk_simp
  rw [after0_7, Pipeline.eq_sum_fin_of_reset_step_apply_of_flush (fun n h => (outsAt0 m c n h).2.2.2) 8 (fun _ => 0) _
    (fun t h j => by rw [outsAt0_A m c t h]; frame_out; rw [part_w, zero_w])
    (fun t h j => by rw [outsAt0_B m c t h]; frame_out; rw [part_w])
    t h3 _, zero_add]
  unfold k0_pay9
  simp only [grad]
  pointwise [k0_pay6, k0_pay5, k0_pay4, k0_pay3, k0_pay2, k0_pay1, weight]
  refine Fin.sum_mul_add_congr fun s k hl => ?_
  blk_point [iblk, V, idx t, idx ⟨_, Pipeline.run_point_lt_of_flush t h3 s⟩]

/-- The reference's loss: half the sum over the rows of the mean square error. -/
theorem ref_loss (x0 x1 : (⟨Cert.FinalRefIdeal.S2048x2048, .f32⟩ : BufTy).Contents (Elt Ideal)) (x2 : (⟨Cert.FinalRefIdeal.S1x2048, .f32⟩ : BufTy).Contents (Elt Ideal))
    (x3 : (⟨Cert.FinalRefIdeal.S2048x2048, .f32⟩ : BufTy).Contents (Elt Ideal)) (i) : val_main_v50 (F := Ideal) x0 x1 x2 x3 i
    = ∑ k : Fin 2048, Ideal.ofBits .f32 0x3F000000#32 * val_main_v22 (F := Ideal) x0 x1 x2 x3 (fun a => match a with | ⟨0, _⟩ => k) := by
  show val_main_v24 (F := Ideal) x0 x1 x2 x3 _ = _
  rw [val_main_v24_apply, val_main_v23_apply, ← scale_sum]
  refine congrArg (Ideal.ofBits .f32 0x3F000000#32 * ·) ?_
  rw [show val_main_cst_6 (F := Ideal) (Shape.Idx.first Cert.FinalRefIdeal.Gen.h_S_) = 0 from by
    simp [val_main_cst_6, constant, Ideal.ofBits, Ideal.ieee], zero_add]
  exact (Fintype.sum_equiv ⟨fun (k : Fin 2048) => ((fun a => match a with | ⟨0, _⟩ => k) : Cert.FinalRefIdeal.S2048.Idx), fun j => j 0, fun _ => rfl, fun j => funext fun a => by
    match a with | ⟨0, _⟩ => rfl⟩ _ _ fun _ => rfl).symm

/-- The loss. -/
theorem final_l (c : Dev nD) : (dats m 0 c).arrAt 6 (cfgs 0).N
    = val_main_v50 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have h3 := (flush0_6 t).mp hf
  blk_simp
  rw [after0_6, Pipeline.eq_sum_fin_of_reset_step_apply_of_flush (fun n h => (outsAt0 m c n h).2.2.1) 8 (fun _ => 0) _
    (fun t h j => by rw [outsAt0_A m c t h]; frame_out; rw [part_l, zero_l])
    (fun t h j => by rw [outsAt0_B m c t h]; frame_out; rw [part_l])
    t h3 _, zero_add]
  rw [ref_loss]
  pointwise [k0_pay7, k0_pay6, k0_pay5, k0_pay4, k0_pay3, k0_pay2, k0_pay1, val_main_v0, val_main_v1, val_main_v2, val_main_v3, val_main_v4, val_main_v5, val_main_v6, val_main_v7, val_main_v8, val_main_v12, val_main_v13, val_main_v14, val_main_v15, val_main_v16, val_main_v17, val_main_v20, val_main_v21, val_main_v22, val_main_cst, val_main_cst_0, val_main_cst_1, val_main_cst_4, val_main_cst_5]
  refine Fin.sum_mul_add_congr fun s k hl => ?_
  blk_point [iblk, V, idx t, idx ⟨_, Pipeline.run_point_lt_of_flush t h3 s⟩]

/-- Every run of the reference ends, its arguments unchanged and no signal left. -/
theorem frame_ref : Cert.quiescent_FinalRefIdeal := fun m g _ =>
  (θ_run Cert.FinalRefIdeal.defs _ _).mono
    (fun r h => ⟨fun c => (h c).2.2.2, sem_eq_zero_of_no_sems (by decide) r.2⟩)
    (Cert.FinalRefIdeal.Value.run (F := Ideal) m g)

/-- The call's results are the reference's. -/
theorem values : Cert.algebraic_FinalIdeal_FinalRefIdeal := by
  pair_intro
  · run_from Cert.FinalIdeal.Value.run_blocks m g
  · refine θ_run_mono (Cert.FinalRefIdeal.Value.run m' g') fun r hr c =>
      ⟨(hr c).1.trans ?_, (hr c).2.1.trans ?_, (hr c).2.2.1.trans ?_, (hr c).2.2.2⟩
    all_goals obtain ⟨h0, h1, h2, h3⟩ := hagree c
    · rw [val_main_v49_eq, h0, h1, h2, h3]
      exact (final_x m c).symm
    · rw [h0, h1, h2, h3]
      exact (val_main_v50_eq _ _ _ _).trans (final_l m c).symm
    · rw [h0, h1, h2, h3]
      exact (val_main_v33_eq _ _ _ _).trans (final_w m c).symm

end Cert.FinalProof
-- ==== Proof.Slots.lean ====
/- The sum of the small gradients over the eight devices. -/
module

public import proofs.«01_k».proof.Proof.Gen.SlotsIdeal.Value
public import proofs.«01_k».proof.Proof.Gen.SlotsRefIdeal.Run
public import proofs.«01_k».proof.Proof.Gen.SlotsRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.SlotsProof

open Cert.SlotsIdeal Cert.SlotsIdeal.Gen

variable (m : (ℓ : Loc nD τ sig) → Buf (Elt Ideal) ℓ)

/-- Where the blocks of point `t` sit. -/
theorem idx : ∀ t : Fin cfg0.N, win0_0.index t = ![0, t.val, 0] ∧ win0_1.index t = ![t.val, 0] :=
  (by decide +kernel : ∀ t : Fin grid0.N, _)

/-- The sum of the eight devices' gradients. -/
theorem final (c : Dev nD) : (dats m 0 c).arrAt 1 (cfgs 0).N = Cert.SlotsRefIdeal.Read.val_main_v0 (F := Ideal) (m ((c : Thread nD τ).loc main_arg0)) := by
  refine (dats m 0 c).arrAt_eq_of_covers 1 _ (by decide +kernel) fun t _ y => ?_
  rw [← Cert.SlotsRefIdeal.Read.val_main_v0_eq]
  blk_simp
  rw [after0_1]; frame_out
  unfold_payloads
  pointwise
  rw [Fin.sum_univ_eight]
  blk_point [iblk, V, idx t]

/-- Every run of the reference ends, its arguments unchanged and no signal left. -/
theorem frame_ref : Cert.quiescent_SlotsRefIdeal := fun m g _ =>
  (θ_run Cert.SlotsRefIdeal.defs _ _).mono
    (fun r h => ⟨fun c => (h c).2, sem_eq_zero_of_no_sems (by decide) r.2⟩)
    (Cert.SlotsRefIdeal.Value.run (F := Ideal) m g)

/-- The call's result is the reference's. -/
theorem values : Cert.algebraic_SlotsIdeal_SlotsRefIdeal := by
  pair_intro
  · run_from Cert.SlotsIdeal.Value.run_blocks m g
  · refine θ_run_mono (Cert.SlotsRefIdeal.Value.run m' g') fun r hr c => ⟨(hr c).1.trans ?_, (hr c).2⟩
    rw [hagree c]
    exact (Cert.SlotsRefIdeal.Read.val_main_v0_eq _).trans (final m c).symm

end Cert.SlotsProof
-- ==== Proof.Adamw.lean ====
/- The update of the small parameters, packed in rows. -/
module

public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.AdamwProof

open Cert.AdamwIdeal Cert.AdamwIdeal.Gen

variable (m : (ℓ : Loc nD τ sig) → Buf (Elt Ideal) ℓ)

/-- Where the blocks of point `t` sit. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The first correction's factor is the inverse of the reference's divisor. -/
theorem by_bias1 (x : EReal) : x * Named.named (F := Ideal) κ "inv_bias1" (φ := .f32) 0x3FC48605#32
    = Ideal.div x (Ideal.ofBits .f32 0x3F26BD02#32) := by
  rw [show Ideal.ofBits .f32 0x3F26BD02#32 = ((5463681 / 8388608 : ℝ) : EReal) from ?_,
    Ideal.div_coe (by norm_num), IdealRules.named_const.ideal_named_scalar _ _ _ _ rfl, one_div_div]
  simp [Ideal.ofBits, Ideal.ieee, -EReal.coe_mul]; norm_num

/-- The second's too. -/
theorem by_bias2 (x : EReal) : x * Named.named (F := Ideal) κ "inv_bias2" (φ := .f32) 0x42C8E6D3#32
    = Ideal.div x (Ideal.ofBits .f32 0x3C231ACC#32) := by
  rw [show Ideal.ofBits .f32 0x3C231ACC#32 = ((2672307 / 268435456 : ℝ) : EReal) from ?_,
    Ideal.div_coe (by norm_num), IdealRules.named_const.ideal_named_scalar _ _ _ _ rfl, one_div_div]
  simp [Ideal.ofBits, Ideal.ieee, -EReal.coe_mul]; norm_num

/-- The gradient is passed on. -/
theorem final_g (c : Dev nD) : (dats m 0 c).arrAt 4 (cfgs 0).N = (m ((c : Thread nD τ).loc main_arg3)) := by
  refine (dats m 0 c).arrAt_eq_of_covers 4 _ (by decide +kernel) fun t _ y => ?_
  blk_simp
  rw [after0_4]; frame_out
  pointwise [k0_pay2]
  blk_point [iblk, V, idx t]

/-- The change of the weight. -/
theorem final_d (c : Dev nD) : (dats m 0 c).arrAt 5 (cfgs 0).N
    = Cert.AdamwRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  rw [← Cert.AdamwRefIdeal.Read.val_main_v23_eq]
  blk_simp
  rw [after0_5]; frame_out
  pointwise [k0_pay1, k0_pay6, k0_pay5, k0_pay4, k0_pay3, k0_pay2]
  rw [by_bias1, by_bias2]
  blk_point [iblk, V, idx t]

/-- The new first moment. -/
theorem final_m (c : Dev nD) : (dats m 0 c).arrAt 6 (cfgs 0).N
    = Cert.AdamwRefIdeal.Read.val_main_v4 (F := Ideal) (m ((c : Thread nD τ).loc main_arg1)) (m ((c : Thread nD τ).loc main_arg3)) := by
  refine (dats m 0 c).arrAt_eq_of_covers 6 _ (by decide +kernel) fun t _ y => ?_
  rw [← Cert.AdamwRefIdeal.Read.val_main_v4_eq]
  blk_simp
  rw [after0_6]; frame_out
  pointwise [k0_pay3, k0_pay2]
  blk_point [iblk, V, idx t]

/-- The new second moment. -/
theorem final_v (c : Dev nD) : (dats m 0 c).arrAt 7 (cfgs 0).N
    = Cert.AdamwRefIdeal.Read.val_main_v10 (F := Ideal) (m ((c : Thread nD τ).loc main_arg2)) (m ((c : Thread nD τ).loc main_arg3)) := by
  refine (dats m 0 c).arrAt_eq_of_covers 7 _ (by decide +kernel) fun t _ y => ?_
  rw [← Cert.AdamwRefIdeal.Read.val_main_v10_eq]
  blk_simp
  rw [after0_7]; frame_out
  pointwise [k0_pay4, k0_pay2]
  blk_point [iblk, V, idx t]

/-- Every run of the reference ends, its arguments unchanged and no signal left. -/
theorem frame_ref : Cert.quiescent_AdamwRefIdeal := fun m g _ =>
  (θ_run Cert.AdamwRefIdeal.defs _ _).mono
    (fun r h => ⟨fun c => (h c).2.2.2.2, sem_eq_zero_of_no_sems (by decide) r.2⟩)
    (Cert.AdamwRefIdeal.Value.run (F := Ideal) m g)

/-- The two named factors are what they were computed from. -/
theorem preserves : Cert.preserves_Adamw_AdamwIdeal :=
  ⟨IdealRules.named_const.statement κ "inv_bias1" .f32 _ _ rfl, IdealRules.named_const.statement κ "inv_bias2" .f32 _ _ rfl⟩

/-- The call's results are the reference's. -/
theorem values : Cert.algebraic_AdamwIdeal_AdamwRefIdeal := by
  pair_intro
  · run_from Cert.AdamwIdeal.Value.run_blocks m g
  · run_from Cert.AdamwRefIdeal.Value.run m' g'
    · exact (final_g m c).symm
    · exact (Cert.AdamwRefIdeal.Read.val_main_v23_eq _ _ _ _).trans (final_d m c).symm
    · exact (Cert.AdamwRefIdeal.Read.val_main_v4_eq _ _).trans (final_m m c).symm
    · exact (Cert.AdamwRefIdeal.Read.val_main_v10_eq _ _).trans (final_v m c).symm

end Cert.AdamwProof
-- ==== Proof.Chips.lean ====
/- Four chips' parts added up: each chip starts at its own and goes on with the others', the sum is the same. -/
module

public import Idealize.ShloMosaic.Lib.Claim
public import Idealize.ShloMosaic.Lib.Pointwise

@[expose] public section

namespace Cert.Chips

open Idealize.ShloMosaic

/-- A word the precondition admits is 0, 1, 2 or 3. -/
theorem small (b : BitVec 32) (h : IntOp.andi (IntOp.cmpi .sge b 0#32) (IntOp.cmpi .slt b 4#32) = 1#1) :
    b = 0#32 ∨ b = 1#32 ∨ b = 2#32 ∨ b = 3#32 := by
  simp only [IntOp.andi, IntOp.cmpi] at h
  have h0 : (0#32).sle b = true := by
    rcases hx : (0#32).sle b with _ | _
    · rw [hx] at h; revert h; cases b.slt 4#32 <;> decide
    · rfl
  have h1 : b.slt 4#32 = true := by
    rcases hx : b.slt 4#32 with _ | _
    · rw [hx] at h; revert h; cases (0#32).sle b <;> decide
    · rfl
  rw [BitVec.sle_iff_toInt_le, show (0#32).toInt = 0 from by decide] at h0
  rw [BitVec.slt_iff_toInt_lt, show (4#32).toInt = 4 from by decide] at h1
  have hb : BitVec.ofInt 32 b.toInt = b := BitVec.ofInt_toInt
  obtain hn | hn | hn | hn : b.toInt = 0 ∨ b.toInt = 1 ∨ b.toInt = 2 ∨ b.toInt = 3 := by omega
  all_goals rw [hn] at hb; rw [← hb]; decide

/-- The table of one word has one index. -/
theorem one (i : (⟨1, ![1]⟩ : Shape).Idx) : i = ix1 0 := by
  funext a; fin_cases a; exact Subsingleton.elim (α := Fin 1) _ _

/-- The slots chip `b` takes, in its order: its own, then the others'. -/
def slot (b : BitVec 32) (k : Fin 4) : Fin 4 := Fin.ofNat 4 (Scalar.xori b (BitVec.ofNat 32 k)).toNat

/-- They are the words the block specifications compute. -/
theorem slot_val {b : BitVec 32} (hb : b = 0#32 ∨ b = 1#32 ∨ b = 2#32 ∨ b = 3#32) (k : Fin 4) :
    (slot b k : ℕ) = (Scalar.xori b (BitVec.ofNat 32 k)).toNat := by
  rcases hb with rfl | rfl | rfl | rfl <;> revert k <;> decide

/-- Its own part and the others', in its order, are all four parts. -/
theorem parts {b : BitVec 32} (hb : b = 0#32 ∨ b = 1#32 ∨ b = 2#32 ∨ b = 3#32) (o l : Fin 4 → EReal) :
    o (slot b 0) + l (slot b 1) + l (slot b 2) + l (slot b 3)
      = ∑ k : Fin 4, Scalar.select (IntOp.cmpi .eq (BitVec.ofNat 32 k) b) (o k) (l k) := by
  rw [Fin.sum_univ_four]
  rcases hb with rfl | rfl | rfl | rfl
  · show o 0 + l 1 + l 2 + l 3 = o 0 + l 1 + l 2 + l 3; rfl
  · show o 1 + l 0 + l 3 + l 2 = l 0 + o 1 + l 2 + l 3; abel
  · show o 2 + l 3 + l 0 + l 1 = l 0 + l 1 + o 2 + l 3; abel
  · show o 3 + l 2 + l 1 + l 0 = l 0 + l 1 + l 2 + o 3; abel

end Cert.Chips
-- ==== Proof.UpdOut.lean ====
/- The update of `w_out`: the chips' parts of the gradient added up, then the optimiser's step. -/
module

public import proofs.«01_k».proof.Proof.Gen.UpdOut.Frame
public import proofs.«01_k».proof.Proof.Gen.UpdOutIdeal.Frame
public import proofs.«01_k».proof.Proof.Gen.UpdOutRefIdeal.Run
public import proofs.«01_k».proof.Proof.Gen.UpdOutRefIdeal.Read
public import proofs.«01_k».proof.Proof.Gen.Pre_chip_out
public import Idealize.ShloMosaic.Lib.Claim
public import Idealize.ShloMosaic.Lib.StableHlo.Predicate
public import Idealize.ShloMosaic.Lib.Pipeline.ValueKit
public import Idealize.ShloMosaic.Lib.Pipeline.Covers
public import Idealize.ShloMosaic.Lib.Pipeline.ReadBack
public import Idealize.ShloMosaic.Lib.Pointwise
public import proofs.«01_k».proof.Proof.Chips
public import proofs.«01_k».proof.Defs

@[expose] public section

set_option maxRecDepth 16384

noncomputable section

open Idealize.ShloMosaic Idealize.ShloMosaic.TcCoe Idealize.SL.Sem
open Idealize.ShloMosaic.Pipeline (Dat)

namespace Cert.UpdOutProof

open Cert.Chips

section
open Cert.UpdOut Cert.UpdOut.Gen

/-- A slot named by the chip's number lies in the exchange's array: the program's own run. -/
theorem ok_bits (m : (ℓ : Loc nD τ sig) → Buf (Elt Bits) ℓ) (h : Cert.Pre_UpdOut m) : Ok (F := Bits) m := by
  have e := small (tbl m 0 (ix1 0)) (congrFun (h 0) (ix1 0))
  have d : ∀ b : BitVec 32, b = tbl m 0 (ix1 0) → tbl m = (fun | ⟨0, _⟩ => fun _ => b | ⟨_ + 1, h⟩ => absurd h (by simp) : pre0.Contents (Elt Bits)) := by
    rintro b rfl; funext j x
    match j with
    | ⟨0, _⟩ => exact congrArg (tbl m 0) (one x)
  unfold Ok
  rcases e with e | e | e | e <;> rw [d _ e.symm] <;> decide +kernel

end

section
open Cert.UpdOutIdeal Cert.UpdOutIdeal.Gen

variable (m : (ℓ : Loc nD τ sig) → Buf (Elt Ideal) ℓ)

/-- The chip's number. -/
abbrev chip : BitVec 32 := m (((0 : Dev nD) : Thread nD τ).loc main_arg0) (ix1 0)

/-- It is one of four. -/
theorem chip_small (h : Cert.Pre_UpdOutIdeal m) : chip m = 0#32 ∨ chip m = 1#32 ∨ chip m = 2#32 ∨ chip m = 3#32 :=
  small _ (congrFun (h 0) (ix1 0))

/-- The idealised run's slots lie in the array too. -/
theorem ok_ideal (h : Cert.Pre_UpdOutIdeal m) : Ok (F := Ideal) m := by
  have d : ∀ b : BitVec 32, b = chip m → tbl m = (fun | ⟨0, _⟩ => fun _ => b | ⟨_ + 1, h⟩ => absurd h (by simp) : pre0.Contents (Elt Ideal)) := by
    rintro b rfl; funext j x
    match j with
    | ⟨0, _⟩ => exact congrArg (tbl m 0) (one x)
  unfold Ok
  rcases chip_small m h with e | e | e | e <;> rw [d _ e.symm] <;> decide +kernel

variable (hO : Ok m)

/-- Where element `y` of point `t`'s tile lies. -/
abbrev place (t : Fin (cfgM m hO).N) (y : S128x2048.Idx) : S256x2048.Idx := (((cfgM m hO).win 7).blk t).view.emb y

/-- Its coordinates. -/
theorem place_val (t : Fin (cfgM m hO).N) (y : S128x2048.Idx) (a : Fin 2) :
    (place m hO t y a : ℕ) = cc0_transform_7 (grid0.coords t) a * S128x2048.size a + y a :=
  ValueKit.view_emb_slice_whole_unit_val _ _ _ _ _ _

/-- The words a slot's block specification reads are the chip's number. -/
theorem table (x) : tbl m 0 x = chip m := congrArg (tbl m 0) (one x)

/-- The four slots' tiles: this chip's own part, then what landed from the others. -/
theorem slots (hb : chip m = 0#32 ∨ chip m = 1#32 ∨ chip m = 2#32 ∨ chip m = 3#32) (c : Dev nD) (t : Fin (cfgM m hO).N) (y : S128x2048.Idx) :
    iblk m hO c 3 t (ix3 0 (y 0) (y 1)) = m ((c : Thread nD τ).loc main_arg4) (ix3 (slot (chip m) 0) (place m hO t y 0) (place m hO t y 1))
    ∧ iblk m hO c 4 t (ix3 0 (y 0) (y 1)) = m ((c : Thread nD τ).loc main_arg5) (ix3 (slot (chip m) 1) (place m hO t y 0) (place m hO t y 1))
    ∧ iblk m hO c 5 t (ix3 0 (y 0) (y 1)) = m ((c : Thread nD τ).loc main_arg5) (ix3 (slot (chip m) 2) (place m hO t y 0) (place m hO t y 1))
    ∧ iblk m hO c 6 t (ix3 0 (y 0) (y 1)) = m ((c : Thread nD τ).loc main_arg5) (ix3 (slot (chip m) 3) (place m hO t y 0) (place m hO t y 1)) := by
  refine ⟨congrArg (m _) (funext fun a => Fin.ext ?_), congrArg (m _) (funext fun a => Fin.ext ?_),
    congrArg (m _) (funext fun a => Fin.ext ?_), congrArg (m _) (funext fun a => Fin.ext ?_)⟩ <;>
  · refine (ValueKit.view_emb_slice_whole_unit_val _ _ _ _ _ _).trans ?_
    fin_cases a
    · refine (Nat.mul_one _).trans (Eq.trans ?_ (slot_val hb _).symm)
      exact congrArg (fun b => (Scalar.xori b _).toNat) (table m _)
    · exact (place_val m hO t y 0).symm
    · exact (place_val m hO t y 1).symm

/-- Point `t`'s tiles of the chips' parts. -/
abbrev own (c : Dev nD) (t : Fin (cfgM m hO).N) : S1x128x2048.Idx → EReal := iblk m hO c 3 t
abbrev one_off (c : Dev nD) (t : Fin (cfgM m hO).N) : S1x128x2048.Idx → EReal := iblk m hO c 4 t
abbrev two_off (c : Dev nD) (t : Fin (cfgM m hO).N) : S1x128x2048.Idx → EReal := iblk m hO c 5 t
abbrev three_off (c : Dev nD) (t : Fin (cfgM m hO).N) : S1x128x2048.Idx → EReal := iblk m hO c 6 t

/-- So what the call adds up is the sum over the chips. -/
theorem sum_eq (hb : chip m = 0#32 ∨ chip m = 1#32 ∨ chip m = 2#32 ∨ chip m = 3#32) (c : Dev nD) (t : Fin (cfgM m hO).N) (y : S128x2048.Idx) :
    own m hO c t (ix3 0 (y 0) (y 1)) + one_off m hO c t (ix3 0 (y 0) (y 1)) + two_off m hO c t (ix3 0 (y 0) (y 1)) + three_off m hO c t (ix3 0 (y 0) (y 1))
      = ∑ k : Fin 4, (Scalar.select (IntOp.cmpi .eq (BitVec.ofNat 32 k) (chip m))
          (m ((c : Thread nD τ).loc main_arg4) (ix3 k (place m hO t y 0) (place m hO t y 1)))
          (m ((c : Thread nD τ).loc main_arg5) (ix3 k (place m hO t y 0) (place m hO t y 1))) : EReal) := by
  obtain ⟨h3, h4, h5, h6⟩ := slots m hO hb c t y
  unfold own one_off two_off three_off
  rw [h3, h4, h5, h6]
  exact parts hb (fun k => m ((c : Thread nD τ).loc main_arg4) (ix3 k _ _)) (fun k => m ((c : Thread nD τ).loc main_arg5) (ix3 k _ _))

/-- What a point leaves. -/
theorem out_eq (c : Dev nD) (t : Fin (cfgM m hO).N) : outsAt0 m hO c t
    = (k0_pay2 (F := Ideal) (iblk m hO c 3 t) (iblk m hO c 4 t) (iblk m hO c 5 t) (iblk m hO c 6 t),
      k0_pay1 (F := Ideal) (k0_pay3 (iblk m hO c 3 t) (iblk m hO c 4 t) (iblk m hO c 5 t) (iblk m hO c 6 t) (iblk m hO c 1 t))
        (k0_pay4 (iblk m hO c 3 t) (iblk m hO c 4 t) (iblk m hO c 5 t) (iblk m hO c 6 t) (iblk m hO c 2 t)) (iblk m hO c 0 t),
      k0_pay3 (F := Ideal) (iblk m hO c 3 t) (iblk m hO c 4 t) (iblk m hO c 5 t) (iblk m hO c 6 t) (iblk m hO c 1 t),
      k0_pay4 (F := Ideal) (iblk m hO c 3 t) (iblk m hO c 4 t) (iblk m hO c 5 t) (iblk m hO c 6 t) (iblk m hO c 2 t)) := by
  obtain ⟨B0, h0⟩ : ∃ B : S128x2048.Idx → Elt Ideal .f32, iblk m hO c 0 t = B := ⟨_, rfl⟩
  obtain ⟨B1, h1⟩ : ∃ B : S128x2048.Idx → Elt Ideal .f32, iblk m hO c 1 t = B := ⟨_, rfl⟩
  obtain ⟨B2, h2⟩ : ∃ B : S128x2048.Idx → Elt Ideal .f32, iblk m hO c 2 t = B := ⟨_, rfl⟩
  obtain ⟨B3, h3⟩ : ∃ B : S1x128x2048.Idx → Elt Ideal .bf16, iblk m hO c 3 t = B := ⟨_, rfl⟩
  obtain ⟨B4, h4⟩ : ∃ B : S1x128x2048.Idx → Elt Ideal .bf16, iblk m hO c 4 t = B := ⟨_, rfl⟩
  obtain ⟨B5, h5⟩ : ∃ B : S1x128x2048.Idx → Elt Ideal .bf16, iblk m hO c 5 t = B := ⟨_, rfl⟩
  obtain ⟨B6, h6⟩ : ∃ B : S1x128x2048.Idx → Elt Ideal .bf16, iblk m hO c 6 t = B := ⟨_, rfl⟩
  dsimp only [outsAt0]
  rw [h0, h1, h2, h3, h4, h5, h6]
  refine Prod.ext (funext fun y => ?_) (Prod.ext (funext fun y => ?_) (Prod.ext (funext fun y => ?_) (funext fun y => ?_)))
  all_goals frame_out
  all_goals simp only [Memref.IsWhole.read_unread]

/-- The first correction's factor is the inverse of the reference's divisor. -/
theorem by_bias1 (x : EReal) : x * Named.named (F := Ideal) κ "inv_bias1" (φ := .f32) 0x3FC48605#32
    = Ideal.div x (Ideal.ofBits .f32 0x3F26BD02#32) := by
  rw [show Ideal.ofBits .f32 0x3F26BD02#32 = ((5463681 / 8388608 : ℝ) : EReal) from ?_,
    Ideal.div_coe (by norm_num), IdealRules.named_const.ideal_named_scalar _ _ _ _ rfl, one_div_div]
  simp [Ideal.ofBits, Ideal.ieee, -EReal.coe_mul]; norm_num

/-- The second's too. -/
theorem by_bias2 (x : EReal) : x * Named.named (F := Ideal) κ "inv_bias2" (φ := .f32) 0x42C8E6D3#32
    = Ideal.div x (Ideal.ofBits .f32 0x3C231ACC#32) := by
  rw [show Ideal.ofBits .f32 0x3C231ACC#32 = ((2672307 / 268435456 : ℝ) : EReal) from ?_,
    Ideal.div_coe (by norm_num), IdealRules.named_const.ideal_named_scalar _ _ _ _ rfl, one_div_div]
  simp [Ideal.ofBits, Ideal.ieee, -EReal.coe_mul]; norm_num

/-- The tiles of the outputs cover their arrays. -/
theorem cov : ∀ β : (a : Fin 2) → Fin ((S256x2048.size a + S128x2048.size a - 1) / S128x2048.size a), ∃ i : grid0.Coords, ∀ a, cc0_transform_7 i a = β a := by
  decide +kernel

/-- The gradient. -/
theorem final_g (hb : chip m = 0#32 ∨ chip m = 1#32 ∨ chip m = 2#32 ∨ chip m = 3#32) (c : Dev nD) : (dats m hO 0 c).arrAt 7 (cfgM m hO).N
    = Cert.UpdOutRefIdeal.Read.val_main_v7 (F := Ideal) (m ((c : Thread nD τ).loc main_arg0)) (m ((c : Thread nD τ).loc main_arg4)) (m ((c : Thread nD τ).loc main_arg5)) := by
  refine (dats m hO 0 c).arrAt_eq_of_covers 7 _ (Pipeline.Window.covers_of_indexMap_surj _ rfl
    (show ∀ a : Fin 2, 0 < S128x2048.size a by decide) cov) fun t _ y => ?_
  obtain rfl : c = 0 := Subsingleton.elim _ _
  rw [← Cert.UpdOutRefIdeal.Read.val_main_v7_eq]
  change (dats m hO 0 0).after 7 t y = _
  rw [after0_7, out_eq]
  pointwise [k0_pay2]
  exact sum_eq m hO hb 0 t y

/-- The change of the weight. -/
theorem final_d (hb : chip m = 0#32 ∨ chip m = 1#32 ∨ chip m = 2#32 ∨ chip m = 3#32) (c : Dev nD) : (dats m hO 0 c).arrAt 8 (cfgM m hO).N
    = Cert.UpdOutRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (Pipeline.Window.covers_of_indexMap_surj _ rfl
    (show ∀ a : Fin 2, 0 < S128x2048.size a by decide) cov) fun t _ y => ?_
  obtain rfl : c = 0 := Subsingleton.elim _ _
  rw [← Cert.UpdOutRefIdeal.Read.val_main_v31_eq]
  change (dats m hO 0 0).after 8 t y = _
  rw [after0_8, out_eq]
  pointwise [k0_pay1, k0_pay2, k0_pay3, k0_pay4]
  rw [by_bias1, by_bias2, sum_eq m hO hb 0 t y]
  rfl

/-- The new first moment. -/
theorem final_m (hb : chip m = 0#32 ∨ chip m = 1#32 ∨ chip m = 2#32 ∨ chip m = 3#32) (c : Dev nD) : (dats m hO 0 c).arrAt 9 (cfgM m hO).N
    = Cert.UpdOutRefIdeal.Read.val_main_v12 (F := Ideal) (m ((c : Thread nD τ).loc main_arg0)) (m ((c : Thread nD τ).loc main_arg2)) (m ((c : Thread nD τ).loc main_arg4)) (m ((c : Thread nD τ).loc main_arg5)) := by
  refine (dats m hO 0 c).arrAt_eq_of_covers 9 _ (Pipeline.Window.covers_of_indexMap_surj _ rfl
    (show ∀ a : Fin 2, 0 < S128x2048.size a by decide) cov) fun t _ y => ?_
  obtain rfl : c = 0 := Subsingleton.elim _ _
  rw [← Cert.UpdOutRefIdeal.Read.val_main_v12_eq]
  change (dats m hO 0 0).after 9 t y = _
  rw [after0_9, out_eq]
  pointwise [k0_pay2, k0_pay3]
  rw [sum_eq m hO hb 0 t y]
  rfl

/-- The new second moment. -/
theorem final_v (hb : chip m = 0#32 ∨ chip m = 1#32 ∨ chip m = 2#32 ∨ chip m = 3#32) (c : Dev nD) : (dats m hO 0 c).arrAt 10 (cfgM m hO).N
    = Cert.UpdOutRefIdeal.Read.val_main_v18 (F := Ideal) (m ((c : Thread nD τ).loc main_arg0)) (m ((c : Thread nD τ).loc main_arg3)) (m ((c : Thread nD τ).loc main_arg4)) (m ((c : Thread nD τ).loc main_arg5)) := by
  refine (dats m hO 0 c).arrAt_eq_of_covers 10 _ (Pipeline.Window.covers_of_indexMap_surj _ rfl
    (show ∀ a : Fin 2, 0 < S128x2048.size a by decide) cov) fun t _ y => ?_
  obtain rfl : c = 0 := Subsingleton.elim _ _
  rw [← Cert.UpdOutRefIdeal.Read.val_main_v18_eq]
  change (dats m hO 0 0).after 10 t y = _
  rw [after0_10, out_eq]
  pointwise [k0_pay2, k0_pay4]
  rw [sum_eq m hO hb 0 t y]
  rfl

end

/-- The program's own run ends, its arguments unchanged and no signal left. -/
theorem frame : Cert.quiescent_UpdOut := fun m g h => Cert.UpdOut.Gen.frame m g (ok_bits m h)

/-- So does the idealised program's. -/
theorem frame_ideal : Cert.quiescent_UpdOutIdeal := fun m g h => Cert.UpdOutIdeal.Gen.frame m g (ok_ideal m h)

/-- Every run of the reference ends, its arguments unchanged and no signal left. -/
theorem frame_ref : Cert.quiescent_UpdOutRefIdeal := fun m g _ =>
  (θ_run Cert.UpdOutRefIdeal.defs _ _).mono
    (fun r h => ⟨fun c => (h c).2.2.2.2, sem_eq_zero_of_no_sems (by decide) r.2⟩)
    (Cert.UpdOutRefIdeal.Value.run (F := Ideal) m g)

/-- With the chip's number one of four too. -/
theorem frame_ref_pre : Cert.quiescent_UpdOutRefIdeal_pre_chip_out := fun m g _ => frame_ref m g trivial

/-- The two named factors are what they were computed from. -/
theorem preserves : Cert.preserves_UpdOut_UpdOutIdeal :=
  ⟨IdealRules.named_const.statement Cert.UpdOutIdeal.κ "inv_bias1" .f32 _ _ rfl, IdealRules.named_const.statement Cert.UpdOutIdeal.κ "inv_bias2" .f32 _ _ rfl⟩

open Cert.UpdOutIdeal Cert.UpdOutIdeal.Gen in
/-- The call's results are the reference's. -/
theorem values : Cert.algebraic_UpdOutIdeal_UpdOutRefIdeal := by
  intro m g m' g' hpre hagree
  have hO := ok_ideal m hpre
  have hb := chip_small m hpre
  refine ⟨fun c => (dats m hO 0 c).arrAt 7 (cfgM m hO).N, fun c => (dats m hO 0 c).arrAt 8 (cfgM m hO).N,
    fun c => (dats m hO 0 c).arrAt 9 (cfgM m hO).N, fun c => (dats m hO 0 c).arrAt 10 (cfgM m hO).N,
    (θ_run _ _ _).mono (fun r h c => ⟨(h.1 c).1 7, (h.1 c).1 8, (h.1 c).1 9, (h.1 c).1 10, h.2 c⟩)
      (θ_run_and (run_main m g hO) (unchanged m g hO)),
    θ_run_mono (Cert.UpdOutRefIdeal.Value.run m' g') fun r hr c => ⟨(hr c).1.trans ?_, (hr c).2.1.trans ?_, (hr c).2.2.1.trans ?_, (hr c).2.2.2.1.trans ?_, (hr c).2.2.2.2⟩⟩
  all_goals obtain ⟨h0, h1, h2, h3, h4, h5⟩ := hagree c
  · rw [h0, h4, h5]; exact (Cert.UpdOutRefIdeal.Read.val_main_v7_eq _ _ _).trans (final_g m hO hb c).symm
  · rw [h0, h1, h2, h3, h4, h5]; exact (Cert.UpdOutRefIdeal.Read.val_main_v31_eq _ _ _ _ _ _).trans (final_d m hO hb c).symm
  · rw [h0, h2, h4, h5]; exact (Cert.UpdOutRefIdeal.Read.val_main_v12_eq _ _ _ _).trans (final_m m hO hb c).symm
  · rw [h0, h3, h4, h5]; exact (Cert.UpdOutRefIdeal.Read.val_main_v18_eq _ _ _ _).trans (final_v m hO hb c).symm

end Cert.UpdOutProof
-- ==== Proof.UpdGlu.lean ====
/- The update of `s5_w_glu`: the chips' parts of the gradient added up, then the optimiser's step. -/
module

public import proofs.«01_k».proof.Proof.Gen.UpdGlu.Frame
public import proofs.«01_k».proof.Proof.Gen.UpdGluIdeal.Frame
public import proofs.«01_k».proof.Proof.Gen.UpdGluRefIdeal.Run
public import proofs.«01_k».proof.Proof.Gen.UpdGluRefIdeal.Read
public import proofs.«01_k».proof.Proof.Gen.Pre_chip_glu
public import Idealize.ShloMosaic.Lib.Claim
public import Idealize.ShloMosaic.Lib.StableHlo.Predicate
public import Idealize.ShloMosaic.Lib.Pipeline.ValueKit
public import Idealize.ShloMosaic.Lib.Pipeline.Covers
public import Idealize.ShloMosaic.Lib.Pipeline.ReadBack
public import Idealize.ShloMosaic.Lib.Pointwise
public import proofs.«01_k».proof.Proof.Chips
public import proofs.«01_k».proof.Defs

@[expose] public section

set_option maxRecDepth 16384

noncomputable section

open Idealize.ShloMosaic Idealize.ShloMosaic.TcCoe Idealize.SL.Sem
open Idealize.ShloMosaic.Pipeline (Dat)

namespace Cert.UpdGluProof

open Cert.Chips

section
open Cert.UpdGlu Cert.UpdGlu.Gen

/-- A slot named by the chip's number lies in the exchange's array: the program's own run. -/
theorem ok_bits (m : (ℓ : Loc nD τ sig) → Buf (Elt Bits) ℓ) (h : Cert.Pre_UpdGlu m) : Ok (F := Bits) m := by
  have e := small (tbl m 0 (ix1 0)) (congrFun (h 0) (ix1 0))
  have d : ∀ b : BitVec 32, b = tbl m 0 (ix1 0) → tbl m = (fun | ⟨0, _⟩ => fun _ => b | ⟨_ + 1, h⟩ => absurd h (by simp) : pre0.Contents (Elt Bits)) := by
    rintro b rfl; funext j x
    match j with
    | ⟨0, _⟩ => exact congrArg (tbl m 0) (one x)
  unfold Ok
  rcases e with e | e | e | e <;> rw [d _ e.symm] <;> decide +kernel

end

section
open Cert.UpdGluIdeal Cert.UpdGluIdeal.Gen

variable (m : (ℓ : Loc nD τ sig) → Buf (Elt Ideal) ℓ)

/-- The chip's number. -/
abbrev chip : BitVec 32 := m (((0 : Dev nD) : Thread nD τ).loc main_arg0) (ix1 0)

/-- It is one of four. -/
theorem chip_small (h : Cert.Pre_UpdGluIdeal m) : chip m = 0#32 ∨ chip m = 1#32 ∨ chip m = 2#32 ∨ chip m = 3#32 :=
  small _ (congrFun (h 0) (ix1 0))

/-- The idealised run's slots lie in the array too. -/
theorem ok_ideal (h : Cert.Pre_UpdGluIdeal m) : Ok (F := Ideal) m := by
  have d : ∀ b : BitVec 32, b = chip m → tbl m = (fun | ⟨0, _⟩ => fun _ => b | ⟨_ + 1, h⟩ => absurd h (by simp) : pre0.Contents (Elt Ideal)) := by
    rintro b rfl; funext j x
    match j with
    | ⟨0, _⟩ => exact congrArg (tbl m 0) (one x)
  unfold Ok
  rcases chip_small m h with e | e | e | e <;> rw [d _ e.symm] <;> decide +kernel

variable (hO : Ok m)

/-- Where element `y` of point `t`'s tile lies. -/
abbrev place (t : Fin (cfgM m hO).N) (y : S128x1024.Idx) : S128x1024.Idx := (((cfgM m hO).win 7).blk t).view.emb y

/-- Its coordinates. -/
theorem place_val (t : Fin (cfgM m hO).N) (y : S128x1024.Idx) (a : Fin 2) :
    (place m hO t y a : ℕ) = cc0_transform_7 (grid0.coords t) a * S128x1024.size a + y a :=
  ValueKit.view_emb_slice_whole_unit_val _ _ _ _ _ _

/-- The words a slot's block specification reads are the chip's number. -/
theorem table (x) : tbl m 0 x = chip m := congrArg (tbl m 0) (one x)

/-- The four slots' tiles: this chip's own part, then what landed from the others. -/
theorem slots (hb : chip m = 0#32 ∨ chip m = 1#32 ∨ chip m = 2#32 ∨ chip m = 3#32) (c : Dev nD) (t : Fin (cfgM m hO).N) (y : S128x1024.Idx) :
    iblk m hO c 3 t (ix3 0 (y 0) (y 1)) = m ((c : Thread nD τ).loc main_arg4) (ix3 (slot (chip m) 0) (place m hO t y 0) (place m hO t y 1))
    ∧ iblk m hO c 4 t (ix3 0 (y 0) (y 1)) = m ((c : Thread nD τ).loc main_arg5) (ix3 (slot (chip m) 1) (place m hO t y 0) (place m hO t y 1))
    ∧ iblk m hO c 5 t (ix3 0 (y 0) (y 1)) = m ((c : Thread nD τ).loc main_arg5) (ix3 (slot (chip m) 2) (place m hO t y 0) (place m hO t y 1))
    ∧ iblk m hO c 6 t (ix3 0 (y 0) (y 1)) = m ((c : Thread nD τ).loc main_arg5) (ix3 (slot (chip m) 3) (place m hO t y 0) (place m hO t y 1)) := by
  refine ⟨congrArg (m _) (funext fun a => Fin.ext ?_), congrArg (m _) (funext fun a => Fin.ext ?_),
    congrArg (m _) (funext fun a => Fin.ext ?_), congrArg (m _) (funext fun a => Fin.ext ?_)⟩ <;>
  · refine (ValueKit.view_emb_slice_whole_unit_val _ _ _ _ _ _).trans ?_
    fin_cases a
    · refine (Nat.mul_one _).trans (Eq.trans ?_ (slot_val hb _).symm)
      exact congrArg (fun b => (Scalar.xori b _).toNat) (table m _)
    · exact (place_val m hO t y 0).symm
    · exact (place_val m hO t y 1).symm

/-- Point `t`'s tiles of the chips' parts. -/
abbrev own (c : Dev nD) (t : Fin (cfgM m hO).N) : S1x128x1024.Idx → EReal := iblk m hO c 3 t
abbrev one_off (c : Dev nD) (t : Fin (cfgM m hO).N) : S1x128x1024.Idx → EReal := iblk m hO c 4 t
abbrev two_off (c : Dev nD) (t : Fin (cfgM m hO).N) : S1x128x1024.Idx → EReal := iblk m hO c 5 t
abbrev three_off (c : Dev nD) (t : Fin (cfgM m hO).N) : S1x128x1024.Idx → EReal := iblk m hO c 6 t

/-- So what the call adds up is the sum over the chips. -/
theorem sum_eq (hb : chip m = 0#32 ∨ chip m = 1#32 ∨ chip m = 2#32 ∨ chip m = 3#32) (c : Dev nD) (t : Fin (cfgM m hO).N) (y : S128x1024.Idx) :
    own m hO c t (ix3 0 (y 0) (y 1)) + one_off m hO c t (ix3 0 (y 0) (y 1)) + two_off m hO c t (ix3 0 (y 0) (y 1)) + three_off m hO c t (ix3 0 (y 0) (y 1))
      = ∑ k : Fin 4, (Scalar.select (IntOp.cmpi .eq (BitVec.ofNat 32 k) (chip m))
          (m ((c : Thread nD τ).loc main_arg4) (ix3 k (place m hO t y 0) (place m hO t y 1)))
          (m ((c : Thread nD τ).loc main_arg5) (ix3 k (place m hO t y 0) (place m hO t y 1))) : EReal) := by
  obtain ⟨h3, h4, h5, h6⟩ := slots m hO hb c t y
  unfold own one_off two_off three_off
  rw [h3, h4, h5, h6]
  exact parts hb (fun k => m ((c : Thread nD τ).loc main_arg4) (ix3 k _ _)) (fun k => m ((c : Thread nD τ).loc main_arg5) (ix3 k _ _))

/-- What a point leaves. -/
theorem out_eq (c : Dev nD) (t : Fin (cfgM m hO).N) : outsAt0 m hO c t
    = (k0_pay2 (F := Ideal) (iblk m hO c 3 t) (iblk m hO c 4 t) (iblk m hO c 5 t) (iblk m hO c 6 t),
      k0_pay1 (F := Ideal) (k0_pay3 (iblk m hO c 3 t) (iblk m hO c 4 t) (iblk m hO c 5 t) (iblk m hO c 6 t) (iblk m hO c 1 t))
        (k0_pay4 (iblk m hO c 3 t) (iblk m hO c 4 t) (iblk m hO c 5 t) (iblk m hO c 6 t) (iblk m hO c 2 t)) (iblk m hO c 0 t),
      k0_pay3 (F := Ideal) (iblk m hO c 3 t) (iblk m hO c 4 t) (iblk m hO c 5 t) (iblk m hO c 6 t) (iblk m hO c 1 t),
      k0_pay4 (F := Ideal) (iblk m hO c 3 t) (iblk m hO c 4 t) (iblk m hO c 5 t) (iblk m hO c 6 t) (iblk m hO c 2 t)) := by
  obtain ⟨B0, h0⟩ : ∃ B : S128x1024.Idx → Elt Ideal .f32, iblk m hO c 0 t = B := ⟨_, rfl⟩
  obtain ⟨B1, h1⟩ : ∃ B : S128x1024.Idx → Elt Ideal .f32, iblk m hO c 1 t = B := ⟨_, rfl⟩
  obtain ⟨B2, h2⟩ : ∃ B : S128x1024.Idx → Elt Ideal .f32, iblk m hO c 2 t = B := ⟨_, rfl⟩
  obtain ⟨B3, h3⟩ : ∃ B : S1x128x1024.Idx → Elt Ideal .bf16, iblk m hO c 3 t = B := ⟨_, rfl⟩
  obtain ⟨B4, h4⟩ : ∃ B : S1x128x1024.Idx → Elt Ideal .bf16, iblk m hO c 4 t = B := ⟨_, rfl⟩
  obtain ⟨B5, h5⟩ : ∃ B : S1x128x1024.Idx → Elt Ideal .bf16, iblk m hO c 5 t = B := ⟨_, rfl⟩
  obtain ⟨B6, h6⟩ : ∃ B : S1x128x1024.Idx → Elt Ideal .bf16, iblk m hO c 6 t = B := ⟨_, rfl⟩
  dsimp only [outsAt0]
  rw [h0, h1, h2, h3, h4, h5, h6]
  refine Prod.ext (funext fun y => ?_) (Prod.ext (funext fun y => ?_) (Prod.ext (funext fun y => ?_) (funext fun y => ?_)))
  all_goals frame_out
  all_goals simp only [Memref.IsWhole.read_unread]

/-- The first correction's factor is the inverse of the reference's divisor. -/
theorem by_bias1 (x : EReal) : x * Named.named (F := Ideal) κ "inv_bias1" (φ := .f32) 0x3FC48605#32
    = Ideal.div x (Ideal.ofBits .f32 0x3F26BD02#32) := by
  rw [show Ideal.ofBits .f32 0x3F26BD02#32 = ((5463681 / 8388608 : ℝ) : EReal) from ?_,
    Ideal.div_coe (by norm_num), IdealRules.named_const.ideal_named_scalar _ _ _ _ rfl, one_div_div]
  simp [Ideal.ofBits, Ideal.ieee, -EReal.coe_mul]; norm_num

/-- The second's too. -/
theorem by_bias2 (x : EReal) : x * Named.named (F := Ideal) κ "inv_bias2" (φ := .f32) 0x42C8E6D3#32
    = Ideal.div x (Ideal.ofBits .f32 0x3C231ACC#32) := by
  rw [show Ideal.ofBits .f32 0x3C231ACC#32 = ((2672307 / 268435456 : ℝ) : EReal) from ?_,
    Ideal.div_coe (by norm_num), IdealRules.named_const.ideal_named_scalar _ _ _ _ rfl, one_div_div]
  simp [Ideal.ofBits, Ideal.ieee, -EReal.coe_mul]; norm_num

/-- The tiles of the outputs cover their arrays. -/
theorem cov : ∀ β : (a : Fin 2) → Fin ((S128x1024.size a + S128x1024.size a - 1) / S128x1024.size a), ∃ i : grid0.Coords, ∀ a, cc0_transform_7 i a = β a := by
  decide +kernel

/-- The gradient. -/
theorem final_g (hb : chip m = 0#32 ∨ chip m = 1#32 ∨ chip m = 2#32 ∨ chip m = 3#32) (c : Dev nD) : (dats m hO 0 c).arrAt 7 (cfgM m hO).N
    = Cert.UpdGluRefIdeal.Read.val_main_v7 (F := Ideal) (m ((c : Thread nD τ).loc main_arg0)) (m ((c : Thread nD τ).loc main_arg4)) (m ((c : Thread nD τ).loc main_arg5)) := by
  refine (dats m hO 0 c).arrAt_eq_of_covers 7 _ (Pipeline.Window.covers_of_indexMap_surj _ rfl
    (show ∀ a : Fin 2, 0 < S128x1024.size a by decide) cov) fun t _ y => ?_
  obtain rfl : c = 0 := Subsingleton.elim _ _
  rw [← Cert.UpdGluRefIdeal.Read.val_main_v7_eq]
  change (dats m hO 0 0).after 7 t y = _
  rw [after0_7, out_eq]
  pointwise [k0_pay2]
  exact sum_eq m hO hb 0 t y

/-- The change of the weight. -/
theorem final_d (hb : chip m = 0#32 ∨ chip m = 1#32 ∨ chip m = 2#32 ∨ chip m = 3#32) (c : Dev nD) : (dats m hO 0 c).arrAt 8 (cfgM m hO).N
    = Cert.UpdGluRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (Pipeline.Window.covers_of_indexMap_surj _ rfl
    (show ∀ a : Fin 2, 0 < S128x1024.size a by decide) cov) fun t _ y => ?_
  obtain rfl : c = 0 := Subsingleton.elim _ _
  rw [← Cert.UpdGluRefIdeal.Read.val_main_v31_eq]
  change (dats m hO 0 0).after 8 t y = _
  rw [after0_8, out_eq]
  pointwise [k0_pay1, k0_pay2, k0_pay3, k0_pay4]
  rw [by_bias1, by_bias2, sum_eq m hO hb 0 t y]
  rfl

/-- The new first moment. -/
theorem final_m (hb : chip m = 0#32 ∨ chip m = 1#32 ∨ chip m = 2#32 ∨ chip m = 3#32) (c : Dev nD) : (dats m hO 0 c).arrAt 9 (cfgM m hO).N
    = Cert.UpdGluRefIdeal.Read.val_main_v12 (F := Ideal) (m ((c : Thread nD τ).loc main_arg0)) (m ((c : Thread nD τ).loc main_arg2)) (m ((c : Thread nD τ).loc main_arg4)) (m ((c : Thread nD τ).loc main_arg5)) := by
  refine (dats m hO 0 c).arrAt_eq_of_covers 9 _ (Pipeline.Window.covers_of_indexMap_surj _ rfl
    (show ∀ a : Fin 2, 0 < S128x1024.size a by decide) cov) fun t _ y => ?_
  obtain rfl : c = 0 := Subsingleton.elim _ _
  rw [← Cert.UpdGluRefIdeal.Read.val_main_v12_eq]
  change (dats m hO 0 0).after 9 t y = _
  rw [after0_9, out_eq]
  pointwise [k0_pay2, k0_pay3]
  rw [sum_eq m hO hb 0 t y]
  rfl

/-- The new second moment. -/
theorem final_v (hb : chip m = 0#32 ∨ chip m = 1#32 ∨ chip m = 2#32 ∨ chip m = 3#32) (c : Dev nD) : (dats m hO 0 c).arrAt 10 (cfgM m hO).N
    = Cert.UpdGluRefIdeal.Read.val_main_v18 (F := Ideal) (m ((c : Thread nD τ).loc main_arg0)) (m ((c : Thread nD τ).loc main_arg3)) (m ((c : Thread nD τ).loc main_arg4)) (m ((c : Thread nD τ).loc main_arg5)) := by
  refine (dats m hO 0 c).arrAt_eq_of_covers 10 _ (Pipeline.Window.covers_of_indexMap_surj _ rfl
    (show ∀ a : Fin 2, 0 < S128x1024.size a by decide) cov) fun t _ y => ?_
  obtain rfl : c = 0 := Subsingleton.elim _ _
  rw [← Cert.UpdGluRefIdeal.Read.val_main_v18_eq]
  change (dats m hO 0 0).after 10 t y = _
  rw [after0_10, out_eq]
  pointwise [k0_pay2, k0_pay4]
  rw [sum_eq m hO hb 0 t y]
  rfl

end

/-- The program's own run ends, its arguments unchanged and no signal left. -/
theorem frame : Cert.quiescent_UpdGlu := fun m g h => Cert.UpdGlu.Gen.frame m g (ok_bits m h)

/-- So does the idealised program's. -/
theorem frame_ideal : Cert.quiescent_UpdGluIdeal := fun m g h => Cert.UpdGluIdeal.Gen.frame m g (ok_ideal m h)

/-- Every run of the reference ends, its arguments unchanged and no signal left. -/
theorem frame_ref : Cert.quiescent_UpdGluRefIdeal := fun m g _ =>
  (θ_run Cert.UpdGluRefIdeal.defs _ _).mono
    (fun r h => ⟨fun c => (h c).2.2.2.2, sem_eq_zero_of_no_sems (by decide) r.2⟩)
    (Cert.UpdGluRefIdeal.Value.run (F := Ideal) m g)

/-- With the chip's number one of four too. -/
theorem frame_ref_pre : Cert.quiescent_UpdGluRefIdeal_pre_chip_glu := fun m g _ => frame_ref m g trivial

/-- The two named factors are what they were computed from. -/
theorem preserves : Cert.preserves_UpdGlu_UpdGluIdeal :=
  ⟨IdealRules.named_const.statement Cert.UpdGluIdeal.κ "inv_bias1" .f32 _ _ rfl, IdealRules.named_const.statement Cert.UpdGluIdeal.κ "inv_bias2" .f32 _ _ rfl⟩

open Cert.UpdGluIdeal Cert.UpdGluIdeal.Gen in
/-- The call's results are the reference's. -/
theorem values : Cert.algebraic_UpdGluIdeal_UpdGluRefIdeal := by
  intro m g m' g' hpre hagree
  have hO := ok_ideal m hpre
  have hb := chip_small m hpre
  refine ⟨fun c => (dats m hO 0 c).arrAt 7 (cfgM m hO).N, fun c => (dats m hO 0 c).arrAt 8 (cfgM m hO).N,
    fun c => (dats m hO 0 c).arrAt 9 (cfgM m hO).N, fun c => (dats m hO 0 c).arrAt 10 (cfgM m hO).N,
    (θ_run _ _ _).mono (fun r h c => ⟨(h.1 c).1 7, (h.1 c).1 8, (h.1 c).1 9, (h.1 c).1 10, h.2 c⟩)
      (θ_run_and (run_main m g hO) (unchanged m g hO)),
    θ_run_mono (Cert.UpdGluRefIdeal.Value.run m' g') fun r hr c => ⟨(hr c).1.trans ?_, (hr c).2.1.trans ?_, (hr c).2.2.1.trans ?_, (hr c).2.2.2.1.trans ?_, (hr c).2.2.2.2⟩⟩
  all_goals obtain ⟨h0, h1, h2, h3, h4, h5⟩ := hagree c
  · rw [h0, h4, h5]; exact (Cert.UpdGluRefIdeal.Read.val_main_v7_eq _ _ _).trans (final_g m hO hb c).symm
  · rw [h0, h1, h2, h3, h4, h5]; exact (Cert.UpdGluRefIdeal.Read.val_main_v31_eq _ _ _ _ _ _).trans (final_d m hO hb c).symm
  · rw [h0, h2, h4, h5]; exact (Cert.UpdGluRefIdeal.Read.val_main_v12_eq _ _ _ _).trans (final_m m hO hb c).symm
  · rw [h0, h3, h4, h5]; exact (Cert.UpdGluRefIdeal.Read.val_main_v18_eq _ _ _ _).trans (final_v m hO hb c).symm

end Cert.UpdGluProof
-- ==== Proof.UpdUp.lean ====
/- The update of `s5_w_up` and of `dn_w_up`: the chips' parts of the gradient added up, then the optimiser's step. -/
module

public import proofs.«01_k».proof.Proof.Gen.UpdUp.Frame
public import proofs.«01_k».proof.Proof.Gen.UpdUpIdeal.Frame
public import proofs.«01_k».proof.Proof.Gen.UpdUpRefIdeal.Run
public import proofs.«01_k».proof.Proof.Gen.UpdUpRefIdeal.Read
public import proofs.«01_k».proof.Proof.Gen.Pre_chip_up
public import Idealize.ShloMosaic.Lib.Claim
public import Idealize.ShloMosaic.Lib.StableHlo.Predicate
public import Idealize.ShloMosaic.Lib.Pipeline.ValueKit
public import Idealize.ShloMosaic.Lib.Pipeline.Covers
public import Idealize.ShloMosaic.Lib.Pipeline.ReadBack
public import Idealize.ShloMosaic.Lib.Pointwise
public import proofs.«01_k».proof.Proof.Chips
public import proofs.«01_k».proof.Defs

@[expose] public section

set_option maxRecDepth 16384

noncomputable section

open Idealize.ShloMosaic Idealize.ShloMosaic.TcCoe Idealize.SL.Sem
open Idealize.ShloMosaic.Pipeline (Dat)

namespace Cert.UpdUpProof

open Cert.Chips

section
open Cert.UpdUp Cert.UpdUp.Gen

/-- A slot named by the chip's number lies in the exchange's array: the program's own run. -/
theorem ok_bits (m : (ℓ : Loc nD τ sig) → Buf (Elt Bits) ℓ) (h : Cert.Pre_UpdUp m) : Ok (F := Bits) m := by
  have e := small (tbl m 0 (ix1 0)) (congrFun (h 0) (ix1 0))
  have d : ∀ b : BitVec 32, b = tbl m 0 (ix1 0) → tbl m = (fun | ⟨0, _⟩ => fun _ => b | ⟨_ + 1, h⟩ => absurd h (by simp) : pre0.Contents (Elt Bits)) := by
    rintro b rfl; funext j x
    match j with
    | ⟨0, _⟩ => exact congrArg (tbl m 0) (one x)
  unfold Ok
  rcases e with e | e | e | e <;> rw [d _ e.symm] <;> decide +kernel

end

section
open Cert.UpdUpIdeal Cert.UpdUpIdeal.Gen

variable (m : (ℓ : Loc nD τ sig) → Buf (Elt Ideal) ℓ)

/-- The chip's number. -/
abbrev chip : BitVec 32 := m (((0 : Dev nD) : Thread nD τ).loc main_arg0) (ix1 0)

/-- It is one of four. -/
theorem chip_small (h : Cert.Pre_UpdUpIdeal m) : chip m = 0#32 ∨ chip m = 1#32 ∨ chip m = 2#32 ∨ chip m = 3#32 :=
  small _ (congrFun (h 0) (ix1 0))

/-- The idealised run's slots lie in the array too. -/
theorem ok_ideal (h : Cert.Pre_UpdUpIdeal m) : Ok (F := Ideal) m := by
  have d : ∀ b : BitVec 32, b = chip m → tbl m = (fun | ⟨0, _⟩ => fun _ => b | ⟨_ + 1, h⟩ => absurd h (by simp) : pre0.Contents (Elt Ideal)) := by
    rintro b rfl; funext j x
    match j with
    | ⟨0, _⟩ => exact congrArg (tbl m 0) (one x)
  unfold Ok
  rcases chip_small m h with e | e | e | e <;> rw [d _ e.symm] <;> decide +kernel

variable (hO : Ok m)

/-- Where element `y` of point `t`'s tile lies. -/
abbrev place (t : Fin (cfgM m hO).N) (y : S1024x256.Idx) : S1024x256.Idx := (((cfgM m hO).win 7).blk t).view.emb y

/-- Its coordinates. -/
theorem place_val (t : Fin (cfgM m hO).N) (y : S1024x256.Idx) (a : Fin 2) :
    (place m hO t y a : ℕ) = cc0_transform_7 (grid0.coords t) a * S1024x256.size a + y a :=
  ValueKit.view_emb_slice_whole_unit_val _ _ _ _ _ _

/-- The words a slot's block specification reads are the chip's number. -/
theorem table (x) : tbl m 0 x = chip m := congrArg (tbl m 0) (one x)

/-- The four slots' tiles: this chip's own part, then what landed from the others. -/
theorem slots (hb : chip m = 0#32 ∨ chip m = 1#32 ∨ chip m = 2#32 ∨ chip m = 3#32) (c : Dev nD) (t : Fin (cfgM m hO).N) (y : S1024x256.Idx) :
    iblk m hO c 3 t (ix3 0 (y 0) (y 1)) = m ((c : Thread nD τ).loc main_arg4) (ix3 (slot (chip m) 0) (place m hO t y 0) (place m hO t y 1))
    ∧ iblk m hO c 4 t (ix3 0 (y 0) (y 1)) = m ((c : Thread nD τ).loc main_arg5) (ix3 (slot (chip m) 1) (place m hO t y 0) (place m hO t y 1))
    ∧ iblk m hO c 5 t (ix3 0 (y 0) (y 1)) = m ((c : Thread nD τ).loc main_arg5) (ix3 (slot (chip m) 2) (place m hO t y 0) (place m hO t y 1))
    ∧ iblk m hO c 6 t (ix3 0 (y 0) (y 1)) = m ((c : Thread nD τ).loc main_arg5) (ix3 (slot (chip m) 3) (place m hO t y 0) (place m hO t y 1)) := by
  refine ⟨congrArg (m _) (funext fun a => Fin.ext ?_), congrArg (m _) (funext fun a => Fin.ext ?_),
    congrArg (m _) (funext fun a => Fin.ext ?_), congrArg (m _) (funext fun a => Fin.ext ?_)⟩ <;>
  · refine (ValueKit.view_emb_slice_whole_unit_val _ _ _ _ _ _).trans ?_
    fin_cases a
    · refine (Nat.mul_one _).trans (Eq.trans ?_ (slot_val hb _).symm)
      exact congrArg (fun b => (Scalar.xori b _).toNat) (table m _)
    · exact (place_val m hO t y 0).symm
    · exact (place_val m hO t y 1).symm

/-- Point `t`'s tiles of the chips' parts. -/
abbrev own (c : Dev nD) (t : Fin (cfgM m hO).N) : S1x1024x256.Idx → EReal := iblk m hO c 3 t
abbrev one_off (c : Dev nD) (t : Fin (cfgM m hO).N) : S1x1024x256.Idx → EReal := iblk m hO c 4 t
abbrev two_off (c : Dev nD) (t : Fin (cfgM m hO).N) : S1x1024x256.Idx → EReal := iblk m hO c 5 t
abbrev three_off (c : Dev nD) (t : Fin (cfgM m hO).N) : S1x1024x256.Idx → EReal := iblk m hO c 6 t

/-- So what the call adds up is the sum over the chips. -/
theorem sum_eq (hb : chip m = 0#32 ∨ chip m = 1#32 ∨ chip m = 2#32 ∨ chip m = 3#32) (c : Dev nD) (t : Fin (cfgM m hO).N) (y : S1024x256.Idx) :
    own m hO c t (ix3 0 (y 0) (y 1)) + one_off m hO c t (ix3 0 (y 0) (y 1)) + two_off m hO c t (ix3 0 (y 0) (y 1)) + three_off m hO c t (ix3 0 (y 0) (y 1))
      = ∑ k : Fin 4, (Scalar.select (IntOp.cmpi .eq (BitVec.ofNat 32 k) (chip m))
          (m ((c : Thread nD τ).loc main_arg4) (ix3 k (place m hO t y 0) (place m hO t y 1)))
          (m ((c : Thread nD τ).loc main_arg5) (ix3 k (place m hO t y 0) (place m hO t y 1))) : EReal) := by
  obtain ⟨h3, h4, h5, h6⟩ := slots m hO hb c t y
  unfold own one_off two_off three_off
  rw [h3, h4, h5, h6]
  exact parts hb (fun k => m ((c : Thread nD τ).loc main_arg4) (ix3 k _ _)) (fun k => m ((c : Thread nD τ).loc main_arg5) (ix3 k _ _))

/-- What a point leaves. -/
theorem out_eq (c : Dev nD) (t : Fin (cfgM m hO).N) : outsAt0 m hO c t
    = (k0_pay2 (F := Ideal) (iblk m hO c 3 t) (iblk m hO c 4 t) (iblk m hO c 5 t) (iblk m hO c 6 t),
      k0_pay1 (F := Ideal) (k0_pay3 (iblk m hO c 3 t) (iblk m hO c 4 t) (iblk m hO c 5 t) (iblk m hO c 6 t) (iblk m hO c 1 t))
        (k0_pay4 (iblk m hO c 3 t) (iblk m hO c 4 t) (iblk m hO c 5 t) (iblk m hO c 6 t) (iblk m hO c 2 t)) (iblk m hO c 0 t),
      k0_pay3 (F := Ideal) (iblk m hO c 3 t) (iblk m hO c 4 t) (iblk m hO c 5 t) (iblk m hO c 6 t) (iblk m hO c 1 t),
      k0_pay4 (F := Ideal) (iblk m hO c 3 t) (iblk m hO c 4 t) (iblk m hO c 5 t) (iblk m hO c 6 t) (iblk m hO c 2 t)) := by
  obtain ⟨B0, h0⟩ : ∃ B : S1024x256.Idx → Elt Ideal .f32, iblk m hO c 0 t = B := ⟨_, rfl⟩
  obtain ⟨B1, h1⟩ : ∃ B : S1024x256.Idx → Elt Ideal .f32, iblk m hO c 1 t = B := ⟨_, rfl⟩
  obtain ⟨B2, h2⟩ : ∃ B : S1024x256.Idx → Elt Ideal .f32, iblk m hO c 2 t = B := ⟨_, rfl⟩
  obtain ⟨B3, h3⟩ : ∃ B : S1x1024x256.Idx → Elt Ideal .bf16, iblk m hO c 3 t = B := ⟨_, rfl⟩
  obtain ⟨B4, h4⟩ : ∃ B : S1x1024x256.Idx → Elt Ideal .bf16, iblk m hO c 4 t = B := ⟨_, rfl⟩
  obtain ⟨B5, h5⟩ : ∃ B : S1x1024x256.Idx → Elt Ideal .bf16, iblk m hO c 5 t = B := ⟨_, rfl⟩
  obtain ⟨B6, h6⟩ : ∃ B : S1x1024x256.Idx → Elt Ideal .bf16, iblk m hO c 6 t = B := ⟨_, rfl⟩
  dsimp only [outsAt0]
  rw [h0, h1, h2, h3, h4, h5, h6]
  refine Prod.ext (funext fun y => ?_) (Prod.ext (funext fun y => ?_) (Prod.ext (funext fun y => ?_) (funext fun y => ?_)))
  all_goals frame_out
  all_goals simp only [Memref.IsWhole.read_unread]

/-- The first correction's factor is the inverse of the reference's divisor. -/
theorem by_bias1 (x : EReal) : x * Named.named (F := Ideal) κ "inv_bias1" (φ := .f32) 0x3FC48605#32
    = Ideal.div x (Ideal.ofBits .f32 0x3F26BD02#32) := by
  rw [show Ideal.ofBits .f32 0x3F26BD02#32 = ((5463681 / 8388608 : ℝ) : EReal) from ?_,
    Ideal.div_coe (by norm_num), IdealRules.named_const.ideal_named_scalar _ _ _ _ rfl, one_div_div]
  simp [Ideal.ofBits, Ideal.ieee, -EReal.coe_mul]; norm_num

/-- The second's too. -/
theorem by_bias2 (x : EReal) : x * Named.named (F := Ideal) κ "inv_bias2" (φ := .f32) 0x42C8E6D3#32
    = Ideal.div x (Ideal.ofBits .f32 0x3C231ACC#32) := by
  rw [show Ideal.ofBits .f32 0x3C231ACC#32 = ((2672307 / 268435456 : ℝ) : EReal) from ?_,
    Ideal.div_coe (by norm_num), IdealRules.named_const.ideal_named_scalar _ _ _ _ rfl, one_div_div]
  simp [Ideal.ofBits, Ideal.ieee, -EReal.coe_mul]; norm_num

/-- The tiles of the outputs cover their arrays. -/
theorem cov : ∀ β : (a : Fin 2) → Fin ((S1024x256.size a + S1024x256.size a - 1) / S1024x256.size a), ∃ i : grid0.Coords, ∀ a, cc0_transform_7 i a = β a := by
  decide +kernel

/-- The gradient. -/
theorem final_g (hb : chip m = 0#32 ∨ chip m = 1#32 ∨ chip m = 2#32 ∨ chip m = 3#32) (c : Dev nD) : (dats m hO 0 c).arrAt 7 (cfgM m hO).N
    = Cert.UpdUpRefIdeal.Read.val_main_v7 (F := Ideal) (m ((c : Thread nD τ).loc main_arg0)) (m ((c : Thread nD τ).loc main_arg4)) (m ((c : Thread nD τ).loc main_arg5)) := by
  refine (dats m hO 0 c).arrAt_eq_of_covers 7 _ (Pipeline.Window.covers_of_indexMap_surj _ rfl
    (show ∀ a : Fin 2, 0 < S1024x256.size a by decide) cov) fun t _ y => ?_
  obtain rfl : c = 0 := Subsingleton.elim _ _
  rw [← Cert.UpdUpRefIdeal.Read.val_main_v7_eq]
  change (dats m hO 0 0).after 7 t y = _
  rw [after0_7, out_eq]
  pointwise [k0_pay2]
  exact sum_eq m hO hb 0 t y

/-- The change of the weight. -/
theorem final_d (hb : chip m = 0#32 ∨ chip m = 1#32 ∨ chip m = 2#32 ∨ chip m = 3#32) (c : Dev nD) : (dats m hO 0 c).arrAt 8 (cfgM m hO).N
    = Cert.UpdUpRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (Pipeline.Window.covers_of_indexMap_surj _ rfl
    (show ∀ a : Fin 2, 0 < S1024x256.size a by decide) cov) fun t _ y => ?_
  obtain rfl : c = 0 := Subsingleton.elim _ _
  rw [← Cert.UpdUpRefIdeal.Read.val_main_v31_eq]
  change (dats m hO 0 0).after 8 t y = _
  rw [after0_8, out_eq]
  pointwise [k0_pay1, k0_pay2, k0_pay3, k0_pay4]
  rw [by_bias1, by_bias2, sum_eq m hO hb 0 t y]
  rfl

/-- The new first moment. -/
theorem final_m (hb : chip m = 0#32 ∨ chip m = 1#32 ∨ chip m = 2#32 ∨ chip m = 3#32) (c : Dev nD) : (dats m hO 0 c).arrAt 9 (cfgM m hO).N
    = Cert.UpdUpRefIdeal.Read.val_main_v12 (F := Ideal) (m ((c : Thread nD τ).loc main_arg0)) (m ((c : Thread nD τ).loc main_arg2)) (m ((c : Thread nD τ).loc main_arg4)) (m ((c : Thread nD τ).loc main_arg5)) := by
  refine (dats m hO 0 c).arrAt_eq_of_covers 9 _ (Pipeline.Window.covers_of_indexMap_surj _ rfl
    (show ∀ a : Fin 2, 0 < S1024x256.size a by decide) cov) fun t _ y => ?_
  obtain rfl : c = 0 := Subsingleton.elim _ _
  rw [← Cert.UpdUpRefIdeal.Read.val_main_v12_eq]
  change (dats m hO 0 0).after 9 t y = _
  rw [after0_9, out_eq]
  pointwise [k0_pay2, k0_pay3]
  rw [sum_eq m hO hb 0 t y]
  rfl

/-- The new second moment. -/
theorem final_v (hb : chip m = 0#32 ∨ chip m = 1#32 ∨ chip m = 2#32 ∨ chip m = 3#32) (c : Dev nD) : (dats m hO 0 c).arrAt 10 (cfgM m hO).N
    = Cert.UpdUpRefIdeal.Read.val_main_v18 (F := Ideal) (m ((c : Thread nD τ).loc main_arg0)) (m ((c : Thread nD τ).loc main_arg3)) (m ((c : Thread nD τ).loc main_arg4)) (m ((c : Thread nD τ).loc main_arg5)) := by
  refine (dats m hO 0 c).arrAt_eq_of_covers 10 _ (Pipeline.Window.covers_of_indexMap_surj _ rfl
    (show ∀ a : Fin 2, 0 < S1024x256.size a by decide) cov) fun t _ y => ?_
  obtain rfl : c = 0 := Subsingleton.elim _ _
  rw [← Cert.UpdUpRefIdeal.Read.val_main_v18_eq]
  change (dats m hO 0 0).after 10 t y = _
  rw [after0_10, out_eq]
  pointwise [k0_pay2, k0_pay4]
  rw [sum_eq m hO hb 0 t y]
  rfl

end

/-- The program's own run ends, its arguments unchanged and no signal left. -/
theorem frame : Cert.quiescent_UpdUp := fun m g h => Cert.UpdUp.Gen.frame m g (ok_bits m h)

/-- So does the idealised program's. -/
theorem frame_ideal : Cert.quiescent_UpdUpIdeal := fun m g h => Cert.UpdUpIdeal.Gen.frame m g (ok_ideal m h)

/-- Every run of the reference ends, its arguments unchanged and no signal left. -/
theorem frame_ref : Cert.quiescent_UpdUpRefIdeal := fun m g _ =>
  (θ_run Cert.UpdUpRefIdeal.defs _ _).mono
    (fun r h => ⟨fun c => (h c).2.2.2.2, sem_eq_zero_of_no_sems (by decide) r.2⟩)
    (Cert.UpdUpRefIdeal.Value.run (F := Ideal) m g)

/-- With the chip's number one of four too. -/
theorem frame_ref_pre : Cert.quiescent_UpdUpRefIdeal_pre_chip_up := fun m g _ => frame_ref m g trivial

/-- The two named factors are what they were computed from. -/
theorem preserves : Cert.preserves_UpdUp_UpdUpIdeal :=
  ⟨IdealRules.named_const.statement Cert.UpdUpIdeal.κ "inv_bias1" .f32 _ _ rfl, IdealRules.named_const.statement Cert.UpdUpIdeal.κ "inv_bias2" .f32 _ _ rfl⟩

open Cert.UpdUpIdeal Cert.UpdUpIdeal.Gen in
/-- The call's results are the reference's. -/
theorem values : Cert.algebraic_UpdUpIdeal_UpdUpRefIdeal := by
  intro m g m' g' hpre hagree
  have hO := ok_ideal m hpre
  have hb := chip_small m hpre
  refine ⟨fun c => (dats m hO 0 c).arrAt 7 (cfgM m hO).N, fun c => (dats m hO 0 c).arrAt 8 (cfgM m hO).N,
    fun c => (dats m hO 0 c).arrAt 9 (cfgM m hO).N, fun c => (dats m hO 0 c).arrAt 10 (cfgM m hO).N,
    (θ_run _ _ _).mono (fun r h c => ⟨(h.1 c).1 7, (h.1 c).1 8, (h.1 c).1 9, (h.1 c).1 10, h.2 c⟩)
      (θ_run_and (run_main m g hO) (unchanged m g hO)),
    θ_run_mono (Cert.UpdUpRefIdeal.Value.run m' g') fun r hr c => ⟨(hr c).1.trans ?_, (hr c).2.1.trans ?_, (hr c).2.2.1.trans ?_, (hr c).2.2.2.1.trans ?_, (hr c).2.2.2.2⟩⟩
  all_goals obtain ⟨h0, h1, h2, h3, h4, h5⟩ := hagree c
  · rw [h0, h4, h5]; exact (Cert.UpdUpRefIdeal.Read.val_main_v7_eq _ _ _).trans (final_g m hO hb c).symm
  · rw [h0, h1, h2, h3, h4, h5]; exact (Cert.UpdUpRefIdeal.Read.val_main_v31_eq _ _ _ _ _ _).trans (final_d m hO hb c).symm
  · rw [h0, h2, h4, h5]; exact (Cert.UpdUpRefIdeal.Read.val_main_v12_eq _ _ _ _).trans (final_m m hO hb c).symm
  · rw [h0, h3, h4, h5]; exact (Cert.UpdUpRefIdeal.Read.val_main_v18_eq _ _ _ _).trans (final_v m hO hb c).symm

end Cert.UpdUpProof
-- ==== Proof.UpdIn.lean ====
/- The update of `w_in`: the chips' parts of the gradient added up, then the optimiser's step. -/
module

public import proofs.«01_k».proof.Proof.Gen.UpdIn.Frame
public import proofs.«01_k».proof.Proof.Gen.UpdInIdeal.Frame
public import proofs.«01_k».proof.Proof.Gen.UpdInRefIdeal.Run
public import proofs.«01_k».proof.Proof.Gen.UpdInRefIdeal.Read
public import proofs.«01_k».proof.Proof.Gen.Pre_chip_in
public import Idealize.ShloMosaic.Lib.Claim
public import Idealize.ShloMosaic.Lib.StableHlo.Predicate
public import Idealize.ShloMosaic.Lib.Pipeline.ValueKit
public import Idealize.ShloMosaic.Lib.Pipeline.Covers
public import Idealize.ShloMosaic.Lib.Pipeline.ReadBack
public import Idealize.ShloMosaic.Lib.Pointwise
public import proofs.«01_k».proof.Proof.Chips
public import proofs.«01_k».proof.Defs

@[expose] public section

set_option maxRecDepth 16384

noncomputable section

open Idealize.ShloMosaic Idealize.ShloMosaic.TcCoe Idealize.SL.Sem
open Idealize.ShloMosaic.Pipeline (Dat)

namespace Cert.UpdInProof

open Cert.Chips

section
open Cert.UpdIn Cert.UpdIn.Gen

/-- A slot named by the chip's number lies in the exchange's array: the program's own run. -/
theorem ok_bits (m : (ℓ : Loc nD τ sig) → Buf (Elt Bits) ℓ) (h : Cert.Pre_UpdIn m) : Ok (F := Bits) m := by
  have e := small (tbl m 0 (ix1 0)) (congrFun (h 0) (ix1 0))
  have d : ∀ b : BitVec 32, b = tbl m 0 (ix1 0) → tbl m = (fun | ⟨0, _⟩ => fun _ => b | ⟨_ + 1, h⟩ => absurd h (by simp) : pre0.Contents (Elt Bits)) := by
    rintro b rfl; funext j x
    match j with
    | ⟨0, _⟩ => exact congrArg (tbl m 0) (one x)
  unfold Ok
  rcases e with e | e | e | e <;> rw [d _ e.symm] <;> decide +kernel

end

section
open Cert.UpdInIdeal Cert.UpdInIdeal.Gen

variable (m : (ℓ : Loc nD τ sig) → Buf (Elt Ideal) ℓ)

/-- The chip's number. -/
abbrev chip : BitVec 32 := m (((0 : Dev nD) : Thread nD τ).loc main_arg0) (ix1 0)

/-- It is one of four. -/
theorem chip_small (h : Cert.Pre_UpdInIdeal m) : chip m = 0#32 ∨ chip m = 1#32 ∨ chip m = 2#32 ∨ chip m = 3#32 :=
  small _ (congrFun (h 0) (ix1 0))

/-- The idealised run's slots lie in the array too. -/
theorem ok_ideal (h : Cert.Pre_UpdInIdeal m) : Ok (F := Ideal) m := by
  have d : ∀ b : BitVec 32, b = chip m → tbl m = (fun | ⟨0, _⟩ => fun _ => b | ⟨_ + 1, h⟩ => absurd h (by simp) : pre0.Contents (Elt Ideal)) := by
    rintro b rfl; funext j x
    match j with
    | ⟨0, _⟩ => exact congrArg (tbl m 0) (one x)
  unfold Ok
  rcases chip_small m h with e | e | e | e <;> rw [d _ e.symm] <;> decide +kernel

variable (hO : Ok m)

/-- Where element `y` of point `t`'s tile lies. -/
abbrev place (t : Fin (cfgM m hO).N) (y : S1282x256.Idx) : S1282x2048.Idx := (((cfgM m hO).win 7).blk t).view.emb y

/-- Its coordinates. -/
theorem place_val (t : Fin (cfgM m hO).N) (y : S1282x256.Idx) (a : Fin 2) :
    (place m hO t y a : ℕ) = cc0_transform_7 (grid0.coords t) a * S1282x256.size a + y a :=
  ValueKit.view_emb_slice_whole_unit_val _ _ _ _ _ _

/-- The words a slot's block specification reads are the chip's number. -/
theorem table (x) : tbl m 0 x = chip m := congrArg (tbl m 0) (one x)

/-- The four slots' tiles: this chip's own part, then what landed from the others. -/
theorem slots (hb : chip m = 0#32 ∨ chip m = 1#32 ∨ chip m = 2#32 ∨ chip m = 3#32) (c : Dev nD) (t : Fin (cfgM m hO).N) (y : S1282x256.Idx) :
    iblk m hO c 3 t (ix3 0 (y 0) (y 1)) = m ((c : Thread nD τ).loc main_arg4) (ix3 (slot (chip m) 0) (place m hO t y 0) (place m hO t y 1))
    ∧ iblk m hO c 4 t (ix3 0 (y 0) (y 1)) = m ((c : Thread nD τ).loc main_arg5) (ix3 (slot (chip m) 1) (place m hO t y 0) (place m hO t y 1))
    ∧ iblk m hO c 5 t (ix3 0 (y 0) (y 1)) = m ((c : Thread nD τ).loc main_arg5) (ix3 (slot (chip m) 2) (place m hO t y 0) (place m hO t y 1))
    ∧ iblk m hO c 6 t (ix3 0 (y 0) (y 1)) = m ((c : Thread nD τ).loc main_arg5) (ix3 (slot (chip m) 3) (place m hO t y 0) (place m hO t y 1)) := by
  refine ⟨congrArg (m _) (funext fun a => Fin.ext ?_), congrArg (m _) (funext fun a => Fin.ext ?_),
    congrArg (m _) (funext fun a => Fin.ext ?_), congrArg (m _) (funext fun a => Fin.ext ?_)⟩ <;>
  · refine (ValueKit.view_emb_slice_whole_unit_val _ _ _ _ _ _).trans ?_
    fin_cases a
    · refine (Nat.mul_one _).trans (Eq.trans ?_ (slot_val hb _).symm)
      exact congrArg (fun b => (Scalar.xori b _).toNat) (table m _)
    · exact (place_val m hO t y 0).symm
    · exact (place_val m hO t y 1).symm

/-- Point `t`'s tiles of the chips' parts. -/
abbrev own (c : Dev nD) (t : Fin (cfgM m hO).N) : S1x1282x256.Idx → EReal := iblk m hO c 3 t
abbrev one_off (c : Dev nD) (t : Fin (cfgM m hO).N) : S1x1282x256.Idx → EReal := iblk m hO c 4 t
abbrev two_off (c : Dev nD) (t : Fin (cfgM m hO).N) : S1x1282x256.Idx → EReal := iblk m hO c 5 t
abbrev three_off (c : Dev nD) (t : Fin (cfgM m hO).N) : S1x1282x256.Idx → EReal := iblk m hO c 6 t

/-- So what the call adds up is the sum over the chips. -/
theorem sum_eq (hb : chip m = 0#32 ∨ chip m = 1#32 ∨ chip m = 2#32 ∨ chip m = 3#32) (c : Dev nD) (t : Fin (cfgM m hO).N) (y : S1282x256.Idx) :
    own m hO c t (ix3 0 (y 0) (y 1)) + one_off m hO c t (ix3 0 (y 0) (y 1)) + two_off m hO c t (ix3 0 (y 0) (y 1)) + three_off m hO c t (ix3 0 (y 0) (y 1))
      = ∑ k : Fin 4, (Scalar.select (IntOp.cmpi .eq (BitVec.ofNat 32 k) (chip m))
          (m ((c : Thread nD τ).loc main_arg4) (ix3 k (place m hO t y 0) (place m hO t y 1)))
          (m ((c : Thread nD τ).loc main_arg5) (ix3 k (place m hO t y 0) (place m hO t y 1))) : EReal) := by
  obtain ⟨h3, h4, h5, h6⟩ := slots m hO hb c t y
  unfold own one_off two_off three_off
  rw [h3, h4, h5, h6]
  exact parts hb (fun k => m ((c : Thread nD τ).loc main_arg4) (ix3 k _ _)) (fun k => m ((c : Thread nD τ).loc main_arg5) (ix3 k _ _))

/-- What a point leaves. -/
theorem out_eq (c : Dev nD) (t : Fin (cfgM m hO).N) : outsAt0 m hO c t
    = (k0_pay2 (F := Ideal) (iblk m hO c 3 t) (iblk m hO c 4 t) (iblk m hO c 5 t) (iblk m hO c 6 t),
      k0_pay1 (F := Ideal) (k0_pay3 (iblk m hO c 3 t) (iblk m hO c 4 t) (iblk m hO c 5 t) (iblk m hO c 6 t) (iblk m hO c 1 t))
        (k0_pay4 (iblk m hO c 3 t) (iblk m hO c 4 t) (iblk m hO c 5 t) (iblk m hO c 6 t) (iblk m hO c 2 t)) (iblk m hO c 0 t),
      k0_pay3 (F := Ideal) (iblk m hO c 3 t) (iblk m hO c 4 t) (iblk m hO c 5 t) (iblk m hO c 6 t) (iblk m hO c 1 t),
      k0_pay4 (F := Ideal) (iblk m hO c 3 t) (iblk m hO c 4 t) (iblk m hO c 5 t) (iblk m hO c 6 t) (iblk m hO c 2 t)) := by
  obtain ⟨B0, h0⟩ : ∃ B : S1282x256.Idx → Elt Ideal .f32, iblk m hO c 0 t = B := ⟨_, rfl⟩
  obtain ⟨B1, h1⟩ : ∃ B : S1282x256.Idx → Elt Ideal .f32, iblk m hO c 1 t = B := ⟨_, rfl⟩
  obtain ⟨B2, h2⟩ : ∃ B : S1282x256.Idx → Elt Ideal .f32, iblk m hO c 2 t = B := ⟨_, rfl⟩
  obtain ⟨B3, h3⟩ : ∃ B : S1x1282x256.Idx → Elt Ideal .bf16, iblk m hO c 3 t = B := ⟨_, rfl⟩
  obtain ⟨B4, h4⟩ : ∃ B : S1x1282x256.Idx → Elt Ideal .bf16, iblk m hO c 4 t = B := ⟨_, rfl⟩
  obtain ⟨B5, h5⟩ : ∃ B : S1x1282x256.Idx → Elt Ideal .bf16, iblk m hO c 5 t = B := ⟨_, rfl⟩
  obtain ⟨B6, h6⟩ : ∃ B : S1x1282x256.Idx → Elt Ideal .bf16, iblk m hO c 6 t = B := ⟨_, rfl⟩
  dsimp only [outsAt0]
  rw [h0, h1, h2, h3, h4, h5, h6]
  refine Prod.ext (funext fun y => ?_) (Prod.ext (funext fun y => ?_) (Prod.ext (funext fun y => ?_) (funext fun y => ?_)))
  all_goals frame_out
  all_goals simp only [Memref.IsWhole.read_unread]

/-- The first correction's factor is the inverse of the reference's divisor. -/
theorem by_bias1 (x : EReal) : x * Named.named (F := Ideal) κ "inv_bias1" (φ := .f32) 0x3FC48605#32
    = Ideal.div x (Ideal.ofBits .f32 0x3F26BD02#32) := by
  rw [show Ideal.ofBits .f32 0x3F26BD02#32 = ((5463681 / 8388608 : ℝ) : EReal) from ?_,
    Ideal.div_coe (by norm_num), IdealRules.named_const.ideal_named_scalar _ _ _ _ rfl, one_div_div]
  simp [Ideal.ofBits, Ideal.ieee, -EReal.coe_mul]; norm_num

/-- The second's too. -/
theorem by_bias2 (x : EReal) : x * Named.named (F := Ideal) κ "inv_bias2" (φ := .f32) 0x42C8E6D3#32
    = Ideal.div x (Ideal.ofBits .f32 0x3C231ACC#32) := by
  rw [show Ideal.ofBits .f32 0x3C231ACC#32 = ((2672307 / 268435456 : ℝ) : EReal) from ?_,
    Ideal.div_coe (by norm_num), IdealRules.named_const.ideal_named_scalar _ _ _ _ rfl, one_div_div]
  simp [Ideal.ofBits, Ideal.ieee, -EReal.coe_mul]; norm_num

/-- The tiles of the outputs cover their arrays. -/
theorem cov : ∀ β : (a : Fin 2) → Fin ((S1282x2048.size a + S1282x256.size a - 1) / S1282x256.size a), ∃ i : grid0.Coords, ∀ a, cc0_transform_7 i a = β a := by
  decide +kernel

/-- The gradient. -/
theorem final_g (hb : chip m = 0#32 ∨ chip m = 1#32 ∨ chip m = 2#32 ∨ chip m = 3#32) (c : Dev nD) : (dats m hO 0 c).arrAt 7 (cfgM m hO).N
    = Cert.UpdInRefIdeal.Read.val_main_v7 (F := Ideal) (m ((c : Thread nD τ).loc main_arg0)) (m ((c : Thread nD τ).loc main_arg4)) (m ((c : Thread nD τ).loc main_arg5)) := by
  refine (dats m hO 0 c).arrAt_eq_of_covers 7 _ (Pipeline.Window.covers_of_indexMap_surj _ rfl
    (show ∀ a : Fin 2, 0 < S1282x256.size a by decide) cov) fun t _ y => ?_
  obtain rfl : c = 0 := Subsingleton.elim _ _
  rw [← Cert.UpdInRefIdeal.Read.val_main_v7_eq]
  change (dats m hO 0 0).after 7 t y = _
  rw [after0_7, out_eq]
  pointwise [k0_pay2]
  exact sum_eq m hO hb 0 t y

/-- The change of the weight. -/
theorem final_d (hb : chip m = 0#32 ∨ chip m = 1#32 ∨ chip m = 2#32 ∨ chip m = 3#32) (c : Dev nD) : (dats m hO 0 c).arrAt 8 (cfgM m hO).N
    = Cert.UpdInRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (Pipeline.Window.covers_of_indexMap_surj _ rfl
    (show ∀ a : Fin 2, 0 < S1282x256.size a by decide) cov) fun t _ y => ?_
  obtain rfl : c = 0 := Subsingleton.elim _ _
  rw [← Cert.UpdInRefIdeal.Read.val_main_v31_eq]
  change (dats m hO 0 0).after 8 t y = _
  rw [after0_8, out_eq]
  pointwise [k0_pay1, k0_pay2, k0_pay3, k0_pay4]
  rw [by_bias1, by_bias2, sum_eq m hO hb 0 t y]
  rfl

/-- The new first moment. -/
theorem final_m (hb : chip m = 0#32 ∨ chip m = 1#32 ∨ chip m = 2#32 ∨ chip m = 3#32) (c : Dev nD) : (dats m hO 0 c).arrAt 9 (cfgM m hO).N
    = Cert.UpdInRefIdeal.Read.val_main_v12 (F := Ideal) (m ((c : Thread nD τ).loc main_arg0)) (m ((c : Thread nD τ).loc main_arg2)) (m ((c : Thread nD τ).loc main_arg4)) (m ((c : Thread nD τ).loc main_arg5)) := by
  refine (dats m hO 0 c).arrAt_eq_of_covers 9 _ (Pipeline.Window.covers_of_indexMap_surj _ rfl
    (show ∀ a : Fin 2, 0 < S1282x256.size a by decide) cov) fun t _ y => ?_
  obtain rfl : c = 0 := Subsingleton.elim _ _
  rw [← Cert.UpdInRefIdeal.Read.val_main_v12_eq]
  change (dats m hO 0 0).after 9 t y = _
  rw [after0_9, out_eq]
  pointwise [k0_pay2, k0_pay3]
  rw [sum_eq m hO hb 0 t y]
  rfl

/-- The new second moment. -/
theorem final_v (hb : chip m = 0#32 ∨ chip m = 1#32 ∨ chip m = 2#32 ∨ chip m = 3#32) (c : Dev nD) : (dats m hO 0 c).arrAt 10 (cfgM m hO).N
    = Cert.UpdInRefIdeal.Read.val_main_v18 (F := Ideal) (m ((c : Thread nD τ).loc main_arg0)) (m ((c : Thread nD τ).loc main_arg3)) (m ((c : Thread nD τ).loc main_arg4)) (m ((c : Thread nD τ).loc main_arg5)) := by
  refine (dats m hO 0 c).arrAt_eq_of_covers 10 _ (Pipeline.Window.covers_of_indexMap_surj _ rfl
    (show ∀ a : Fin 2, 0 < S1282x256.size a by decide) cov) fun t _ y => ?_
  obtain rfl : c = 0 := Subsingleton.elim _ _
  rw [← Cert.UpdInRefIdeal.Read.val_main_v18_eq]
  change (dats m hO 0 0).after 10 t y = _
  rw [after0_10, out_eq]
  pointwise [k0_pay2, k0_pay4]
  rw [sum_eq m hO hb 0 t y]
  rfl

end

/-- The program's own run ends, its arguments unchanged and no signal left. -/
theorem frame : Cert.quiescent_UpdIn := fun m g h => Cert.UpdIn.Gen.frame m g (ok_bits m h)

/-- So does the idealised program's. -/
theorem frame_ideal : Cert.quiescent_UpdInIdeal := fun m g h => Cert.UpdInIdeal.Gen.frame m g (ok_ideal m h)

/-- Every run of the reference ends, its arguments unchanged and no signal left. -/
theorem frame_ref : Cert.quiescent_UpdInRefIdeal := fun m g _ =>
  (θ_run Cert.UpdInRefIdeal.defs _ _).mono
    (fun r h => ⟨fun c => (h c).2.2.2.2, sem_eq_zero_of_no_sems (by decide) r.2⟩)
    (Cert.UpdInRefIdeal.Value.run (F := Ideal) m g)

/-- With the chip's number one of four too. -/
theorem frame_ref_pre : Cert.quiescent_UpdInRefIdeal_pre_chip_in := fun m g _ => frame_ref m g trivial

/-- The two named factors are what they were computed from. -/
theorem preserves : Cert.preserves_UpdIn_UpdInIdeal :=
  ⟨IdealRules.named_const.statement Cert.UpdInIdeal.κ "inv_bias1" .f32 _ _ rfl, IdealRules.named_const.statement Cert.UpdInIdeal.κ "inv_bias2" .f32 _ _ rfl⟩

open Cert.UpdInIdeal Cert.UpdInIdeal.Gen in
/-- The call's results are the reference's. -/
theorem values : Cert.algebraic_UpdInIdeal_UpdInRefIdeal := by
  intro m g m' g' hpre hagree
  have hO := ok_ideal m hpre
  have hb := chip_small m hpre
  refine ⟨fun c => (dats m hO 0 c).arrAt 7 (cfgM m hO).N, fun c => (dats m hO 0 c).arrAt 8 (cfgM m hO).N,
    fun c => (dats m hO 0 c).arrAt 9 (cfgM m hO).N, fun c => (dats m hO 0 c).arrAt 10 (cfgM m hO).N,
    (θ_run _ _ _).mono (fun r h c => ⟨(h.1 c).1 7, (h.1 c).1 8, (h.1 c).1 9, (h.1 c).1 10, h.2 c⟩)
      (θ_run_and (run_main m g hO) (unchanged m g hO)),
    θ_run_mono (Cert.UpdInRefIdeal.Value.run m' g') fun r hr c => ⟨(hr c).1.trans ?_, (hr c).2.1.trans ?_, (hr c).2.2.1.trans ?_, (hr c).2.2.2.1.trans ?_, (hr c).2.2.2.2⟩⟩
  all_goals obtain ⟨h0, h1, h2, h3, h4, h5⟩ := hagree c
  · rw [h0, h4, h5]; exact (Cert.UpdInRefIdeal.Read.val_main_v7_eq _ _ _).trans (final_g m hO hb c).symm
  · rw [h0, h1, h2, h3, h4, h5]; exact (Cert.UpdInRefIdeal.Read.val_main_v31_eq _ _ _ _ _ _).trans (final_d m hO hb c).symm
  · rw [h0, h2, h4, h5]; exact (Cert.UpdInRefIdeal.Read.val_main_v12_eq _ _ _ _).trans (final_m m hO hb c).symm
  · rw [h0, h3, h4, h5]; exact (Cert.UpdInRefIdeal.Read.val_main_v18_eq _ _ _ _).trans (final_v m hO hb c).symm

end Cert.UpdInProof
-- ==== Proof.GluBwd.lean ====
/- The S5 branch's gated unit, backward. -/
module

public import proofs.«01_k».proof.Proof.Gen.GluBwdIdeal.Value
public import proofs.«01_k».proof.Proof.Gen.GluBwdRefIdeal.Run
public import proofs.«01_k».proof.Proof.Gen.GluBwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.GluBwdProof

open Cert.GluBwdIdeal Cert.GluBwdIdeal.Gen

variable (m : (ℓ : Loc nD τ sig) → Buf (Elt Ideal) ℓ)

open Cert.GluBwdRefIdeal.Read

/-- Where the blocks of point `t` sit: 256 rows a point; the gate is the projection's second column band, the weight one block. -/
theorem idx : ∀ t : Fin cfg0.N, win0_0.index t = ![t.val, 0]
    ∧ win0_1.index t = ![t.val, 1]
    ∧ win0_2.index t = ![0, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

/-- The gate's block at point `t`, element by element: no block overhangs the array's end. -/
theorem gate (c : Dev nD) (t : Fin cfg0.N) : X0_1 m c t = fun j : S256x1024.Idx =>
    m ((c : Thread nD τ).loc main_arg1) (ix2 ⟨t.val * 256 + (j 0 : ℕ), by have h0 : t.val < 8 := t.isLt; have h1 : (j 0 : ℕ) < 256 := (j 0).isLt; omega⟩
      ⟨1024 + (j 1 : ℕ), by have h1 : (j 1 : ℕ) < 1024 := (j 1).isLt; omega⟩) := by
  funext j
  unfold X0_1 Pipeline.Window.fill
  rw [dif_pos (moved0_1 t j)]
  blk_ext [iblk, V, idx t]

/-- The activation, as the reference writes it. -/
def gelu (x : EReal) : EReal := x * (Ideal.ofBits .f32 0x3F000000#32 * (1 + Ideal.tanh
  (Ideal.ofBits .f32 0x3F4C422A#32 * (x + Ideal.ofBits .f32 0x3D372713#32 * (x * x * x)))))

/-- The kernel multiplies in another order. -/
theorem gelu_eq (x : EReal) : Ideal.ofBits .f32 0x3F000000#32 * x * (1 + Ideal.tanh
      (Ideal.ofBits .f32 0x3F4C422A#32 * (x + Ideal.ofBits .f32 0x3D372713#32 * x * x * x))) = gelu x := by
  rw [gelu, mul_comm (Ideal.ofBits .f32 0x3F000000#32) x, mul_assoc x, mul_assoc (Ideal.ofBits .f32 0x3D372713#32) x x,
    mul_assoc (Ideal.ofBits .f32 0x3D372713#32) (x * x) x]

/-- The logistic function. -/
def logistic (s : EReal) : EReal := Ideal.div 1 (1 + Ideal.exp (-s))

/-- Half the activation's outer factor, and the derivative of its inner one. -/
def outer (x : EReal) : EReal := Ideal.tanh (Ideal.ofBits .f32 0x3F4C422A#32 * (x + Ideal.ofBits .f32 0x3D372713#32 * (x * x * x)))

/-- Three times a number is its sum with itself, twice. -/
theorem three (b : EReal) : Ideal.ofBits .f32 0x40400000#32 * b = b + b + b := by
  rw [show Ideal.ofBits .f32 0x40400000#32 = ((3 : ℝ) : EReal) by
    simp [Ideal.ofBits, Ideal.ieee, -EReal.coe_mul]; norm_num]
  induction b with
  | bot => rw [EReal.coe_mul_bot_of_pos (by norm_num)]; rfl
  | top => rw [EReal.coe_mul_top_of_pos (by norm_num)]; rfl
  | coe r => rw [← EReal.coe_mul, ← EReal.coe_add, ← EReal.coe_add]; congr 1; ring

/-- The derivative of the activation at `x` times `e`, as the reference writes it. -/
def slope (x e : EReal) : EReal :=
  e * (Ideal.ofBits .f32 0x3F000000#32 * (1 + outer x))
    + Ideal.ofBits .f32 0x3F4C422A#32 * (Ideal.ofBits .f32 0x3F000000#32 * (x * e) * ((1 + outer x) * (1 - outer x)))
    + Ideal.ofBits .f32 0x3D372713#32 * (Ideal.ofBits .f32 0x3F4C422A#32 * (Ideal.ofBits .f32 0x3F000000#32 * (x * e) * ((1 + outer x) * (1 - outer x))))
      * (Ideal.ofBits .f32 0x40400000#32 * (x * x))

/-- The kernel differentiates the cube by the product rule. -/
theorem cube (h c k x e p q : EReal) :
    c * (h * x * e * q) + k * x * x * (c * (h * x * e * q)) + k * x * (c * (h * x * e * q) * x) + k * (c * (h * x * e * q) * x * x) + h * (e * p)
      = e * (h * p) + c * (h * (x * e) * q) + k * (c * (h * (x * e) * q)) * (Ideal.ofBits .f32 0x40400000#32 * (x * x)) := by
  have s : h * x * e = h * (x * e) := mul_assoc _ _ _
  rw [s, mul_left_comm (k * (c * (h * (x * e) * q))) (Ideal.ofBits .f32 0x40400000#32), three]
  generalize c * (h * (x * e) * q) = a
  have u : k * x * x * a = k * a * (x * x) := by ac_rfl
  have v : k * x * (a * x) = k * a * (x * x) := by ac_rfl
  have w : k * (a * x * x) = k * a * (x * x) := by ac_rfl
  have z : h * (e * p) = e * (h * p) := by ac_rfl
  rw [u, v, w, z]
  abel

variable (x z d : Vec Ideal S256x1024 .f32) (w : Vec Ideal S1024x1024 .bf16)

/-- The gating product, through the logistic function. -/
def mix (j : S256x1024.Idx) : EReal := logistic (∑ a : Fin 1024, gelu (x (ix2 (j 0) a)) * w (ix2 a (j 1)))

/-- The cotangent of the gated activation. -/
def cot (j : S256x1024.Idx) : EReal := d j * (z j * logistic (z j))

/-- The cotangent of the gating product. -/
def lin (j : S256x1024.Idx) : EReal := gelu (x j) * cot z d j * (mix x w j * (1 - mix x w j))

/-- The cotangent of the activation. -/
def act (j : S256x1024.Idx) : EReal := cot z d j * mix x w j + ∑ a : Fin 1024, lin x z d w (ix2 (j 0) a) * w (ix2 (j 1) a)

/-- The constant one. -/
theorem one : (FloatOps.ofBits .f32 1065353216#32 : Ideal .f32) = (1 : EReal) := Ideal.ofBits_one_f32

/-- What the kernel computes of the gating product. -/
theorem mix_pay (j) : k0_pay15 (F := Ideal) (k0_pay14 (F := Ideal) x w) (1 : EReal) j = mix x w j := by
  pointwise [k0_pay15, k0_pay14, k0_pay13, k0_pay9, k0_pay8, k0_pay6, k0_pay5, k0_pay4, k0_pay3]
  simp only [gelu_eq, zero_sub]
  rfl

/-- Of the branch's activation. -/
theorem act_pay (j) : k0_pay9 (F := Ideal) x j = gelu (x j) := by
  pointwise [k0_pay9, k0_pay8, k0_pay6, k0_pay5, k0_pay4, k0_pay3]
  exact gelu_eq _

/-- Of the gated activation's cotangent. -/
theorem cot_pay (j) : k0_pay16 (F := Ideal) (k0_pay12 (F := Ideal) z) d j = cot z d j := by
  pointwise [k0_pay16, k0_pay12, k0_pay10]
  simp only [zero_sub]
  rfl

/-- Of the gating product's cotangent. -/
theorem lin_pay (j) : k0_pay18 (F := Ideal) (k0_pay9 (F := Ideal) x) (k0_pay12 (F := Ideal) z) (k0_pay14 (F := Ideal) x w) (1 : EReal) d j
    = lin x z d w j := by
  have h : k0_pay18 (F := Ideal) (k0_pay9 (F := Ideal) x) (k0_pay12 (F := Ideal) z) (k0_pay14 (F := Ideal) x w) (1 : EReal) d j
      = cot z d j * gelu (x j) * mix x w j * (1 - mix x w j) := by
    rw [← mix_pay, ← cot_pay, ← act_pay]
    pointwise [k0_pay18]
  rw [h, lin, mul_comm (cot z d j), mul_assoc]

/-- Of the activation's argument. -/
theorem outer_pay (j) : k0_pay6 (F := Ideal) x j = outer (x j) := by
  pointwise [k0_pay6, k0_pay5, k0_pay4]
  rw [outer, mul_assoc (Ideal.ofBits .f32 0x3D372713#32) (x j) (x j), mul_assoc (Ideal.ofBits .f32 0x3D372713#32) (x j * x j) (x j)]

/-- Of the branch's gradient. -/
theorem slope_pay (j) : k0_pay19 (F := Ideal) x (k0_pay3 (F := Ideal) x) (k0_pay4 (F := Ideal) x) (k0_pay5 (F := Ideal) x) (k0_pay7 (F := Ideal) x) (k0_pay8 (F := Ideal) x)
      (k0_pay9 (F := Ideal) x) (k0_pay12 (F := Ideal) z) (k0_pay14 (F := Ideal) x w) (1 : EReal) d w j
    = slope (x j) (act x z d w j) := by
  rw [slope, ← cube]
  pointwise [k0_pay19, k0_pay7, k0_pay8, k0_pay5, k0_pay4, k0_pay3]
  simp only [lin_pay, mix_pay, cot_pay, outer_pay]
  rfl

/-- The gate's gradient. -/
theorem gate_pay (j) : k0_pay17 (F := Ideal) (k0_pay9 (F := Ideal) x) z (k0_pay10 (F := Ideal) z) (k0_pay11 (F := Ideal) z) (k0_pay14 (F := Ideal) x w) (1 : EReal) d j
    = gelu (x j) * mix x w j * d j * logistic (z j)
      + z j * (gelu (x j) * mix x w j * d j) * (logistic (z j) * (1 - logistic (z j))) := by
  rw [mul_comm (gelu (x j) * mix x w j), ← mix_pay, ← act_pay]
  pointwise [k0_pay17, k0_pay10, k0_pay11]
  simp only [zero_sub]
  rfl

/-- The part of the weight's gradient that a block of rows adds. -/
theorem weight_pay (a : Vec Ideal S1024x1024 .f32) (j) : k0_pay2 (F := Ideal) (k0_pay13 (F := Ideal) x)
      (k0_pay18 (F := Ideal) (k0_pay9 (F := Ideal) x) (k0_pay12 (F := Ideal) z) (k0_pay14 (F := Ideal) x w) (1 : EReal) d) a j
    = a j + ∑ r : Fin 256, lin x z d w (ix2 r (j 1)) * gelu (x (ix2 r (j 0))) := by
  pointwise [k0_pay2, k0_pay13]
  simp only [lin_pay, act_pay]
  exact congrArg (a j + ·) (Finset.sum_congr (M := EReal) rfl fun r _ => mul_comm (G := EReal) _ _)

/-- None is there at first. -/
theorem weight_zero (j) : k0_pay1 (F := Ideal) j = 0 := by pointwise [k0_pay1]

/-- The gradient of the branch. -/
theorem final4 (c : Dev nD) : (dats m 0 c).arrAt 4 (cfgs 0).N
    = val_main_v57 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 8 = 0
  on_goal 1 => rw [outsAt0_A m c t h]
  on_goal 2 => rw [outsAt0_B m c t h]
  all_goals
    frame_out
    rw [one, gate, slope_pay]
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v34_0, val_main_v34_2, val_main_v37, val_main_v39, val_main_v40, val_main_v41, val_main_v44, val_main_v45, val_main_v46, val_main_v47, val_main_v48, val_main_v49, val_main_v50, val_main_v51, val_main_v52, val_main_v53, val_main_v54, val_main_v55, val_main_v56, val_main_v57, val_main_call0_cst, val_main_call0_cst_0, val_main_call0_v0, val_main_call0_v1, val_main_call0_v2, val_main_call0_v3, val_main_call0_v4, val_main_cst, val_main_cst_0, val_main_cst_1, val_main_cst_10, val_main_cst_11, val_main_cst_2, val_main_cst_3, val_main_cst_4, val_main_cst_5, val_main_cst_6, val_main_cst_7, val_main_cst_8, val_main_cst_9]
    unfold slope act lin mix cot outer gelu logistic
    blk_point [iblk, V, idx t]

/-- The gradient of the gate. -/
theorem final5 (c : Dev nD) : (dats m 0 c).arrAt 5 (cfgs 0).N
    = val_main_v58 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 8 = 0
  on_goal 1 => rw [outsAt0_A m c t h]
  on_goal 2 => rw [outsAt0_B m c t h]
  all_goals
    frame_out
    rw [one, gate, gate_pay]
    pointwise [val_main_v0, val_main_v1, val_main_v2, val_main_v3, val_main_v7, val_main_v8, val_main_v9, val_main_v10, val_main_v11, val_main_v12, val_main_v18, val_main_v19, val_main_v20, val_main_v21, val_main_v22, val_main_v23, val_main_v24, val_main_v25, val_main_v26, val_main_v27, val_main_v28, val_main_v29, val_main_v33, val_main_v34_1, val_main_v34_2, val_main_v36, val_main_v38, val_main_v58, val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst_0, val_main_cst_1, val_main_cst_4, val_main_cst_5, val_main_cst_6, val_main_cst_7]
    unfold mix gelu logistic
    blk_point [iblk, V, idx t]

/-- The gradient of the weight. -/
theorem final6 (c : Dev nD) : (dats m 0 c).arrAt 6 (cfgs 0).N
    = val_main_v43 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  rw [← val_main_v43_eq]
  have h3 := (flush0_6 t).mp hf
  blk_simp
  rw [after0_6, Pipeline.eq_sum_fin_of_reset_step_apply_of_flush (fun n h => (outsAt0 m c n h).2.2) 8 (fun _ => 0) _
    (fun t h j => by rw [outsAt0_A m c t h]; frame_out; rw [one, gate, weight_pay, weight_zero])
    (fun t h j => by rw [outsAt0_B m c t h]; frame_out; rw [one, gate, weight_pay])
    t h3 _, zero_add]
  pointwise
  unfold lin mix cot gelu logistic
  refine Fin.sum_mul_add_congr fun s k hl => ?_
  blk_point [iblk, V, idx t, idx ⟨_, Pipeline.run_point_lt_of_flush t h3 s⟩]

/-- Every run of the reference ends, its arguments unchanged and no signal left. -/
theorem frame_ref : Cert.quiescent_GluBwdRefIdeal := fun m g _ =>
  (θ_run Cert.GluBwdRefIdeal.defs _ _).mono
    (fun r h => ⟨fun c => (h c).2.2.2, sem_eq_zero_of_no_sems (by decide) r.2⟩)
    (Cert.GluBwdRefIdeal.Value.run (F := Ideal) m g)

/-- The call's results are the reference's. -/
theorem values : Cert.algebraic_GluBwdIdeal_GluBwdRefIdeal := by
  pair_intro
  · run_from Cert.GluBwdIdeal.Value.run_blocks m g
  · refine θ_run_mono (Cert.GluBwdRefIdeal.Value.run m' g') fun r hr c =>
      ⟨(hr c).1.trans ?_, (hr c).2.1.trans ?_, (hr c).2.2.1.trans ?_, (hr c).2.2.2⟩
    all_goals obtain ⟨h0, h1, h2, h3⟩ := hagree c
    · rw [val_main_v57_eq, h0, h1, h2, h3]
      exact (final4 m c).symm
    · rw [val_main_v58_eq, h0, h1, h2, h3]
      exact (final5 m c).symm
    · rw [h0, h1, h2, h3]
      exact (val_main_v43_eq _ _ _ _).trans (final6 m c).symm

end Cert.GluBwdProof
-- ==== Proof.DiscBwd.lean ====
/- The discretisation, backward. -/
module

public import proofs.«01_k».proof.Proof.Gen.DiscBwdIdeal.Value
public import proofs.«01_k».proof.Proof.Gen.DiscBwdRefIdeal.Run
public import proofs.«01_k».proof.Proof.Gen.DiscBwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.DiscBwdProof

open Cert.DiscBwdIdeal Cert.DiscBwdIdeal.Gen

variable (m : (ℓ : Loc nD τ sig) → Buf (Elt Ideal) ℓ)

open Cert.DiscBwdRefIdeal.Read

/-- There is one point, and every block is the whole array. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0] :=
  (by decide +kernel : ∀ t : Fin grid0.N, _)

/-- The gradient of the eigenvalues' real parts. -/
theorem final7 (c : Dev nD) : (dats m 0 c).arrAt 7 (cfgs 0).N
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]; frame_out
  unfold_payloads
  pointwise [val_main_v0, val_main_v1, val_main_v2, val_main_v3, val_main_v4, val_main_v5, val_main_v6, val_main_v8, val_main_v9, val_main_v10, val_main_v11, val_main_v13, val_main_v14, val_main_v15, val_main_v16, val_main_v17, val_main_v18, val_main_v19, val_main_v20, val_main_v21, val_main_v23, val_main_v24, val_main_v25, val_main_v26, val_main_v27, val_main_v28, val_main_v30, val_main_v31, val_main_v32, val_main_v33, val_main_v34, val_main_v35, val_main_v36, val_main_v37, val_main_v39, val_main_v40, val_main_v41, val_main_v42, val_main_v43, val_main_v44, val_main_v45, val_main_v46, val_main_v47, val_main_v48, val_main_v51, val_main_v52, val_main_v53, val_main_v54, val_main_v55, val_main_v56, val_main_v61, val_main_v62, val_main_v63, val_main_v64, val_main_v66, val_main_v75, val_main_v76, val_main_v86, val_main_v91, val_main_v92, val_main_v93, val_main_cst, val_main_cst_0, val_main_cst_1]
  simp only [zero_sub]
  blk_point [iblk, V, idx t]

/-- Of their imaginary parts. -/
theorem final8 (c : Dev nD) : (dats m 0 c).arrAt 8 (cfgs 0).N
    = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; frame_out
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v23, val_main_v24, val_main_v25, val_main_v26, val_main_v27, val_main_v28, val_main_v30, val_main_v31, val_main_v32, val_main_v33, val_main_v34, val_main_v35, val_main_v36, val_main_v37, val_main_v38, val_main_v39, val_main_v40, val_main_v42, val_main_v43, val_main_v44, val_main_v45, val_main_v46, val_main_v47, val_main_v48, val_main_v49, val_main_v50, val_main_v51, val_main_v52, val_main_v55, val_main_v56, val_main_v57, val_main_v58, val_main_v59, val_main_v60, val_main_v65, val_main_v67, val_main_v71, val_main_v72, val_main_v73, val_main_v74, val_main_v77, val_main_v78, val_main_v83, val_main_v84, val_main_v85, val_main_cst, val_main_cst_0, val_main_cst_1]
  simp only [zero_sub]
  blk_point [iblk, V, idx t]

/-- Of the logarithm of the step. -/
theorem final9 (c : Dev nD) : (dats m 0 c).arrAt 9 (cfgs 0).N
    = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  unfold_payloads
  pointwise [val_main_v0, val_main_v1, val_main_v2, val_main_v3, val_main_v4, val_main_v5, val_main_v6, val_main_v7, val_main_v9, val_main_v10, val_main_v11, val_main_v12, val_main_v14, val_main_v15, val_main_v16, val_main_v36, val_main_v37, val_main_v39, val_main_v40, val_main_v42, val_main_v43, val_main_v48, val_main_v51, val_main_v52, val_main_v55, val_main_v56, val_main_v65, val_main_v66, val_main_v67, val_main_v68, val_main_v69, val_main_v70, val_main_v74, val_main_v75, val_main_v76, val_main_v77, val_main_v78, val_main_v79, val_main_v80, val_main_v81, val_main_v82, val_main_v86, val_main_v87, val_main_v88, val_main_v89, val_main_v90, val_main_v94, val_main_cst_2, val_main_cst_3, val_main_cst_4]
  simp only [zero_sub]
  blk_point [iblk, V, idx t]

/-- Every run of the reference ends, its arguments unchanged and no signal left. -/
theorem frame_ref : Cert.quiescent_DiscBwdRefIdeal := fun m g _ =>
  (θ_run Cert.DiscBwdRefIdeal.defs _ _).mono
    (fun r h => ⟨fun c => (h c).2.2.2, sem_eq_zero_of_no_sems (by decide) r.2⟩)
    (Cert.DiscBwdRefIdeal.Value.run (F := Ideal) m g)

/-- The call's results are the reference's. -/
theorem values : Cert.algebraic_DiscBwdIdeal_DiscBwdRefIdeal := by
  pair_intro
  · run_from Cert.DiscBwdIdeal.Value.run_blocks m g
  · refine θ_run_mono (Cert.DiscBwdRefIdeal.Value.run m' g') fun r hr c =>
      ⟨(hr c).1.trans ?_, (hr c).2.1.trans ?_, (hr c).2.2.1.trans ?_, (hr c).2.2.2⟩
    all_goals obtain ⟨h0, h1, h2, h3, h4, h5, h6⟩ := hagree c
    · rw [val_main_v93_eq, h0, h1, h2, h3, h4, h5, h6]
      exact (final7 m c).symm
    · rw [val_main_v85_eq, h0, h1, h2, h3, h4, h5, h6]
      exact (final8 m c).symm
    · rw [val_main_v94_eq, h0, h1, h2, h3, h4, h5, h6]
      exact (final9 m c).symm

end Cert.DiscBwdProof
-- ==== Proof.BbarBwd.lean ====
/- The discretised input matrix, backward. -/
module

public import proofs.«01_k».proof.Proof.Gen.BbarBwdIdeal.Value
public import proofs.«01_k».proof.Proof.Gen.BbarBwdRefIdeal.Run
public import proofs.«01_k».proof.Proof.Gen.BbarBwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.BbarBwdProof

open Cert.BbarBwdIdeal Cert.BbarBwdIdeal.Gen

variable (m : (ℓ : Loc nD τ sig) → Buf (Elt Ideal) ℓ)

open Cert.BbarBwdRefIdeal.Read

/-- There is one point, and every block is the whole array. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0] :=
  (by decide +kernel : ∀ t : Fin grid0.N, _)

/-- The gradient of the factor's real part. -/
theorem final6 (c : Dev nD) : (dats m 0 c).arrAt 6 (cfgs 0).N
    = val_main_v37 (F := Ideal) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  rw [← val_main_v37_eq]
  blk_simp
  rw [after0_6]; frame_out
  unfold_payloads
  pointwise
  rw [Finset.sum_add_distrib, add_comm]
  blk_point [iblk, V, idx t]

/-- Of its imaginary part. -/
theorem final7 (c : Dev nD) : (dats m 0 c).arrAt 7 (cfgs 0).N
    = val_main_v30 (F := Ideal) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  rw [← val_main_v30_eq]
  blk_simp
  rw [after0_7]; frame_out
  unfold_payloads
  pointwise
  simp only [sub_eq_add_neg (G := EReal), ← EReal.neg_mul]
  rw [Finset.sum_add_distrib]
  blk_point [iblk, V, idx t]

/-- Of the matrix's real part. -/
theorem final8 (c : Dev nD) : (dats m 0 c).arrAt 8 (cfgs 0).N
    = val_main_v33 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 8 _ (by decide +kernel) fun t _ y => ?_
  rw [← val_main_v33_eq]
  blk_simp
  rw [after0_8]; frame_out
  unfold_payloads
  pointwise
  rw [add_comm (G := EReal)]
  blk_point [iblk, V, idx t]

/-- Of its imaginary part. -/
theorem final9 (c : Dev nD) : (dats m 0 c).arrAt 9 (cfgs 0).N
    = val_main_v26 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 9 _ (by decide +kernel) fun t _ y => ?_
  rw [← val_main_v26_eq]
  blk_simp
  rw [after0_9]; frame_out
  unfold_payloads
  pointwise
  simp only [sub_eq_add_neg (G := EReal), ← mul_neg]
  blk_point [iblk, V, idx t]

/-- Every run of the reference ends, its arguments unchanged and no signal left. -/
theorem frame_ref : Cert.quiescent_BbarBwdRefIdeal := fun m g _ =>
  (θ_run Cert.BbarBwdRefIdeal.defs _ _).mono
    (fun r h => ⟨fun c => (h c).2.2.2.2, sem_eq_zero_of_no_sems (by decide) r.2⟩)
    (Cert.BbarBwdRefIdeal.Value.run (F := Ideal) m g)

/-- The call's results are the reference's. -/
theorem values : Cert.algebraic_BbarBwdIdeal_BbarBwdRefIdeal := by
  pair_intro
  · run_from Cert.BbarBwdIdeal.Value.run_blocks m g
  · refine θ_run_mono (Cert.BbarBwdRefIdeal.Value.run m' g') fun r hr c =>
      ⟨(hr c).1.trans ?_, (hr c).2.1.trans ?_, (hr c).2.2.1.trans ?_, (hr c).2.2.2.1.trans ?_, (hr c).2.2.2.2⟩
    all_goals obtain ⟨h0, h1, h2, h3, h4, h5⟩ := hagree c
    · rw [h2, h3, h4, h5]
      exact (val_main_v37_eq _ _ _ _).trans (final6 m c).symm
    · rw [h2, h3, h4, h5]
      exact (val_main_v30_eq _ _ _ _).trans (final7 m c).symm
    · rw [h0, h1, h4, h5]
      exact (val_main_v33_eq _ _ _ _).trans (final8 m c).symm
    · rw [h0, h1, h4, h5]
      exact (val_main_v26_eq _ _ _ _).trans (final9 m c).symm

end Cert.BbarBwdProof
-- ==== Proof.DnOutBwd.lean ====
/- The DeltaNet branch's gated norm, backward. -/
module

public import proofs.«01_k».proof.Proof.Gen.DnOutBwdIdeal.Value
public import proofs.«01_k».proof.Proof.Gen.DnOutBwdRefIdeal.Run
public import proofs.«01_k».proof.Proof.Gen.DnOutBwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.DnOutBwdProof

open Cert.DnOutBwdIdeal Cert.DnOutBwdIdeal.Gen

variable (m : (ℓ : Loc nD τ sig) → Buf (Elt Ideal) ℓ)

open Cert.DnOutBwdRefIdeal.Read

/-- Where the blocks of point `t` sit: row band `t / 8`, head `t % 8`; the gate is 40 heads further right. -/
theorem idx : ∀ t : Fin cfg0.N, win0_0.index t = ![t.val / 8, t.val % 8]
    ∧ win0_1.index t = ![t.val / 8, t.val % 8 + 40]
    ∧ win0_2.index t = ![0, 0]
    ∧ win0_3.index t = ![t.val / 8, t.val % 8]
    ∧ win0_4.index t = ![t.val / 8, t.val % 8]
    ∧ win0_5.index t = ![t.val / 8, t.val % 8]
    ∧ win0_6.index t = ![0, 0] :=
  (by decide +kernel : ∀ t : Fin grid0.N, _)

/-- A sum over the indices that an array's reduction takes to `j`, when pairs number them. -/
theorem sum_pairs {n0 n1 : ℕ} {s t : Shape} {axes : List (Fin s.rank)} (h : s.ReducesTo axes t) (v : s.Idx → EReal) (b : EReal) (j : t.Idx)
    (g : Fin n0 × Fin n1 → s.Idx) (hg : Function.Injective g) (hp : ∀ i, h.drop i = j ↔ ∃ p, g p = i) :
    Ideal.hostReduceAdd h v b j = b + ∑ x : Fin n0, ∑ y : Fin n1, v (g (x, y)) :=
  congrArg (b + ·) ((Finset.sum_filter_eq_sum_of_fiber _ g hg hp v).trans (Fintype.sum_prod_type _))

/-- A sum over a three-axis array's first two axes, at an index of the third. -/
theorem sum_heads {n0 n1 n2 : ℕ} (h : (⟨3, ![n0, n1, n2]⟩ : Shape).ReducesTo [0, 1] ⟨1, ![n2]⟩) (v : (⟨3, ![n0, n1, n2]⟩ : Shape).Idx → EReal)
    (b : EReal) (k : (⟨1, ![n2]⟩ : Shape).Idx) :
    Ideal.hostReduceAdd h v b k = b + ∑ i : Fin n0, ∑ j : Fin n1, v (ix3 i j (k 0)) := by
  refine sum_pairs h v b k (fun p : Fin n0 × Fin n1 => ix3 p.1 p.2 (k 0)) (fun _ _ e => Prod.ext (congrFun e 0) (congrFun e 1)) fun i => ?_
  constructor
  · rintro e
    refine ⟨(i 0, i 1), funext fun a => Fin.ext ?_⟩
    match a with
    | ⟨0, _⟩ => rfl
    | ⟨1, _⟩ => rfl
    | ⟨2, _⟩ => exact (congrArg Fin.val (congrFun e ⟨0, Nat.one_pos⟩)).symm
  · rintro ⟨p, rfl⟩
    funext a
    apply Fin.ext
    match a with
    | ⟨0, _⟩ => rfl

/-- What a point adds to the weight's gradient: `o` its rows, `z` the gate's, `d` the cotangent's. -/
def part (o z d : FVec Ideal S1024x128 .f32) (k : Fin 128) (r : Fin 1024) : EReal :=
  o (ix2 r k) * Ideal.rsqrt (Ideal.div (∑ a : Fin 128, o (ix2 r a) * o (ix2 r a)) (Ideal.ofBits .f32 0x43000000#32) + Ideal.ofBits .f32 0x358637BD#32)
    * (d (ix2 r k) * (z (ix2 r k) * Ideal.div 1 (1 + Ideal.exp (-z (ix2 r k)))))

/-- Sixteen points' rows, eight heads to a band of rows, are all rows' heads. -/
theorem regroup (f : Fin 16 → Fin 1024 → EReal) (g : Fin 2048 → Fin 8 → EReal)
    (e : ∀ (b : Fin 2) (h : Fin 8) (r : Fin 1024), f ⟨b * 8 + h, by omega⟩ r = g ⟨b * 1024 + r, by omega⟩ h) :
    ∑ s, ∑ r, f s r = ∑ i, ∑ h, g i h := by
  have e1 : ∑ s, ∑ r, f s r = ∑ b : Fin 2, ∑ h : Fin 8, ∑ r, f ⟨b * 8 + h, by omega⟩ r :=
    (Fin.sum_mul_add_congr (S := 2) (n := 8) fun b h hl => rfl).symm
  have e2 : ∑ i, ∑ h, g i h = ∑ b : Fin 2, ∑ r : Fin 1024, ∑ h, g ⟨b * 1024 + r, by omega⟩ h :=
    (Fin.sum_mul_add_congr (S := 2) (n := 1024) fun b h hl => rfl).symm
  rw [e1, e2]
  refine Finset.sum_congr rfl fun b _ => ?_
  rw [Finset.sum_comm]
  exact Finset.sum_congr rfl fun r _ => Finset.sum_congr rfl fun h _ => e b h r

/-- The rows' gradient. -/
theorem final4 (c : Dev nD) : (dats m 0 c).arrAt 4 (cfgs 0).N
    = val_main_v46 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 16 = 0
  on_goal 1 => rw [outsAt0_A m c t h]
  on_goal 2 => rw [outsAt0_B m c t h]
  all_goals
    frame_out
    unfold_payloads
    pointwise [val_main_v0, val_main_v1, val_main_v2, val_main_v3, val_main_v4, val_main_v5, val_main_v6, val_main_v7, val_main_v8, val_main_v9, val_main_v10, val_main_v11, val_main_v12, val_main_v13, val_main_v16, val_main_v19_0, val_main_v19_2, val_main_v21, val_main_v23, val_main_v28, val_main_v29, val_main_v32, val_main_v33, val_main_v34, val_main_v35, val_main_v36, val_main_v37, val_main_v38, val_main_v39, val_main_v40, val_main_v41, val_main_v42, val_main_v43, val_main_v44, val_main_v45, val_main_v46, val_main_call0_cst, val_main_call0_cst_0, val_main_call0_v0, val_main_call0_v1, val_main_call0_v2, val_main_call0_v3, val_main_call0_v4, val_main_cst, val_main_cst_0, val_main_cst_1, val_main_cst_2, val_main_cst_5, val_main_cst_6, val_main_cst_7]
    simp only [zero_sub]
    blk_point [iblk, V, idx t]

/-- The gate's gradient. -/
theorem final5 (c : Dev nD) : (dats m 0 c).arrAt 5 (cfgs 0).N
    = val_main_v48 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 16 = 0
  on_goal 1 => rw [outsAt0_A m c t h]
  on_goal 2 => rw [outsAt0_B m c t h]
  all_goals
    frame_out
    unfold_payloads
    pointwise [val_main_v0, val_main_v1, val_main_v2, val_main_v3, val_main_v4, val_main_v5, val_main_v6, val_main_v7, val_main_v8, val_main_v9, val_main_v10, val_main_v14, val_main_v15, val_main_v16, val_main_v17, val_main_v18, val_main_v19_1, val_main_v19_2, val_main_v21, val_main_v22, val_main_v24, val_main_v47, val_main_v48, val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1]
    simp only [zero_sub]
    blk_point [iblk, V, idx t]

/-- The weight's gradient. -/
theorem final6 (c : Dev nD) : (dats m 0 c).arrAt 6 (cfgs 0).N
    = val_main_v31 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  have h3 := (flush0_6 t).mp hf
  blk_simp
  rw [after0_6, Pipeline.eq_sum_fin_of_reset_step_apply_of_flush (fun n h => (outsAt0 m c n h).2.2) 16 (fun _ => 0)
    (fun t j => ∑ r, part (iblk m c 0 t) (iblk m c 1 t) (iblk m c 3 t) (j 1) r)
    (fun t h j => by rw [outsAt0_A m c t h]; frame_out; unfold_payloads; pointwise; simp only [zero_sub]; rfl)
    (fun t h j => by rw [outsAt0_B m c t h]; frame_out; unfold_payloads; pointwise; simp only [zero_sub]; rfl)
    t h3 _, zero_add]
  pointwise [val_main_v0, val_main_v1, val_main_v2, val_main_v3, val_main_v4, val_main_v5, val_main_v6, val_main_v7, val_main_v8, val_main_v9, val_main_v10, val_main_v14, val_main_v15, val_main_v19_0, val_main_v19_2, val_main_v21, val_main_v23, val_main_v25, val_main_v26, val_main_v27, val_main_v30, val_main_v31, val_main_call0_cst, val_main_call0_cst_0, val_main_call0_v0, val_main_call0_v1, val_main_call0_v2, val_main_call0_v3, val_main_call0_v4, val_main_cst, val_main_cst_0, val_main_cst_1, val_main_cst_3, val_main_cst_4]
  rw [sum_heads, zero_add, Fin.sum_univ_one, Fin.sum_univ_one]
  pointwise
  rw [sum_heads, zero_add]
  refine regroup _ _ fun b h r => ?_
  unfold part
  pointwise
  blk_point [iblk, V, idx t, idx ⟨_, Pipeline.run_point_lt_of_flush t h3 (⟨b.val * 8 + h.val, by omega⟩ : Fin 16)⟩]

/-- Every run of the reference ends, its arguments unchanged and no signal left. -/
theorem frame_ref : Cert.quiescent_DnOutBwdRefIdeal := fun m g _ =>
  (θ_run Cert.DnOutBwdRefIdeal.defs _ _).mono
    (fun r h => ⟨fun c => (h c).2.2.2, sem_eq_zero_of_no_sems (by decide) r.2⟩)
    (Cert.DnOutBwdRefIdeal.Value.run (F := Ideal) m g)

/-- The call's results are the reference's. -/
theorem values : Cert.algebraic_DnOutBwdIdeal_DnOutBwdRefIdeal := by
  pair_intro
  · run_from Cert.DnOutBwdIdeal.Value.run_blocks m g
  · refine θ_run_mono (Cert.DnOutBwdRefIdeal.Value.run m' g') fun r hr c =>
      ⟨(hr c).1.trans ?_, (hr c).2.1.trans ?_, (hr c).2.2.1.trans ?_, (hr c).2.2.2⟩
    all_goals obtain ⟨h0, h1, h2, h3⟩ := hagree c
    · rw [val_main_v46_eq, h0, h1, h2, h3]
      exact (final4 m c).symm
    · rw [h0, h1, h2, h3]
      exact (val_main_v48_eq _ _ _ _).trans (final5 m c).symm
    · rw [h0, h1, h3]
      exact (val_main_v31_eq _ _ _).trans (final6 m c).symm

end Cert.DnOutBwdProof
-- ==== Proof.Select.lean ====
/- A choice by a comparison of two small words is a choice by the numbers' comparison. -/
module

public import Idealize.ShloMosaic.Lib.WordCmp

@[expose] public section

namespace Cert.Select

open Idealize.ShloMosaic

/-- By `<`. -/
theorem select_lt {α : Type} {n k : ℕ} (hn : n < 2 ^ 31) (hk : k < 2 ^ 31) (a b : α) :
    Scalar.select (IntOp.cmpi .slt (BitVec.ofNat 32 n) (BitVec.ofNat 32 k)) a b = if n < k then a else b :=
  if_congr (WordCmp.cmpi_slt_ofNat_eq_one_iff (w := 32) hn hk) rfl rfl

/-- By `≥`. -/
theorem select_ge {α : Type} {n k : ℕ} (hn : n < 2 ^ 31) (hk : k < 2 ^ 31) (a b : α) :
    Scalar.select (IntOp.cmpi .sge (BitVec.ofNat 32 n) (BitVec.ofNat 32 k)) a b = if k ≤ n then a else b :=
  if_congr (WordCmp.cmpi_sge_ofNat_eq_one_iff (w := 32) hn hk) rfl rfl

/-- By `<`, where the words belong to a point of the grid. -/
theorem pick_lt {α : Type} {n k : ℕ} (hn : n < 2 ^ 31) (hk : k < 2 ^ 31) (a b : α) :
    Scalar.select (Scalar.cmpi .slt (BitVec.ofNat 32 n) (BitVec.ofNat 32 k)) a b = if n < k then a else b :=
  select_lt hn hk a b

end Cert.Select
-- ==== Proof.PrepFwd.lean ====
/- The DeltaNet branch's convolution, its activation and the norms of queries and keys, forward. -/
module

public import proofs.«01_k».proof.Proof.Gen.PrepFwdIdeal.Value
public import proofs.«01_k».proof.Proof.Gen.PrepFwdRefIdeal.Run
public import proofs.«01_k».proof.Proof.Gen.PrepFwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Proof.Select
public import proofs.«01_k».proof.Defs

@[expose] public section

set_option maxRecDepth 16384

noncomputable section

open Idealize.ShloMosaic Idealize.ShloMosaic.TcCoe Idealize.SL.Sem
open Idealize.ShloMosaic.Pipeline (Dat)

namespace Cert.PrepFwdProof

open Cert.PrepFwdIdeal Cert.PrepFwdIdeal.Gen

variable (m : (ℓ : Loc nD τ sig) → Buf (Elt Ideal) ℓ)

open Cert.PrepFwdRefIdeal.Read

/-- Where the blocks of point `t` sit: one head a point, the projection's sixteen further right. -/
theorem idx : ∀ t : Fin cfg0.N, win0_0.index t = ![0, t.val + 16]
    ∧ win0_1.index t = ![0, t.val]
    ∧ win0_2.index t = ![0, t.val] :=
  (by decide +kernel : ∀ t : Fin grid0.N, _)

/-- The convolution's last tap. -/
def tap (a : FVec Ideal S1x128 .f32) (y : FVec Ideal S2048x128 .f32) (j : S2048x128.Idx) : EReal := a (ix2 0 (j 1)) * y j

/-- Point `t` is the grid's coordinate. -/
theorem coord : ∀ t : Fin cfg0.N, (grid0.coords t 0 : ℕ) = t.val := (by decide +kernel : ∀ t : Fin grid0.N, _)

/-- The sigmoid's product with its argument. -/
def silu (s : EReal) : EReal := s * Ideal.div 1 (1 + Ideal.exp (-s))

/-- A head's rows divided by their norms. -/
def unit (f : S2048x128.Idx → EReal) (j : S2048x128.Idx) : EReal :=
  silu (f j) * Ideal.rsqrt (∑ a : Fin 128, silu (f (ix2 (j 0) a)) * silu (f (ix2 (j 0) a)) + Ideal.ofBits .f32 0x358637BD#32)

/-- What becomes of the convolution in head `n`: queries, keys, values. -/
def post (n : ℕ) (f : S2048x128.Idx → EReal) (j : S2048x128.Idx) : EReal :=
  if n < 16 then unit f j * (if n < 8 then Ideal.ofBits .f32 0x3DB504F3#32 else 1) else silu (f j)

/-- Queries. -/
theorem post_q {n : ℕ} (h : n < 8) (f j) : post n f j = unit f j * Ideal.ofBits .f32 0x3DB504F3#32 := by
  rw [post, if_pos (by omega), if_pos h]

/-- Keys. -/
theorem post_k {n : ℕ} (h : ¬n < 8) (h' : n < 16) (f j) : post n f j = unit f j := by
  rw [post, if_pos h', if_neg h, mul_one]

/-- Values. -/
theorem post_v {n : ℕ} (h : ¬n < 16) (f j) : post n f j = silu (f j) := by
  rw [post, if_neg h]

/-- The kernel's part after the convolution. -/
theorem post_pay {n : ℕ} (hn : n < 24) (x y : FVec Ideal S2048x128 .f32) (a : FVec Ideal S1x128 .f32) (f : S2048x128.Idx → EReal)
    (hf : ∀ j, x j + tap a y j = f j) (j) : k0_pay1 (F := Ideal) (BitVec.ofNat 32 n) x a y j = post n f j := by
  obtain rfl : (fun j => x j + tap a y j) = f := funext hf
  pointwise [k0_pay1]
  simp only [zero_sub]
  rw [Cert.Select.pick_lt (by omega) (by omega), Cert.Select.pick_lt (by omega) (by omega)]
  rfl

/-- A head's part of the reference's convolution. -/
def head (x0 : FVec Ideal S2048x6656 .f32) (x1 : FVec Ideal S4x3072 .f32) (n : ℕ) (hn : n < 24) (j : S2048x128.Idx) : EReal :=
  val_main_v23 (F := Ideal) x0 x1 (ix2 (j 0) ⟨n * 128 + (j 1 : ℕ), by have h : (j 1 : ℕ) < 128 := (j 1).isLt; omega⟩)

/-- The reference's part after the convolution. -/
theorem post_ref (x0 : FVec Ideal S2048x6656 .f32) (x1 : FVec Ideal S4x3072 .f32) (n : ℕ) (hn : n < 24) (j : S2048x128.Idx) :
    val_main_v48 (F := Ideal) x0 x1 (ix2 (j 0) ⟨n * 128 + (j 1 : ℕ), by have h : (j 1 : ℕ) < 128 := (j 1).isLt; omega⟩)
      = post n (head x0 x1 n hn) j := by
  have hj : (j 1 : ℕ) < 128 := (j 1).isLt
  have h1 : (n * 128 + (j 1 : ℕ)) / 128 = n := by omega
  by_cases h8 : n < 8
  · rewrite [post_q h8, unit]
    pointwise [val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_call0_cst, val_main_call0_cst_0, val_main_call0_v0, val_main_call0_v1, val_main_call0_v2, val_main_call0_v3, val_main_call0_v4, val_main_call0_v5, val_main_cst_1, val_main_cst_2, val_main_cst_3, val_main_cst_4, val_main_cst_5]
    rewrite [dif_pos (show (n * 128 + (j 1 : ℕ)) / 128 < 8 by omega)]
    simp only [h1]
    rfl
  · by_cases h16 : n < 16
    · rewrite [post_k h8 h16, unit]
      pointwise [val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_call0_cst, val_main_call0_cst_0, val_main_call0_v0, val_main_call0_v1, val_main_call0_v2, val_main_call0_v3, val_main_call0_v4, val_main_call0_v5, val_main_cst_1, val_main_cst_2, val_main_cst_3, val_main_cst_4, val_main_cst_5]
      rewrite [dif_neg (show ¬(n * 128 + (j 1 : ℕ)) / 128 < 8 by omega), dif_pos (show (n * 128 + (j 1 : ℕ)) / 128 - 8 < 8 by omega)]
      simp only [h1, show 8 + (n - 8) = n by omega]
      rfl
    · rewrite [post_v h16]
      pointwise [val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_call0_cst, val_main_call0_cst_0, val_main_call0_v0, val_main_call0_v1, val_main_call0_v2, val_main_call0_v3, val_main_call0_v4, val_main_call0_v5, val_main_cst_1, val_main_cst_2, val_main_cst_3, val_main_cst_4, val_main_cst_5]
      rewrite [dif_neg (show ¬(n * 128 + (j 1 : ℕ)) / 128 < 8 by omega), dif_neg (show ¬(n * 128 + (j 1 : ℕ)) / 128 - 8 < 8 by omega)]
      simp only [h1, show 16 + (n - 8 - 8) = n by omega]
      rfl

/-- Four products added in another order. -/
theorem turn (p q r s u v : EReal) : p * q + r + s + u * v = v * u + s + r + q * p := by
  rw [mul_comm p q, mul_comm u v]
  abel

/-- The convolution at point `t`: the taps that would reach above the first row are zero. -/
theorem conv (c : Dev nD) (t : Fin cfg0.N) (j) :
    k0_pay2 (F := Ideal) (iblk m c 0 t) (View.ld (iblk m c 1 t) r0_1) (View.ld (iblk m c 1 t) r0_2) (View.ld (iblk m c 1 t) r0_3) j
      + tap (View.ld (iblk m c 1 t) r0_4) (k0_pay3 (F := Ideal) (iblk m c 0 t)) j
    = head (m ((c : Thread nD τ).loc main_arg0)) (m ((c : Thread nD τ).loc main_arg1)) t.val t.isLt j := by
  have h0 : (j 0 : ℕ) < 2048 := (j 0).isLt
  have hj : (j 1 : ℕ) < 128 := (j 1).isLt
  have ht : t.val < 24 := t.isLt
  unfold head
  pointwise [tap, k0_pay2, k0_pay3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0]
  rw [Cert.Select.select_ge (by omega) (by omega), Cert.Select.select_ge (by omega) (by omega), Cert.Select.select_ge (by omega) (by omega), turn]
  refine congrArg₂ (· + ·) (congrArg₂ (· + ·) (congrArg₂ (· + ·) ?_ ?_) ?_) ?_
  all_goals split_ifs
  all_goals first
    | exact absurd ‹_› (by omega)
    | exact (zero_mul (M₀ := EReal) _).symm
    | exact (mul_zero (M₀ := EReal) _).symm
    | exact (zero_mul (M₀ := EReal) _).trans (mul_zero (M₀ := EReal) _).symm
    | exact (zero_mul (M₀ := EReal) _).trans (zero_mul (M₀ := EReal) _).symm
    | (blk_point [iblk, V, idx t]; done)
    | (rw [mul_comm (G := EReal)]; blk_point [iblk, V, idx t])

/-- Queries, keys and values. -/
theorem final2 (c : Dev nD) : (dats m 0 c).arrAt 2 (cfgs 0).N
    = val_main_v48 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  rw [coord t]
  refine (post_pay t.isLt _ _ _ _ (conv m c t) y).trans ((post_ref _ _ t.val t.isLt y).symm.trans (congrArg _ ?_))
  blk_ext [idx t]

/-- Every run of the reference ends, its arguments unchanged and no signal left. -/
theorem frame_ref : Cert.quiescent_PrepFwdRefIdeal := fun m g _ =>
  (θ_run Cert.PrepFwdRefIdeal.defs _ _).mono
    (fun r h => ⟨fun c => (h c).2, sem_eq_zero_of_no_sems (by decide) r.2⟩)
    (Cert.PrepFwdRefIdeal.Value.run (F := Ideal) m g)

/-- The call's results are the reference's. -/
theorem values : Cert.algebraic_PrepFwdIdeal_PrepFwdRefIdeal := by
  pair_intro
  · run_from Cert.PrepFwdIdeal.Value.run_blocks m g
  · refine θ_run_mono (Cert.PrepFwdRefIdeal.Value.run m' g') fun r hr c =>
      ⟨(hr c).1.trans ?_, (hr c).2⟩
    all_goals obtain ⟨h0, h1⟩ := hagree c
    · rw [val_main_v48_eq, h0, h1]
      exact (final2 m c).symm

end Cert.PrepFwdProof
-- ==== Proof.PrepBwd.lean ====
/- The DeltaNet branch's convolution, its activation and the norms of queries and keys, backward. -/
module

public import proofs.«01_k».proof.Proof.Gen.PrepBwdIdeal.Value
public import proofs.«01_k».proof.Proof.Gen.PrepBwdRefIdeal.Run
public import proofs.«01_k».proof.Proof.Gen.PrepBwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Proof.Select
public import proofs.«01_k».proof.Defs

@[expose] public section

set_option maxRecDepth 16384

noncomputable section

open Idealize.ShloMosaic Idealize.ShloMosaic.TcCoe Idealize.SL.Sem
open Idealize.ShloMosaic.Pipeline (Dat)

namespace Cert.PrepBwdProof

open Cert.PrepBwdIdeal Cert.PrepBwdIdeal.Gen

variable (m : (ℓ : Loc nD τ sig) → Buf (Elt Ideal) ℓ)

open Cert.PrepBwdRefIdeal.Read

/-- Where the blocks of point `t` sit: one head a point, the projection's sixteen further right. -/
theorem idx : ∀ t : Fin cfg0.N, win0_0.index t = ![0, t.val + 16]
    ∧ win0_1.index t = ![0, t.val]
    ∧ win0_2.index t = ![t.val / 8, 0, t.val % 8]
    ∧ win0_3.index t = ![0, t.val]
    ∧ win0_4.index t = ![0, t.val] :=
  (by decide +kernel : ∀ t : Fin grid0.N, _)

/-- The convolution's last tap. -/
def tap (a : FVec Ideal S1x128 .f32) (y : FVec Ideal S2048x128 .f32) (j : S2048x128.Idx) : EReal := a (ix2 0 (j 1)) * y j

/-- Point `t` is the grid's coordinate. -/
theorem coord : ∀ t : Fin cfg0.N, (grid0.coords t 0 : ℕ) = t.val := (by decide +kernel : ∀ t : Fin grid0.N, _)

/-- A head's part of the reference's convolution. -/
def head (x0 : FVec Ideal S2048x6656 .f32) (x1 : FVec Ideal S4x3072 .f32) (n : ℕ) (hn : n < 24) (j : S2048x128.Idx) : EReal :=
  val_main_v24 (F := Ideal) x0 x1 (ix2 (j 0) ⟨n * 128 + (j 1 : ℕ), by have h : (j 1 : ℕ) < 128 := (j 1).isLt; omega⟩)

/-- Four products added in another order. -/
theorem turn (p q r s u v : EReal) : p * q + r + s + u * v = v * u + s + r + q * p := by
  rw [mul_comm p q, mul_comm u v]
  abel

/-- The convolution at point `t`: the taps that would reach above the first row are zero. -/
theorem conv (c : Dev nD) (t : Fin cfg0.N) (j) :
    k0_pay2 (F := Ideal) (iblk m c 0 t) (View.ld (iblk m c 1 t) r0_1) (View.ld (iblk m c 1 t) r0_2) (View.ld (iblk m c 1 t) r0_3) j
      + tap (View.ld (iblk m c 1 t) r0_4) (k0_pay3 (F := Ideal) (iblk m c 0 t)) j
    = head (m ((c : Thread nD τ).loc main_arg0)) (m ((c : Thread nD τ).loc main_arg1)) t.val t.isLt j := by
  have h0 : (j 0 : ℕ) < 2048 := (j 0).isLt
  have hj : (j 1 : ℕ) < 128 := (j 1).isLt
  have ht : t.val < 24 := t.isLt
  unfold head
  pointwise [tap, k0_pay2, k0_pay3, val_main_v0, val_main_v1, val_main_v2, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_1]
  rw [Cert.Select.select_ge (by omega) (by omega), Cert.Select.select_ge (by omega) (by omega), Cert.Select.select_ge (by omega) (by omega), turn]
  refine congrArg₂ (· + ·) (congrArg₂ (· + ·) (congrArg₂ (· + ·) ?_ ?_) ?_) ?_
  all_goals split_ifs
  all_goals first
    | exact absurd ‹_› (by omega)
    | exact (zero_mul (M₀ := EReal) _).symm
    | exact (mul_zero (M₀ := EReal) _).symm
    | exact (zero_mul (M₀ := EReal) _).trans (mul_zero (M₀ := EReal) _).symm
    | exact (zero_mul (M₀ := EReal) _).trans (zero_mul (M₀ := EReal) _).symm
    | (blk_point [iblk, V, idx t]; done)
    | (rw [mul_comm (G := EReal)]; blk_point [iblk, V, idx t])

/-- A head's part of the cotangent. -/
def headD (x2 : FVec Ideal S3x2048x1024 .f32) (n : ℕ) (hn : n < 24) (j : S2048x128.Idx) : EReal :=
  val_main_v62 (F := Ideal) x2 (ix2 (j 0) ⟨n * 128 + (j 1 : ℕ), by have h : (j 1 : ℕ) < 128 := (j 1).isLt; omega⟩)

/-- The sigmoid. -/
def logistic (f : S2048x128.Idx → EReal) (j : S2048x128.Idx) : EReal := Ideal.div 1 (1 + Ideal.exp (-f j))

/-- The sigmoid's product with its argument. -/
def silu (f : S2048x128.Idx → EReal) (j : S2048x128.Idx) : EReal := f j * logistic f j

/-- The square of a row's norm. -/
def norm (f : S2048x128.Idx → EReal) (i : Fin 2048) : EReal :=
  ∑ a : Fin 128, silu f (ix2 i a) * silu f (ix2 i a) + Ideal.ofBits .f32 0x358637BD#32

/-- What comes back through a row's norm. -/
def back (f u : S2048x128.Idx → EReal) (i : Fin 2048) : EReal :=
  ∑ _ : Fin 1, (∑ a : Fin 128, silu f (ix2 i a) * u (ix2 i a)) * (Ideal.ofBits .f32 0xBF000000#32 * Ideal.div (Ideal.rsqrt (norm f i)) (norm f i))

/-- The gradient of the activation where its rows are divided by their norms. -/
def unitGrad (f u : S2048x128.Idx → EReal) (j : S2048x128.Idx) : EReal :=
  u j * Ideal.rsqrt (norm f (j 0)) + silu f j * back f u (j 0) + back f u (j 0) * silu f j

/-- The gradient of the convolution from the activation's. -/
def chain (f g : S2048x128.Idx → EReal) (j : S2048x128.Idx) : EReal :=
  g j * logistic f j + f j * g j * (logistic f j * (1 - logistic f j))

/-- The gradient of head `n`'s convolution: queries, keys, values. -/
def grad (n : ℕ) (f d : S2048x128.Idx → EReal) (j : S2048x128.Idx) : EReal :=
  if n < 8 then chain f (unitGrad f fun j => d j * Ideal.ofBits .f32 0x3DB504F3#32) j
  else if n < 16 then chain f (unitGrad f d) j else chain f d j

/-- The kernel's gradient of the convolution. -/
theorem grad_pay {n : ℕ} (hn : n < 24) (x y : FVec Ideal S2048x128 .f32) (a : FVec Ideal S1x128 .f32) (D : FVec Ideal S1x2048x128 .f32)
    (f d : S2048x128.Idx → EReal) (hf : ∀ j, x j + tap a y j = f j) (hd : ∀ j, D (ix3 0 (j 0) (j 1)) = d j) (j : S2048x128.Idx) :
    k0_pay15 (F := Ideal) (k0_pay4 x a y) (k0_pay5 x a y) (k0_pay6 x a y) (k0_pay7 x a y) (k0_pay13 (BitVec.ofNat 32 n) x a y D)
      (k0_pay14 (BitVec.ofNat 32 n) x a y D) j = grad n f d j := by
  obtain rfl : (fun j => x j + tap a y j) = f := funext hf
  obtain rfl : (fun j => D (ix3 0 (j 0) (j 1))) = d := funext hd
  by_cases h8 : n < 8
  · have s8 : ∀ {α : Type} (a b : α), Scalar.select (Scalar.cmpi .slt (BitVec.ofNat 32 n) 8#32) a b = a :=
      fun a b => (Cert.Select.pick_lt (by omega) (by omega) a b).trans (if_pos h8)
    have s16 : ∀ {α : Type} (a b : α), Scalar.select (Scalar.cmpi .slt (BitVec.ofNat 32 n) 16#32) a b = a :=
      fun a b => (Cert.Select.pick_lt (by omega) (by omega) a b).trans (if_pos (by omega))
    rewrite [grad, if_pos h8]
    pointwise [k0_pay4, k0_pay5, k0_pay6, k0_pay7, k0_pay8, k0_pay9, k0_pay10, k0_pay11, k0_pay12, k0_pay13, k0_pay14, k0_pay15]
    simp only [s8, s16, zero_sub, zero_add]
    rfl
  · have s8 : ∀ {α : Type} (a b : α), Scalar.select (Scalar.cmpi .slt (BitVec.ofNat 32 n) 8#32) a b = b :=
      fun a b => (Cert.Select.pick_lt (by omega) (by omega) a b).trans (if_neg h8)
    by_cases h16 : n < 16
    · have s16 : ∀ {α : Type} (a b : α), Scalar.select (Scalar.cmpi .slt (BitVec.ofNat 32 n) 16#32) a b = a :=
        fun a b => (Cert.Select.pick_lt (by omega) (by omega) a b).trans (if_pos h16)
      rewrite [grad, if_neg h8, if_pos h16]
      pointwise [k0_pay4, k0_pay5, k0_pay6, k0_pay7, k0_pay8, k0_pay9, k0_pay10, k0_pay11, k0_pay12, k0_pay13, k0_pay14, k0_pay15]
      simp only [s8, s16, zero_sub, zero_add, mul_one]
      rfl
    · have s16 : ∀ {α : Type} (a b : α), Scalar.select (Scalar.cmpi .slt (BitVec.ofNat 32 n) 16#32) a b = b :=
        fun a b => (Cert.Select.pick_lt (by omega) (by omega) a b).trans (if_neg h16)
      rewrite [grad, if_neg h8, if_neg h16]
      pointwise [k0_pay4, k0_pay5, k0_pay6, k0_pay7, k0_pay8, k0_pay9, k0_pay10, k0_pay11, k0_pay12, k0_pay13, k0_pay14, k0_pay15]
      simp only [s16, zero_sub, add_zero, zero_mul, mul_zero, Finset.sum_const_zero]
      rfl

/-- The same from the blocks of a point. -/
theorem grad_block (i : grid0.Coords) {n : ℕ} (hi : (i 0 : ℕ) = n) (hn : n < 24) (x0 : Vec Ideal S2048x128 .f32) (x1 : Vec Ideal S4x128 .f32)
    (x2 : Vec Ideal S1x2048x128 .f32) (f d : S2048x128.Idx → EReal)
    (hf : ∀ j, k0_pay2 (F := Ideal) x0 (View.ld x1 r0_1) (View.ld x1 r0_2) (View.ld x1 r0_3) j + tap (View.ld x1 r0_4) (k0_pay3 (F := Ideal) x0) j = f j)
    (hd : ∀ j : S2048x128.Idx, View.ld x2 r0_5 (ix3 0 (j 0) (j 1)) = d j) (j : S2048x128.Idx) :
    k0_pay31 (F := Ideal) i x0 x1 x2 j = grad n f d j := by
  have h0 : View.ld x0 r0_0 = x0 := View.ld_unit_lit _ _ (by intro a; fin_cases a <;> rfl)
  unfold k0_pay31 k0_pay30 k0_pay29 k0_pay28 k0_pay27 k0_pay26 k0_pay25 k0_pay24 k0_pay23
  rw [hi, h0]
  exact grad_pay hn _ _ _ _ _ _ hf hd j

/-- The reference's. -/
theorem grad_ref (x0 : FVec Ideal S2048x6656 .f32) (x1 : FVec Ideal S4x3072 .f32) (x2 : FVec Ideal S3x2048x1024 .f32) (n : ℕ) (hn : n < 24) (j : S2048x128.Idx) :
    val_main_v95 (F := Ideal) x0 x1 x2 (ix2 (j 0) ⟨n * 128 + (j 1 : ℕ), by have h : (j 1 : ℕ) < 128 := (j 1).isLt; omega⟩)
      = grad n (head x0 x1 n hn) (headD x2 n hn) j := by
  have hj : (j 1 : ℕ) < 128 := (j 1).isLt
  have h1 : (n * 128 + (j 1 : ℕ)) / 128 = n := by omega
  by_cases h8 : n < 8
  · rewrite [grad, if_pos h8]
    pointwise [val_main_v25_0, val_main_v25_1, val_main_v25_2, val_main_v26, val_main_v27, val_main_v28, val_main_v30, val_main_v31, val_main_v32, val_main_v33, val_main_v34, val_main_v35, val_main_v36, val_main_v37, val_main_v38, val_main_v43, val_main_v44, val_main_v45, val_main_v46, val_main_v47, val_main_v48, val_main_v49, val_main_v50, val_main_v51, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst_10, val_main_cst_11, val_main_cst_12, val_main_cst_13, val_main_cst_2, val_main_cst_3, val_main_cst_4, val_main_cst_6, val_main_cst_7, val_main_cst_8, val_main_cst_9]
    rewrite [dif_pos (show (n * 128 + (j 1 : ℕ)) / 128 < 8 by omega)]
    simp only [h1]
    rfl
  · by_cases h16 : n < 16
    · rewrite [grad, if_neg h8, if_pos h16]
      pointwise [val_main_v25_0, val_main_v25_1, val_main_v25_2, val_main_v26, val_main_v27, val_main_v28, val_main_v30, val_main_v31, val_main_v32, val_main_v33, val_main_v34, val_main_v35, val_main_v36, val_main_v37, val_main_v38, val_main_v43, val_main_v44, val_main_v45, val_main_v46, val_main_v47, val_main_v48, val_main_v49, val_main_v50, val_main_v51, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst_10, val_main_cst_11, val_main_cst_12, val_main_cst_13, val_main_cst_2, val_main_cst_3, val_main_cst_4, val_main_cst_6, val_main_cst_7, val_main_cst_8, val_main_cst_9]
      rewrite [dif_neg (show ¬(n * 128 + (j 1 : ℕ)) / 128 < 8 by omega), dif_pos (show (n * 128 + (j 1 : ℕ)) / 128 - 8 < 8 by omega)]
      simp only [h1, show 8 + (n - 8) = n by omega]
      rfl
    · rewrite [grad, if_neg h8, if_neg h16]
      pointwise [val_main_v25_0, val_main_v25_1, val_main_v25_2, val_main_v26, val_main_v27, val_main_v28, val_main_v30, val_main_v31, val_main_v32, val_main_v33, val_main_v34, val_main_v35, val_main_v36, val_main_v37, val_main_v38, val_main_v43, val_main_v44, val_main_v45, val_main_v46, val_main_v47, val_main_v48, val_main_v49, val_main_v50, val_main_v51, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst_10, val_main_cst_11, val_main_cst_12, val_main_cst_13, val_main_cst_2, val_main_cst_3, val_main_cst_4, val_main_cst_6, val_main_cst_7, val_main_cst_8, val_main_cst_9]
      rewrite [dif_neg (show ¬(n * 128 + (j 1 : ℕ)) / 128 < 8 by omega), dif_neg (show ¬(n * 128 + (j 1 : ℕ)) / 128 - 8 < 8 by omega)]
      simp only [h1, show 16 + (n - 8 - 8) = n by omega]
      rfl

/-- Point `t`'s part of the cotangent. -/
theorem cot (c : Dev nD) (t : Fin cfg0.N) (j : S2048x128.Idx) :
    View.ld (iblk m c 2 t) r0_5 (ix3 0 (j 0) (j 1)) = headD (m ((c : Thread nD τ).loc main_arg2)) t.val t.isLt j := by
  have ht : t.val < 24 := t.isLt
  have h0 : (j 0 : ℕ) < 2048 := (j 0).isLt
  have hj : (j 1 : ℕ) < 128 := (j 1).isLt
  unfold headD
  pointwise [val_main_v56, val_main_v57, val_main_v58, val_main_v59, val_main_v60, val_main_v61, val_main_v62]
  split_ifs
  all_goals blk_point [iblk, V, idx t]

/-- Point `t`'s gradient of the convolution. -/
theorem grad_at (c : Dev nD) (t : Fin cfg0.N) (j : S2048x128.Idx) :
    k0_pay31 (F := Ideal) (grid0.coords t) (iblk m c 0 t) (iblk m c 1 t) (iblk m c 2 t) j
      = grad t.val (head (m ((c : Thread nD τ).loc main_arg0)) (m ((c : Thread nD τ).loc main_arg1)) t.val t.isLt)
          (headD (m ((c : Thread nD τ).loc main_arg2)) t.val t.isLt) j := by
  exact grad_block (grid0.coords t) (coord t) t.isLt (iblk m c 0 t) (iblk m c 1 t) (iblk m c 2 t) _ _ (conv m c t) (cot m c t) j

/-- Row `i + k` of a column, nothing below the last one. -/
def up (G : Fin 2048 → EReal) (i : Fin 2048) (k : ℕ) : EReal := if h : i.val + k < 2048 then G ⟨i.val + k, h⟩ else 0

/-- The kernel turns the rows round. -/
theorem up_turn (G : Fin 2048 → EReal) (i : Fin 2048) {p k : ℕ} (h : p + k = 2048) (hk : 0 < k) (hp : (i.val + 2048 - p) % 2048 < 2048) :
    (if i.val < p then G ⟨(i.val + 2048 - p) % 2048, hp⟩ else 0) = up G i k := by
  have hi := i.isLt
  unfold up
  by_cases hc : i.val < p
  · rw [if_pos hc, dif_pos (by omega)]
    exact congrArg G (Fin.ext (show (i.val + 2048 - p) % 2048 = i.val + k by omega))
  · rw [if_neg hc, dif_neg (by omega)]

/-- The reference pads and cuts them. -/
theorem up_pad (G : Fin 2048 → EReal) (i : Fin 2048) {p k : ℕ} (h : p + k = 3) (hp : p ≤ 3 + i.val ∧ 3 + i.val - p < 2048 → 3 + i.val - p < 2048) :
    (if h : p ≤ 3 + i.val ∧ 3 + i.val - p < 2048 then G ⟨3 + i.val - p, hp h⟩ else 0) = up G i k := by
  unfold up
  by_cases hc : i.val + k < 2048
  · rw [dif_pos (show p ≤ 3 + i.val ∧ 3 + i.val - p < 2048 by omega), dif_pos hc]
    exact congrArg G (Fin.ext (show 3 + i.val - p = i.val + k by omega))
  · rw [dif_neg (show ¬(p ≤ 3 + i.val ∧ 3 + i.val - p < 2048) by omega), dif_neg hc]

/-- The gradient of a column of the projection from the convolution's, by the filter's four numbers. -/
def column (g : Fin 2048 → EReal) (w : Fin 4 → EReal) (i : Fin 2048) : EReal :=
  g i * w 3 + up (fun i => g i * w 2) i 1 + up (fun i => g i * w 1) i 2 + up (fun i => g i * w 0) i 3

/-- The kernel's. -/
theorem column_pay (v41 v48 v51 v52 v77 v81 : FVec Ideal S2048x128 .f32) (w3 w2 w1 w0 : FVec Ideal S1x128 .f32) (j : S2048x128.Idx) (g : Fin 2048 → EReal)
    (w : Fin 4 → EReal) (hg : ∀ i, k0_pay15 (F := Ideal) v41 v48 v51 v52 v77 v81 (ix2 i (j 1)) = g i)
    (h3 : w3 (ix2 0 (j 1)) = w 3) (h2 : w2 (ix2 0 (j 1)) = w 2) (h1 : w1 (ix2 0 (j 1)) = w 1) (h0 : w0 (ix2 0 (j 1)) = w 0) :
    k0_pay19 (F := Ideal) (k0_pay16 v41 v48 v51 v52 v77 v81 w3 w2 w1) w0 k0_pay17 (k0_pay18 v41 v48 v51 v52 v77 v81) (FloatOps.ofBits .f32 0#32) j
      = column g w (j 0) := by
  have hj : (j 0 : ℕ) < 2048 := (j 0).isLt
  have hg' : k0_pay15 (F := Ideal) v41 v48 v51 v52 v77 v81 j = g (j 0) := (congrArg _ (show j = ix2 (j 0) (j 1) by blk_ext)).trans (hg (j 0))
  unfold column
  pointwise [k0_pay16, k0_pay17, k0_pay18, k0_pay19]
  rw [Cert.Select.select_lt (by omega) (by omega), Cert.Select.select_lt (by omega) (by omega), Cert.Select.select_lt (by omega) (by omega)]
  simp only [hg, hg', h0, h1, h2, h3]
  refine congrArg₂ (· + ·) (congrArg₂ (· + ·) (congrArg₂ (· + ·) (mul_comm _ _) ?_) ?_) ?_
  · exact (if_congr Iff.rfl (mul_comm _ _) rfl).trans (up_turn (fun i => g i * w 2) (j 0) (p := 2047) (k := 1) rfl (by norm_num) _)
  · exact (if_congr Iff.rfl (mul_comm _ _) rfl).trans (up_turn (fun i => g i * w 1) (j 0) (p := 2046) (k := 2) rfl (by norm_num) _)
  · exact (if_congr Iff.rfl (mul_comm _ _) rfl).trans (up_turn (fun i => g i * w 0) (j 0) (p := 2045) (k := 3) rfl (by norm_num) _)

/-- The reference's. -/
theorem column_ref (x0 : FVec Ideal S2048x6656 .f32) (x1 : FVec Ideal S4x3072 .f32) (x2 : FVec Ideal S3x2048x1024 .f32) (p : S2048x3072.Idx) :
    val_main_v132 (F := Ideal) x0 x1 x2 p = column (fun i => val_main_v95 (F := Ideal) x0 x1 x2 (ix2 i (p 1))) (fun k => x1 (ix2 k (p 1))) (p 0) := by
  have hp : (p 0 : ℕ) < 2048 := (p 0).isLt
  unfold column
  pointwise [val_main_v99, val_main_v100, val_main_v102, val_main_v106, val_main_v107, val_main_v110, val_main_v111, val_main_v115, val_main_v116, val_main_v119, val_main_v120, val_main_v124, val_main_v125, val_main_v128, val_main_v129, val_main_v131, val_main_v132, val_main_cst_16, val_main_cst_19, val_main_cst_22, val_main_cst_25, val_main_v5, val_main_v11, val_main_v16, val_main_v21]
  refine congrArg₂ (· + ·) (congrArg₂ (· + ·) (congrArg₂ (· + ·) ?_ ?_) ?_) ?_
  · rfl
  · exact up_pad (fun i => val_main_v95 (F := Ideal) x0 x1 x2 (ix2 i (p 1)) * x1 (ix2 2 (p 1))) (p 0) (p := 2) (k := 1) rfl _
  · exact up_pad (fun i => val_main_v95 (F := Ideal) x0 x1 x2 (ix2 i (p 1)) * x1 (ix2 1 (p 1))) (p 0) (p := 1) (k := 2) rfl _
  · unfold up
    by_cases hc : (p 0 : ℕ) + 3 < 2048
    · rw [dif_pos (show 3 + (p 0 : ℕ) < 2048 by omega), dif_pos hc]
      exact congrArg (fun i => val_main_v95 (F := Ideal) x0 x1 x2 (ix2 i (p 1)) * x1 (ix2 0 (p 1))) (Fin.ext (Nat.add_comm _ _))
    · rw [dif_neg (show ¬3 + (p 0 : ℕ) < 2048 by omega), dif_neg hc]

/-- A number of the filter's gradient: `k` rows lie between the gradient and the input. -/
def corr (g x : Fin 2048 → EReal) (k : ℕ) : EReal :=
  ∑ i : Fin 2048, if h : k ≤ i.val then g i * x ⟨i.val - k, by have := i.isLt; omega⟩ else 0

/-- The kernel's, its rows turned. -/
theorem corr_turn (g x : Fin 2048 → EReal) {k : ℕ} (hk : k < 2048) :
    ∑ i : Fin 2048, Scalar.select (IntOp.cmpi .sge (BitVec.ofNat 32 i.val) (BitVec.ofNat 32 k)) (g i * x ⟨(i.val + 2048 - k) % 2048, Nat.mod_lt _ (by norm_num)⟩) 0
      = corr g x k := by
  refine Finset.sum_congr rfl fun i _ => ?_
  have hi := i.isLt
  rw [Cert.Select.select_ge (by omega) (by omega)]
  by_cases hc : k ≤ i.val
  · rw [if_pos hc, dif_pos hc]
    exact congrArg (fun q => g i * x q) (Fin.ext (show (i.val + 2048 - k) % 2048 = i.val - k by omega))
  · rw [if_neg hc, dif_neg hc]

/-- The reference's, its rows padded. -/
theorem corr_pad (g x : Fin 2048 → EReal) {p k : ℕ} (h : p + k = 3) (hp : ∀ i : Fin 2048, ¬p + i.val < 3 → p + i.val - 3 < 2048) :
    ∑ i : Fin 2048, (if h : p + i.val < 3 then 0 else x ⟨p + i.val - 3, hp i h⟩) * g i = corr g x k := by
  refine Finset.sum_congr rfl fun i _ => ?_
  by_cases hc : k ≤ i.val
  · rw [dif_neg (show ¬p + i.val < 3 by omega), dif_pos hc, mul_comm]
    exact congrArg (fun q => g i * x q) (Fin.ext (show p + i.val - 3 = i.val - k by omega))
  · rw [dif_pos (show p + i.val < 3 by omega), dif_neg hc, zero_mul]

/-- No rows between. -/
theorem corr_zero (g x : Fin 2048 → EReal) : ∑ i : Fin 2048, g i * x i = corr g x 0 :=
  Finset.sum_congr rfl fun i _ => by
    rw [dif_pos (Nat.zero_le i.val)]
    rfl

/-- The kernel's four rows. -/
theorem corr_pay (x g : FVec Ideal S2048x128 .f32) (b : Fin 128) (k : ℕ) (hk : k < 4) :
    (![k0_pay20 (F := Ideal) x g, k0_pay21 x g, k0_pay22 x g, k0_pay1 x g (iota Kind.tc S2048x1 32 [0] iota_S2048x1_d0_w32) 3#32] : Fin 4 → FVec Ideal S1x128 .f32) ⟨k, hk⟩ (ix2 0 b)
      = corr (fun i => g (ix2 i b)) (fun i => x (ix2 i b)) k := by
  interval_cases k
  · refine Eq.trans ?_ (corr_zero _ _)
    show k0_pay20 (F := Ideal) x g (ix2 0 b) = _
    pointwise [k0_pay20]
  · refine Eq.trans ?_ (corr_turn _ _ (by norm_num))
    show k0_pay21 (F := Ideal) x g (ix2 0 b) = _
    pointwise [k0_pay21]
  · refine Eq.trans ?_ (corr_turn _ _ (by norm_num))
    show k0_pay22 (F := Ideal) x g (ix2 0 b) = _
    pointwise [k0_pay22]
  · refine Eq.trans ?_ (corr_turn _ _ (by norm_num))
    show k0_pay1 (F := Ideal) x g (iota Kind.tc S2048x1 32 [0] iota_S2048x1_d0_w32) 3#32 (ix2 0 b) = _
    pointwise [k0_pay1]

/-- Rows of the padded projection. -/
theorem padded (x0 : FVec Ideal S2048x6656 .f32) (q : S2048x3072.Idx) :
    val_main_v4 (F := Ideal) x0 q = if h : 0 + (q 0 : ℕ) < 3 then 0 else x0 (ix2 ⟨0 + (q 0 : ℕ) - 3, by have h : (q 0 : ℕ) < 2048 := (q 0).isLt; omega⟩ ⟨2048 + (q 1 : ℕ), by have h : (q 1 : ℕ) < 3072 := (q 1).isLt; omega⟩) := by
  pointwise [val_main_v4, val_main_v2, val_main_v1, val_main_v0, val_main_cst]

/-- The reference's four rows. -/
theorem corr_ref (x0 : FVec Ideal S2048x6656 .f32) (x1 : FVec Ideal S4x3072 .f32) (x2 : FVec Ideal S3x2048x1024 .f32) (p : S4x3072.Idx) :
    val_main_v127 (F := Ideal) x0 x1 x2 p = corr (fun i => val_main_v95 (F := Ideal) x0 x1 x2 (ix2 i (p 1)))
      (fun i => x0 (ix2 i ⟨2048 + (p 1 : ℕ), by have h : (p 1 : ℕ) < 3072 := (p 1).isLt; omega⟩)) (3 - (p 0 : ℕ)) := by
  have hp : (p 0 : ℕ) < 4 := (p 0).isLt
  pointwise [val_main_v96, val_main_v97, val_main_v98, val_main_v101, val_main_v103, val_main_v104, val_main_v105, val_main_v108, val_main_v109, val_main_v112, val_main_v113, val_main_v114, val_main_v117, val_main_v118, val_main_v121, val_main_v122, val_main_v123, val_main_v126, val_main_v127, val_main_cst_14, val_main_cst_15, val_main_cst_17, val_main_cst_18, val_main_cst_20, val_main_cst_21, val_main_cst_23, val_main_cst_24, val_main_v20, val_main_v15, val_main_v10, val_main_v3, val_main_cst_0, val_main_v2, val_main_v1, val_main_v0, val_main_cst]
  have hq : 2048 + (p 1 : ℕ) < 6656 := by have h : (p 1 : ℕ) < 3072 := (p 1).isLt; omega
  obtain hk | hk | hk | hk : (p 0 : ℕ) = 3 ∨ (p 0 : ℕ) = 2 ∨ (p 0 : ℕ) = 1 ∨ (p 0 : ℕ) = 0 := by omega
  · rw [dif_pos (show 3 ≤ (p 0 : ℕ) ∧ (p 0 : ℕ) - 3 < 1 by omega), dif_neg (show ¬(2 ≤ (p 0 : ℕ) ∧ (p 0 : ℕ) - 2 < 1) by omega),
      dif_neg (show ¬(1 ≤ (p 0 : ℕ) ∧ (p 0 : ℕ) - 1 < 1) by omega), dif_neg (show ¬(p 0 : ℕ) < 1 by omega), show 3 - (p 0 : ℕ) = 0 by omega]
    simp only [add_zero]
    exact (Finset.sum_congr rfl fun i _ => mul_comm (G := EReal) _ _).trans (corr_zero _ _)
  · rw [dif_neg (show ¬(3 ≤ (p 0 : ℕ) ∧ (p 0 : ℕ) - 3 < 1) by omega), dif_pos (show 2 ≤ (p 0 : ℕ) ∧ (p 0 : ℕ) - 2 < 1 by omega),
      dif_neg (show ¬(1 ≤ (p 0 : ℕ) ∧ (p 0 : ℕ) - 1 < 1) by omega), dif_neg (show ¬(p 0 : ℕ) < 1 by omega), show 3 - (p 0 : ℕ) = 1 by omega]
    simp only [add_zero, zero_add]
    exact corr_pad (fun i => val_main_v95 (F := Ideal) x0 x1 x2 (ix2 i (p 1))) (fun i => x0 (ix2 i ⟨2048 + (p 1 : ℕ), hq⟩)) (p := 2) (k := 1) rfl _
  · rw [dif_neg (show ¬(3 ≤ (p 0 : ℕ) ∧ (p 0 : ℕ) - 3 < 1) by omega), dif_neg (show ¬(2 ≤ (p 0 : ℕ) ∧ (p 0 : ℕ) - 2 < 1) by omega),
      dif_pos (show 1 ≤ (p 0 : ℕ) ∧ (p 0 : ℕ) - 1 < 1 by omega), dif_neg (show ¬(p 0 : ℕ) < 1 by omega), show 3 - (p 0 : ℕ) = 2 by omega]
    simp only [add_zero, zero_add]
    exact corr_pad (fun i => val_main_v95 (F := Ideal) x0 x1 x2 (ix2 i (p 1))) (fun i => x0 (ix2 i ⟨2048 + (p 1 : ℕ), hq⟩)) (p := 1) (k := 2) rfl _
  · rw [dif_neg (show ¬(3 ≤ (p 0 : ℕ) ∧ (p 0 : ℕ) - 3 < 1) by omega), dif_neg (show ¬(2 ≤ (p 0 : ℕ) ∧ (p 0 : ℕ) - 2 < 1) by omega),
      dif_neg (show ¬(1 ≤ (p 0 : ℕ) ∧ (p 0 : ℕ) - 1 < 1) by omega), dif_pos (show (p 0 : ℕ) < 1 by omega), show 3 - (p 0 : ℕ) = 3 by omega]
    simp only [add_zero, zero_add]
    refine (Finset.sum_congr rfl fun i _ => congrArg (fun q : EReal => q * val_main_v95 (F := Ideal) x0 x1 x2 (ix2 i (p 1))) (padded x0 (ix2 i (p 1)))).trans ?_
    exact corr_pad (fun i => val_main_v95 (F := Ideal) x0 x1 x2 (ix2 i (p 1))) (fun i => x0 (ix2 i ⟨2048 + (p 1 : ℕ), hq⟩)) (p := 0) (k := 3) rfl _

/-- Four rows stored one by one. -/
theorem rows (P : Fin 4 → FVec Ideal S1x128 .f32) (y : S4x128.Idx) (v : Elt Ideal .f32) (h : ∀ k : Fin 4, (y 0 : ℕ) + k.val = 3 → P k (ix2 0 (y 1)) = v) :
    View.canon (Val := Elt Ideal) (e := .f32) [⟨r0_4, P 3⟩, ⟨r0_3, P 2⟩, ⟨r0_2, P 1⟩, ⟨r0_1, P 0⟩] y = v := by
  refine View.canon_eq_of_allAt _ y v ?_ ?_
  · have h0 : (y 0 : ℕ) < 4 := (y 0).isLt
    have h1 : (y 1 : ℕ) < 128 := (y 1).isLt
    have hr : ∀ k : ℕ, (y 0 : ℕ) = k → ∀ a : Fin 2, (![k, 0] : Fin 2 → ℕ) a ≤ (y a : ℕ) ∧ (y a : ℕ) < (![k, 0] : Fin 2 → ℕ) a + S1x128.size a := by
      intro k hk a
      fin_cases a
      · show k ≤ (y 0 : ℕ) ∧ (y 0 : ℕ) < k + 1
        omega
      · show 0 ≤ (y 1 : ℕ) ∧ (y 1 : ℕ) < 0 + 128
        omega
    obtain hk | hk | hk | hk : (y 0 : ℕ) = 0 ∨ (y 0 : ℕ) = 1 ∨ (y 0 : ℕ) = 2 ∨ (y 0 : ℕ) = 3 := by omega
    · exact ⟨⟨r0_4, P 3⟩, by simp, show y ∈ r0_4.set from Rect.mem_set_unit.mpr (hr 0 hk)⟩
    · exact ⟨⟨r0_3, P 2⟩, by simp, show y ∈ r0_3.set from Rect.mem_set_unit.mpr (hr 1 hk)⟩
    · exact ⟨⟨r0_2, P 1⟩, by simp, show y ∈ r0_2.set from Rect.mem_set_unit.mpr (hr 2 hk)⟩
    · exact ⟨⟨r0_1, P 0⟩, by simp, show y ∈ r0_1.set from Rect.mem_set_unit.mpr (hr 3 hk)⟩
  · intro p hp x hx
    simp only [List.mem_cons, List.not_mem_nil, or_false] at hp
    rcases hp with rfl | rfl | rfl | rfl
    · have hx0 : (x 0 : ℕ) < 1 := (x 0).isLt
      subst hx
      refine Eq.trans (congrArg (P 3) ?_) (h 3 (show 0 + 1 * (x 0 : ℕ) + 3 = 3 by omega))
      blk_ext
    · have hx0 : (x 0 : ℕ) < 1 := (x 0).isLt
      subst hx
      refine Eq.trans (congrArg (P 2) ?_) (h 2 (show 1 + 1 * (x 0 : ℕ) + 2 = 3 by omega))
      blk_ext
    · have hx0 : (x 0 : ℕ) < 1 := (x 0).isLt
      subst hx
      refine Eq.trans (congrArg (P 1) ?_) (h 1 (show 2 + 1 * (x 0 : ℕ) + 1 = 3 by omega))
      blk_ext
    · have hx0 : (x 0 : ℕ) < 1 := (x 0).isLt
      subst hx
      refine Eq.trans (congrArg (P 0) ?_) (h 0 (show 3 + 1 * (x 0 : ℕ) + 0 = 3 by omega))
      blk_ext

/-- The gradient of the projection. -/
theorem final3 (c : Dev nD) : (dats m 0 c).arrAt 3 (cfgs 0).N
    = val_main_v132 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have e : ((View.whole main_v0_0).slice (win0_3.rect t)).emb y = ix2 (y 0) ⟨t.val * 128 + (y 1 : ℕ), by have h : (y 1 : ℕ) < 128 := (y 1).isLt; have h' : t.val < 24 := t.isLt; omega⟩ := by
    blk_ext [idx t]
  rw [e]
  refine Eq.trans ?_ (column_ref _ _ _ _).symm
  refine column_pay _ _ _ _ _ _ _ _ _ _ y _ _ (fun i => (grad_at m c t (ix2 i (y 1))).trans (grad_ref _ _ _ t.val t.isLt (ix2 i (y 1))).symm) ?_ ?_ ?_ ?_
  all_goals blk_point [iblk, V, idx t]

/-- The gradient of the filter. -/
theorem final4 (c : Dev nD) : (dats m 0 c).arrAt 4 (cfgs 0).N
    = val_main_v127 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  have e : ((View.whole main_v0_1).slice (win0_4.rect t)).emb y = ix2 (y 0) ⟨t.val * 128 + (y 1 : ℕ), by have h : (y 1 : ℕ) < 128 := (y 1).isLt; have h' : t.val < 24 := t.isLt; omega⟩ := by
    blk_ext [idx t]
  rw [e]
  refine Eq.trans ?_ (corr_ref _ _ _ _).symm
  refine rows (![k0_pay20 (F := Ideal) (iblk m c 0 t) (k0_pay31 (grid0.coords t) (iblk m c 0 t) (iblk m c 1 t) (iblk m c 2 t)),
      k0_pay21 (iblk m c 0 t) (k0_pay31 (grid0.coords t) (iblk m c 0 t) (iblk m c 1 t) (iblk m c 2 t)),
      k0_pay22 (iblk m c 0 t) (k0_pay31 (grid0.coords t) (iblk m c 0 t) (iblk m c 1 t) (iblk m c 2 t)),
      k0_pay1 (iblk m c 0 t) (k0_pay31 (grid0.coords t) (iblk m c 0 t) (iblk m c 1 t) (iblk m c 2 t)) (iota Kind.tc S2048x1 32 [0] iota_S2048x1_d0_w32) 3#32]) y _ fun k hk => ?_
  refine (corr_pay _ _ (y 1) k.val k.isLt).trans ?_
  rw [show k.val = 3 - (y 0 : ℕ) by omega]
  refine congrArg₂ (fun g x => corr g x _) (funext fun i => (grad_at m c t (ix2 i (y 1))).trans (grad_ref _ _ _ t.val t.isLt (ix2 i (y 1))).symm) (funext fun i => ?_)
  blk_point [iblk, V, idx t]

/-- Every run of the reference ends, its arguments unchanged and no signal left. -/
theorem frame_ref : Cert.quiescent_PrepBwdRefIdeal := fun m g _ =>
  (θ_run Cert.PrepBwdRefIdeal.defs _ _).mono
    (fun r h => ⟨fun c => (h c).2.2, sem_eq_zero_of_no_sems (by decide) r.2⟩)
    (Cert.PrepBwdRefIdeal.Value.run (F := Ideal) m g)

/-- The call's results are the reference's. -/
theorem values : Cert.algebraic_PrepBwdIdeal_PrepBwdRefIdeal := by
  pair_intro
  · run_from Cert.PrepBwdIdeal.Value.run_blocks m g
  · refine θ_run_mono (Cert.PrepBwdRefIdeal.Value.run m' g') fun r hr c =>
      ⟨(hr c).1.trans ?_, (hr c).2.1.trans ?_, (hr c).2.2⟩
    all_goals obtain ⟨h0, h1, h2⟩ := hagree c
    · have e := (final3 m c).symm
      rw [← h0, ← h1, ← h2] at e
      exact (val_main_v132_eq _).trans e
    · have e := (final4 m c).symm
      rw [← h0, ← h1, ← h2] at e
      exact (val_main_v127_eq _).trans e

end Cert.PrepBwdProof
-- ==== Proof.GluFwd.lean ====
/- The S5 branch's gated unit, forward. -/
module

public import proofs.«01_k».proof.Proof.Gen.GluFwdIdeal.Value
public import proofs.«01_k».proof.Proof.Gen.GluFwdRefIdeal.Run
public import proofs.«01_k».proof.Proof.Gen.GluFwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.GluFwdProof

open Cert.GluFwdIdeal Cert.GluFwdIdeal.Gen

variable (m : (ℓ : Loc nD τ sig) → Buf (Elt Ideal) ℓ)

open Cert.GluFwdRefIdeal.Read

/-- Where the blocks of point `t` sit: 256 rows a point; the gate is the projection's second column band, the weight one block. -/
theorem idx : ∀ t : Fin cfg0.N, win0_0.index t = ![t.val, 0]
    ∧ win0_1.index t = ![t.val, 1]
    ∧ win0_2.index t = ![0, 0]
    ∧ win0_3.index t = ![t.val, 0] :=
  (by decide +kernel : ∀ t : Fin grid0.N, _)

/-- The gate's block at point `t`, element by element: no block overhangs the array's end. -/
theorem gate (c : Dev nD) (t : Fin cfg0.N) : X0_1 m c t = fun j : S256x1024.Idx =>
    m ((c : Thread nD τ).loc main_arg1) (ix2 ⟨t.val * 256 + (j 0 : ℕ), by have h0 : t.val < 8 := t.isLt; have h1 : (j 0 : ℕ) < 256 := (j 0).isLt; omega⟩
      ⟨1024 + (j 1 : ℕ), by have h1 : (j 1 : ℕ) < 1024 := (j 1).isLt; omega⟩) := by
  funext j
  unfold X0_1 Pipeline.Window.fill
  rw [dif_pos (moved0_1 t j)]
  blk_ext [iblk, V, idx t]

/-- The activation, as the reference writes it. -/
def gelu (x : EReal) : EReal := x * (Ideal.ofBits .f32 0x3F000000#32 * (1 + Ideal.tanh
  (Ideal.ofBits .f32 0x3F4C422A#32 * (x + Ideal.ofBits .f32 0x3D372713#32 * (x * x * x)))))

/-- The kernel multiplies in another order. -/
theorem gelu_eq (x : EReal) : Ideal.ofBits .f32 0x3F000000#32 * x * (1 + Ideal.tanh
      (Ideal.ofBits .f32 0x3F4C422A#32 * (x + Ideal.ofBits .f32 0x3D372713#32 * x * x * x))) = gelu x := by
  rw [gelu, mul_comm (Ideal.ofBits .f32 0x3F000000#32) x, mul_assoc x, mul_assoc (Ideal.ofBits .f32 0x3D372713#32) x x,
    mul_assoc (Ideal.ofBits .f32 0x3D372713#32) (x * x) x]

/-- The gated rows. -/
theorem final3 (c : Dev nD) : (dats m 0 c).arrAt 3 (cfgs 0).N
    = val_main_v27 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  rw [← val_main_v27_eq]
  blk_simp
  rw [after0_3]; unfold outsAt0; rw [gate]; frame_out
  unfold_payloads
  pointwise
  simp only [gelu_eq, zero_sub]
  unfold gelu
  blk_point [iblk, V, idx t]

/-- Every run of the reference ends, its arguments unchanged and no signal left. -/
theorem frame_ref : Cert.quiescent_GluFwdRefIdeal := fun m g _ =>
  (θ_run Cert.GluFwdRefIdeal.defs _ _).mono
    (fun r h => ⟨fun c => (h c).2, sem_eq_zero_of_no_sems (by decide) r.2⟩)
    (Cert.GluFwdRefIdeal.Value.run (F := Ideal) m g)

/-- The call's results are the reference's. -/
theorem values : Cert.algebraic_GluFwdIdeal_GluFwdRefIdeal := by
  pair_intro
  · run_from Cert.GluFwdIdeal.Value.run_blocks m g
  · refine θ_run_mono (Cert.GluFwdRefIdeal.Value.run m' g') fun r hr c =>
      ⟨(hr c).1.trans ?_, (hr c).2⟩
    all_goals obtain ⟨h0, h1, h2⟩ := hagree c
    · rw [h0, h1, h2]
      exact (val_main_v27_eq _ _ _).trans (final3 m c).symm

end Cert.GluFwdProof
-- ==== Proof.DiscFwd.lean ====
/- The S5 state's step, discretised. -/
module

public import proofs.«01_k».proof.Proof.Gen.DiscFwdIdeal.Value
public import proofs.«01_k».proof.Proof.Gen.DiscFwdRefIdeal.Run
public import proofs.«01_k».proof.Proof.Gen.DiscFwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.DiscFwdProof

open Cert.DiscFwdIdeal Cert.DiscFwdIdeal.Gen

variable (m : (ℓ : Loc nD τ sig) → Buf (Elt Ideal) ℓ)

open Cert.DiscFwdRefIdeal.Read

/-- There is one point, and every block is the whole array. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- The transition's real part. -/
theorem final3 (c : Dev nD) : (dats m 0 c).arrAt 3 (cfgs 0).N
    = val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  rw [← val_main_v7_eq]
  blk_simp
  rw [after0_3]; frame_out
  unfold_payloads
  pointwise
  blk_point [iblk, V, idx t]

/-- Its imaginary part. -/
theorem final4 (c : Dev nD) : (dats m 0 c).arrAt 4 (cfgs 0).N
    = val_main_v11 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  rw [← val_main_v11_eq]
  blk_simp
  rw [after0_4]; frame_out
  unfold_payloads
  pointwise
  blk_point [iblk, V, idx t]

/-- The input factor's real part. -/
theorem final5 (c : Dev nD) : (dats m 0 c).arrAt 5 (cfgs 0).N
    = val_main_v20 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  rw [← val_main_v20_eq]
  blk_simp
  rw [after0_5]; frame_out
  unfold_payloads
  pointwise
  blk_point [iblk, V, idx t]

/-- Its imaginary part. -/
theorem final6 (c : Dev nD) : (dats m 0 c).arrAt 6 (cfgs 0).N
    = val_main_v24 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  rw [← val_main_v24_eq]
  blk_simp
  rw [after0_6]; frame_out
  unfold_payloads
  pointwise
  blk_point [iblk, V, idx t]

/-- Every run of the reference ends, its arguments unchanged and no signal left. -/
theorem frame_ref : Cert.quiescent_DiscFwdRefIdeal := fun m g _ =>
  (θ_run Cert.DiscFwdRefIdeal.defs _ _).mono
    (fun r h => ⟨fun c => (h c).2.2.2.2, sem_eq_zero_of_no_sems (by decide) r.2⟩)
    (Cert.DiscFwdRefIdeal.Value.run (F := Ideal) m g)

/-- The call's results are the reference's. -/
theorem values : Cert.algebraic_DiscFwdIdeal_DiscFwdRefIdeal := by
  pair_intro
  · run_from Cert.DiscFwdIdeal.Value.run_blocks m g
  · refine θ_run_mono (Cert.DiscFwdRefIdeal.Value.run m' g') fun r hr c =>
      ⟨(hr c).1.trans ?_, (hr c).2.1.trans ?_, (hr c).2.2.1.trans ?_, (hr c).2.2.2.1.trans ?_, (hr c).2.2.2.2⟩
    all_goals obtain ⟨h0, h1, h2⟩ := hagree c
    · rw [h0, h1, h2]
      exact (val_main_v7_eq _ _ _).trans (final3 m c).symm
    · rw [h0, h1, h2]
      exact (val_main_v11_eq _ _ _).trans (final4 m c).symm
    · rw [h0, h1, h2]
      exact (val_main_v20_eq _ _ _).trans (final5 m c).symm
    · rw [h0, h1, h2]
      exact (val_main_v24_eq _ _ _).trans (final6 m c).symm

end Cert.DiscFwdProof
-- ==== Proof.BbarFwd.lean ====
/- The S5 input matrix under the discretised step. -/
module

public import proofs.«01_k».proof.Proof.Gen.BbarFwdIdeal.Value
public import proofs.«01_k».proof.Proof.Gen.BbarFwdRefIdeal.Run
public import proofs.«01_k».proof.Proof.Gen.BbarFwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.BbarFwdProof

open Cert.BbarFwdIdeal Cert.BbarFwdIdeal.Gen

variable (m : (ℓ : Loc nD τ sig) → Buf (Elt Ideal) ℓ)

open Cert.BbarFwdRefIdeal.Read

/-- There is one point, and every block is the whole array. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0] :=
  (by decide +kernel : ∀ t : Fin grid0.N, _)

/-- The real part. -/
theorem final4 (c : Dev nD) : (dats m 0 c).arrAt 4 (cfgs 0).N
    = val_main_v4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [← val_main_v4_eq]
  blk_simp
  rw [after0_4]; frame_out
  unfold_payloads
  pointwise
  blk_point [iblk, V, idx t]

/-- The imaginary part. -/
theorem final5 (c : Dev nD) : (dats m 0 c).arrAt 5 (cfgs 0).N
    = val_main_v9 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  rw [← val_main_v9_eq]
  blk_simp
  rw [after0_5]; frame_out
  unfold_payloads
  pointwise
  blk_point [iblk, V, idx t]

/-- Every run of the reference ends, its arguments unchanged and no signal left. -/
theorem frame_ref : Cert.quiescent_BbarFwdRefIdeal := fun m g _ =>
  (θ_run Cert.BbarFwdRefIdeal.defs _ _).mono
    (fun r h => ⟨fun c => (h c).2.2, sem_eq_zero_of_no_sems (by decide) r.2⟩)
    (Cert.BbarFwdRefIdeal.Value.run (F := Ideal) m g)

/-- The call's results are the reference's. -/
theorem values : Cert.algebraic_BbarFwdIdeal_BbarFwdRefIdeal := by
  pair_intro
  · run_from Cert.BbarFwdIdeal.Value.run_blocks m g
  · refine θ_run_mono (Cert.BbarFwdRefIdeal.Value.run m' g') fun r hr c =>
      ⟨(hr c).1.trans ?_, (hr c).2.1.trans ?_, (hr c).2.2⟩
    all_goals obtain ⟨h0, h1, h2, h3⟩ := hagree c
    · rw [h0, h1, h2, h3]
      exact (val_main_v4_eq _ _ _ _).trans (final4 m c).symm
    · rw [h0, h1, h2, h3]
      exact (val_main_v9_eq _ _ _ _).trans (final5 m c).symm

end Cert.BbarFwdProof
-- ==== Proof.RmsFwd.lean ====
/- The normalisation of the forward pass. -/
module

public import proofs.«01_k».proof.Proof.Gen.RmsFwdIdeal.Value
public import proofs.«01_k».proof.Proof.Gen.RmsFwdRefIdeal.Run
public import proofs.«01_k».proof.Proof.Gen.RmsFwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.RmsFwdProof

open Cert.RmsFwdIdeal Cert.RmsFwdIdeal.Gen

variable (m : (ℓ : Loc nD τ sig) → Buf (Elt Ideal) ℓ)

open Cert.RmsFwdRefIdeal.Read

/-- Where the blocks of point `t` sit: 256 rows a point; the weight is one block. -/
theorem idx : ∀ t : Fin cfg0.N, win0_0.index t = ![t.val, 0]
    ∧ win0_1.index t = ![0, 0]
    ∧ win0_2.index t = ![t.val, 0] :=
  (by decide +kernel : ∀ t : Fin grid0.N, _)

/-- The normalised rows. -/
theorem final2 (c : Dev nD) : (dats m 0 c).arrAt 2 (cfgs 0).N
    = val_main_v12 (F := Ideal) (m ((c : Thread nD τ).loc main_arg0)) (m ((c : Thread nD τ).loc main_arg1)) := by
  refine (dats m 0 c).arrAt_eq_of_covers 2 _ (by decide +kernel) fun t _ y => ?_
  rw [← val_main_v12_eq]
  blk_simp
  rw [after0_2]; frame_out
  unfold_payloads
  pointwise
  blk_point [iblk, V, idx t]

/-- Every run of the reference ends, its arguments unchanged and no signal left. -/
theorem frame_ref : Cert.quiescent_RmsFwdRefIdeal := fun m g _ =>
  (θ_run Cert.RmsFwdRefIdeal.defs _ _).mono
    (fun r h => ⟨fun c => (h c).2, sem_eq_zero_of_no_sems (by decide) r.2⟩)
    (Cert.RmsFwdRefIdeal.Value.run (F := Ideal) m g)

/-- The call's results are the reference's. -/
theorem values : Cert.algebraic_RmsFwdIdeal_RmsFwdRefIdeal := by
  pair_intro
  · run_from Cert.RmsFwdIdeal.Value.run_blocks m g
  · refine θ_run_mono (Cert.RmsFwdRefIdeal.Value.run m' g') fun r hr c =>
      ⟨(hr c).1.trans ?_, (hr c).2⟩
    all_goals obtain ⟨h0, h1⟩ := hagree c
    · rw [h0, h1]
      exact (val_main_v12_eq _ _).trans (final2 m c).symm

end Cert.RmsFwdProof
-- ==== Proof.MergeFwd.lean ====
/- The gate merge of the forward pass. -/
module

public import proofs.«01_k».proof.Proof.Gen.MergeFwdIdeal.Value
public import proofs.«01_k».proof.Proof.Gen.MergeFwdRefIdeal.Run
public import proofs.«01_k».proof.Proof.Gen.MergeFwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.MergeFwdProof

open Cert.MergeFwdIdeal Cert.MergeFwdIdeal.Gen

variable (m : (ℓ : Loc nD τ sig) → Buf (Elt Ideal) ℓ)

open Cert.MergeFwdRefIdeal.Read

/-- Where the blocks of point `t` sit: row band `t / 2`, column band `t % 2`; the second gate lies two column bands further right. -/
theorem idx : ∀ t : Fin cfg0.N, win0_0.index t = ![t.val / 2, t.val % 2]
    ∧ win0_1.index t = ![t.val / 2, t.val % 2 + 2]
    ∧ win0_2.index t = ![t.val / 2, t.val % 2]
    ∧ win0_3.index t = ![t.val / 2, t.val % 2]
    ∧ win0_4.index t = ![t.val / 2, t.val % 2] :=
  (by decide +kernel : ∀ t : Fin grid0.N, _)

/-- The merged rows. -/
theorem final4 (c : Dev nD) : (dats m 0 c).arrAt 4 (cfgs 0).N
    = val_main_v17 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  rw [← val_main_v17_eq]
  blk_simp
  rw [after0_4]; frame_out
  unfold_payloads
  pointwise
  simp only [zero_sub]
  blk_point [iblk, V, idx t]

/-- Every run of the reference ends, its arguments unchanged and no signal left. -/
theorem frame_ref : Cert.quiescent_MergeFwdRefIdeal := fun m g _ =>
  (θ_run Cert.MergeFwdRefIdeal.defs _ _).mono
    (fun r h => ⟨fun c => (h c).2, sem_eq_zero_of_no_sems (by decide) r.2⟩)
    (Cert.MergeFwdRefIdeal.Value.run (F := Ideal) m g)

/-- The call's results are the reference's. -/
theorem values : Cert.algebraic_MergeFwdIdeal_MergeFwdRefIdeal := by
  pair_intro
  · run_from Cert.MergeFwdIdeal.Value.run_blocks m g
  · refine θ_run_mono (Cert.MergeFwdRefIdeal.Value.run m' g') fun r hr c =>
      ⟨(hr c).1.trans ?_, (hr c).2⟩
    all_goals obtain ⟨h0, h1, h2⟩ := hagree c
    · rw [h0, h1, h2]
      exact (val_main_v17_eq _ _ _).trans (final4 m c).symm

end Cert.MergeFwdProof
-- ==== Proof.DnOutFwd.lean ====
/- The DeltaNet branch's gated norm, forward. -/
module

public import proofs.«01_k».proof.Proof.Gen.DnOutFwdIdeal.Value
public import proofs.«01_k».proof.Proof.Gen.DnOutFwdRefIdeal.Run
public import proofs.«01_k».proof.Proof.Gen.DnOutFwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.DnOutFwdProof

open Cert.DnOutFwdIdeal Cert.DnOutFwdIdeal.Gen

variable (m : (ℓ : Loc nD τ sig) → Buf (Elt Ideal) ℓ)

open Cert.DnOutFwdRefIdeal.Read

/-- Where the blocks of point `t` sit: row band `t / 8`, head `t % 8`; the gate is 40 heads further right. -/
theorem idx : ∀ t : Fin cfg0.N, win0_0.index t = ![t.val / 8, t.val % 8]
    ∧ win0_1.index t = ![t.val / 8, t.val % 8 + 40]
    ∧ win0_2.index t = ![0, 0]
    ∧ win0_3.index t = ![t.val / 8, t.val % 8] :=
  (by decide +kernel : ∀ t : Fin grid0.N, _)

/-- The gated rows. -/
theorem final3 (c : Dev nD) : (dats m 0 c).arrAt 3 (cfgs 0).N
    = val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  rw [← val_main_v19_eq]
  blk_simp
  rw [after0_3]; frame_out
  unfold_payloads
  pointwise
  simp only [zero_sub]
  blk_point [iblk, V, idx t]

/-- Every run of the reference ends, its arguments unchanged and no signal left. -/
theorem frame_ref : Cert.quiescent_DnOutFwdRefIdeal := fun m g _ =>
  (θ_run Cert.DnOutFwdRefIdeal.defs _ _).mono
    (fun r h => ⟨fun c => (h c).2, sem_eq_zero_of_no_sems (by decide) r.2⟩)
    (Cert.DnOutFwdRefIdeal.Value.run (F := Ideal) m g)

/-- The call's results are the reference's. -/
theorem values : Cert.algebraic_DnOutFwdIdeal_DnOutFwdRefIdeal := by
  pair_intro
  · run_from Cert.DnOutFwdIdeal.Value.run_blocks m g
  · refine θ_run_mono (Cert.DnOutFwdRefIdeal.Value.run m' g') fun r hr c =>
      ⟨(hr c).1.trans ?_, (hr c).2⟩
    all_goals obtain ⟨h0, h1, h2⟩ := hagree c
    · rw [h0, h1, h2]
      exact (val_main_v19_eq _ _ _).trans (final3 m c).symm

end Cert.DnOutFwdProof
-- ==== Proof.GatesFwd.lean ====
/- The DeltaNet branch's gates, forward. -/
module

public import proofs.«01_k».proof.Proof.Gen.GatesFwdIdeal.Value
public import proofs.«01_k».proof.Proof.Gen.GatesFwdRefIdeal.Run
public import proofs.«01_k».proof.Proof.Gen.GatesFwdRefIdeal.Read
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Proof.Select
public import proofs.«01_k».proof.Defs

@[expose] public section

set_option maxRecDepth 16384

noncomputable section

open Idealize.ShloMosaic Idealize.ShloMosaic.TcCoe Idealize.SL.Sem
open Idealize.ShloMosaic.Pipeline (Dat)

namespace Cert.GatesFwdProof

open Cert.GatesFwdIdeal Cert.GatesFwdIdeal.Gen

variable (m : (ℓ : Loc nD τ sig) → Buf (Elt Ideal) ℓ)

open Cert.GatesFwdRefIdeal.Read

/-- Where the blocks of point `t` sit: 256 rows a point. -/
theorem idx : ∀ t : Fin cfg0.N, win0_0.index t = ![t.val, 48]
    ∧ win0_1.index t = ![0, 0]
    ∧ win0_2.index t = ![0, 0]
    ∧ win0_3.index t = ![t.val, 0] :=
  (by decide +kernel : ∀ t : Fin grid0.N, _)

/-- Column `n` of the gates: the writing strengths, the logarithms of the decays, and nothing. -/
def gate (n : ℕ) (p a d : EReal) : EReal :=
  if n < 8 then Ideal.div 1 (1 + Ideal.exp (-p))
  else if n < 16 then -Ideal.exp a * (max (p + d) 0 + Ideal.log (1 + Ideal.exp (-FloatOps.absf (F := Ideal) (φ := .f32) (p + d)))) else 0

/-- What the kernel stores. -/
theorem gate_pay (x : FVec Ideal S256x128 .f32) (a d : FVec Ideal S1x128 .f32) (y : S256x128.Idx) :
    k0_pay1 (F := Ideal) x a d y = gate (y 1 : ℕ) (x y) (a (ix2 0 (y 1))) (d (ix2 0 (y 1))) := by
  have hy : (y 1 : ℕ) < 128 := (y 1).isLt
  pointwise [k0_pay1]
  rewrite [Cert.Select.select_lt (by omega) (by omega), Cert.Select.select_lt (by omega) (by omega)]
  simp only [zero_sub]
  rfl

/-- What the reference computes. -/
theorem gate_ref (x0 : FVec Ideal S2048x6656 .f32) (x1 x2 : FVec Ideal S1x128 .f32) (p : S2048x128.Idx) :
    val_main_v18 (F := Ideal) x0 x1 x2 p
      = gate (p 1 : ℕ) (x0 (ix2 (p 0) ⟨6144 + (p 1 : ℕ), by have h : (p 1 : ℕ) < 128 := (p 1).isLt; omega⟩)) (x1 (ix2 0 (p 1))) (x2 (ix2 0 (p 1))) := by
  have hk : (p 1 : ℕ) < 128 := (p 1).isLt
  unfold gate
  by_cases h8 : (p 1 : ℕ) < 8
  · rewrite [if_pos h8]
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_call0_cst, val_main_call0_v0, val_main_call0_v1, val_main_call0_v10, val_main_call0_v11, val_main_call0_v2, val_main_call0_v3, val_main_call0_v4, val_main_call0_v5, val_main_call0_v6, val_main_call0_v7, val_main_call0_v8, val_main_call0_v9, val_main_cst, val_main_cst_0, val_main_cst_1]
    rewrite [dif_pos h8]
    rfl
  · rewrite [if_neg h8]
    by_cases h16 : (p 1 : ℕ) < 16
    · rewrite [if_pos h16]
      pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_call0_cst, val_main_call0_v0, val_main_call0_v1, val_main_call0_v10, val_main_call0_v11, val_main_call0_v2, val_main_call0_v3, val_main_call0_v4, val_main_call0_v5, val_main_call0_v6, val_main_call0_v7, val_main_call0_v8, val_main_call0_v9, val_main_cst, val_main_cst_0, val_main_cst_1]
      rewrite [dif_neg h8, dif_pos (show (p 1 : ℕ) - 8 < 8 by omega)]
      simp only [ne_eq, not_true_eq_false, ↓reduceIte, show 6152 + ((p 1 : ℕ) - 8) = 6144 + (p 1 : ℕ) by omega, show 8 + ((p 1 : ℕ) - 8) = (p 1 : ℕ) by omega]
      rfl
    · rewrite [if_neg h16]
      pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_call0_cst, val_main_call0_v0, val_main_call0_v1, val_main_call0_v10, val_main_call0_v11, val_main_call0_v2, val_main_call0_v3, val_main_call0_v4, val_main_call0_v5, val_main_call0_v6, val_main_call0_v7, val_main_call0_v8, val_main_call0_v9, val_main_cst, val_main_cst_0, val_main_cst_1]
      rewrite [dif_neg h8, dif_neg (show ¬(p 1 : ℕ) - 8 < 8 by omega)]
      rfl

/-- The gates. -/
theorem final3 (c : Dev nD) : (dats m 0 c).arrAt 3 (cfgs 0).N
    = val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have e : ((View.whole main_v0).slice (win0_3.rect t)).emb y = ix2 ⟨t.val * 256 + (y 0 : ℕ), by have h : (y 0 : ℕ) < 256 := (y 0).isLt; have h' : t.val < 8 := t.isLt; omega⟩ (y 1) := by
    blk_ext [idx t]
  rw [e]
  refine (gate_pay _ _ _ y).trans (Eq.trans ?_ (gate_ref _ _ _ _).symm)
  refine congr (congr (congrArg (gate (y 1 : ℕ)) ?_) ?_) ?_
  all_goals blk_point [iblk, V, idx t]

/-- Every run of the reference ends, its arguments unchanged and no signal left. -/
theorem frame_ref : Cert.quiescent_GatesFwdRefIdeal := fun m g _ =>
  (θ_run Cert.GatesFwdRefIdeal.defs _ _).mono
    (fun r h => ⟨fun c => (h c).2, sem_eq_zero_of_no_sems (by decide) r.2⟩)
    (Cert.GatesFwdRefIdeal.Value.run (F := Ideal) m g)

/-- The call's results are the reference's. -/
theorem values : Cert.algebraic_GatesFwdIdeal_GatesFwdRefIdeal := by
  pair_intro
  · run_from Cert.GatesFwdIdeal.Value.run_blocks m g
  · refine θ_run_mono (Cert.GatesFwdRefIdeal.Value.run m' g') fun r hr c =>
      ⟨(hr c).1.trans ?_, (hr c).2⟩
    all_goals obtain ⟨h0, h1, h2⟩ := hagree c
    · rw [h0, h1, h2]
      exact (val_main_v18_eq _ _ _).trans (final3 m c).symm

end Cert.GatesFwdProof
-- ==== Proof.lean ====
/- `Cert.Claim`: the frames of the kernels are the generated ones; the reference's frame and the values of each call are
   in the call's own module. -/
module

public import proofs.«01_k».proof.Defs
public import proofs.«01_k».proof.Proof.Gen.Merge
public import proofs.«01_k».proof.Proof.Gen.MergeIdeal
public import proofs.«01_k».proof.Proof.Gen.MergeRefIdeal
public import proofs.«01_k».proof.Proof.Gen.GradWOut
public import proofs.«01_k».proof.Proof.Gen.GradWOutIdeal
public import proofs.«01_k».proof.Proof.Gen.GradWOutRefIdeal
public import proofs.«01_k».proof.Proof.Gen.DMixed
public import proofs.«01_k».proof.Proof.Gen.DMixedIdeal
public import proofs.«01_k».proof.Proof.Gen.DMixedRefIdeal
public import proofs.«01_k».proof.Proof.Gen.GradUp
public import proofs.«01_k».proof.Proof.Gen.GradUpIdeal
public import proofs.«01_k».proof.Proof.Gen.GradUpRefIdeal
public import proofs.«01_k».proof.Proof.Gen.DOut
public import proofs.«01_k».proof.Proof.Gen.DOutIdeal
public import proofs.«01_k».proof.Proof.Gen.DOutRefIdeal
public import proofs.«01_k».proof.Proof.Gen.GradWIn
public import proofs.«01_k».proof.Proof.Gen.GradWInIdeal
public import proofs.«01_k».proof.Proof.Gen.GradWInRefIdeal
public import proofs.«01_k».proof.Proof.Gen.GradWInGates
public import proofs.«01_k».proof.Proof.Gen.GradWInGatesIdeal
public import proofs.«01_k».proof.Proof.Gen.GradWInGatesRefIdeal
public import proofs.«01_k».proof.Proof.Gen.ProjGates
public import proofs.«01_k».proof.Proof.Gen.ProjGatesIdeal
public import proofs.«01_k».proof.Proof.Gen.ProjGatesRefIdeal
public import proofs.«01_k».proof.Proof.Gen.Up
public import proofs.«01_k».proof.Proof.Gen.UpIdeal
public import proofs.«01_k».proof.Proof.Gen.UpRefIdeal
public import proofs.«01_k».proof.Proof.Gen.WOut
public import proofs.«01_k».proof.Proof.Gen.WOutIdeal
public import proofs.«01_k».proof.Proof.Gen.WOutRefIdeal
public import proofs.«01_k».proof.Proof.Gen.Proj
public import proofs.«01_k».proof.Proof.Gen.ProjIdeal
public import proofs.«01_k».proof.Proof.Gen.ProjRefIdeal
public import proofs.«01_k».proof.Proof.Gen.DHMain
public import proofs.«01_k».proof.Proof.Gen.DHMainIdeal
public import proofs.«01_k».proof.Proof.Gen.DHMainRefIdeal
public import proofs.«01_k».proof.Proof.Gen.DH
public import proofs.«01_k».proof.Proof.Gen.DHIdeal
public import proofs.«01_k».proof.Proof.Gen.DHRefIdeal
public import proofs.«01_k».proof.Proof.Gen.Rms
public import proofs.«01_k».proof.Proof.Gen.RmsIdeal
public import proofs.«01_k».proof.Proof.Gen.RmsRefIdeal
public import proofs.«01_k».proof.Proof.Gen.Final
public import proofs.«01_k».proof.Proof.Gen.FinalIdeal
public import proofs.«01_k».proof.Proof.Gen.FinalRefIdeal
public import proofs.«01_k».proof.Proof.Gen.Slots
public import proofs.«01_k».proof.Proof.Gen.SlotsIdeal
public import proofs.«01_k».proof.Proof.Gen.SlotsRefIdeal
public import proofs.«01_k».proof.Proof.Gen.Adamw
public import proofs.«01_k».proof.Proof.Gen.AdamwIdeal
public import proofs.«01_k».proof.Proof.Gen.AdamwRefIdeal
public import proofs.«01_k».proof.Proof.Gen.UpdOut
public import proofs.«01_k».proof.Proof.Gen.UpdOutIdeal
public import proofs.«01_k».proof.Proof.Gen.UpdOutRefIdeal
public import proofs.«01_k».proof.Proof.Gen.UpdGlu
public import proofs.«01_k».proof.Proof.Gen.UpdGluIdeal
public import proofs.«01_k».proof.Proof.Gen.UpdGluRefIdeal
public import proofs.«01_k».proof.Proof.Gen.UpdUp
public import proofs.«01_k».proof.Proof.Gen.UpdUpIdeal
public import proofs.«01_k».proof.Proof.Gen.UpdUpRefIdeal
public import proofs.«01_k».proof.Proof.Gen.UpdIn
public import proofs.«01_k».proof.Proof.Gen.UpdInIdeal
public import proofs.«01_k».proof.Proof.Gen.UpdInRefIdeal
public import proofs.«01_k».proof.Proof.Gen.GluBwd
public import proofs.«01_k».proof.Proof.Gen.GluBwdIdeal
public import proofs.«01_k».proof.Proof.Gen.GluBwdRefIdeal
public import proofs.«01_k».proof.Proof.Gen.DiscBwd
public import proofs.«01_k».proof.Proof.Gen.DiscBwdIdeal
public import proofs.«01_k».proof.Proof.Gen.DiscBwdRefIdeal
public import proofs.«01_k».proof.Proof.Gen.BbarBwd
public import proofs.«01_k».proof.Proof.Gen.BbarBwdIdeal
public import proofs.«01_k».proof.Proof.Gen.BbarBwdRefIdeal
public import proofs.«01_k».proof.Proof.Gen.DnOutBwd
public import proofs.«01_k».proof.Proof.Gen.DnOutBwdIdeal
public import proofs.«01_k».proof.Proof.Gen.DnOutBwdRefIdeal
public import proofs.«01_k».proof.Proof.Gen.PrepFwd
public import proofs.«01_k».proof.Proof.Gen.PrepFwdIdeal
public import proofs.«01_k».proof.Proof.Gen.PrepFwdRefIdeal
public import proofs.«01_k».proof.Proof.Gen.PrepBwd
public import proofs.«01_k».proof.Proof.Gen.PrepBwdIdeal
public import proofs.«01_k».proof.Proof.Gen.PrepBwdRefIdeal
public import proofs.«01_k».proof.Proof.Gen.GluFwd
public import proofs.«01_k».proof.Proof.Gen.GluFwdIdeal
public import proofs.«01_k».proof.Proof.Gen.GluFwdRefIdeal
public import proofs.«01_k».proof.Proof.Gen.DiscFwd
public import proofs.«01_k».proof.Proof.Gen.DiscFwdIdeal
public import proofs.«01_k».proof.Proof.Gen.DiscFwdRefIdeal
public import proofs.«01_k».proof.Proof.Gen.BbarFwd
public import proofs.«01_k».proof.Proof.Gen.BbarFwdIdeal
public import proofs.«01_k».proof.Proof.Gen.BbarFwdRefIdeal
public import proofs.«01_k».proof.Proof.Gen.RmsFwd
public import proofs.«01_k».proof.Proof.Gen.RmsFwdIdeal
public import proofs.«01_k».proof.Proof.Gen.RmsFwdRefIdeal
public import proofs.«01_k».proof.Proof.Gen.MergeFwd
public import proofs.«01_k».proof.Proof.Gen.MergeFwdIdeal
public import proofs.«01_k».proof.Proof.Gen.MergeFwdRefIdeal
public import proofs.«01_k».proof.Proof.Gen.DnOutFwd
public import proofs.«01_k».proof.Proof.Gen.DnOutFwdIdeal
public import proofs.«01_k».proof.Proof.Gen.DnOutFwdRefIdeal
public import proofs.«01_k».proof.Proof.Gen.GatesFwd
public import proofs.«01_k».proof.Proof.Gen.GatesFwdIdeal
public import proofs.«01_k».proof.Proof.Gen.GatesFwdRefIdeal
public import proofs.«01_k».proof.Proof.Gen.Pre_chip_out
public import proofs.«01_k».proof.Proof.Gen.Pre_chip_glu
public import proofs.«01_k».proof.Proof.Gen.Pre_chip_up
public import proofs.«01_k».proof.Proof.Gen.Pre_chip_in
public import proofs.«01_k».proof.Proof.Gen.Merge.Frame
public import proofs.«01_k».proof.Proof.Gen.GradWOut.Frame
public import proofs.«01_k».proof.Proof.Gen.DMixed.Frame
public import proofs.«01_k».proof.Proof.Gen.GradUp.Frame
public import proofs.«01_k».proof.Proof.Gen.DOut.Frame
public import proofs.«01_k».proof.Proof.Gen.GradWIn.Frame
public import proofs.«01_k».proof.Proof.Gen.GradWInGates.Frame
public import proofs.«01_k».proof.Proof.Gen.ProjGates.Frame
public import proofs.«01_k».proof.Proof.Gen.Up.Frame
public import proofs.«01_k».proof.Proof.Gen.WOut.Frame
public import proofs.«01_k».proof.Proof.Gen.Proj.Frame
public import proofs.«01_k».proof.Proof.Gen.DHMain.Frame
public import proofs.«01_k».proof.Proof.Gen.DH.Frame
public import proofs.«01_k».proof.Proof.Gen.Rms.Frame
public import proofs.«01_k».proof.Proof.Gen.Final.Frame
public import proofs.«01_k».proof.Proof.Gen.Slots.Frame
public import proofs.«01_k».proof.Proof.Gen.Adamw.Frame
public import proofs.«01_k».proof.Proof.Gen.UpdOut.Frame
public import proofs.«01_k».proof.Proof.Gen.UpdGlu.Frame
public import proofs.«01_k».proof.Proof.Gen.UpdUp.Frame
public import proofs.«01_k».proof.Proof.Gen.UpdIn.Frame
public import proofs.«01_k».proof.Proof.Gen.GluBwd.Frame
public import proofs.«01_k».proof.Proof.Gen.DiscBwd.Frame
public import proofs.«01_k».proof.Proof.Gen.BbarBwd.Frame
public import proofs.«01_k».proof.Proof.Gen.DnOutBwd.Frame
public import proofs.«01_k».proof.Proof.Gen.PrepFwd.Frame
public import proofs.«01_k».proof.Proof.Gen.PrepBwd.Frame
public import proofs.«01_k».proof.Proof.Gen.GluFwd.Frame
public import proofs.«01_k».proof.Proof.Gen.DiscFwd.Frame
public import proofs.«01_k».proof.Proof.Gen.BbarFwd.Frame
public import proofs.«01_k».proof.Proof.Gen.RmsFwd.Frame
public import proofs.«01_k».proof.Proof.Gen.MergeFwd.Frame
public import proofs.«01_k».proof.Proof.Gen.DnOutFwd.Frame
public import proofs.«01_k».proof.Proof.Gen.GatesFwd.Frame
public import proofs.«01_k».proof.Proof.Gen.MergeIdeal.Frame
public import proofs.«01_k».proof.Proof.Gen.GradWOutIdeal.Frame
public import proofs.«01_k».proof.Proof.Gen.DMixedIdeal.Frame
public import proofs.«01_k».proof.Proof.Gen.GradUpIdeal.Frame
public import proofs.«01_k».proof.Proof.Gen.DOutIdeal.Frame
public import proofs.«01_k».proof.Proof.Gen.GradWInIdeal.Frame
public import proofs.«01_k».proof.Proof.Gen.GradWInGatesIdeal.Frame
public import proofs.«01_k».proof.Proof.Gen.ProjGatesIdeal.Frame
public import proofs.«01_k».proof.Proof.Gen.UpIdeal.Frame
public import proofs.«01_k».proof.Proof.Gen.WOutIdeal.Frame
public import proofs.«01_k».proof.Proof.Gen.ProjIdeal.Frame
public import proofs.«01_k».proof.Proof.Gen.DHMainIdeal.Frame
public import proofs.«01_k».proof.Proof.Gen.DHIdeal.Frame
public import proofs.«01_k».proof.Proof.Gen.RmsIdeal.Frame
public import proofs.«01_k».proof.Proof.Gen.FinalIdeal.Frame
public import proofs.«01_k».proof.Proof.Gen.SlotsIdeal.Frame
public import proofs.«01_k».proof.Proof.Gen.AdamwIdeal.Frame
public import proofs.«01_k».proof.Proof.Gen.UpdOutIdeal.Frame
public import proofs.«01_k».proof.Proof.Gen.UpdGluIdeal.Frame
public import proofs.«01_k».proof.Proof.Gen.UpdUpIdeal.Frame
public import proofs.«01_k».proof.Proof.Gen.UpdInIdeal.Frame
public import proofs.«01_k».proof.Proof.Gen.GluBwdIdeal.Frame
public import proofs.«01_k».proof.Proof.Gen.DiscBwdIdeal.Frame
public import proofs.«01_k».proof.Proof.Gen.BbarBwdIdeal.Frame
public import proofs.«01_k».proof.Proof.Gen.DnOutBwdIdeal.Frame
public import proofs.«01_k».proof.Proof.Gen.PrepFwdIdeal.Frame
public import proofs.«01_k».proof.Proof.Gen.PrepBwdIdeal.Frame
public import proofs.«01_k».proof.Proof.Gen.GluFwdIdeal.Frame
public import proofs.«01_k».proof.Proof.Gen.DiscFwdIdeal.Frame
public import proofs.«01_k».proof.Proof.Gen.BbarFwdIdeal.Frame
public import proofs.«01_k».proof.Proof.Gen.RmsFwdIdeal.Frame
public import proofs.«01_k».proof.Proof.Gen.MergeFwdIdeal.Frame
public import proofs.«01_k».proof.Proof.Gen.DnOutFwdIdeal.Frame
public import proofs.«01_k».proof.Proof.Gen.GatesFwdIdeal.Frame
public import proofs.«01_k».proof.Proof.MergeClaim
public import proofs.«01_k».proof.Proof.GradWOut
public import proofs.«01_k».proof.Proof.DMixed
public import proofs.«01_k».proof.Proof.GradUp
public import proofs.«01_k».proof.Proof.DOut
public import proofs.«01_k».proof.Proof.GradWIn
public import proofs.«01_k».proof.Proof.GradWInGates
public import proofs.«01_k».proof.Proof.ProjGates
public import proofs.«01_k».proof.Proof.Up
public import proofs.«01_k».proof.Proof.WOut
public import proofs.«01_k».proof.Proof.Proj
public import proofs.«01_k».proof.Proof.DHMain
public import proofs.«01_k».proof.Proof.DH
public import proofs.«01_k».proof.Proof.Rms
public import proofs.«01_k».proof.Proof.Final
public import proofs.«01_k».proof.Proof.Slots
public import proofs.«01_k».proof.Proof.Adamw
public import proofs.«01_k».proof.Proof.UpdOut
public import proofs.«01_k».proof.Proof.UpdGlu
public import proofs.«01_k».proof.Proof.UpdUp
public import proofs.«01_k».proof.Proof.UpdIn
public import proofs.«01_k».proof.Proof.GluBwd
public import proofs.«01_k».proof.Proof.DiscBwd
public import proofs.«01_k».proof.Proof.BbarBwd
public import proofs.«01_k».proof.Proof.DnOutBwd
public import proofs.«01_k».proof.Proof.PrepFwd
public import proofs.«01_k».proof.Proof.PrepBwd
public import proofs.«01_k».proof.Proof.GluFwd
public import proofs.«01_k».proof.Proof.DiscFwd
public import proofs.«01_k».proof.Proof.BbarFwd
public import proofs.«01_k».proof.Proof.RmsFwd
public import proofs.«01_k».proof.Proof.MergeFwd
public import proofs.«01_k».proof.Proof.DnOutFwd
public import proofs.«01_k».proof.Proof.GatesFwd
public import Idealize.ShloMosaic.Adequacy
public import Idealize.ShloMosaic.Init

@[expose] public section

noncomputable section

namespace Cert.Proof

open Idealize.ShloMosaic Idealize.SL.Sem Cert.Merge

theorem claim : Cert.Claim := ⟨
  Cert.Merge.Gen.facts, Cert.MergeIdeal.Gen.facts, Cert.MergeRefIdeal.Gen.facts, Cert.GradWOut.Gen.facts,
  Cert.GradWOutIdeal.Gen.facts, Cert.GradWOutRefIdeal.Gen.facts, Cert.DMixed.Gen.facts, Cert.DMixedIdeal.Gen.facts,
  Cert.DMixedRefIdeal.Gen.facts, Cert.GradUp.Gen.facts, Cert.GradUpIdeal.Gen.facts, Cert.GradUpRefIdeal.Gen.facts,
  Cert.DOut.Gen.facts, Cert.DOutIdeal.Gen.facts, Cert.DOutRefIdeal.Gen.facts, Cert.GradWIn.Gen.facts,
  Cert.GradWInIdeal.Gen.facts, Cert.GradWInRefIdeal.Gen.facts, Cert.GradWInGates.Gen.facts,
  Cert.GradWInGatesIdeal.Gen.facts, Cert.GradWInGatesRefIdeal.Gen.facts, Cert.ProjGates.Gen.facts,
  Cert.ProjGatesIdeal.Gen.facts, Cert.ProjGatesRefIdeal.Gen.facts, Cert.Up.Gen.facts, Cert.UpIdeal.Gen.facts,
  Cert.UpRefIdeal.Gen.facts, Cert.WOut.Gen.facts, Cert.WOutIdeal.Gen.facts, Cert.WOutRefIdeal.Gen.facts,
  Cert.Proj.Gen.facts, Cert.ProjIdeal.Gen.facts, Cert.ProjRefIdeal.Gen.facts, Cert.DHMain.Gen.facts,
  Cert.DHMainIdeal.Gen.facts, Cert.DHMainRefIdeal.Gen.facts, Cert.DH.Gen.facts, Cert.DHIdeal.Gen.facts,
  Cert.DHRefIdeal.Gen.facts, Cert.Rms.Gen.facts, Cert.RmsIdeal.Gen.facts, Cert.RmsRefIdeal.Gen.facts,
  Cert.Final.Gen.facts, Cert.FinalIdeal.Gen.facts, Cert.FinalRefIdeal.Gen.facts, Cert.Slots.Gen.facts,
  Cert.SlotsIdeal.Gen.facts, Cert.SlotsRefIdeal.Gen.facts, Cert.Adamw.Gen.facts, Cert.AdamwIdeal.Gen.facts,
  Cert.AdamwRefIdeal.Gen.facts, Cert.UpdOut.Gen.facts, Cert.UpdOutIdeal.Gen.facts, Cert.UpdOutRefIdeal.Gen.facts,
  Cert.UpdGlu.Gen.facts, Cert.UpdGluIdeal.Gen.facts, Cert.UpdGluRefIdeal.Gen.facts, Cert.UpdUp.Gen.facts,
  Cert.UpdUpIdeal.Gen.facts, Cert.UpdUpRefIdeal.Gen.facts, Cert.UpdIn.Gen.facts, Cert.UpdInIdeal.Gen.facts,
  Cert.UpdInRefIdeal.Gen.facts, Cert.GluBwd.Gen.facts, Cert.GluBwdIdeal.Gen.facts, Cert.GluBwdRefIdeal.Gen.facts,
  Cert.DiscBwd.Gen.facts, Cert.DiscBwdIdeal.Gen.facts, Cert.DiscBwdRefIdeal.Gen.facts, Cert.BbarBwd.Gen.facts,
  Cert.BbarBwdIdeal.Gen.facts, Cert.BbarBwdRefIdeal.Gen.facts, Cert.DnOutBwd.Gen.facts, Cert.DnOutBwdIdeal.Gen.facts,
  Cert.DnOutBwdRefIdeal.Gen.facts, Cert.PrepFwd.Gen.facts, Cert.PrepFwdIdeal.Gen.facts,
  Cert.PrepFwdRefIdeal.Gen.facts, Cert.PrepBwd.Gen.facts, Cert.PrepBwdIdeal.Gen.facts,
  Cert.PrepBwdRefIdeal.Gen.facts, Cert.GluFwd.Gen.facts, Cert.GluFwdIdeal.Gen.facts, Cert.GluFwdRefIdeal.Gen.facts,
  Cert.DiscFwd.Gen.facts, Cert.DiscFwdIdeal.Gen.facts, Cert.DiscFwdRefIdeal.Gen.facts, Cert.BbarFwd.Gen.facts,
  Cert.BbarFwdIdeal.Gen.facts, Cert.BbarFwdRefIdeal.Gen.facts, Cert.RmsFwd.Gen.facts, Cert.RmsFwdIdeal.Gen.facts,
  Cert.RmsFwdRefIdeal.Gen.facts, Cert.MergeFwd.Gen.facts, Cert.MergeFwdIdeal.Gen.facts,
  Cert.MergeFwdRefIdeal.Gen.facts, Cert.DnOutFwd.Gen.facts, Cert.DnOutFwdIdeal.Gen.facts,
  Cert.DnOutFwdRefIdeal.Gen.facts, Cert.GatesFwd.Gen.facts, Cert.GatesFwdIdeal.Gen.facts,
  Cert.GatesFwdRefIdeal.Gen.facts, Cert.Pre_chip_out.Gen.facts, Cert.Pre_chip_glu.Gen.facts,
  Cert.Pre_chip_up.Gen.facts, Cert.Pre_chip_in.Gen.facts,
  fun m ρ _ => Cert.Merge.Gen.frame m ρ, fun m ρ _ => Cert.MergeIdeal.Gen.frame m ρ, Cert.MergeProof.frame_ref,
  fun m ρ _ => Cert.GradWOut.Gen.frame m ρ, fun m ρ _ => Cert.GradWOutIdeal.Gen.frame m ρ,
  Cert.GradWOutProof.frame_ref, fun m ρ _ => Cert.DMixed.Gen.frame m ρ, fun m ρ _ => Cert.DMixedIdeal.Gen.frame m ρ,
  Cert.DMixedProof.frame_ref, fun m ρ _ => Cert.GradUp.Gen.frame m ρ, fun m ρ _ => Cert.GradUpIdeal.Gen.frame m ρ,
  Cert.GradUpProof.frame_ref, fun m ρ _ => Cert.DOut.Gen.frame m ρ, fun m ρ _ => Cert.DOutIdeal.Gen.frame m ρ,
  Cert.DOutProof.frame_ref, fun m ρ _ => Cert.GradWIn.Gen.frame m ρ, fun m ρ _ => Cert.GradWInIdeal.Gen.frame m ρ,
  Cert.GradWInProof.frame_ref, fun m ρ _ => Cert.GradWInGates.Gen.frame m ρ,
  fun m ρ _ => Cert.GradWInGatesIdeal.Gen.frame m ρ, Cert.GradWInGatesProof.frame_ref,
  fun m ρ _ => Cert.ProjGates.Gen.frame m ρ, fun m ρ _ => Cert.ProjGatesIdeal.Gen.frame m ρ,
  Cert.ProjGatesProof.frame_ref, fun m ρ _ => Cert.Up.Gen.frame m ρ, fun m ρ _ => Cert.UpIdeal.Gen.frame m ρ,
  Cert.UpProof.frame_ref, fun m ρ _ => Cert.WOut.Gen.frame m ρ, fun m ρ _ => Cert.WOutIdeal.Gen.frame m ρ,
  Cert.WOutProof.frame_ref, fun m ρ _ => Cert.Proj.Gen.frame m ρ, fun m ρ _ => Cert.ProjIdeal.Gen.frame m ρ,
  Cert.ProjProof.frame_ref, fun m ρ _ => Cert.DHMain.Gen.frame m ρ, fun m ρ _ => Cert.DHMainIdeal.Gen.frame m ρ,
  Cert.DHMainProof.frame_ref, fun m ρ _ => Cert.DH.Gen.frame m ρ, fun m ρ _ => Cert.DHIdeal.Gen.frame m ρ,
  Cert.DHProof.frame_ref, fun m ρ _ => Cert.Rms.Gen.frame m ρ, fun m ρ _ => Cert.RmsIdeal.Gen.frame m ρ,
  Cert.RmsProof.frame_ref, fun m ρ _ => Cert.Final.Gen.frame m ρ, fun m ρ _ => Cert.FinalIdeal.Gen.frame m ρ,
  Cert.FinalProof.frame_ref, fun m ρ _ => Cert.Slots.Gen.frame m ρ, fun m ρ _ => Cert.SlotsIdeal.Gen.frame m ρ,
  Cert.SlotsProof.frame_ref, fun m ρ _ => Cert.Adamw.Gen.frame m ρ, fun m ρ _ => Cert.AdamwIdeal.Gen.frame m ρ,
  Cert.AdamwProof.frame_ref, Cert.UpdOutProof.frame, Cert.UpdOutProof.frame_ideal, Cert.UpdOutProof.frame_ref,
  Cert.UpdOutProof.frame_ref_pre, Cert.UpdGluProof.frame, Cert.UpdGluProof.frame_ideal, Cert.UpdGluProof.frame_ref,
  Cert.UpdGluProof.frame_ref_pre, Cert.UpdUpProof.frame, Cert.UpdUpProof.frame_ideal, Cert.UpdUpProof.frame_ref,
  Cert.UpdUpProof.frame_ref_pre, Cert.UpdInProof.frame, Cert.UpdInProof.frame_ideal, Cert.UpdInProof.frame_ref,
  Cert.UpdInProof.frame_ref_pre, fun m ρ _ => Cert.GluBwd.Gen.frame m ρ, fun m ρ _ => Cert.GluBwdIdeal.Gen.frame m ρ,
  Cert.GluBwdProof.frame_ref, fun m ρ _ => Cert.DiscBwd.Gen.frame m ρ, fun m ρ _ => Cert.DiscBwdIdeal.Gen.frame m ρ,
  Cert.DiscBwdProof.frame_ref, fun m ρ _ => Cert.BbarBwd.Gen.frame m ρ, fun m ρ _ => Cert.BbarBwdIdeal.Gen.frame m ρ,
  Cert.BbarBwdProof.frame_ref, fun m ρ _ => Cert.DnOutBwd.Gen.frame m ρ,
  fun m ρ _ => Cert.DnOutBwdIdeal.Gen.frame m ρ, Cert.DnOutBwdProof.frame_ref,
  fun m ρ _ => Cert.PrepFwd.Gen.frame m ρ, fun m ρ _ => Cert.PrepFwdIdeal.Gen.frame m ρ, Cert.PrepFwdProof.frame_ref,
  fun m ρ _ => Cert.PrepBwd.Gen.frame m ρ, fun m ρ _ => Cert.PrepBwdIdeal.Gen.frame m ρ, Cert.PrepBwdProof.frame_ref,
  fun m ρ _ => Cert.GluFwd.Gen.frame m ρ, fun m ρ _ => Cert.GluFwdIdeal.Gen.frame m ρ, Cert.GluFwdProof.frame_ref,
  fun m ρ _ => Cert.DiscFwd.Gen.frame m ρ, fun m ρ _ => Cert.DiscFwdIdeal.Gen.frame m ρ, Cert.DiscFwdProof.frame_ref,
  fun m ρ _ => Cert.BbarFwd.Gen.frame m ρ, fun m ρ _ => Cert.BbarFwdIdeal.Gen.frame m ρ, Cert.BbarFwdProof.frame_ref,
  fun m ρ _ => Cert.RmsFwd.Gen.frame m ρ, fun m ρ _ => Cert.RmsFwdIdeal.Gen.frame m ρ, Cert.RmsFwdProof.frame_ref,
  fun m ρ _ => Cert.MergeFwd.Gen.frame m ρ, fun m ρ _ => Cert.MergeFwdIdeal.Gen.frame m ρ,
  Cert.MergeFwdProof.frame_ref, fun m ρ _ => Cert.DnOutFwd.Gen.frame m ρ,
  fun m ρ _ => Cert.DnOutFwdIdeal.Gen.frame m ρ, Cert.DnOutFwdProof.frame_ref,
  fun m ρ _ => Cert.GatesFwd.Gen.frame m ρ, fun m ρ _ => Cert.GatesFwdIdeal.Gen.frame m ρ,
  Cert.GatesFwdProof.frame_ref,
  trivial, Cert.MergeProof.values, trivial, Cert.GradWOutProof.values, trivial, Cert.DMixedProof.values, trivial,
  Cert.GradUpProof.values, trivial, Cert.DOutProof.values, trivial, Cert.GradWInProof.values, trivial,
  Cert.GradWInGatesProof.values, trivial, Cert.ProjGatesProof.values, trivial, Cert.UpProof.values, trivial,
  Cert.WOutProof.values, trivial, Cert.ProjProof.values, trivial, Cert.DHMainProof.values, trivial,
  Cert.DHProof.values, trivial, Cert.RmsProof.values, trivial, Cert.FinalProof.values, trivial,
  Cert.SlotsProof.values, Cert.AdamwProof.preserves, Cert.AdamwProof.values, Cert.UpdOutProof.preserves,
  Cert.UpdOutProof.values, Cert.UpdGluProof.preserves, Cert.UpdGluProof.values, Cert.UpdUpProof.preserves,
  Cert.UpdUpProof.values, Cert.UpdInProof.preserves, Cert.UpdInProof.values, trivial, Cert.GluBwdProof.values,
  trivial, Cert.DiscBwdProof.values, trivial, Cert.BbarBwdProof.values, trivial, Cert.DnOutBwdProof.values, trivial,
  Cert.PrepFwdProof.values, trivial, Cert.PrepBwdProof.values, trivial, Cert.GluFwdProof.values, trivial,
  Cert.DiscFwdProof.values, trivial, Cert.BbarFwdProof.values, trivial, Cert.RmsFwdProof.values, trivial,
  Cert.MergeFwdProof.values, trivial, Cert.DnOutFwdProof.values, trivial, Cert.GatesFwdProof.values⟩

end Cert.Proof

end
